-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_InMix (m : (ℓ : Loc Cert.InMix.nD Cert.InMix.τ Cert.InMix.sig) → Buf (Elt Bits) ℓ) : Prop :=
  True

def Pre_InMixIdeal (m : (ℓ : Loc Cert.InMixIdeal.nD Cert.InMixIdeal.τ Cert.InMixIdeal.sig) → Buf (Elt Ideal) ℓ) : Prop :=
  True

def Pre_InMixRefIdeal (m : (ℓ : Loc Cert.InMixRefIdeal.nD Cert.InMixRefIdeal.τ Cert.InMixRefIdeal.sig) → Buf (Elt Ideal) ℓ) : Prop :=
  True

def Pre_InRwkv (m : (ℓ : Loc Cert.InRwkv.nD Cert.InRwkv.τ Cert.InRwkv.sig) → Buf (Elt Bits) ℓ) : Prop :=
  True

def Pre_InRwkvIdeal (m : (ℓ : Loc Cert.InRwkvIdeal.nD Cert.InRwkvIdeal.τ Cert.InRwkvIdeal.sig) → Buf (Elt Ideal) ℓ) : Prop :=
  True

def Pre_InRwkvRefIdeal (m : (ℓ : Loc Cert.InRwkvRefIdeal.nD Cert.InRwkvRefIdeal.τ Cert.InRwkvRefIdeal.sig) → Buf (Elt Ideal) ℓ) : Prop :=
  True

def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_InGateRefIdeal (m : (ℓ : Loc Cert.InGateRefIdeal.nD Cert.InGateRefIdeal.τ Cert.InGateRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Up [hPre_up_in_range : Cert.Pre_up_in_range.Facts] (m : (ℓ : Loc Cert.Up.nD Cert.Up.τ Cert.Up.sig) → Buf (Elt Bits) ℓ) : Prop :=
  ∀ c : Dev Cert.Up.nD,
    (Cert.Pre_up_in_range.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_up_in_range : Cert.Pre_up_in_range.Facts] (m : (ℓ : Loc Cert.UpIdeal.nD Cert.UpIdeal.τ Cert.UpIdeal.sig) → Buf (Elt Ideal) ℓ) : Prop :=
  ∀ c : Dev Cert.UpIdeal.nD,
    (Cert.Pre_up_in_range.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal [hPre_up_in_range : Cert.Pre_up_in_range.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_in_range.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Down [hPre_down_in_range : Cert.Pre_down_in_range.Facts] (m : (ℓ : Loc Cert.Down.nD Cert.Down.τ Cert.Down.sig) → Buf (Elt Bits) ℓ) : Prop :=
  ∀ c : Dev Cert.Down.nD,
    (Cert.Pre_down_in_range.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_down_in_range : Cert.Pre_down_in_range.Facts] (m : (ℓ : Loc Cert.DownIdeal.nD Cert.DownIdeal.τ Cert.DownIdeal.sig) → Buf (Elt Ideal) ℓ) : Prop :=
  ∀ c : Dev Cert.DownIdeal.nD,
    (Cert.Pre_down_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal [hPre_down_in_range : Cert.Pre_down_in_range.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_in_range.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_RouteNorm (m : (ℓ : Loc Cert.RouteNorm.nD Cert.RouteNorm.τ Cert.RouteNorm.sig) → Buf (Elt Bits) ℓ) : Prop :=
  True

def Pre_RouteNormIdeal (m : (ℓ : Loc Cert.RouteNormIdeal.nD Cert.RouteNormIdeal.τ Cert.RouteNormIdeal.sig) → Buf (Elt Ideal) ℓ) : Prop :=
  True

def Pre_RouteNormRefIdeal (m : (ℓ : Loc Cert.RouteNormRefIdeal.nD Cert.RouteNormRefIdeal.τ Cert.RouteNormRefIdeal.sig) → Buf (Elt Ideal) ℓ) : Prop :=
  True

def Pre_Route [hPre_route_finite : Cert.Pre_route_finite.Facts] (m : (ℓ : Loc Cert.Route.nD Cert.Route.τ Cert.Route.sig) → Buf (Elt Bits) ℓ) : Prop :=
  ∀ c : Dev Cert.Route.nD,
    (Cert.Pre_route_finite.fn (F := Bits) (m ((c.tc : Thread Cert.Route.nD Cert.Route.τ).loc Cert.Route.main_arg0)) (m ((c.tc : Thread Cert.Route.nD Cert.Route.τ).loc Cert.Route.main_arg1)) (m ((c.tc : Thread Cert.Route.nD Cert.Route.τ).loc Cert.Route.main_arg2)) (m ((c.tc : Thread Cert.Route.nD Cert.Route.τ).loc Cert.Route.main_arg3)) (m ((c.tc : Thread Cert.Route.nD Cert.Route.τ).loc Cert.Route.main_arg4))) = (fun _ => 1#1)

def Pre_RouteIdeal [hPre_route_finite : Cert.Pre_route_finite.Facts] (m : (ℓ : Loc Cert.RouteIdeal.nD Cert.RouteIdeal.τ Cert.RouteIdeal.sig) → Buf (Elt Ideal) ℓ) : Prop :=
  ∀ c : Dev Cert.RouteIdeal.nD,
    (Cert.Pre_route_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4))) = (fun _ => 1#1)

def Pre_RouteRefIdeal [hPre_route_finite : Cert.Pre_route_finite.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_route_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4))) = (fun _ => 1#1)

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_S5Gate (m : (ℓ : Loc Cert.S5Gate.nD Cert.S5Gate.τ Cert.S5Gate.sig) → Buf (Elt Bits) ℓ) : Prop :=
  True

def Pre_S5GateIdeal (m : (ℓ : Loc Cert.S5GateIdeal.nD Cert.S5GateIdeal.τ Cert.S5GateIdeal.sig) → Buf (Elt Ideal) ℓ) : Prop :=
  True

def Pre_S5GateRefIdeal (m : (ℓ : Loc Cert.S5GateRefIdeal.nD Cert.S5GateRefIdeal.τ Cert.S5GateRefIdeal.sig) → Buf (Elt Ideal) ℓ) : Prop :=
  True

def Pre_CtxGqa (m : (ℓ : Loc Cert.CtxGqa.nD Cert.CtxGqa.τ Cert.CtxGqa.sig) → Buf (Elt Bits) ℓ) : Prop :=
  True

def Pre_CtxGqaIdeal (m : (ℓ : Loc Cert.CtxGqaIdeal.nD Cert.CtxGqaIdeal.τ Cert.CtxGqaIdeal.sig) → Buf (Elt Ideal) ℓ) : Prop :=
  True

def Pre_CtxGqaRefIdeal (m : (ℓ : Loc Cert.CtxGqaRefIdeal.nD Cert.CtxGqaRefIdeal.τ Cert.CtxGqaRefIdeal.sig) → Buf (Elt Ideal) ℓ) : Prop :=
  True

def Pre_LatGqa (m : (ℓ : Loc Cert.LatGqa.nD Cert.LatGqa.τ Cert.LatGqa.sig) → Buf (Elt Bits) ℓ) : Prop :=
  True

def Pre_LatGqaIdeal (m : (ℓ : Loc Cert.LatGqaIdeal.nD Cert.LatGqaIdeal.τ Cert.LatGqaIdeal.sig) → Buf (Elt Ideal) ℓ) : Prop :=
  True

def Pre_LatGqaRefIdeal (m : (ℓ : Loc Cert.LatGqaRefIdeal.nD Cert.LatGqaRefIdeal.τ Cert.LatGqaRefIdeal.sig) → Buf (Elt Ideal) ℓ) : Prop :=
  True

def Pre_S5Disc (m : (ℓ : Loc Cert.S5Disc.nD Cert.S5Disc.τ Cert.S5Disc.sig) → Buf (Elt Bits) ℓ) : Prop :=
  True

def Pre_S5DiscIdeal (m : (ℓ : Loc Cert.S5DiscIdeal.nD Cert.S5DiscIdeal.τ Cert.S5DiscIdeal.sig) → Buf (Elt Ideal) ℓ) : Prop :=
  True

def Pre_S5DiscRefIdeal (m : (ℓ : Loc Cert.S5DiscRefIdeal.nD Cert.S5DiscRefIdeal.τ Cert.S5DiscRefIdeal.sig) → Buf (Elt Ideal) ℓ) : Prop :=
  True

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0))
      ∧ r.2.sem = fun _ => 0)

def quiescent_InMix [hInMix : Cert.InMix.Facts] : Prop :=
  ∀ (m : (ℓ : Loc Cert.InMix.nD Cert.InMix.τ Cert.InMix.sig) → Buf (Elt Bits) ℓ) (g : Dev Cert.InMix.nD → PrngReg), Pre_InMix m →
    θ_run (Cert.InMix.defs (F := Bits)) (onTc (τ := Cert.InMix.τ) (Cert.InMix.main (F := Bits))) ⟨m, fun _ => 0, g⟩ (fun r => (∀ c : Dev Cert.InMix.nD,
      r.2.mem ((c.tc : Thread Cert.InMix.nD Cert.InMix.τ).loc Cert.InMix.main_arg0) = m ((c.tc : Thread Cert.InMix.nD Cert.InMix.τ).loc Cert.InMix.main_arg0)
      ∧ r.2.mem ((c.tc : Thread Cert.InMix.nD Cert.InMix.τ).loc Cert.InMix.main_arg1) = m ((c.tc : Thread Cert.InMix.nD Cert.InMix.τ).loc Cert.InMix.main_arg1))
      ∧ r.2.sem = fun _ => 0)

def quiescent_InMixIdeal [hInMixIdeal : Cert.InMixIdeal.Facts] : Prop :=
  ∀ (m : (ℓ : Loc Cert.InMixIdeal.nD Cert.InMixIdeal.τ Cert.InMixIdeal.sig) → Buf (Elt Ideal) ℓ) (g : Dev Cert.InMixIdeal.nD → PrngReg), Pre_InMixIdeal m →
    θ_run (Cert.InMixIdeal.defs (F := Ideal)) (onTc (τ := Cert.InMixIdeal.τ) (Cert.InMixIdeal.main (F := Ideal))) ⟨m, fun _ => 0, g⟩ (fun r => (∀ c : Dev Cert.InMixIdeal.nD,
      r.2.mem ((c.tc : Thread Cert.InMixIdeal.nD Cert.InMixIdeal.τ).loc Cert.InMixIdeal.main_arg0) = m ((c.tc : Thread Cert.InMixIdeal.nD Cert.InMixIdeal.τ).loc Cert.InMixIdeal.main_arg0)
      ∧ r.2.mem ((c.tc : Thread Cert.InMixIdeal.nD Cert.InMixIdeal.τ).loc Cert.InMixIdeal.main_arg1) = m ((c.tc : Thread Cert.InMixIdeal.nD Cert.InMixIdeal.τ).loc Cert.InMixIdeal.main_arg1))
      ∧ r.2.sem = fun _ => 0)

def quiescent_InMixRefIdeal [hInMixRefIdeal : Cert.InMixRefIdeal.Facts] : Prop :=
  ∀ (m : (ℓ : Loc Cert.InMixRefIdeal.nD Cert.InMixRefIdeal.τ Cert.InMixRefIdeal.sig) → Buf (Elt Ideal) ℓ) (g : Dev Cert.InMixRefIdeal.nD → PrngReg), Pre_InMixRefIdeal m →
    θ_run (Cert.InMixRefIdeal.defs (F := Ideal)) (onTc (τ := Cert.InMixRefIdeal.τ) (Cert.InMixRefIdeal.main (F := Ideal))) ⟨m, fun _ => 0, g⟩ (fun r => (∀ c : Dev Cert.InMixRefIdeal.nD,
      r.2.mem ((c.tc : Thread Cert.InMixRefIdeal.nD Cert.InMixRefIdeal.τ).loc Cert.InMixRefIdeal.main_arg0) = m ((c.tc : Thread Cert.InMixRefIdeal.nD Cert.InMixRefIdeal.τ).loc Cert.InMixRefIdeal.main_arg0)
      ∧ r.2.mem ((c.tc : Thread Cert.InMixRefIdeal.nD Cert.InMixRefIdeal.τ).loc Cert.InMixRefIdeal.main_arg1) = m ((c.tc : Thread Cert.InMixRefIdeal.nD Cert.InMixRefIdeal.τ).loc Cert.InMixRefIdeal.main_arg1))
      ∧ r.2.sem = fun _ => 0)

def quiescent_InRwkv [hInRwkv : Cert.InRwkv.Facts] : Prop :=
  ∀ (m : (ℓ : Loc Cert.InRwkv.nD Cert.InRwkv.τ Cert.InRwkv.sig) → Buf (Elt Bits) ℓ) (g : Dev Cert.InRwkv.nD → PrngReg), Pre_InRwkv m →
    θ_run (Cert.InRwkv.defs (F := Bits)) (onTc (τ := Cert.InRwkv.τ) (Cert.InRwkv.main (F := Bits))) ⟨m, fun _ => 0, g⟩ (fun r => (∀ c : Dev Cert.InRwkv.nD,
      r.2.mem ((c.tc : Thread Cert.InRwkv.nD Cert.InRwkv.τ).loc Cert.InRwkv.main_arg0) = m ((c.tc : Thread Cert.InRwkv.nD Cert.InRwkv.τ).loc Cert.InRwkv.main_arg0)
      ∧ r.2.mem ((c.tc : Thread Cert.InRwkv.nD Cert.InRwkv.τ).loc Cert.InRwkv.main_arg1) = m ((c.tc : Thread Cert.InRwkv.nD Cert.InRwkv.τ).loc Cert.InRwkv.main_arg1))
      ∧ r.2.sem = fun _ => 0)

def quiescent_InRwkvIdeal [hInRwkvIdeal : Cert.InRwkvIdeal.Facts] : Prop :=
  ∀ (m : (ℓ : Loc Cert.InRwkvIdeal.nD Cert.InRwkvIdeal.τ Cert.InRwkvIdeal.sig) → Buf (Elt Ideal) ℓ) (g : Dev Cert.InRwkvIdeal.nD → PrngReg), Pre_InRwkvIdeal m →
    θ_run (Cert.InRwkvIdeal.defs (F := Ideal)) (onTc (τ := Cert.InRwkvIdeal.τ) (Cert.InRwkvIdeal.main (F := Ideal))) ⟨m, fun _ => 0, g⟩ (fun r => (∀ c : Dev Cert.InRwkvIdeal.nD,
      r.2.mem ((c.tc : Thread Cert.InRwkvIdeal.nD Cert.InRwkvIdeal.τ).loc Cert.InRwkvIdeal.main_arg0) = m ((c.tc : Thread Cert.InRwkvIdeal.nD Cert.InRwkvIdeal.τ).loc Cert.InRwkvIdeal.main_arg0)
      ∧ r.2.mem ((c.tc : Thread Cert.InRwkvIdeal.nD Cert.InRwkvIdeal.τ).loc Cert.InRwkvIdeal.main_arg1) = m ((c.tc : Thread Cert.InRwkvIdeal.nD Cert.InRwkvIdeal.τ).loc Cert.InRwkvIdeal.main_arg1))
      ∧ r.2.sem = fun _ => 0)

def quiescent_InRwkvRefIdeal [hInRwkvRefIdeal : Cert.InRwkvRefIdeal.Facts] : Prop :=
  ∀ (m : (ℓ : Loc Cert.InRwkvRefIdeal.nD Cert.InRwkvRefIdeal.τ Cert.InRwkvRefIdeal.sig) → Buf (Elt Ideal) ℓ) (g : Dev Cert.InRwkvRefIdeal.nD → PrngReg), Pre_InRwkvRefIdeal m →
    θ_run (Cert.InRwkvRefIdeal.defs (F := Ideal)) (onTc (τ := Cert.InRwkvRefIdeal.τ) (Cert.InRwkvRefIdeal.main (F := Ideal))) ⟨m, fun _ => 0, g⟩ (fun r => (∀ c : Dev Cert.InRwkvRefIdeal.nD,
      r.2.mem ((c.tc : Thread Cert.InRwkvRefIdeal.nD Cert.InRwkvRefIdeal.τ).loc Cert.InRwkvRefIdeal.main_arg0) = m ((c.tc : Thread Cert.InRwkvRefIdeal.nD Cert.InRwkvRefIdeal.τ).loc Cert.InRwkvRefIdeal.main_arg0)
      ∧ r.2.mem ((c.tc : Thread Cert.InRwkvRefIdeal.nD Cert.InRwkvRefIdeal.τ).loc Cert.InRwkvRefIdeal.main_arg1) = m ((c.tc : Thread Cert.InRwkvRefIdeal.nD Cert.InRwkvRefIdeal.τ).loc Cert.InRwkvRefIdeal.main_arg1))
      ∧ r.2.sem = fun _ => 0)

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ r.2.sem = fun _ => 0)

def quiescent_InGateRefIdeal [hInGateRefIdeal : Cert.InGateRefIdeal.Facts] : Prop :=
  ∀ (m : (ℓ : Loc Cert.InGateRefIdeal.nD Cert.InGateRefIdeal.τ Cert.InGateRefIdeal.sig) → Buf (Elt Ideal) ℓ) (g : Dev Cert.InGateRefIdeal.nD → PrngReg), Pre_InGateRefIdeal m →
    θ_run (Cert.InGateRefIdeal.defs (F := Ideal)) (onTc (τ := Cert.InGateRefIdeal.τ) (Cert.InGateRefIdeal.main (F := Ideal))) ⟨m, fun _ => 0, g⟩ (fun r => (∀ c : Dev Cert.InGateRefIdeal.nD,
      r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
      ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Up [hUp : Cert.Up.Facts] [hPre_up_in_range : Cert.Pre_up_in_range.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_up_in_range : Cert.Pre_up_in_range.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] [hPre_up_in_range : Cert.Pre_up_in_range.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] [hPre_down_in_range : Cert.Pre_down_in_range.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_down_in_range : Cert.Pre_down_in_range.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] [hPre_down_in_range : Cert.Pre_down_in_range.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2))
      ∧ r.2.sem = fun _ => 0)

def quiescent_RouteNorm [hRouteNorm : Cert.RouteNorm.Facts] : Prop :=
  ∀ (m : (ℓ : Loc Cert.RouteNorm.nD Cert.RouteNorm.τ Cert.RouteNorm.sig) → Buf (Elt Bits) ℓ) (g : Dev Cert.RouteNorm.nD → PrngReg), Pre_RouteNorm m →
    θ_run (Cert.RouteNorm.defs (F := Bits)) (onTc (τ := Cert.RouteNorm.τ) (Cert.RouteNorm.main (F := Bits))) ⟨m, fun _ => 0, g⟩ (fun r => (∀ c : Dev Cert.RouteNorm.nD,
      r.2.mem ((c.tc : Thread Cert.RouteNorm.nD Cert.RouteNorm.τ).loc Cert.RouteNorm.main_arg0) = m ((c.tc : Thread Cert.RouteNorm.nD Cert.RouteNorm.τ).loc Cert.RouteNorm.main_arg0)
      ∧ r.2.mem ((c.tc : Thread Cert.RouteNorm.nD Cert.RouteNorm.τ).loc Cert.RouteNorm.main_arg1) = m ((c.tc : Thread Cert.RouteNorm.nD Cert.RouteNorm.τ).loc Cert.RouteNorm.main_arg1)
      ∧ r.2.mem ((c.tc : Thread Cert.RouteNorm.nD Cert.RouteNorm.τ).loc Cert.RouteNorm.main_arg2) = m ((c.tc : Thread Cert.RouteNorm.nD Cert.RouteNorm.τ).loc Cert.RouteNorm.main_arg2)
      ∧ r.2.mem ((c.tc : Thread Cert.RouteNorm.nD Cert.RouteNorm.τ).loc Cert.RouteNorm.main_arg3) = m ((c.tc : Thread Cert.RouteNorm.nD Cert.RouteNorm.τ).loc Cert.RouteNorm.main_arg3)
      ∧ r.2.mem ((c.tc : Thread Cert.RouteNorm.nD Cert.RouteNorm.τ).loc Cert.RouteNorm.main_arg4) = m ((c.tc : Thread Cert.RouteNorm.nD Cert.RouteNorm.τ).loc Cert.RouteNorm.main_arg4))
      ∧ r.2.sem = fun _ => 0)

def quiescent_RouteNormIdeal [hRouteNormIdeal : Cert.RouteNormIdeal.Facts] : Prop :=
  ∀ (m : (ℓ : Loc Cert.RouteNormIdeal.nD Cert.RouteNormIdeal.τ Cert.RouteNormIdeal.sig) → Buf (Elt Ideal) ℓ) (g : Dev Cert.RouteNormIdeal.nD → PrngReg), Pre_RouteNormIdeal m →
    θ_run (Cert.RouteNormIdeal.defs (F := Ideal)) (onTc (τ := Cert.RouteNormIdeal.τ) (Cert.RouteNormIdeal.main (F := Ideal))) ⟨m, fun _ => 0, g⟩ (fun r => (∀ c : Dev Cert.RouteNormIdeal.nD,
      r.2.mem ((c.tc : Thread Cert.RouteNormIdeal.nD Cert.RouteNormIdeal.τ).loc Cert.RouteNormIdeal.main_arg0) = m ((c.tc : Thread Cert.RouteNormIdeal.nD Cert.RouteNormIdeal.τ).loc Cert.RouteNormIdeal.main_arg0)
      ∧ r.2.mem ((c.tc : Thread Cert.RouteNormIdeal.nD Cert.RouteNormIdeal.τ).loc Cert.RouteNormIdeal.main_arg1) = m ((c.tc : Thread Cert.RouteNormIdeal.nD Cert.RouteNormIdeal.τ).loc Cert.RouteNormIdeal.main_arg1)
      ∧ r.2.mem ((c.tc : Thread Cert.RouteNormIdeal.nD Cert.RouteNormIdeal.τ).loc Cert.RouteNormIdeal.main_arg2) = m ((c.tc : Thread Cert.RouteNormIdeal.nD Cert.RouteNormIdeal.τ).loc Cert.RouteNormIdeal.main_arg2)
      ∧ r.2.mem ((c.tc : Thread Cert.RouteNormIdeal.nD Cert.RouteNormIdeal.τ).loc Cert.RouteNormIdeal.main_arg3) = m ((c.tc : Thread Cert.RouteNormIdeal.nD Cert.RouteNormIdeal.τ).loc Cert.RouteNormIdeal.main_arg3)
      ∧ r.2.mem ((c.tc : Thread Cert.RouteNormIdeal.nD Cert.RouteNormIdeal.τ).loc Cert.RouteNormIdeal.main_arg4) = m ((c.tc : Thread Cert.RouteNormIdeal.nD Cert.RouteNormIdeal.τ).loc Cert.RouteNormIdeal.main_arg4))
      ∧ r.2.sem = fun _ => 0)

def quiescent_RouteNormRefIdeal [hRouteNormRefIdeal : Cert.RouteNormRefIdeal.Facts] : Prop :=
  ∀ (m : (ℓ : Loc Cert.RouteNormRefIdeal.nD Cert.RouteNormRefIdeal.τ Cert.RouteNormRefIdeal.sig) → Buf (Elt Ideal) ℓ) (g : Dev Cert.RouteNormRefIdeal.nD → PrngReg), Pre_RouteNormRefIdeal m →
    θ_run (Cert.RouteNormRefIdeal.defs (F := Ideal)) (onTc (τ := Cert.RouteNormRefIdeal.τ) (Cert.RouteNormRefIdeal.main (F := Ideal))) ⟨m, fun _ => 0, g⟩ (fun r => (∀ c : Dev Cert.RouteNormRefIdeal.nD,
      r.2.mem ((c.tc : Thread Cert.RouteNormRefIdeal.nD Cert.RouteNormRefIdeal.τ).loc Cert.RouteNormRefIdeal.main_arg0) = m ((c.tc : Thread Cert.RouteNormRefIdeal.nD Cert.RouteNormRefIdeal.τ).loc Cert.RouteNormRefIdeal.main_arg0)
      ∧ r.2.mem ((c.tc : Thread Cert.RouteNormRefIdeal.nD Cert.RouteNormRefIdeal.τ).loc Cert.RouteNormRefIdeal.main_arg1) = m ((c.tc : Thread Cert.RouteNormRefIdeal.nD Cert.RouteNormRefIdeal.τ).loc Cert.RouteNormRefIdeal.main_arg1)
      ∧ r.2.mem ((c.tc : Thread Cert.RouteNormRefIdeal.nD Cert.RouteNormRefIdeal.τ).loc Cert.RouteNormRefIdeal.main_arg2) = m ((c.tc : Thread Cert.RouteNormRefIdeal.nD Cert.RouteNormRefIdeal.τ).loc Cert.RouteNormRefIdeal.main_arg2)
      ∧ r.2.mem ((c.tc : Thread Cert.RouteNormRefIdeal.nD Cert.RouteNormRefIdeal.τ).loc Cert.RouteNormRefIdeal.main_arg3) = m ((c.tc : Thread Cert.RouteNormRefIdeal.nD Cert.RouteNormRefIdeal.τ).loc Cert.RouteNormRefIdeal.main_arg3)
      ∧ r.2.mem ((c.tc : Thread Cert.RouteNormRefIdeal.nD Cert.RouteNormRefIdeal.τ).loc Cert.RouteNormRefIdeal.main_arg4) = m ((c.tc : Thread Cert.RouteNormRefIdeal.nD Cert.RouteNormRefIdeal.τ).loc Cert.RouteNormRefIdeal.main_arg4))
      ∧ r.2.sem = fun _ => 0)

def quiescent_Route [hRoute : Cert.Route.Facts] [hPre_route_finite : Cert.Pre_route_finite.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4))
      ∧ r.2.sem = fun _ => 0)

def quiescent_RouteIdeal [hRouteIdeal : Cert.RouteIdeal.Facts] [hPre_route_finite : Cert.Pre_route_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ r.2.sem = fun _ => 0)

def quiescent_RouteRefIdeal [hRouteRefIdeal : Cert.RouteRefIdeal.Facts] [hPre_route_finite : Cert.Pre_route_finite.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_S5Gate [hS5Gate : Cert.S5Gate.Facts] : Prop :=
  ∀ (m : (ℓ : Loc Cert.S5Gate.nD Cert.S5Gate.τ Cert.S5Gate.sig) → Buf (Elt Bits) ℓ) (g : Dev Cert.S5Gate.nD → PrngReg), Pre_S5Gate m →
    θ_run (Cert.S5Gate.defs (F := Bits)) (onTc (τ := Cert.S5Gate.τ) (Cert.S5Gate.main (F := Bits))) ⟨m, fun _ => 0, g⟩ (fun r => (∀ c : Dev Cert.S5Gate.nD,
      r.2.mem ((c.tc : Thread Cert.S5Gate.nD Cert.S5Gate.τ).loc Cert.S5Gate.main_arg0) = m ((c.tc : Thread Cert.S5Gate.nD Cert.S5Gate.τ).loc Cert.S5Gate.main_arg0)
      ∧ r.2.mem ((c.tc : Thread Cert.S5Gate.nD Cert.S5Gate.τ).loc Cert.S5Gate.main_arg1) = m ((c.tc : Thread Cert.S5Gate.nD Cert.S5Gate.τ).loc Cert.S5Gate.main_arg1)
      ∧ r.2.mem ((c.tc : Thread Cert.S5Gate.nD Cert.S5Gate.τ).loc Cert.S5Gate.main_arg2) = m ((c.tc : Thread Cert.S5Gate.nD Cert.S5Gate.τ).loc Cert.S5Gate.main_arg2)
      ∧ r.2.mem ((c.tc : Thread Cert.S5Gate.nD Cert.S5Gate.τ).loc Cert.S5Gate.main_arg3) = m ((c.tc : Thread Cert.S5Gate.nD Cert.S5Gate.τ).loc Cert.S5Gate.main_arg3))
      ∧ r.2.sem = fun _ => 0)

def quiescent_S5GateIdeal [hS5GateIdeal : Cert.S5GateIdeal.Facts] : Prop :=
  ∀ (m : (ℓ : Loc Cert.S5GateIdeal.nD Cert.S5GateIdeal.τ Cert.S5GateIdeal.sig) → Buf (Elt Ideal) ℓ) (g : Dev Cert.S5GateIdeal.nD → PrngReg), Pre_S5GateIdeal m →
    θ_run (Cert.S5GateIdeal.defs (F := Ideal)) (onTc (τ := Cert.S5GateIdeal.τ) (Cert.S5GateIdeal.main (F := Ideal))) ⟨m, fun _ => 0, g⟩ (fun r => (∀ c : Dev Cert.S5GateIdeal.nD,
      r.2.mem ((c.tc : Thread Cert.S5GateIdeal.nD Cert.S5GateIdeal.τ).loc Cert.S5GateIdeal.main_arg0) = m ((c.tc : Thread Cert.S5GateIdeal.nD Cert.S5GateIdeal.τ).loc Cert.S5GateIdeal.main_arg0)
      ∧ r.2.mem ((c.tc : Thread Cert.S5GateIdeal.nD Cert.S5GateIdeal.τ).loc Cert.S5GateIdeal.main_arg1) = m ((c.tc : Thread Cert.S5GateIdeal.nD Cert.S5GateIdeal.τ).loc Cert.S5GateIdeal.main_arg1)
      ∧ r.2.mem ((c.tc : Thread Cert.S5GateIdeal.nD Cert.S5GateIdeal.τ).loc Cert.S5GateIdeal.main_arg2) = m ((c.tc : Thread Cert.S5GateIdeal.nD Cert.S5GateIdeal.τ).loc Cert.S5GateIdeal.main_arg2)
      ∧ r.2.mem ((c.tc : Thread Cert.S5GateIdeal.nD Cert.S5GateIdeal.τ).loc Cert.S5GateIdeal.main_arg3) = m ((c.tc : Thread Cert.S5GateIdeal.nD Cert.S5GateIdeal.τ).loc Cert.S5GateIdeal.main_arg3))
      ∧ r.2.sem = fun _ => 0)

def quiescent_S5GateRefIdeal [hS5GateRefIdeal : Cert.S5GateRefIdeal.Facts] : Prop :=
  ∀ (m : (ℓ : Loc Cert.S5GateRefIdeal.nD Cert.S5GateRefIdeal.τ Cert.S5GateRefIdeal.sig) → Buf (Elt Ideal) ℓ) (g : Dev Cert.S5GateRefIdeal.nD → PrngReg), Pre_S5GateRefIdeal m →
    θ_run (Cert.S5GateRefIdeal.defs (F := Ideal)) (onTc (τ := Cert.S5GateRefIdeal.τ) (Cert.S5GateRefIdeal.main (F := Ideal))) ⟨m, fun _ => 0, g⟩ (fun r => (∀ c : Dev Cert.S5GateRefIdeal.nD,
      r.2.mem ((c.tc : Thread Cert.S5GateRefIdeal.nD Cert.S5GateRefIdeal.τ).loc Cert.S5GateRefIdeal.main_arg0) = m ((c.tc : Thread Cert.S5GateRefIdeal.nD Cert.S5GateRefIdeal.τ).loc Cert.S5GateRefIdeal.main_arg0)
      ∧ r.2.mem ((c.tc : Thread Cert.S5GateRefIdeal.nD Cert.S5GateRefIdeal.τ).loc Cert.S5GateRefIdeal.main_arg1) = m ((c.tc : Thread Cert.S5GateRefIdeal.nD Cert.S5GateRefIdeal.τ).loc Cert.S5GateRefIdeal.main_arg1)
      ∧ r.2.mem ((c.tc : Thread Cert.S5GateRefIdeal.nD Cert.S5GateRefIdeal.τ).loc Cert.S5GateRefIdeal.main_arg2) = m ((c.tc : Thread Cert.S5GateRefIdeal.nD Cert.S5GateRefIdeal.τ).loc Cert.S5GateRefIdeal.main_arg2)
      ∧ r.2.mem ((c.tc : Thread Cert.S5GateRefIdeal.nD Cert.S5GateRefIdeal.τ).loc Cert.S5GateRefIdeal.main_arg3) = m ((c.tc : Thread Cert.S5GateRefIdeal.nD Cert.S5GateRefIdeal.τ).loc Cert.S5GateRefIdeal.main_arg3))
      ∧ r.2.sem = fun _ => 0)

def quiescent_CtxGqa [hCtxGqa : Cert.CtxGqa.Facts] : Prop :=
  ∀ (m : (ℓ : Loc Cert.CtxGqa.nD Cert.CtxGqa.τ Cert.CtxGqa.sig) → Buf (Elt Bits) ℓ) (g : Dev Cert.CtxGqa.nD → PrngReg), Pre_CtxGqa m →
    θ_run (Cert.CtxGqa.defs (F := Bits)) (onTc (τ := Cert.CtxGqa.τ) (Cert.CtxGqa.main (F := Bits))) ⟨m, fun _ => 0, g⟩ (fun r => (∀ c : Dev Cert.CtxGqa.nD,
      r.2.mem ((c.tc : Thread Cert.CtxGqa.nD Cert.CtxGqa.τ).loc Cert.CtxGqa.main_arg0) = m ((c.tc : Thread Cert.CtxGqa.nD Cert.CtxGqa.τ).loc Cert.CtxGqa.main_arg0)
      ∧ r.2.mem ((c.tc : Thread Cert.CtxGqa.nD Cert.CtxGqa.τ).loc Cert.CtxGqa.main_arg1) = m ((c.tc : Thread Cert.CtxGqa.nD Cert.CtxGqa.τ).loc Cert.CtxGqa.main_arg1)
      ∧ r.2.mem ((c.tc : Thread Cert.CtxGqa.nD Cert.CtxGqa.τ).loc Cert.CtxGqa.main_arg2) = m ((c.tc : Thread Cert.CtxGqa.nD Cert.CtxGqa.τ).loc Cert.CtxGqa.main_arg2))
      ∧ r.2.sem = fun _ => 0)

def quiescent_CtxGqaIdeal [hCtxGqaIdeal : Cert.CtxGqaIdeal.Facts] : Prop :=
  ∀ (m : (ℓ : Loc Cert.CtxGqaIdeal.nD Cert.CtxGqaIdeal.τ Cert.CtxGqaIdeal.sig) → Buf (Elt Ideal) ℓ) (g : Dev Cert.CtxGqaIdeal.nD → PrngReg), Pre_CtxGqaIdeal m →
    θ_run (Cert.CtxGqaIdeal.defs (F := Ideal)) (onTc (τ := Cert.CtxGqaIdeal.τ) (Cert.CtxGqaIdeal.main (F := Ideal))) ⟨m, fun _ => 0, g⟩ (fun r => (∀ c : Dev Cert.CtxGqaIdeal.nD,
      r.2.mem ((c.tc : Thread Cert.CtxGqaIdeal.nD Cert.CtxGqaIdeal.τ).loc Cert.CtxGqaIdeal.main_arg0) = m ((c.tc : Thread Cert.CtxGqaIdeal.nD Cert.CtxGqaIdeal.τ).loc Cert.CtxGqaIdeal.main_arg0)
      ∧ r.2.mem ((c.tc : Thread Cert.CtxGqaIdeal.nD Cert.CtxGqaIdeal.τ).loc Cert.CtxGqaIdeal.main_arg1) = m ((c.tc : Thread Cert.CtxGqaIdeal.nD Cert.CtxGqaIdeal.τ).loc Cert.CtxGqaIdeal.main_arg1)
      ∧ r.2.mem ((c.tc : Thread Cert.CtxGqaIdeal.nD Cert.CtxGqaIdeal.τ).loc Cert.CtxGqaIdeal.main_arg2) = m ((c.tc : Thread Cert.CtxGqaIdeal.nD Cert.CtxGqaIdeal.τ).loc Cert.CtxGqaIdeal.main_arg2))
      ∧ r.2.sem = fun _ => 0)

def quiescent_CtxGqaRefIdeal [hCtxGqaRefIdeal : Cert.CtxGqaRefIdeal.Facts] : Prop :=
  ∀ (m : (ℓ : Loc Cert.CtxGqaRefIdeal.nD Cert.CtxGqaRefIdeal.τ Cert.CtxGqaRefIdeal.sig) → Buf (Elt Ideal) ℓ) (g : Dev Cert.CtxGqaRefIdeal.nD → PrngReg), Pre_CtxGqaRefIdeal m →
    θ_run (Cert.CtxGqaRefIdeal.defs (F := Ideal)) (onTc (τ := Cert.CtxGqaRefIdeal.τ) (Cert.CtxGqaRefIdeal.main (F := Ideal))) ⟨m, fun _ => 0, g⟩ (fun r => (∀ c : Dev Cert.CtxGqaRefIdeal.nD,
      r.2.mem ((c.tc : Thread Cert.CtxGqaRefIdeal.nD Cert.CtxGqaRefIdeal.τ).loc Cert.CtxGqaRefIdeal.main_arg0) = m ((c.tc : Thread Cert.CtxGqaRefIdeal.nD Cert.CtxGqaRefIdeal.τ).loc Cert.CtxGqaRefIdeal.main_arg0)
      ∧ r.2.mem ((c.tc : Thread Cert.CtxGqaRefIdeal.nD Cert.CtxGqaRefIdeal.τ).loc Cert.CtxGqaRefIdeal.main_arg1) = m ((c.tc : Thread Cert.CtxGqaRefIdeal.nD Cert.CtxGqaRefIdeal.τ).loc Cert.CtxGqaRefIdeal.main_arg1)
      ∧ r.2.mem ((c.tc : Thread Cert.CtxGqaRefIdeal.nD Cert.CtxGqaRefIdeal.τ).loc Cert.CtxGqaRefIdeal.main_arg2) = m ((c.tc : Thread Cert.CtxGqaRefIdeal.nD Cert.CtxGqaRefIdeal.τ).loc Cert.CtxGqaRefIdeal.main_arg2))
      ∧ r.2.sem = fun _ => 0)

def quiescent_LatGqa [hLatGqa : Cert.LatGqa.Facts] : Prop :=
  ∀ (m : (ℓ : Loc Cert.LatGqa.nD Cert.LatGqa.τ Cert.LatGqa.sig) → Buf (Elt Bits) ℓ) (g : Dev Cert.LatGqa.nD → PrngReg), Pre_LatGqa m →
    θ_run (Cert.LatGqa.defs (F := Bits)) (onTc (τ := Cert.LatGqa.τ) (Cert.LatGqa.main (F := Bits))) ⟨m, fun _ => 0, g⟩ (fun r => (∀ c : Dev Cert.LatGqa.nD,
      r.2.mem ((c.tc : Thread Cert.LatGqa.nD Cert.LatGqa.τ).loc Cert.LatGqa.main_arg0) = m ((c.tc : Thread Cert.LatGqa.nD Cert.LatGqa.τ).loc Cert.LatGqa.main_arg0)
      ∧ r.2.mem ((c.tc : Thread Cert.LatGqa.nD Cert.LatGqa.τ).loc Cert.LatGqa.main_arg1) = m ((c.tc : Thread Cert.LatGqa.nD Cert.LatGqa.τ).loc Cert.LatGqa.main_arg1)
      ∧ r.2.mem ((c.tc : Thread Cert.LatGqa.nD Cert.LatGqa.τ).loc Cert.LatGqa.main_arg2) = m ((c.tc : Thread Cert.LatGqa.nD Cert.LatGqa.τ).loc Cert.LatGqa.main_arg2)
      ∧ r.2.mem ((c.tc : Thread Cert.LatGqa.nD Cert.LatGqa.τ).loc Cert.LatGqa.main_arg3) = m ((c.tc : Thread Cert.LatGqa.nD Cert.LatGqa.τ).loc Cert.LatGqa.main_arg3)
      ∧ r.2.mem ((c.tc : Thread Cert.LatGqa.nD Cert.LatGqa.τ).loc Cert.LatGqa.main_arg4) = m ((c.tc : Thread Cert.LatGqa.nD Cert.LatGqa.τ).loc Cert.LatGqa.main_arg4)
      ∧ r.2.mem ((c.tc : Thread Cert.LatGqa.nD Cert.LatGqa.τ).loc Cert.LatGqa.main_arg5) = m ((c.tc : Thread Cert.LatGqa.nD Cert.LatGqa.τ).loc Cert.LatGqa.main_arg5)
      ∧ r.2.mem ((c.tc : Thread Cert.LatGqa.nD Cert.LatGqa.τ).loc Cert.LatGqa.main_arg6) = m ((c.tc : Thread Cert.LatGqa.nD Cert.LatGqa.τ).loc Cert.LatGqa.main_arg6))
      ∧ r.2.sem = fun _ => 0)

def quiescent_LatGqaIdeal [hLatGqaIdeal : Cert.LatGqaIdeal.Facts] : Prop :=
  ∀ (m : (ℓ : Loc Cert.LatGqaIdeal.nD Cert.LatGqaIdeal.τ Cert.LatGqaIdeal.sig) → Buf (Elt Ideal) ℓ) (g : Dev Cert.LatGqaIdeal.nD → PrngReg), Pre_LatGqaIdeal m →
    θ_run (Cert.LatGqaIdeal.defs (F := Ideal)) (onTc (τ := Cert.LatGqaIdeal.τ) (Cert.LatGqaIdeal.main (F := Ideal))) ⟨m, fun _ => 0, g⟩ (fun r => (∀ c : Dev Cert.LatGqaIdeal.nD,
      r.2.mem ((c.tc : Thread Cert.LatGqaIdeal.nD Cert.LatGqaIdeal.τ).loc Cert.LatGqaIdeal.main_arg0) = m ((c.tc : Thread Cert.LatGqaIdeal.nD Cert.LatGqaIdeal.τ).loc Cert.LatGqaIdeal.main_arg0)
      ∧ r.2.mem ((c.tc : Thread Cert.LatGqaIdeal.nD Cert.LatGqaIdeal.τ).loc Cert.LatGqaIdeal.main_arg1) = m ((c.tc : Thread Cert.LatGqaIdeal.nD Cert.LatGqaIdeal.τ).loc Cert.LatGqaIdeal.main_arg1)
      ∧ r.2.mem ((c.tc : Thread Cert.LatGqaIdeal.nD Cert.LatGqaIdeal.τ).loc Cert.LatGqaIdeal.main_arg2) = m ((c.tc : Thread Cert.LatGqaIdeal.nD Cert.LatGqaIdeal.τ).loc Cert.LatGqaIdeal.main_arg2)
      ∧ r.2.mem ((c.tc : Thread Cert.LatGqaIdeal.nD Cert.LatGqaIdeal.τ).loc Cert.LatGqaIdeal.main_arg3) = m ((c.tc : Thread Cert.LatGqaIdeal.nD Cert.LatGqaIdeal.τ).loc Cert.LatGqaIdeal.main_arg3)
      ∧ r.2.mem ((c.tc : Thread Cert.LatGqaIdeal.nD Cert.LatGqaIdeal.τ).loc Cert.LatGqaIdeal.main_arg4) = m ((c.tc : Thread Cert.LatGqaIdeal.nD Cert.LatGqaIdeal.τ).loc Cert.LatGqaIdeal.main_arg4)
      ∧ r.2.mem ((c.tc : Thread Cert.LatGqaIdeal.nD Cert.LatGqaIdeal.τ).loc Cert.LatGqaIdeal.main_arg5) = m ((c.tc : Thread Cert.LatGqaIdeal.nD Cert.LatGqaIdeal.τ).loc Cert.LatGqaIdeal.main_arg5)
      ∧ r.2.mem ((c.tc : Thread Cert.LatGqaIdeal.nD Cert.LatGqaIdeal.τ).loc Cert.LatGqaIdeal.main_arg6) = m ((c.tc : Thread Cert.LatGqaIdeal.nD Cert.LatGqaIdeal.τ).loc Cert.LatGqaIdeal.main_arg6))
      ∧ r.2.sem = fun _ => 0)

def quiescent_LatGqaRefIdeal [hLatGqaRefIdeal : Cert.LatGqaRefIdeal.Facts] : Prop :=
  ∀ (m : (ℓ : Loc Cert.LatGqaRefIdeal.nD Cert.LatGqaRefIdeal.τ Cert.LatGqaRefIdeal.sig) → Buf (Elt Ideal) ℓ) (g : Dev Cert.LatGqaRefIdeal.nD → PrngReg), Pre_LatGqaRefIdeal m →
    θ_run (Cert.LatGqaRefIdeal.defs (F := Ideal)) (onTc (τ := Cert.LatGqaRefIdeal.τ) (Cert.LatGqaRefIdeal.main (F := Ideal))) ⟨m, fun _ => 0, g⟩ (fun r => (∀ c : Dev Cert.LatGqaRefIdeal.nD,
      r.2.mem ((c.tc : Thread Cert.LatGqaRefIdeal.nD Cert.LatGqaRefIdeal.τ).loc Cert.LatGqaRefIdeal.main_arg0) = m ((c.tc : Thread Cert.LatGqaRefIdeal.nD Cert.LatGqaRefIdeal.τ).loc Cert.LatGqaRefIdeal.main_arg0)
      ∧ r.2.mem ((c.tc : Thread Cert.LatGqaRefIdeal.nD Cert.LatGqaRefIdeal.τ).loc Cert.LatGqaRefIdeal.main_arg1) = m ((c.tc : Thread Cert.LatGqaRefIdeal.nD Cert.LatGqaRefIdeal.τ).loc Cert.LatGqaRefIdeal.main_arg1)
      ∧ r.2.mem ((c.tc : Thread Cert.LatGqaRefIdeal.nD Cert.LatGqaRefIdeal.τ).loc Cert.LatGqaRefIdeal.main_arg2) = m ((c.tc : Thread Cert.LatGqaRefIdeal.nD Cert.LatGqaRefIdeal.τ).loc Cert.LatGqaRefIdeal.main_arg2)
      ∧ r.2.mem ((c.tc : Thread Cert.LatGqaRefIdeal.nD Cert.LatGqaRefIdeal.τ).loc Cert.LatGqaRefIdeal.main_arg3) = m ((c.tc : Thread Cert.LatGqaRefIdeal.nD Cert.LatGqaRefIdeal.τ).loc Cert.LatGqaRefIdeal.main_arg3)
      ∧ r.2.mem ((c.tc : Thread Cert.LatGqaRefIdeal.nD Cert.LatGqaRefIdeal.τ).loc Cert.LatGqaRefIdeal.main_arg4) = m ((c.tc : Thread Cert.LatGqaRefIdeal.nD Cert.LatGqaRefIdeal.τ).loc Cert.LatGqaRefIdeal.main_arg4)
      ∧ r.2.mem ((c.tc : Thread Cert.LatGqaRefIdeal.nD Cert.LatGqaRefIdeal.τ).loc Cert.LatGqaRefIdeal.main_arg5) = m ((c.tc : Thread Cert.LatGqaRefIdeal.nD Cert.LatGqaRefIdeal.τ).loc Cert.LatGqaRefIdeal.main_arg5)
      ∧ r.2.mem ((c.tc : Thread Cert.LatGqaRefIdeal.nD Cert.LatGqaRefIdeal.τ).loc Cert.LatGqaRefIdeal.main_arg6) = m ((c.tc : Thread Cert.LatGqaRefIdeal.nD Cert.LatGqaRefIdeal.τ).loc Cert.LatGqaRefIdeal.main_arg6))
      ∧ r.2.sem = fun _ => 0)

def quiescent_S5Disc [hS5Disc : Cert.S5Disc.Facts] : Prop :=
  ∀ (m : (ℓ : Loc Cert.S5Disc.nD Cert.S5Disc.τ Cert.S5Disc.sig) → Buf (Elt Bits) ℓ) (g : Dev Cert.S5Disc.nD → PrngReg), Pre_S5Disc m →
    θ_run (Cert.S5Disc.defs (F := Bits)) (onTc (τ := Cert.S5Disc.τ) (Cert.S5Disc.main (F := Bits))) ⟨m, fun _ => 0, g⟩ (fun r => (∀ c : Dev Cert.S5Disc.nD,
      r.2.mem ((c.tc : Thread Cert.S5Disc.nD Cert.S5Disc.τ).loc Cert.S5Disc.main_arg0) = m ((c.tc : Thread Cert.S5Disc.nD Cert.S5Disc.τ).loc Cert.S5Disc.main_arg0)
      ∧ r.2.mem ((c.tc : Thread Cert.S5Disc.nD Cert.S5Disc.τ).loc Cert.S5Disc.main_arg1) = m ((c.tc : Thread Cert.S5Disc.nD Cert.S5Disc.τ).loc Cert.S5Disc.main_arg1)
      ∧ r.2.mem ((c.tc : Thread Cert.S5Disc.nD Cert.S5Disc.τ).loc Cert.S5Disc.main_arg2) = m ((c.tc : Thread Cert.S5Disc.nD Cert.S5Disc.τ).loc Cert.S5Disc.main_arg2)
      ∧ r.2.mem ((c.tc : Thread Cert.S5Disc.nD Cert.S5Disc.τ).loc Cert.S5Disc.main_arg3) = m ((c.tc : Thread Cert.S5Disc.nD Cert.S5Disc.τ).loc Cert.S5Disc.main_arg3)
      ∧ r.2.mem ((c.tc : Thread Cert.S5Disc.nD Cert.S5Disc.τ).loc Cert.S5Disc.main_arg4) = m ((c.tc : Thread Cert.S5Disc.nD Cert.S5Disc.τ).loc Cert.S5Disc.main_arg4))
      ∧ r.2.sem = fun _ => 0)

def quiescent_S5DiscIdeal [hS5DiscIdeal : Cert.S5DiscIdeal.Facts] : Prop :=
  ∀ (m : (ℓ : Loc Cert.S5DiscIdeal.nD Cert.S5DiscIdeal.τ Cert.S5DiscIdeal.sig) → Buf (Elt Ideal) ℓ) (g : Dev Cert.S5DiscIdeal.nD → PrngReg), Pre_S5DiscIdeal m →
    θ_run (Cert.S5DiscIdeal.defs (F := Ideal)) (onTc (τ := Cert.S5DiscIdeal.τ) (Cert.S5DiscIdeal.main (F := Ideal))) ⟨m, fun _ => 0, g⟩ (fun r => (∀ c : Dev Cert.S5DiscIdeal.nD,
      r.2.mem ((c.tc : Thread Cert.S5DiscIdeal.nD Cert.S5DiscIdeal.τ).loc Cert.S5DiscIdeal.main_arg0) = m ((c.tc : Thread Cert.S5DiscIdeal.nD Cert.S5DiscIdeal.τ).loc Cert.S5DiscIdeal.main_arg0)
      ∧ r.2.mem ((c.tc : Thread Cert.S5DiscIdeal.nD Cert.S5DiscIdeal.τ).loc Cert.S5DiscIdeal.main_arg1) = m ((c.tc : Thread Cert.S5DiscIdeal.nD Cert.S5DiscIdeal.τ).loc Cert.S5DiscIdeal.main_arg1)
      ∧ r.2.mem ((c.tc : Thread Cert.S5DiscIdeal.nD Cert.S5DiscIdeal.τ).loc Cert.S5DiscIdeal.main_arg2) = m ((c.tc : Thread Cert.S5DiscIdeal.nD Cert.S5DiscIdeal.τ).loc Cert.S5DiscIdeal.main_arg2)
      ∧ r.2.mem ((c.tc : Thread Cert.S5DiscIdeal.nD Cert.S5DiscIdeal.τ).loc Cert.S5DiscIdeal.main_arg3) = m ((c.tc : Thread Cert.S5DiscIdeal.nD Cert.S5DiscIdeal.τ).loc Cert.S5DiscIdeal.main_arg3)
      ∧ r.2.mem ((c.tc : Thread Cert.S5DiscIdeal.nD Cert.S5DiscIdeal.τ).loc Cert.S5DiscIdeal.main_arg4) = m ((c.tc : Thread Cert.S5DiscIdeal.nD Cert.S5DiscIdeal.τ).loc Cert.S5DiscIdeal.main_arg4))
      ∧ r.2.sem = fun _ => 0)

def quiescent_S5DiscRefIdeal [hS5DiscRefIdeal : Cert.S5DiscRefIdeal.Facts] : Prop :=
  ∀ (m : (ℓ : Loc Cert.S5DiscRefIdeal.nD Cert.S5DiscRefIdeal.τ Cert.S5DiscRefIdeal.sig) → Buf (Elt Ideal) ℓ) (g : Dev Cert.S5DiscRefIdeal.nD → PrngReg), Pre_S5DiscRefIdeal m →
    θ_run (Cert.S5DiscRefIdeal.defs (F := Ideal)) (onTc (τ := Cert.S5DiscRefIdeal.τ) (Cert.S5DiscRefIdeal.main (F := Ideal))) ⟨m, fun _ => 0, g⟩ (fun r => (∀ c : Dev Cert.S5DiscRefIdeal.nD,
      r.2.mem ((c.tc : Thread Cert.S5DiscRefIdeal.nD Cert.S5DiscRefIdeal.τ).loc Cert.S5DiscRefIdeal.main_arg0) = m ((c.tc : Thread Cert.S5DiscRefIdeal.nD Cert.S5DiscRefIdeal.τ).loc Cert.S5DiscRefIdeal.main_arg0)
      ∧ r.2.mem ((c.tc : Thread Cert.S5DiscRefIdeal.nD Cert.S5DiscRefIdeal.τ).loc Cert.S5DiscRefIdeal.main_arg1) = m ((c.tc : Thread Cert.S5DiscRefIdeal.nD Cert.S5DiscRefIdeal.τ).loc Cert.S5DiscRefIdeal.main_arg1)
      ∧ r.2.mem ((c.tc : Thread Cert.S5DiscRefIdeal.nD Cert.S5DiscRefIdeal.τ).loc Cert.S5DiscRefIdeal.main_arg2) = m ((c.tc : Thread Cert.S5DiscRefIdeal.nD Cert.S5DiscRefIdeal.τ).loc Cert.S5DiscRefIdeal.main_arg2)
      ∧ r.2.mem ((c.tc : Thread Cert.S5DiscRefIdeal.nD Cert.S5DiscRefIdeal.τ).loc Cert.S5DiscRefIdeal.main_arg3) = m ((c.tc : Thread Cert.S5DiscRefIdeal.nD Cert.S5DiscRefIdeal.τ).loc Cert.S5DiscRefIdeal.main_arg3)
      ∧ r.2.mem ((c.tc : Thread Cert.S5DiscRefIdeal.nD Cert.S5DiscRefIdeal.τ).loc Cert.S5DiscRefIdeal.main_arg4) = m ((c.tc : Thread Cert.S5DiscRefIdeal.nD Cert.S5DiscRefIdeal.τ).loc Cert.S5DiscRefIdeal.main_arg4))
      ∧ r.2.sem = fun _ => 0)

def preserves_Ctx_CtxIdeal : Prop :=
  IdealRules.named_const.Statement Cert.CtxIdeal.κ "s" .f32 0x3DB504F3#32 (((Real.sqrt 128)⁻¹ : ℝ) : EReal)

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)) →
    ∃ (v0 : (c : Dev Cert.CtxIdeal.nD) → Buf (Elt Ideal) ((c.tc : Thread Cert.CtxIdeal.nD Cert.CtxIdeal.τ).loc Cert.CtxIdeal.main_v0_0)) (v1 : (c : Dev Cert.CtxIdeal.nD) → Buf (Elt Ideal) ((c.tc : Thread Cert.CtxIdeal.nD Cert.CtxIdeal.τ).loc Cert.CtxIdeal.main_v0_1)) (v2 : (c : Dev Cert.CtxIdeal.nD) → Buf (Elt Ideal) ((c.tc : Thread Cert.CtxIdeal.nD Cert.CtxIdeal.τ).loc Cert.CtxIdeal.main_v0_2)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0_0) = v0 c
          ∧ r.2.mem ((c.tc : Thread Cert.CtxIdeal.nD Cert.CtxIdeal.τ).loc Cert.CtxIdeal.main_v0_1) = v1 c
          ∧ r.2.mem ((c.tc : Thread Cert.CtxIdeal.nD Cert.CtxIdeal.τ).loc Cert.CtxIdeal.main_v0_2) = v2 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v29) = v0 c
          ∧ r.2.mem ((c.tc : Thread Cert.CtxRefIdeal.nD Cert.CtxRefIdeal.τ).loc Cert.CtxRefIdeal.main_v8) = v1 c
          ∧ r.2.mem ((c.tc : Thread Cert.CtxRefIdeal.nD Cert.CtxRefIdeal.τ).loc Cert.CtxRefIdeal.main_v10) = v2 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0))

def preserves_InMix_InMixIdeal : Prop :=
  True

def algebraic_InMixIdeal_InMixRefIdeal [hInMixIdeal : Cert.InMixIdeal.Facts] [hInMixRefIdeal : Cert.InMixRefIdeal.Facts] : Prop :=
  ∀ (m : (ℓ : Loc Cert.InMixIdeal.nD Cert.InMixIdeal.τ Cert.InMixIdeal.sig) → Buf (Elt Ideal) ℓ) (g : Dev Cert.InMixIdeal.nD → PrngReg)
    (m' : (ℓ : Loc Cert.InMixRefIdeal.nD Cert.InMixRefIdeal.τ Cert.InMixRefIdeal.sig) → Buf (Elt Ideal) ℓ) (g' : Dev Cert.InMixRefIdeal.nD → PrngReg), Pre_InMixIdeal m →
    (∀ c : Dev Cert.InMixIdeal.nD,
      m' ((c.tc : Thread Cert.InMixRefIdeal.nD Cert.InMixRefIdeal.τ).loc Cert.InMixRefIdeal.main_arg0) = m ((c.tc : Thread Cert.InMixIdeal.nD Cert.InMixIdeal.τ).loc Cert.InMixIdeal.main_arg0)
      ∧ m' ((c.tc : Thread Cert.InMixRefIdeal.nD Cert.InMixRefIdeal.τ).loc Cert.InMixRefIdeal.main_arg1) = m ((c.tc : Thread Cert.InMixIdeal.nD Cert.InMixIdeal.τ).loc Cert.InMixIdeal.main_arg1)) →
    ∃ (v0 : (c : Dev Cert.InMixIdeal.nD) → Buf (Elt Ideal) ((c.tc : Thread Cert.InMixIdeal.nD Cert.InMixIdeal.τ).loc Cert.InMixIdeal.main_v0)),
      θ_run (Cert.InMixIdeal.defs (F := Ideal)) (onTc (τ := Cert.InMixIdeal.τ) (Cert.InMixIdeal.main (F := Ideal))) ⟨m, fun _ => 0, g⟩ (fun r => ∀ c : Dev Cert.InMixIdeal.nD,
          r.2.mem ((c.tc : Thread Cert.InMixIdeal.nD Cert.InMixIdeal.τ).loc Cert.InMixIdeal.main_v0) = v0 c
          ∧ r.2.mem ((c.tc : Thread Cert.InMixIdeal.nD Cert.InMixIdeal.τ).loc Cert.InMixIdeal.main_arg0) = m ((c.tc : Thread Cert.InMixIdeal.nD Cert.InMixIdeal.τ).loc Cert.InMixIdeal.main_arg0)
          ∧ r.2.mem ((c.tc : Thread Cert.InMixIdeal.nD Cert.InMixIdeal.τ).loc Cert.InMixIdeal.main_arg1) = m ((c.tc : Thread Cert.InMixIdeal.nD Cert.InMixIdeal.τ).loc Cert.InMixIdeal.main_arg1))
      ∧ θ_run (Cert.InMixRefIdeal.defs (F := Ideal)) (onTc (τ := Cert.InMixRefIdeal.τ) (Cert.InMixRefIdeal.main (F := Ideal))) ⟨m', fun _ => 0, g'⟩ (fun r => ∀ c : Dev Cert.InMixRefIdeal.nD,
          r.2.mem ((c.tc : Thread Cert.InMixRefIdeal.nD Cert.InMixRefIdeal.τ).loc Cert.InMixRefIdeal.main_v3) = v0 c
          ∧ r.2.mem ((c.tc : Thread Cert.InMixRefIdeal.nD Cert.InMixRefIdeal.τ).loc Cert.InMixRefIdeal.main_arg0) = m' ((c.tc : Thread Cert.InMixRefIdeal.nD Cert.InMixRefIdeal.τ).loc Cert.InMixRefIdeal.main_arg0)
          ∧ r.2.mem ((c.tc : Thread Cert.InMixRefIdeal.nD Cert.InMixRefIdeal.τ).loc Cert.InMixRefIdeal.main_arg1) = m' ((c.tc : Thread Cert.InMixRefIdeal.nD Cert.InMixRefIdeal.τ).loc Cert.InMixRefIdeal.main_arg1))

def preserves_InRwkv_InRwkvIdeal : Prop :=
  True

def algebraic_InRwkvIdeal_InRwkvRefIdeal [hInRwkvIdeal : Cert.InRwkvIdeal.Facts] [hInRwkvRefIdeal : Cert.InRwkvRefIdeal.Facts] : Prop :=
  ∀ (m : (ℓ : Loc Cert.InRwkvIdeal.nD Cert.InRwkvIdeal.τ Cert.InRwkvIdeal.sig) → Buf (Elt Ideal) ℓ) (g : Dev Cert.InRwkvIdeal.nD → PrngReg)
    (m' : (ℓ : Loc Cert.InRwkvRefIdeal.nD Cert.InRwkvRefIdeal.τ Cert.InRwkvRefIdeal.sig) → Buf (Elt Ideal) ℓ) (g' : Dev Cert.InRwkvRefIdeal.nD → PrngReg), Pre_InRwkvIdeal m →
    (∀ c : Dev Cert.InRwkvIdeal.nD,
      m' ((c.tc : Thread Cert.InRwkvRefIdeal.nD Cert.InRwkvRefIdeal.τ).loc Cert.InRwkvRefIdeal.main_arg0) = m ((c.tc : Thread Cert.InRwkvIdeal.nD Cert.InRwkvIdeal.τ).loc Cert.InRwkvIdeal.main_arg0)
      ∧ m' ((c.tc : Thread Cert.InRwkvRefIdeal.nD Cert.InRwkvRefIdeal.τ).loc Cert.InRwkvRefIdeal.main_arg1) = m ((c.tc : Thread Cert.InRwkvIdeal.nD Cert.InRwkvIdeal.τ).loc Cert.InRwkvIdeal.main_arg1)) →
    ∃ (v0 : (c : Dev Cert.InRwkvIdeal.nD) → Buf (Elt Ideal) ((c.tc : Thread Cert.InRwkvIdeal.nD Cert.InRwkvIdeal.τ).loc Cert.InRwkvIdeal.main_v0)),
      θ_run (Cert.InRwkvIdeal.defs (F := Ideal)) (onTc (τ := Cert.InRwkvIdeal.τ) (Cert.InRwkvIdeal.main (F := Ideal))) ⟨m, fun _ => 0, g⟩ (fun r => ∀ c : Dev Cert.InRwkvIdeal.nD,
          r.2.mem ((c.tc : Thread Cert.InRwkvIdeal.nD Cert.InRwkvIdeal.τ).loc Cert.InRwkvIdeal.main_v0) = v0 c
          ∧ r.2.mem ((c.tc : Thread Cert.InRwkvIdeal.nD Cert.InRwkvIdeal.τ).loc Cert.InRwkvIdeal.main_arg0) = m ((c.tc : Thread Cert.InRwkvIdeal.nD Cert.InRwkvIdeal.τ).loc Cert.InRwkvIdeal.main_arg0)
          ∧ r.2.mem ((c.tc : Thread Cert.InRwkvIdeal.nD Cert.InRwkvIdeal.τ).loc Cert.InRwkvIdeal.main_arg1) = m ((c.tc : Thread Cert.InRwkvIdeal.nD Cert.InRwkvIdeal.τ).loc Cert.InRwkvIdeal.main_arg1))
      ∧ θ_run (Cert.InRwkvRefIdeal.defs (F := Ideal)) (onTc (τ := Cert.InRwkvRefIdeal.τ) (Cert.InRwkvRefIdeal.main (F := Ideal))) ⟨m', fun _ => 0, g'⟩ (fun r => ∀ c : Dev Cert.InRwkvRefIdeal.nD,
          r.2.mem ((c.tc : Thread Cert.InRwkvRefIdeal.nD Cert.InRwkvRefIdeal.τ).loc Cert.InRwkvRefIdeal.main_v3) = v0 c
          ∧ r.2.mem ((c.tc : Thread Cert.InRwkvRefIdeal.nD Cert.InRwkvRefIdeal.τ).loc Cert.InRwkvRefIdeal.main_arg0) = m' ((c.tc : Thread Cert.InRwkvRefIdeal.nD Cert.InRwkvRefIdeal.τ).loc Cert.InRwkvRefIdeal.main_arg0)
          ∧ r.2.mem ((c.tc : Thread Cert.InRwkvRefIdeal.nD Cert.InRwkvRefIdeal.τ).loc Cert.InRwkvRefIdeal.main_arg1) = m' ((c.tc : Thread Cert.InRwkvRefIdeal.nD Cert.InRwkvRefIdeal.τ).loc Cert.InRwkvRefIdeal.main_arg1))

def preserves_InGate_InGateIdeal : Prop :=
  True

def algebraic_InGateIdeal_InGateRefIdeal [hInGateIdeal : Cert.InGateIdeal.Facts] [hInGateRefIdeal : Cert.InGateRefIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.InGateRefIdeal.nD Cert.InGateRefIdeal.τ Cert.InGateRefIdeal.sig) → Buf (Elt Ideal) ℓ) (g' : Dev Cert.InGateRefIdeal.nD → PrngReg), Pre_InGateIdeal m →
    (∀ c : Dev Cert.InGateIdeal.nD,
      m' ((c.tc : Thread Cert.InGateRefIdeal.nD Cert.InGateRefIdeal.τ).loc Cert.InGateRefIdeal.main_arg0) = m ((c.tc : Thread Cert.InGateIdeal.nD Cert.InGateIdeal.τ).loc Cert.InGateIdeal.main_arg0)
      ∧ m' ((c.tc : Thread Cert.InGateRefIdeal.nD Cert.InGateRefIdeal.τ).loc Cert.InGateRefIdeal.main_arg1) = m ((c.tc : Thread Cert.InGateIdeal.nD Cert.InGateIdeal.τ).loc Cert.InGateIdeal.main_arg1)) →
    ∃ (v0 : (c : Dev Cert.InGateIdeal.nD) → Buf (Elt Ideal) ((c.tc : Thread Cert.InGateIdeal.nD Cert.InGateIdeal.τ).loc Cert.InGateIdeal.main_v0)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v0) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ θ_run (Cert.InGateRefIdeal.defs (F := Ideal)) (onTc (τ := Cert.InGateRefIdeal.τ) (Cert.InGateRefIdeal.main (F := Ideal))) ⟨m', fun _ => 0, g'⟩ (fun r => ∀ c : Dev Cert.InGateRefIdeal.nD,
          r.2.mem ((c.tc : Thread Cert.InGateRefIdeal.nD Cert.InGateRefIdeal.τ).loc Cert.InGateRefIdeal.main_v3) = v0 c
          ∧ r.2.mem ((c.tc : Thread Cert.InGateRefIdeal.nD Cert.InGateRefIdeal.τ).loc Cert.InGateRefIdeal.main_arg0) = m' ((c.tc : Thread Cert.InGateRefIdeal.nD Cert.InGateRefIdeal.τ).loc Cert.InGateRefIdeal.main_arg0)
          ∧ r.2.mem ((c.tc : Thread Cert.InGateRefIdeal.nD Cert.InGateRefIdeal.τ).loc Cert.InGateRefIdeal.main_arg1) = m' ((c.tc : Thread Cert.InGateRefIdeal.nD Cert.InGateRefIdeal.τ).loc Cert.InGateRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v13) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Up_UpIdeal : Prop :=
  True

def algebraic_UpIdeal_UpRefIdeal [hUpIdeal : Cert.UpIdeal.Facts] [hUpRefIdeal : Cert.UpRefIdeal.Facts] [hPre_up_in_range : Cert.Pre_up_in_range.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v31) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] [hPre_down_in_range : Cert.Pre_down_in_range.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v18) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)) →
    ∃ (v0 : (c : Dev Cert.NormModIdeal.nD) → Buf (Elt Ideal) ((c.tc : Thread Cert.NormModIdeal.nD Cert.NormModIdeal.τ).loc Cert.NormModIdeal.main_v1)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v1) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v27) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2))

def preserves_RouteNorm_RouteNormIdeal : Prop :=
  True

def algebraic_RouteNormIdeal_RouteNormRefIdeal [hRouteNormIdeal : Cert.RouteNormIdeal.Facts] [hRouteNormRefIdeal : Cert.RouteNormRefIdeal.Facts] : Prop :=
  ∀ (m : (ℓ : Loc Cert.RouteNormIdeal.nD Cert.RouteNormIdeal.τ Cert.RouteNormIdeal.sig) → Buf (Elt Ideal) ℓ) (g : Dev Cert.RouteNormIdeal.nD → PrngReg)
    (m' : (ℓ : Loc Cert.RouteNormRefIdeal.nD Cert.RouteNormRefIdeal.τ Cert.RouteNormRefIdeal.sig) → Buf (Elt Ideal) ℓ) (g' : Dev Cert.RouteNormRefIdeal.nD → PrngReg), Pre_RouteNormIdeal m →
    (∀ c : Dev Cert.RouteNormIdeal.nD,
      m' ((c.tc : Thread Cert.RouteNormRefIdeal.nD Cert.RouteNormRefIdeal.τ).loc Cert.RouteNormRefIdeal.main_arg0) = m ((c.tc : Thread Cert.RouteNormIdeal.nD Cert.RouteNormIdeal.τ).loc Cert.RouteNormIdeal.main_arg0)
      ∧ m' ((c.tc : Thread Cert.RouteNormRefIdeal.nD Cert.RouteNormRefIdeal.τ).loc Cert.RouteNormRefIdeal.main_arg1) = m ((c.tc : Thread Cert.RouteNormIdeal.nD Cert.RouteNormIdeal.τ).loc Cert.RouteNormIdeal.main_arg1)
      ∧ m' ((c.tc : Thread Cert.RouteNormRefIdeal.nD Cert.RouteNormRefIdeal.τ).loc Cert.RouteNormRefIdeal.main_arg2) = m ((c.tc : Thread Cert.RouteNormIdeal.nD Cert.RouteNormIdeal.τ).loc Cert.RouteNormIdeal.main_arg2)
      ∧ m' ((c.tc : Thread Cert.RouteNormRefIdeal.nD Cert.RouteNormRefIdeal.τ).loc Cert.RouteNormRefIdeal.main_arg3) = m ((c.tc : Thread Cert.RouteNormIdeal.nD Cert.RouteNormIdeal.τ).loc Cert.RouteNormIdeal.main_arg3)
      ∧ m' ((c.tc : Thread Cert.RouteNormRefIdeal.nD Cert.RouteNormRefIdeal.τ).loc Cert.RouteNormRefIdeal.main_arg4) = m ((c.tc : Thread Cert.RouteNormIdeal.nD Cert.RouteNormIdeal.τ).loc Cert.RouteNormIdeal.main_arg4)) →
    ∃ (v0 : (c : Dev Cert.RouteNormIdeal.nD) → Buf (Elt Ideal) ((c.tc : Thread Cert.RouteNormIdeal.nD Cert.RouteNormIdeal.τ).loc Cert.RouteNormIdeal.main_v7_0)),
      θ_run (Cert.RouteNormIdeal.defs (F := Ideal)) (onTc (τ := Cert.RouteNormIdeal.τ) (Cert.RouteNormIdeal.main (F := Ideal))) ⟨m, fun _ => 0, g⟩ (fun r => ∀ c : Dev Cert.RouteNormIdeal.nD,
          r.2.mem ((c.tc : Thread Cert.RouteNormIdeal.nD Cert.RouteNormIdeal.τ).loc Cert.RouteNormIdeal.main_v7_0) = v0 c
          ∧ r.2.mem ((c.tc : Thread Cert.RouteNormIdeal.nD Cert.RouteNormIdeal.τ).loc Cert.RouteNormIdeal.main_arg0) = m ((c.tc : Thread Cert.RouteNormIdeal.nD Cert.RouteNormIdeal.τ).loc Cert.RouteNormIdeal.main_arg0)
          ∧ r.2.mem ((c.tc : Thread Cert.RouteNormIdeal.nD Cert.RouteNormIdeal.τ).loc Cert.RouteNormIdeal.main_arg1) = m ((c.tc : Thread Cert.RouteNormIdeal.nD Cert.RouteNormIdeal.τ).loc Cert.RouteNormIdeal.main_arg1)
          ∧ r.2.mem ((c.tc : Thread Cert.RouteNormIdeal.nD Cert.RouteNormIdeal.τ).loc Cert.RouteNormIdeal.main_arg2) = m ((c.tc : Thread Cert.RouteNormIdeal.nD Cert.RouteNormIdeal.τ).loc Cert.RouteNormIdeal.main_arg2)
          ∧ r.2.mem ((c.tc : Thread Cert.RouteNormIdeal.nD Cert.RouteNormIdeal.τ).loc Cert.RouteNormIdeal.main_arg3) = m ((c.tc : Thread Cert.RouteNormIdeal.nD Cert.RouteNormIdeal.τ).loc Cert.RouteNormIdeal.main_arg3)
          ∧ r.2.mem ((c.tc : Thread Cert.RouteNormIdeal.nD Cert.RouteNormIdeal.τ).loc Cert.RouteNormIdeal.main_arg4) = m ((c.tc : Thread Cert.RouteNormIdeal.nD Cert.RouteNormIdeal.τ).loc Cert.RouteNormIdeal.main_arg4))
      ∧ θ_run (Cert.RouteNormRefIdeal.defs (F := Ideal)) (onTc (τ := Cert.RouteNormRefIdeal.τ) (Cert.RouteNormRefIdeal.main (F := Ideal))) ⟨m', fun _ => 0, g'⟩ (fun r => ∀ c : Dev Cert.RouteNormRefIdeal.nD,
          r.2.mem ((c.tc : Thread Cert.RouteNormRefIdeal.nD Cert.RouteNormRefIdeal.τ).loc Cert.RouteNormRefIdeal.main_v26) = v0 c
          ∧ r.2.mem ((c.tc : Thread Cert.RouteNormRefIdeal.nD Cert.RouteNormRefIdeal.τ).loc Cert.RouteNormRefIdeal.main_arg0) = m' ((c.tc : Thread Cert.RouteNormRefIdeal.nD Cert.RouteNormRefIdeal.τ).loc Cert.RouteNormRefIdeal.main_arg0)
          ∧ r.2.mem ((c.tc : Thread Cert.RouteNormRefIdeal.nD Cert.RouteNormRefIdeal.τ).loc Cert.RouteNormRefIdeal.main_arg1) = m' ((c.tc : Thread Cert.RouteNormRefIdeal.nD Cert.RouteNormRefIdeal.τ).loc Cert.RouteNormRefIdeal.main_arg1)
          ∧ r.2.mem ((c.tc : Thread Cert.RouteNormRefIdeal.nD Cert.RouteNormRefIdeal.τ).loc Cert.RouteNormRefIdeal.main_arg2) = m' ((c.tc : Thread Cert.RouteNormRefIdeal.nD Cert.RouteNormRefIdeal.τ).loc Cert.RouteNormRefIdeal.main_arg2)
          ∧ r.2.mem ((c.tc : Thread Cert.RouteNormRefIdeal.nD Cert.RouteNormRefIdeal.τ).loc Cert.RouteNormRefIdeal.main_arg3) = m' ((c.tc : Thread Cert.RouteNormRefIdeal.nD Cert.RouteNormRefIdeal.τ).loc Cert.RouteNormRefIdeal.main_arg3)
          ∧ r.2.mem ((c.tc : Thread Cert.RouteNormRefIdeal.nD Cert.RouteNormRefIdeal.τ).loc Cert.RouteNormRefIdeal.main_arg4) = m' ((c.tc : Thread Cert.RouteNormRefIdeal.nD Cert.RouteNormRefIdeal.τ).loc Cert.RouteNormRefIdeal.main_arg4))

def preserves_Route_RouteIdeal : Prop :=
  True

def algebraic_RouteIdeal_RouteRefIdeal [hRouteIdeal : Cert.RouteIdeal.Facts] [hRouteRefIdeal : Cert.RouteRefIdeal.Facts] [hPre_route_finite : Cert.Pre_route_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)) →
    ∃ (v0 : (c : Dev Cert.RouteIdeal.nD) → Buf (Elt Ideal) ((c.tc : Thread Cert.RouteIdeal.nD Cert.RouteIdeal.τ).loc Cert.RouteIdeal.main_v7_1)) (v1 : (c : Dev Cert.RouteIdeal.nD) → Buf (Elt Ideal) ((c.tc : Thread Cert.RouteIdeal.nD Cert.RouteIdeal.τ).loc Cert.RouteIdeal.main_v7_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v7_1) = v0 c
          ∧ r.2.mem ((c.tc : Thread Cert.RouteIdeal.nD Cert.RouteIdeal.τ).loc Cert.RouteIdeal.main_v7_2) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v107) = v0 c
          ∧ r.2.mem ((c.tc : Thread Cert.RouteRefIdeal.nD Cert.RouteRefIdeal.τ).loc Cert.RouteRefIdeal.main_v112) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_S5Gate_S5GateIdeal : Prop :=
  True

def algebraic_S5GateIdeal_S5GateRefIdeal [hS5GateIdeal : Cert.S5GateIdeal.Facts] [hS5GateRefIdeal : Cert.S5GateRefIdeal.Facts] : Prop :=
  ∀ (m : (ℓ : Loc Cert.S5GateIdeal.nD Cert.S5GateIdeal.τ Cert.S5GateIdeal.sig) → Buf (Elt Ideal) ℓ) (g : Dev Cert.S5GateIdeal.nD → PrngReg)
    (m' : (ℓ : Loc Cert.S5GateRefIdeal.nD Cert.S5GateRefIdeal.τ Cert.S5GateRefIdeal.sig) → Buf (Elt Ideal) ℓ) (g' : Dev Cert.S5GateRefIdeal.nD → PrngReg), Pre_S5GateIdeal m →
    (∀ c : Dev Cert.S5GateIdeal.nD,
      m' ((c.tc : Thread Cert.S5GateRefIdeal.nD Cert.S5GateRefIdeal.τ).loc Cert.S5GateRefIdeal.main_arg0) = m ((c.tc : Thread Cert.S5GateIdeal.nD Cert.S5GateIdeal.τ).loc Cert.S5GateIdeal.main_arg0)
      ∧ m' ((c.tc : Thread Cert.S5GateRefIdeal.nD Cert.S5GateRefIdeal.τ).loc Cert.S5GateRefIdeal.main_arg1) = m ((c.tc : Thread Cert.S5GateIdeal.nD Cert.S5GateIdeal.τ).loc Cert.S5GateIdeal.main_arg1)
      ∧ m' ((c.tc : Thread Cert.S5GateRefIdeal.nD Cert.S5GateRefIdeal.τ).loc Cert.S5GateRefIdeal.main_arg2) = m ((c.tc : Thread Cert.S5GateIdeal.nD Cert.S5GateIdeal.τ).loc Cert.S5GateIdeal.main_arg2)
      ∧ m' ((c.tc : Thread Cert.S5GateRefIdeal.nD Cert.S5GateRefIdeal.τ).loc Cert.S5GateRefIdeal.main_arg3) = m ((c.tc : Thread Cert.S5GateIdeal.nD Cert.S5GateIdeal.τ).loc Cert.S5GateIdeal.main_arg3)) →
    ∃ (v0 : (c : Dev Cert.S5GateIdeal.nD) → Buf (Elt Ideal) ((c.tc : Thread Cert.S5GateIdeal.nD Cert.S5GateIdeal.τ).loc Cert.S5GateIdeal.main_v1)),
      θ_run (Cert.S5GateIdeal.defs (F := Ideal)) (onTc (τ := Cert.S5GateIdeal.τ) (Cert.S5GateIdeal.main (F := Ideal))) ⟨m, fun _ => 0, g⟩ (fun r => ∀ c : Dev Cert.S5GateIdeal.nD,
          r.2.mem ((c.tc : Thread Cert.S5GateIdeal.nD Cert.S5GateIdeal.τ).loc Cert.S5GateIdeal.main_v1) = v0 c
          ∧ r.2.mem ((c.tc : Thread Cert.S5GateIdeal.nD Cert.S5GateIdeal.τ).loc Cert.S5GateIdeal.main_arg0) = m ((c.tc : Thread Cert.S5GateIdeal.nD Cert.S5GateIdeal.τ).loc Cert.S5GateIdeal.main_arg0)
          ∧ r.2.mem ((c.tc : Thread Cert.S5GateIdeal.nD Cert.S5GateIdeal.τ).loc Cert.S5GateIdeal.main_arg1) = m ((c.tc : Thread Cert.S5GateIdeal.nD Cert.S5GateIdeal.τ).loc Cert.S5GateIdeal.main_arg1)
          ∧ r.2.mem ((c.tc : Thread Cert.S5GateIdeal.nD Cert.S5GateIdeal.τ).loc Cert.S5GateIdeal.main_arg2) = m ((c.tc : Thread Cert.S5GateIdeal.nD Cert.S5GateIdeal.τ).loc Cert.S5GateIdeal.main_arg2)
          ∧ r.2.mem ((c.tc : Thread Cert.S5GateIdeal.nD Cert.S5GateIdeal.τ).loc Cert.S5GateIdeal.main_arg3) = m ((c.tc : Thread Cert.S5GateIdeal.nD Cert.S5GateIdeal.τ).loc Cert.S5GateIdeal.main_arg3))
      ∧ θ_run (Cert.S5GateRefIdeal.defs (F := Ideal)) (onTc (τ := Cert.S5GateRefIdeal.τ) (Cert.S5GateRefIdeal.main (F := Ideal))) ⟨m', fun _ => 0, g'⟩ (fun r => ∀ c : Dev Cert.S5GateRefIdeal.nD,
          r.2.mem ((c.tc : Thread Cert.S5GateRefIdeal.nD Cert.S5GateRefIdeal.τ).loc Cert.S5GateRefIdeal.main_v35) = v0 c
          ∧ r.2.mem ((c.tc : Thread Cert.S5GateRefIdeal.nD Cert.S5GateRefIdeal.τ).loc Cert.S5GateRefIdeal.main_arg0) = m' ((c.tc : Thread Cert.S5GateRefIdeal.nD Cert.S5GateRefIdeal.τ).loc Cert.S5GateRefIdeal.main_arg0)
          ∧ r.2.mem ((c.tc : Thread Cert.S5GateRefIdeal.nD Cert.S5GateRefIdeal.τ).loc Cert.S5GateRefIdeal.main_arg1) = m' ((c.tc : Thread Cert.S5GateRefIdeal.nD Cert.S5GateRefIdeal.τ).loc Cert.S5GateRefIdeal.main_arg1)
          ∧ r.2.mem ((c.tc : Thread Cert.S5GateRefIdeal.nD Cert.S5GateRefIdeal.τ).loc Cert.S5GateRefIdeal.main_arg2) = m' ((c.tc : Thread Cert.S5GateRefIdeal.nD Cert.S5GateRefIdeal.τ).loc Cert.S5GateRefIdeal.main_arg2)
          ∧ r.2.mem ((c.tc : Thread Cert.S5GateRefIdeal.nD Cert.S5GateRefIdeal.τ).loc Cert.S5GateRefIdeal.main_arg3) = m' ((c.tc : Thread Cert.S5GateRefIdeal.nD Cert.S5GateRefIdeal.τ).loc Cert.S5GateRefIdeal.main_arg3))

def preserves_CtxGqa_CtxGqaIdeal : Prop :=
  IdealRules.named_const.Statement Cert.CtxGqaIdeal.κ "s" .f32 0x3DB504F3#32 (((Real.sqrt 128)⁻¹ : ℝ) : EReal)

def algebraic_CtxGqaIdeal_CtxGqaRefIdeal [hCtxGqaIdeal : Cert.CtxGqaIdeal.Facts] [hCtxGqaRefIdeal : Cert.CtxGqaRefIdeal.Facts] : Prop :=
  ∀ (m : (ℓ : Loc Cert.CtxGqaIdeal.nD Cert.CtxGqaIdeal.τ Cert.CtxGqaIdeal.sig) → Buf (Elt Ideal) ℓ) (g : Dev Cert.CtxGqaIdeal.nD → PrngReg)
    (m' : (ℓ : Loc Cert.CtxGqaRefIdeal.nD Cert.CtxGqaRefIdeal.τ Cert.CtxGqaRefIdeal.sig) → Buf (Elt Ideal) ℓ) (g' : Dev Cert.CtxGqaRefIdeal.nD → PrngReg), Pre_CtxGqaIdeal m →
    (∀ c : Dev Cert.CtxGqaIdeal.nD,
      m' ((c.tc : Thread Cert.CtxGqaRefIdeal.nD Cert.CtxGqaRefIdeal.τ).loc Cert.CtxGqaRefIdeal.main_arg0) = m ((c.tc : Thread Cert.CtxGqaIdeal.nD Cert.CtxGqaIdeal.τ).loc Cert.CtxGqaIdeal.main_arg0)
      ∧ m' ((c.tc : Thread Cert.CtxGqaRefIdeal.nD Cert.CtxGqaRefIdeal.τ).loc Cert.CtxGqaRefIdeal.main_arg1) = m ((c.tc : Thread Cert.CtxGqaIdeal.nD Cert.CtxGqaIdeal.τ).loc Cert.CtxGqaIdeal.main_arg1)
      ∧ m' ((c.tc : Thread Cert.CtxGqaRefIdeal.nD Cert.CtxGqaRefIdeal.τ).loc Cert.CtxGqaRefIdeal.main_arg2) = m ((c.tc : Thread Cert.CtxGqaIdeal.nD Cert.CtxGqaIdeal.τ).loc Cert.CtxGqaIdeal.main_arg2)) →
    ∃ (v0 : (c : Dev Cert.CtxGqaIdeal.nD) → Buf (Elt Ideal) ((c.tc : Thread Cert.CtxGqaIdeal.nD Cert.CtxGqaIdeal.τ).loc Cert.CtxGqaIdeal.main_v2_0)) (v1 : (c : Dev Cert.CtxGqaIdeal.nD) → Buf (Elt Ideal) ((c.tc : Thread Cert.CtxGqaIdeal.nD Cert.CtxGqaIdeal.τ).loc Cert.CtxGqaIdeal.main_v2_1)) (v2 : (c : Dev Cert.CtxGqaIdeal.nD) → Buf (Elt Ideal) ((c.tc : Thread Cert.CtxGqaIdeal.nD Cert.CtxGqaIdeal.τ).loc Cert.CtxGqaIdeal.main_v2_2)),
      θ_run (Cert.CtxGqaIdeal.defs (F := Ideal)) (onTc (τ := Cert.CtxGqaIdeal.τ) (Cert.CtxGqaIdeal.main (F := Ideal))) ⟨m, fun _ => 0, g⟩ (fun r => ∀ c : Dev Cert.CtxGqaIdeal.nD,
          r.2.mem ((c.tc : Thread Cert.CtxGqaIdeal.nD Cert.CtxGqaIdeal.τ).loc Cert.CtxGqaIdeal.main_v2_0) = v0 c
          ∧ r.2.mem ((c.tc : Thread Cert.CtxGqaIdeal.nD Cert.CtxGqaIdeal.τ).loc Cert.CtxGqaIdeal.main_v2_1) = v1 c
          ∧ r.2.mem ((c.tc : Thread Cert.CtxGqaIdeal.nD Cert.CtxGqaIdeal.τ).loc Cert.CtxGqaIdeal.main_v2_2) = v2 c
          ∧ r.2.mem ((c.tc : Thread Cert.CtxGqaIdeal.nD Cert.CtxGqaIdeal.τ).loc Cert.CtxGqaIdeal.main_arg0) = m ((c.tc : Thread Cert.CtxGqaIdeal.nD Cert.CtxGqaIdeal.τ).loc Cert.CtxGqaIdeal.main_arg0)
          ∧ r.2.mem ((c.tc : Thread Cert.CtxGqaIdeal.nD Cert.CtxGqaIdeal.τ).loc Cert.CtxGqaIdeal.main_arg1) = m ((c.tc : Thread Cert.CtxGqaIdeal.nD Cert.CtxGqaIdeal.τ).loc Cert.CtxGqaIdeal.main_arg1)
          ∧ r.2.mem ((c.tc : Thread Cert.CtxGqaIdeal.nD Cert.CtxGqaIdeal.τ).loc Cert.CtxGqaIdeal.main_arg2) = m ((c.tc : Thread Cert.CtxGqaIdeal.nD Cert.CtxGqaIdeal.τ).loc Cert.CtxGqaIdeal.main_arg2))
      ∧ θ_run (Cert.CtxGqaRefIdeal.defs (F := Ideal)) (onTc (τ := Cert.CtxGqaRefIdeal.τ) (Cert.CtxGqaRefIdeal.main (F := Ideal))) ⟨m', fun _ => 0, g'⟩ (fun r => ∀ c : Dev Cert.CtxGqaRefIdeal.nD,
          r.2.mem ((c.tc : Thread Cert.CtxGqaRefIdeal.nD Cert.CtxGqaRefIdeal.τ).loc Cert.CtxGqaRefIdeal.main_v59) = v0 c
          ∧ r.2.mem ((c.tc : Thread Cert.CtxGqaRefIdeal.nD Cert.CtxGqaRefIdeal.τ).loc Cert.CtxGqaRefIdeal.main_v34) = v1 c
          ∧ r.2.mem ((c.tc : Thread Cert.CtxGqaRefIdeal.nD Cert.CtxGqaRefIdeal.τ).loc Cert.CtxGqaRefIdeal.main_v36) = v2 c
          ∧ r.2.mem ((c.tc : Thread Cert.CtxGqaRefIdeal.nD Cert.CtxGqaRefIdeal.τ).loc Cert.CtxGqaRefIdeal.main_arg0) = m' ((c.tc : Thread Cert.CtxGqaRefIdeal.nD Cert.CtxGqaRefIdeal.τ).loc Cert.CtxGqaRefIdeal.main_arg0)
          ∧ r.2.mem ((c.tc : Thread Cert.CtxGqaRefIdeal.nD Cert.CtxGqaRefIdeal.τ).loc Cert.CtxGqaRefIdeal.main_arg1) = m' ((c.tc : Thread Cert.CtxGqaRefIdeal.nD Cert.CtxGqaRefIdeal.τ).loc Cert.CtxGqaRefIdeal.main_arg1)
          ∧ r.2.mem ((c.tc : Thread Cert.CtxGqaRefIdeal.nD Cert.CtxGqaRefIdeal.τ).loc Cert.CtxGqaRefIdeal.main_arg2) = m' ((c.tc : Thread Cert.CtxGqaRefIdeal.nD Cert.CtxGqaRefIdeal.τ).loc Cert.CtxGqaRefIdeal.main_arg2))

def preserves_LatGqa_LatGqaIdeal : Prop :=
  IdealRules.named_const.Statement Cert.LatGqaIdeal.κ "s" .f32 0x3DB504F3#32 (((Real.sqrt 128)⁻¹ : ℝ) : EReal)

def algebraic_LatGqaIdeal_LatGqaRefIdeal [hLatGqaIdeal : Cert.LatGqaIdeal.Facts] [hLatGqaRefIdeal : Cert.LatGqaRefIdeal.Facts] : Prop :=
  ∀ (m : (ℓ : Loc Cert.LatGqaIdeal.nD Cert.LatGqaIdeal.τ Cert.LatGqaIdeal.sig) → Buf (Elt Ideal) ℓ) (g : Dev Cert.LatGqaIdeal.nD → PrngReg)
    (m' : (ℓ : Loc Cert.LatGqaRefIdeal.nD Cert.LatGqaRefIdeal.τ Cert.LatGqaRefIdeal.sig) → Buf (Elt Ideal) ℓ) (g' : Dev Cert.LatGqaRefIdeal.nD → PrngReg), Pre_LatGqaIdeal m →
    (∀ c : Dev Cert.LatGqaIdeal.nD,
      m' ((c.tc : Thread Cert.LatGqaRefIdeal.nD Cert.LatGqaRefIdeal.τ).loc Cert.LatGqaRefIdeal.main_arg0) = m ((c.tc : Thread Cert.LatGqaIdeal.nD Cert.LatGqaIdeal.τ).loc Cert.LatGqaIdeal.main_arg0)
      ∧ m' ((c.tc : Thread Cert.LatGqaRefIdeal.nD Cert.LatGqaRefIdeal.τ).loc Cert.LatGqaRefIdeal.main_arg1) = m ((c.tc : Thread Cert.LatGqaIdeal.nD Cert.LatGqaIdeal.τ).loc Cert.LatGqaIdeal.main_arg1)
      ∧ m' ((c.tc : Thread Cert.LatGqaRefIdeal.nD Cert.LatGqaRefIdeal.τ).loc Cert.LatGqaRefIdeal.main_arg2) = m ((c.tc : Thread Cert.LatGqaIdeal.nD Cert.LatGqaIdeal.τ).loc Cert.LatGqaIdeal.main_arg2)
      ∧ m' ((c.tc : Thread Cert.LatGqaRefIdeal.nD Cert.LatGqaRefIdeal.τ).loc Cert.LatGqaRefIdeal.main_arg3) = m ((c.tc : Thread Cert.LatGqaIdeal.nD Cert.LatGqaIdeal.τ).loc Cert.LatGqaIdeal.main_arg3)
      ∧ m' ((c.tc : Thread Cert.LatGqaRefIdeal.nD Cert.LatGqaRefIdeal.τ).loc Cert.LatGqaRefIdeal.main_arg4) = m ((c.tc : Thread Cert.LatGqaIdeal.nD Cert.LatGqaIdeal.τ).loc Cert.LatGqaIdeal.main_arg4)
      ∧ m' ((c.tc : Thread Cert.LatGqaRefIdeal.nD Cert.LatGqaRefIdeal.τ).loc Cert.LatGqaRefIdeal.main_arg5) = m ((c.tc : Thread Cert.LatGqaIdeal.nD Cert.LatGqaIdeal.τ).loc Cert.LatGqaIdeal.main_arg5)
      ∧ m' ((c.tc : Thread Cert.LatGqaRefIdeal.nD Cert.LatGqaRefIdeal.τ).loc Cert.LatGqaRefIdeal.main_arg6) = m ((c.tc : Thread Cert.LatGqaIdeal.nD Cert.LatGqaIdeal.τ).loc Cert.LatGqaIdeal.main_arg6)) →
    ∃ (v0 : (c : Dev Cert.LatGqaIdeal.nD) → Buf (Elt Ideal) ((c.tc : Thread Cert.LatGqaIdeal.nD Cert.LatGqaIdeal.τ).loc Cert.LatGqaIdeal.main_v12)),
      θ_run (Cert.LatGqaIdeal.defs (F := Ideal)) (onTc (τ := Cert.LatGqaIdeal.τ) (Cert.LatGqaIdeal.main (F := Ideal))) ⟨m, fun _ => 0, g⟩ (fun r => ∀ c : Dev Cert.LatGqaIdeal.nD,
          r.2.mem ((c.tc : Thread Cert.LatGqaIdeal.nD Cert.LatGqaIdeal.τ).loc Cert.LatGqaIdeal.main_v12) = v0 c
          ∧ r.2.mem ((c.tc : Thread Cert.LatGqaIdeal.nD Cert.LatGqaIdeal.τ).loc Cert.LatGqaIdeal.main_arg0) = m ((c.tc : Thread Cert.LatGqaIdeal.nD Cert.LatGqaIdeal.τ).loc Cert.LatGqaIdeal.main_arg0)
          ∧ r.2.mem ((c.tc : Thread Cert.LatGqaIdeal.nD Cert.LatGqaIdeal.τ).loc Cert.LatGqaIdeal.main_arg1) = m ((c.tc : Thread Cert.LatGqaIdeal.nD Cert.LatGqaIdeal.τ).loc Cert.LatGqaIdeal.main_arg1)
          ∧ r.2.mem ((c.tc : Thread Cert.LatGqaIdeal.nD Cert.LatGqaIdeal.τ).loc Cert.LatGqaIdeal.main_arg2) = m ((c.tc : Thread Cert.LatGqaIdeal.nD Cert.LatGqaIdeal.τ).loc Cert.LatGqaIdeal.main_arg2)
          ∧ r.2.mem ((c.tc : Thread Cert.LatGqaIdeal.nD Cert.LatGqaIdeal.τ).loc Cert.LatGqaIdeal.main_arg3) = m ((c.tc : Thread Cert.LatGqaIdeal.nD Cert.LatGqaIdeal.τ).loc Cert.LatGqaIdeal.main_arg3)
          ∧ r.2.mem ((c.tc : Thread Cert.LatGqaIdeal.nD Cert.LatGqaIdeal.τ).loc Cert.LatGqaIdeal.main_arg4) = m ((c.tc : Thread Cert.LatGqaIdeal.nD Cert.LatGqaIdeal.τ).loc Cert.LatGqaIdeal.main_arg4)
          ∧ r.2.mem ((c.tc : Thread Cert.LatGqaIdeal.nD Cert.LatGqaIdeal.τ).loc Cert.LatGqaIdeal.main_arg5) = m ((c.tc : Thread Cert.LatGqaIdeal.nD Cert.LatGqaIdeal.τ).loc Cert.LatGqaIdeal.main_arg5)
          ∧ r.2.mem ((c.tc : Thread Cert.LatGqaIdeal.nD Cert.LatGqaIdeal.τ).loc Cert.LatGqaIdeal.main_arg6) = m ((c.tc : Thread Cert.LatGqaIdeal.nD Cert.LatGqaIdeal.τ).loc Cert.LatGqaIdeal.main_arg6))
      ∧ θ_run (Cert.LatGqaRefIdeal.defs (F := Ideal)) (onTc (τ := Cert.LatGqaRefIdeal.τ) (Cert.LatGqaRefIdeal.main (F := Ideal))) ⟨m', fun _ => 0, g'⟩ (fun r => ∀ c : Dev Cert.LatGqaRefIdeal.nD,
          r.2.mem ((c.tc : Thread Cert.LatGqaRefIdeal.nD Cert.LatGqaRefIdeal.τ).loc Cert.LatGqaRefIdeal.main_v147) = v0 c
          ∧ r.2.mem ((c.tc : Thread Cert.LatGqaRefIdeal.nD Cert.LatGqaRefIdeal.τ).loc Cert.LatGqaRefIdeal.main_arg0) = m' ((c.tc : Thread Cert.LatGqaRefIdeal.nD Cert.LatGqaRefIdeal.τ).loc Cert.LatGqaRefIdeal.main_arg0)
          ∧ r.2.mem ((c.tc : Thread Cert.LatGqaRefIdeal.nD Cert.LatGqaRefIdeal.τ).loc Cert.LatGqaRefIdeal.main_arg1) = m' ((c.tc : Thread Cert.LatGqaRefIdeal.nD Cert.LatGqaRefIdeal.τ).loc Cert.LatGqaRefIdeal.main_arg1)
          ∧ r.2.mem ((c.tc : Thread Cert.LatGqaRefIdeal.nD Cert.LatGqaRefIdeal.τ).loc Cert.LatGqaRefIdeal.main_arg2) = m' ((c.tc : Thread Cert.LatGqaRefIdeal.nD Cert.LatGqaRefIdeal.τ).loc Cert.LatGqaRefIdeal.main_arg2)
          ∧ r.2.mem ((c.tc : Thread Cert.LatGqaRefIdeal.nD Cert.LatGqaRefIdeal.τ).loc Cert.LatGqaRefIdeal.main_arg3) = m' ((c.tc : Thread Cert.LatGqaRefIdeal.nD Cert.LatGqaRefIdeal.τ).loc Cert.LatGqaRefIdeal.main_arg3)
          ∧ r.2.mem ((c.tc : Thread Cert.LatGqaRefIdeal.nD Cert.LatGqaRefIdeal.τ).loc Cert.LatGqaRefIdeal.main_arg4) = m' ((c.tc : Thread Cert.LatGqaRefIdeal.nD Cert.LatGqaRefIdeal.τ).loc Cert.LatGqaRefIdeal.main_arg4)
          ∧ r.2.mem ((c.tc : Thread Cert.LatGqaRefIdeal.nD Cert.LatGqaRefIdeal.τ).loc Cert.LatGqaRefIdeal.main_arg5) = m' ((c.tc : Thread Cert.LatGqaRefIdeal.nD Cert.LatGqaRefIdeal.τ).loc Cert.LatGqaRefIdeal.main_arg5)
          ∧ r.2.mem ((c.tc : Thread Cert.LatGqaRefIdeal.nD Cert.LatGqaRefIdeal.τ).loc Cert.LatGqaRefIdeal.main_arg6) = m' ((c.tc : Thread Cert.LatGqaRefIdeal.nD Cert.LatGqaRefIdeal.τ).loc Cert.LatGqaRefIdeal.main_arg6))

def preserves_S5Disc_S5DiscIdeal : Prop :=
  True

def algebraic_S5DiscIdeal_S5DiscRefIdeal [hS5DiscIdeal : Cert.S5DiscIdeal.Facts] [hS5DiscRefIdeal : Cert.S5DiscRefIdeal.Facts] : Prop :=
  ∀ (m : (ℓ : Loc Cert.S5DiscIdeal.nD Cert.S5DiscIdeal.τ Cert.S5DiscIdeal.sig) → Buf (Elt Ideal) ℓ) (g : Dev Cert.S5DiscIdeal.nD → PrngReg)
    (m' : (ℓ : Loc Cert.S5DiscRefIdeal.nD Cert.S5DiscRefIdeal.τ Cert.S5DiscRefIdeal.sig) → Buf (Elt Ideal) ℓ) (g' : Dev Cert.S5DiscRefIdeal.nD → PrngReg), Pre_S5DiscIdeal m →
    (∀ c : Dev Cert.S5DiscIdeal.nD,
      m' ((c.tc : Thread Cert.S5DiscRefIdeal.nD Cert.S5DiscRefIdeal.τ).loc Cert.S5DiscRefIdeal.main_arg0) = m ((c.tc : Thread Cert.S5DiscIdeal.nD Cert.S5DiscIdeal.τ).loc Cert.S5DiscIdeal.main_arg0)
      ∧ m' ((c.tc : Thread Cert.S5DiscRefIdeal.nD Cert.S5DiscRefIdeal.τ).loc Cert.S5DiscRefIdeal.main_arg1) = m ((c.tc : Thread Cert.S5DiscIdeal.nD Cert.S5DiscIdeal.τ).loc Cert.S5DiscIdeal.main_arg1)
      ∧ m' ((c.tc : Thread Cert.S5DiscRefIdeal.nD Cert.S5DiscRefIdeal.τ).loc Cert.S5DiscRefIdeal.main_arg2) = m ((c.tc : Thread Cert.S5DiscIdeal.nD Cert.S5DiscIdeal.τ).loc Cert.S5DiscIdeal.main_arg2)
      ∧ m' ((c.tc : Thread Cert.S5DiscRefIdeal.nD Cert.S5DiscRefIdeal.τ).loc Cert.S5DiscRefIdeal.main_arg3) = m ((c.tc : Thread Cert.S5DiscIdeal.nD Cert.S5DiscIdeal.τ).loc Cert.S5DiscIdeal.main_arg3)
      ∧ m' ((c.tc : Thread Cert.S5DiscRefIdeal.nD Cert.S5DiscRefIdeal.τ).loc Cert.S5DiscRefIdeal.main_arg4) = m ((c.tc : Thread Cert.S5DiscIdeal.nD Cert.S5DiscIdeal.τ).loc Cert.S5DiscIdeal.main_arg4)) →
    ∃ (v0 : (c : Dev Cert.S5DiscIdeal.nD) → Buf (Elt Ideal) ((c.tc : Thread Cert.S5DiscIdeal.nD Cert.S5DiscIdeal.τ).loc Cert.S5DiscIdeal.main_v14_0)) (v1 : (c : Dev Cert.S5DiscIdeal.nD) → Buf (Elt Ideal) ((c.tc : Thread Cert.S5DiscIdeal.nD Cert.S5DiscIdeal.τ).loc Cert.S5DiscIdeal.main_v14_1)) (v2 : (c : Dev Cert.S5DiscIdeal.nD) → Buf (Elt Ideal) ((c.tc : Thread Cert.S5DiscIdeal.nD Cert.S5DiscIdeal.τ).loc Cert.S5DiscIdeal.main_v14_2)) (v3 : (c : Dev Cert.S5DiscIdeal.nD) → Buf (Elt Ideal) ((c.tc : Thread Cert.S5DiscIdeal.nD Cert.S5DiscIdeal.τ).loc Cert.S5DiscIdeal.main_v14_3)),
      θ_run (Cert.S5DiscIdeal.defs (F := Ideal)) (onTc (τ := Cert.S5DiscIdeal.τ) (Cert.S5DiscIdeal.main (F := Ideal))) ⟨m, fun _ => 0, g⟩ (fun r => ∀ c : Dev Cert.S5DiscIdeal.nD,
          r.2.mem ((c.tc : Thread Cert.S5DiscIdeal.nD Cert.S5DiscIdeal.τ).loc Cert.S5DiscIdeal.main_v14_0) = v0 c
          ∧ r.2.mem ((c.tc : Thread Cert.S5DiscIdeal.nD Cert.S5DiscIdeal.τ).loc Cert.S5DiscIdeal.main_v14_1) = v1 c
          ∧ r.2.mem ((c.tc : Thread Cert.S5DiscIdeal.nD Cert.S5DiscIdeal.τ).loc Cert.S5DiscIdeal.main_v14_2) = v2 c
          ∧ r.2.mem ((c.tc : Thread Cert.S5DiscIdeal.nD Cert.S5DiscIdeal.τ).loc Cert.S5DiscIdeal.main_v14_3) = v3 c
          ∧ r.2.mem ((c.tc : Thread Cert.S5DiscIdeal.nD Cert.S5DiscIdeal.τ).loc Cert.S5DiscIdeal.main_arg0) = m ((c.tc : Thread Cert.S5DiscIdeal.nD Cert.S5DiscIdeal.τ).loc Cert.S5DiscIdeal.main_arg0)
          ∧ r.2.mem ((c.tc : Thread Cert.S5DiscIdeal.nD Cert.S5DiscIdeal.τ).loc Cert.S5DiscIdeal.main_arg1) = m ((c.tc : Thread Cert.S5DiscIdeal.nD Cert.S5DiscIdeal.τ).loc Cert.S5DiscIdeal.main_arg1)
          ∧ r.2.mem ((c.tc : Thread Cert.S5DiscIdeal.nD Cert.S5DiscIdeal.τ).loc Cert.S5DiscIdeal.main_arg2) = m ((c.tc : Thread Cert.S5DiscIdeal.nD Cert.S5DiscIdeal.τ).loc Cert.S5DiscIdeal.main_arg2)
          ∧ r.2.mem ((c.tc : Thread Cert.S5DiscIdeal.nD Cert.S5DiscIdeal.τ).loc Cert.S5DiscIdeal.main_arg3) = m ((c.tc : Thread Cert.S5DiscIdeal.nD Cert.S5DiscIdeal.τ).loc Cert.S5DiscIdeal.main_arg3)
          ∧ r.2.mem ((c.tc : Thread Cert.S5DiscIdeal.nD Cert.S5DiscIdeal.τ).loc Cert.S5DiscIdeal.main_arg4) = m ((c.tc : Thread Cert.S5DiscIdeal.nD Cert.S5DiscIdeal.τ).loc Cert.S5DiscIdeal.main_arg4))
      ∧ θ_run (Cert.S5DiscRefIdeal.defs (F := Ideal)) (onTc (τ := Cert.S5DiscRefIdeal.τ) (Cert.S5DiscRefIdeal.main (F := Ideal))) ⟨m', fun _ => 0, g'⟩ (fun r => ∀ c : Dev Cert.S5DiscRefIdeal.nD,
          r.2.mem ((c.tc : Thread Cert.S5DiscRefIdeal.nD Cert.S5DiscRefIdeal.τ).loc Cert.S5DiscRefIdeal.main_v43) = v0 c
          ∧ r.2.mem ((c.tc : Thread Cert.S5DiscRefIdeal.nD Cert.S5DiscRefIdeal.τ).loc Cert.S5DiscRefIdeal.main_v47) = v1 c
          ∧ r.2.mem ((c.tc : Thread Cert.S5DiscRefIdeal.nD Cert.S5DiscRefIdeal.τ).loc Cert.S5DiscRefIdeal.main_v49) = v2 c
          ∧ r.2.mem ((c.tc : Thread Cert.S5DiscRefIdeal.nD Cert.S5DiscRefIdeal.τ).loc Cert.S5DiscRefIdeal.main_v51) = v3 c
          ∧ r.2.mem ((c.tc : Thread Cert.S5DiscRefIdeal.nD Cert.S5DiscRefIdeal.τ).loc Cert.S5DiscRefIdeal.main_arg0) = m' ((c.tc : Thread Cert.S5DiscRefIdeal.nD Cert.S5DiscRefIdeal.τ).loc Cert.S5DiscRefIdeal.main_arg0)
          ∧ r.2.mem ((c.tc : Thread Cert.S5DiscRefIdeal.nD Cert.S5DiscRefIdeal.τ).loc Cert.S5DiscRefIdeal.main_arg1) = m' ((c.tc : Thread Cert.S5DiscRefIdeal.nD Cert.S5DiscRefIdeal.τ).loc Cert.S5DiscRefIdeal.main_arg1)
          ∧ r.2.mem ((c.tc : Thread Cert.S5DiscRefIdeal.nD Cert.S5DiscRefIdeal.τ).loc Cert.S5DiscRefIdeal.main_arg2) = m' ((c.tc : Thread Cert.S5DiscRefIdeal.nD Cert.S5DiscRefIdeal.τ).loc Cert.S5DiscRefIdeal.main_arg2)
          ∧ r.2.mem ((c.tc : Thread Cert.S5DiscRefIdeal.nD Cert.S5DiscRefIdeal.τ).loc Cert.S5DiscRefIdeal.main_arg3) = m' ((c.tc : Thread Cert.S5DiscRefIdeal.nD Cert.S5DiscRefIdeal.τ).loc Cert.S5DiscRefIdeal.main_arg3)
          ∧ r.2.mem ((c.tc : Thread Cert.S5DiscRefIdeal.nD Cert.S5DiscRefIdeal.τ).loc Cert.S5DiscRefIdeal.main_arg4) = m' ((c.tc : Thread Cert.S5DiscRefIdeal.nD Cert.S5DiscRefIdeal.τ).loc Cert.S5DiscRefIdeal.main_arg4))

def Claim : Prop :=
  ∃ (hCtx : Cert.Ctx.Facts) (hCtxIdeal : Cert.CtxIdeal.Facts) (hCtxRefIdeal : Cert.CtxRefIdeal.Facts) (hInMix : Cert.InMix.Facts) (hInMixIdeal : Cert.InMixIdeal.Facts) (hInMixRefIdeal : Cert.InMixRefIdeal.Facts) (hInRwkv : Cert.InRwkv.Facts) (hInRwkvIdeal : Cert.InRwkvIdeal.Facts) (hInRwkvRefIdeal : Cert.InRwkvRefIdeal.Facts) (hInGate : Cert.InGate.Facts) (hInGateIdeal : Cert.InGateIdeal.Facts) (hInGateRefIdeal : Cert.InGateRefIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hNormMod : Cert.NormMod.Facts) (hNormModIdeal : Cert.NormModIdeal.Facts) (hNormModRefIdeal : Cert.NormModRefIdeal.Facts) (hRouteNorm : Cert.RouteNorm.Facts) (hRouteNormIdeal : Cert.RouteNormIdeal.Facts) (hRouteNormRefIdeal : Cert.RouteNormRefIdeal.Facts) (hRoute : Cert.Route.Facts) (hRouteIdeal : Cert.RouteIdeal.Facts) (hRouteRefIdeal : Cert.RouteRefIdeal.Facts) (hFinalNorm : Cert.FinalNorm.Facts) (hFinalNormIdeal : Cert.FinalNormIdeal.Facts) (hFinalNormRefIdeal : Cert.FinalNormRefIdeal.Facts) (hAda : Cert.Ada.Facts) (hAdaIdeal : Cert.AdaIdeal.Facts) (hAdaRefIdeal : Cert.AdaRefIdeal.Facts) (hS5Gate : Cert.S5Gate.Facts) (hS5GateIdeal : Cert.S5GateIdeal.Facts) (hS5GateRefIdeal : Cert.S5GateRefIdeal.Facts) (hCtxGqa : Cert.CtxGqa.Facts) (hCtxGqaIdeal : Cert.CtxGqaIdeal.Facts) (hCtxGqaRefIdeal : Cert.CtxGqaRefIdeal.Facts) (hLatGqa : Cert.LatGqa.Facts) (hLatGqaIdeal : Cert.LatGqaIdeal.Facts) (hLatGqaRefIdeal : Cert.LatGqaRefIdeal.Facts) (hS5Disc : Cert.S5Disc.Facts) (hS5DiscIdeal : Cert.S5DiscIdeal.Facts) (hS5DiscRefIdeal : Cert.S5DiscRefIdeal.Facts) (hPre_up_in_range : Cert.Pre_up_in_range.Facts) (hPre_down_in_range : Cert.Pre_down_in_range.Facts) (hPre_route_finite : Cert.Pre_route_finite.Facts),
    quiescent_Ctx (hCtx := hCtx)
    ∧ quiescent_CtxIdeal (hCtxIdeal := hCtxIdeal)
    ∧ quiescent_CtxRefIdeal (hCtxRefIdeal := hCtxRefIdeal)
    ∧ quiescent_InMix (hInMix := hInMix)
    ∧ quiescent_InMixIdeal (hInMixIdeal := hInMixIdeal)
    ∧ quiescent_InMixRefIdeal (hInMixRefIdeal := hInMixRefIdeal)
    ∧ quiescent_InRwkv (hInRwkv := hInRwkv)
    ∧ quiescent_InRwkvIdeal (hInRwkvIdeal := hInRwkvIdeal)
    ∧ quiescent_InRwkvRefIdeal (hInRwkvRefIdeal := hInRwkvRefIdeal)
    ∧ quiescent_InGate (hInGate := hInGate)
    ∧ quiescent_InGateIdeal (hInGateIdeal := hInGateIdeal)
    ∧ quiescent_InGateRefIdeal (hInGateRefIdeal := hInGateRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Up (hUp := hUp) (hPre_up_in_range := hPre_up_in_range)
    ∧ quiescent_UpIdeal (hUpIdeal := hUpIdeal) (hPre_up_in_range := hPre_up_in_range)
    ∧ quiescent_UpRefIdeal (hUpRefIdeal := hUpRefIdeal) (hPre_up_in_range := hPre_up_in_range)
    ∧ quiescent_Down (hDown := hDown) (hPre_down_in_range := hPre_down_in_range)
    ∧ quiescent_DownIdeal (hDownIdeal := hDownIdeal) (hPre_down_in_range := hPre_down_in_range)
    ∧ quiescent_DownRefIdeal (hDownRefIdeal := hDownRefIdeal) (hPre_down_in_range := hPre_down_in_range)
    ∧ quiescent_NormMod (hNormMod := hNormMod)
    ∧ quiescent_NormModIdeal (hNormModIdeal := hNormModIdeal)
    ∧ quiescent_NormModRefIdeal (hNormModRefIdeal := hNormModRefIdeal)
    ∧ quiescent_RouteNorm (hRouteNorm := hRouteNorm)
    ∧ quiescent_RouteNormIdeal (hRouteNormIdeal := hRouteNormIdeal)
    ∧ quiescent_RouteNormRefIdeal (hRouteNormRefIdeal := hRouteNormRefIdeal)
    ∧ quiescent_Route (hRoute := hRoute) (hPre_route_finite := hPre_route_finite)
    ∧ quiescent_RouteIdeal (hRouteIdeal := hRouteIdeal) (hPre_route_finite := hPre_route_finite)
    ∧ quiescent_RouteRefIdeal (hRouteRefIdeal := hRouteRefIdeal) (hPre_route_finite := hPre_route_finite)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_Ada (hAda := hAda)
    ∧ quiescent_AdaIdeal (hAdaIdeal := hAdaIdeal)
    ∧ quiescent_AdaRefIdeal (hAdaRefIdeal := hAdaRefIdeal)
    ∧ quiescent_S5Gate (hS5Gate := hS5Gate)
    ∧ quiescent_S5GateIdeal (hS5GateIdeal := hS5GateIdeal)
    ∧ quiescent_S5GateRefIdeal (hS5GateRefIdeal := hS5GateRefIdeal)
    ∧ quiescent_CtxGqa (hCtxGqa := hCtxGqa)
    ∧ quiescent_CtxGqaIdeal (hCtxGqaIdeal := hCtxGqaIdeal)
    ∧ quiescent_CtxGqaRefIdeal (hCtxGqaRefIdeal := hCtxGqaRefIdeal)
    ∧ quiescent_LatGqa (hLatGqa := hLatGqa)
    ∧ quiescent_LatGqaIdeal (hLatGqaIdeal := hLatGqaIdeal)
    ∧ quiescent_LatGqaRefIdeal (hLatGqaRefIdeal := hLatGqaRefIdeal)
    ∧ quiescent_S5Disc (hS5Disc := hS5Disc)
    ∧ quiescent_S5DiscIdeal (hS5DiscIdeal := hS5DiscIdeal)
    ∧ quiescent_S5DiscRefIdeal (hS5DiscRefIdeal := hS5DiscRefIdeal)
    ∧ preserves_Ctx_CtxIdeal
    ∧ algebraic_CtxIdeal_CtxRefIdeal (hCtxIdeal := hCtxIdeal) (hCtxRefIdeal := hCtxRefIdeal)
    ∧ preserves_InMix_InMixIdeal
    ∧ algebraic_InMixIdeal_InMixRefIdeal (hInMixIdeal := hInMixIdeal) (hInMixRefIdeal := hInMixRefIdeal)
    ∧ preserves_InRwkv_InRwkvIdeal
    ∧ algebraic_InRwkvIdeal_InRwkvRefIdeal (hInRwkvIdeal := hInRwkvIdeal) (hInRwkvRefIdeal := hInRwkvRefIdeal)
    ∧ preserves_InGate_InGateIdeal
    ∧ algebraic_InGateIdeal_InGateRefIdeal (hInGateIdeal := hInGateIdeal) (hInGateRefIdeal := hInGateRefIdeal)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_Up_UpIdeal
    ∧ algebraic_UpIdeal_UpRefIdeal (hUpIdeal := hUpIdeal) (hUpRefIdeal := hUpRefIdeal) (hPre_up_in_range := hPre_up_in_range)
    ∧ preserves_Down_DownIdeal
    ∧ algebraic_DownIdeal_DownRefIdeal (hDownIdeal := hDownIdeal) (hDownRefIdeal := hDownRefIdeal) (hPre_down_in_range := hPre_down_in_range)
    ∧ preserves_NormMod_NormModIdeal
    ∧ algebraic_NormModIdeal_NormModRefIdeal (hNormModIdeal := hNormModIdeal) (hNormModRefIdeal := hNormModRefIdeal)
    ∧ preserves_RouteNorm_RouteNormIdeal
    ∧ algebraic_RouteNormIdeal_RouteNormRefIdeal (hRouteNormIdeal := hRouteNormIdeal) (hRouteNormRefIdeal := hRouteNormRefIdeal)
    ∧ preserves_Route_RouteIdeal
    ∧ algebraic_RouteIdeal_RouteRefIdeal (hRouteIdeal := hRouteIdeal) (hRouteRefIdeal := hRouteRefIdeal) (hPre_route_finite := hPre_route_finite)
    ∧ preserves_FinalNorm_FinalNormIdeal
    ∧ algebraic_FinalNormIdeal_FinalNormRefIdeal (hFinalNormIdeal := hFinalNormIdeal) (hFinalNormRefIdeal := hFinalNormRefIdeal)
    ∧ preserves_Ada_AdaIdeal
    ∧ algebraic_AdaIdeal_AdaRefIdeal (hAdaIdeal := hAdaIdeal) (hAdaRefIdeal := hAdaRefIdeal)
    ∧ preserves_S5Gate_S5GateIdeal
    ∧ algebraic_S5GateIdeal_S5GateRefIdeal (hS5GateIdeal := hS5GateIdeal) (hS5GateRefIdeal := hS5GateRefIdeal)
    ∧ preserves_CtxGqa_CtxGqaIdeal
    ∧ algebraic_CtxGqaIdeal_CtxGqaRefIdeal (hCtxGqaIdeal := hCtxGqaIdeal) (hCtxGqaRefIdeal := hCtxGqaRefIdeal)
    ∧ preserves_LatGqa_LatGqaIdeal
    ∧ algebraic_LatGqaIdeal_LatGqaRefIdeal (hLatGqaIdeal := hLatGqaIdeal) (hLatGqaRefIdeal := hLatGqaRefIdeal)
    ∧ preserves_S5Disc_S5DiscIdeal
    ∧ algebraic_S5DiscIdeal_S5DiscRefIdeal (hS5DiscIdeal := hS5DiscIdeal) (hS5DiscRefIdeal := hS5DiscRefIdeal)
-- ==== Pre_down_in_range.lean ====
abbrev S64 : Shape := ⟨1, ![64]⟩
abbrev S1 : Shape := ⟨1, ![1]⟩
abbrev S16384x1024 : Shape := ⟨2, ![16384, 1024]⟩
abbrev S4x16x1024x4096 : Shape := ⟨4, ![4, 16, 1024, 4096]⟩
abbrev S_ : Shape := ⟨0, ![]⟩

class Facts : Prop where
  bcast_S_S64 : S_.BroadcastsInDim S64 (![] : Fin 0 → Fin S64.rank)

variable [Facts]

def fn {F : FTy → Type} [FloatOps F] (main_arg0 : IVec S64 32) (main_arg1 : IVec S1 32) (main_arg2 : FVec F S16384x1024 .bf16) (main_arg3 : FVec F S4x16x1024x4096 .f32) : IVec S64 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 32 := constantI S_ 32 16#32
  let main_v2 : IVec S64 32 := broadcastInDim S64 ![] bcast_S_S64 main_c_0
  let main_v3 : IVec S64 1 := cmpi .slt main_arg0 main_v2
  let main_v4 : IVec S64 1 := andi main_v1 main_v3
  main_v4
-- ==== Pre_route_finite.lean ====
abbrev S6144x4096 : Shape := ⟨2, ![6144, 4096]⟩
abbrev S4096 : Shape := ⟨1, ![4096]⟩
abbrev S8x6x4096 : Shape := ⟨3, ![8, 6, 4096]⟩
abbrev S4096x16 : Shape := ⟨2, ![4096, 16]⟩
abbrev S16 : Shape := ⟨1, ![16]⟩
abbrev S_ : Shape := ⟨0, ![]⟩

class Facts : Prop where
  bcast_S_S6144x4096 : S_.BroadcastsInDim S6144x4096 (![] : Fin 0 → Fin S6144x4096.rank)
  reducesTo_S6144x4096_S_d0_1 : S6144x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S8x6x4096 : S_.BroadcastsInDim S8x6x4096 (![] : Fin 0 → Fin S8x6x4096.rank)
  reducesTo_S8x6x4096_S_d0_1_2 : S8x6x4096.ReducesTo [0, 1, 2] S_
  bcast_S_S4096x16 : S_.BroadcastsInDim S4096x16 (![] : Fin 0 → Fin S4096x16.rank)
  reducesTo_S4096x16_S_d0_1 : S4096x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S6144x4096 .f32) (main_arg1 : FVec F S4096 .f32) (main_arg2 : FVec F S8x6x4096 .f32) (main_arg3 : FVec F S4096x16 .f32) (main_arg4 : FVec F S16 .f32) : IVec S_ 1 :=
  let main_v0 : FVec F S6144x4096 .f32 := Host.absf main_arg0
  let main_cst : FVec F S_ .f32 := constant S_ .f32 0x7F800000#32
  let main_v1 : FVec F S6144x4096 .f32 := broadcastInDim S6144x4096 ![] bcast_S_S6144x4096 main_cst
  let main_v2 : IVec S6144x4096 1 := cmpf .olt main_v0 main_v1
  let main_c : IVec S_ 1 := constantI S_ 1 1#1
  let main_v3 : IVec S_ 1 := (fun x v => Host.reduce IntOp.andi x v reducesTo_S6144x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S8x6x4096 .f32 := Host.absf main_arg2
  let main_cst_2 : FVec F S_ .f32 := constant S_ .f32 0x7F800000#32
  let main_v10 : FVec F S8x6x4096 .f32 := broadcastInDim S8x6x4096 ![] bcast_S_S8x6x4096 main_cst_2
  let main_v11 : IVec S8x6x4096 1 := cmpf .olt main_v9 main_v10
  let main_c_3 : IVec S_ 1 := constantI S_ 1 1#1
  let main_v12 : IVec S_ 1 := (fun x v => Host.reduce IntOp.andi x v reducesTo_S8x6x4096_S_d0_1_2 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Pre_up_in_range.lean ====
abbrev S64 : Shape := ⟨1, ![64]⟩
abbrev S1 : Shape := ⟨1, ![1]⟩
abbrev S16384x4096 : Shape := ⟨2, ![16384, 4096]⟩
abbrev S4x16x4096x1024 : Shape := ⟨4, ![4, 16, 4096, 1024]⟩
abbrev S_ : Shape := ⟨0, ![]⟩

class Facts : Prop where
  bcast_S_S64 : S_.BroadcastsInDim S64 (![] : Fin 0 → Fin S64.rank)

variable [Facts]

def fn {F : FTy → Type} [FloatOps F] (main_arg0 : IVec S64 32) (main_arg1 : IVec S1 32) (main_arg2 : FVec F S16384x4096 .bf16) (main_arg3 : FVec F S4x16x4096x1024 .f32) (main_arg4 : FVec F S4x16x4096x1024 .f32) : IVec S64 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 32 := constantI S_ 32 16#32
  let main_v2 : IVec S64 32 := broadcastInDim S64 ![] bcast_S_S64 main_c_0
  let main_v3 : IVec S64 1 := cmpi .slt main_arg0 main_v2
  let main_v4 : IVec S64 1 := andi main_v1 main_v3
  main_v4
-- ==== Ctx.lean ====
abbrev S6144x5632 : Shape := ⟨2, ![6144, 5632]⟩
abbrev S4096x1024 : Shape := ⟨2, ![4096, 1024]⟩
abbrev S16x8x256x128 : Shape := ⟨4, ![16, 8, 256, 128]⟩
abbrev S256x1024 : Shape := ⟨2, ![256, 1024]⟩
abbrev S1x8x256x128 : Shape := ⟨4, ![1, 8, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 4
  | .vmem => 12
  | .smem => 0
  | _ => 0

abbrev bufTy : (tb : Table) → Fin (tcTables nBuf tb) → BufTy
  | .hbm, ⟨0, _⟩ => ⟨S6144x5632, .f32⟩
  | .hbm, ⟨1, _⟩ => ⟨S4096x1024, .bf16⟩
  | .hbm, ⟨2, _⟩ => ⟨S16x8x256x128, .f32⟩
  | .hbm, ⟨3, _⟩ => ⟨S16x8x256x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x8x256x128, .f32⟩
  | .local _ .vmem, ⟨9, _⟩ => ⟨S1x8x256x128, .f32⟩
  | .local _ .vmem, ⟨10, _⟩ => ⟨S1x8x256x128, .f32⟩
  | .local _ .vmem, ⟨11, _⟩ => ⟨S1x8x256x128, .f32⟩
  | _, _ => ⟨S6144x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CtxIdeal.lean ====
variable {F : FTy → Type} [FloatOps F] [Named F]
def κ : String → Option EReal := fun
  | "s" => some (((Real.sqrt 128)⁻¹ : ℝ) : EReal)
  | _ => none
-- ==== CtxRefIdeal.lean ====
abbrev S6144x5632 : Shape := ⟨2, ![6144, 5632]⟩
abbrev S4096x3072 : Shape := ⟨2, ![4096, 3072]⟩
abbrev S16x256x3072 : Shape := ⟨3, ![16, 256, 3072]⟩
abbrev S16x256x1024 : Shape := ⟨3, ![16, 256, 1024]⟩
abbrev S16x256x8x128 : Shape := ⟨4, ![16, 256, 8, 128]⟩
abbrev S16x8x256x128 : Shape := ⟨4, ![16, 8, 256, 128]⟩
abbrev S16x8x256x256 : Shape := ⟨4, ![16, 8, 256, 256]⟩
abbrev S_ : Shape := ⟨0, ![]⟩
abbrev S16x8x256 : Shape := ⟨3, ![16, 8, 256]⟩
abbrev S16x8x256x1 : Shape := ⟨4, ![16, 8, 256, 1]⟩
abbrev S4096x1024 : Shape := ⟨2, ![4096, 1024]⟩

abbrev nBuf : Space → Nat
  | .hbm => 35
  | .vmem => 0
  | .smem => 0
  | _ => 0

abbrev bufTy : (tb : Table) → Fin (tcTables nBuf tb) → BufTy
  | .hbm, ⟨0, _⟩ => ⟨S6144x5632, .f32⟩
  | .hbm, ⟨1, _⟩ => ⟨S4096x3072, .f32⟩
  | .hbm, ⟨2, _⟩ => ⟨S16x256x3072, .f32⟩
  | .hbm, ⟨3, _⟩ => ⟨S16x256x1024, .f32⟩
  | .hbm, ⟨4, _⟩ => ⟨S16x256x1024, .f32⟩
  | .hbm, ⟨5, _⟩ => ⟨S16x256x1024, .f32⟩
  | .hbm, ⟨6, _⟩ => ⟨S16x256x8x128, .f32⟩
  | .hbm, ⟨7, _⟩ => ⟨S16x8x256x128, .f32⟩
  | .hbm, ⟨8, _⟩ => ⟨S16x256x8x128, .f32⟩
  | .hbm, ⟨9, _⟩ => ⟨S16x8x256x128, .f32⟩
  | .hbm, ⟨10, _⟩ => ⟨S16x256x8x128, .f32⟩
  | .hbm, ⟨11, _⟩ => ⟨S16x8x256x128, .f32⟩
  | .hbm, ⟨12, _⟩ => ⟨S16x8x256x256, .f32⟩
  | .hbm, ⟨13, _⟩ => ⟨S_, .f32⟩
  | .hbm, ⟨14, _⟩ => ⟨S_, .f32⟩
  | .hbm, ⟨15, _⟩ => ⟨S16x8x256x256, .f32⟩
  | .hbm, ⟨16, _⟩ => ⟨S16x8x256x256, .f32⟩
  | .hbm, ⟨17, _⟩ => ⟨S_, .f32⟩
  | .hbm, ⟨18, _⟩ => ⟨S16x8x256, .f32⟩
  | .hbm, ⟨19, _⟩ => ⟨S_, .f32⟩
  | .hbm, ⟨20, _⟩ => ⟨S16x8x256, .f32⟩
  | .hbm, ⟨21, _⟩ => ⟨S16x8x256, .f32⟩
  | .hbm, ⟨22, _⟩ => ⟨S16x8x256x1, .f32⟩
  | .hbm, ⟨23, _⟩ => ⟨S16x8x256x256, .f32⟩
  | .hbm, ⟨24, _⟩ => ⟨S16x8x256x256, .f32⟩
  | .hbm, ⟨25, _⟩ => ⟨S16x8x256x256, .f32⟩
  | .hbm, ⟨26, _⟩ => ⟨S_, .f32⟩
  | .hbm, ⟨27, _⟩ => ⟨S16x8x256, .f32⟩
  | .hbm, ⟨28, _⟩ => ⟨S16x8x256x1, .f32⟩
  | .hbm, ⟨29, _⟩ => ⟨S16x8x256x256, .f32⟩
  | .hbm, ⟨30, _⟩ => ⟨S16x8x256x256, .f32⟩
  | .hbm, ⟨31, _⟩ => ⟨S16x8x256x128, .f32⟩
  | .hbm, ⟨32, _⟩ => ⟨S16x256x8x128, .f32⟩
  | .hbm, ⟨33, _⟩ => ⟨S4096x1024, .f32⟩
  | .hbm, ⟨34, _⟩ => ⟨S4096x1024, .bf16⟩
  | _, _ => ⟨S6144x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== InMix.lean ====
abbrev S6144x4096 : Shape := ⟨2, ![6144, 4096]⟩
abbrev S4x4096x25344 : Shape := ⟨3, ![4, 4096, 25344]⟩
abbrev S6144x5632 : Shape := ⟨2, ![6144, 5632]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 3
  | .vmem => 6
  | .smem => 0
  | _ => 0

abbrev bufTy : (tb : Table) → Fin (tcTables nBuf tb) → BufTy
  | .hbm, ⟨0, _⟩ => ⟨S6144x4096, .bf16⟩
  | .hbm, ⟨1, _⟩ => ⟨S4x4096x25344, .f32⟩
  | .hbm, ⟨2, _⟩ => ⟨S6144x5632, .f32⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S2048x256, .f32⟩
  | .local _ .vmem, ⟨5, _⟩ => ⟨S2048x256, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMixRefIdeal.lean ====
abbrev S6144x4096 : Shape := ⟨2, ![6144, 4096]⟩
abbrev S4x4096x25344 : Shape := ⟨3, ![4, 4096, 25344]⟩
abbrev S1x4096x5632 : Shape := ⟨3, ![1, 4096, 5632]⟩
abbrev S4096x5632 : Shape := ⟨2, ![4096, 5632]⟩
abbrev S6144x5632 : Shape := ⟨2, ![6144, 5632]⟩

abbrev nBuf : Space → Nat
  | .hbm => 6
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S4x4096x25344, .f32⟩
  | .hbm, ⟨2, _⟩ => ⟨S6144x4096, .f32⟩
  | .hbm, ⟨3, _⟩ => ⟨S1x4096x5632, .f32⟩
  | .hbm, ⟨4, _⟩ => ⟨S4096x5632, .f32⟩
  | .hbm, ⟨5, _⟩ => ⟨S6144x5632, .f32⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InRwkv.lean ====
abbrev S6144x4096 : Shape := ⟨2, ![6144, 4096]⟩
abbrev S4x4096x25344 : Shape := ⟨3, ![4, 4096, 25344]⟩
abbrev S6144x3328 : Shape := ⟨2, ![6144, 3328]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 3
  | .vmem => 6
  | .smem => 0
  | _ => 0

abbrev bufTy : (tb : Table) → Fin (tcTables nBuf tb) → BufTy
  | .hbm, ⟨0, _⟩ => ⟨S6144x4096, .bf16⟩
  | .hbm, ⟨1, _⟩ => ⟨S4x4096x25344, .f32⟩
  | .hbm, ⟨2, _⟩ => ⟨S6144x3328, .f32⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S2048x256, .f32⟩
  | .local _ .vmem, ⟨5, _⟩ => ⟨S2048x256, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRwkvRefIdeal.lean ====
abbrev S6144x4096 : Shape := ⟨2, ![6144, 4096]⟩
abbrev S4x4096x25344 : Shape := ⟨3, ![4, 4096, 25344]⟩
abbrev S1x4096x3328 : Shape := ⟨3, ![1, 4096, 3328]⟩
abbrev S4096x3328 : Shape := ⟨2, ![4096, 3328]⟩
abbrev S6144x3328 : Shape := ⟨2, ![6144, 3328]⟩

abbrev nBuf : Space → Nat
  | .hbm => 6
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S4x4096x25344, .f32⟩
  | .hbm, ⟨2, _⟩ => ⟨S6144x4096, .f32⟩
  | .hbm, ⟨3, _⟩ => ⟨S1x4096x3328, .f32⟩
  | .hbm, ⟨4, _⟩ => ⟨S4096x3328, .f32⟩
  | .hbm, ⟨5, _⟩ => ⟨S6144x3328, .f32⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InGate.lean ====
abbrev S6144x4096 : Shape := ⟨2, ![6144, 4096]⟩
abbrev S4x4096x25344 : Shape := ⟨3, ![4, 4096, 25344]⟩
abbrev S6144x16384 : Shape := ⟨2, ![6144, 16384]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 3
  | .vmem => 6
  | .smem => 0
  | _ => 0

abbrev bufTy : (tb : Table) → Fin (tcTables nBuf tb) → BufTy
  | .hbm, ⟨0, _⟩ => ⟨S6144x4096, .bf16⟩
  | .hbm, ⟨1, _⟩ => ⟨S4x4096x25344, .f32⟩
  | .hbm, ⟨2, _⟩ => ⟨S6144x16384, .f32⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S2048x256, .f32⟩
  | .local _ .vmem, ⟨5, _⟩ => ⟨S2048x256, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.addi c35_i32 arg1
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGateRefIdeal.lean ====
abbrev S6144x4096 : Shape := ⟨2, ![6144, 4096]⟩
abbrev S4x4096x25344 : Shape := ⟨3, ![4, 4096, 25344]⟩
abbrev S1x4096x16384 : Shape := ⟨3, ![1, 4096, 16384]⟩
abbrev S4096x16384 : Shape := ⟨2, ![4096, 16384]⟩
abbrev S6144x16384 : Shape := ⟨2, ![6144, 16384]⟩

abbrev nBuf : Space → Nat
  | .hbm => 6
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S4x4096x25344, .f32⟩
  | .hbm, ⟨2, _⟩ => ⟨S6144x4096, .f32⟩
  | .hbm, ⟨3, _⟩ => ⟨S1x4096x16384, .f32⟩
  | .hbm, ⟨4, _⟩ => ⟨S4096x16384, .f32⟩
  | .hbm, ⟨5, _⟩ => ⟨S6144x16384, .f32⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S6144x4096 : Shape := ⟨2, ![6144, 4096]⟩
abbrev S4x4096x4096 : Shape := ⟨3, ![4, 4096, 4096]⟩
abbrev S8x6x4096 : Shape := ⟨3, ![8, 6, 4096]⟩
abbrev S1024x4096 : Shape := ⟨2, ![1024, 4096]⟩
abbrev S1x4096x512 : Shape := ⟨3, ![1, 4096, 512]⟩
abbrev S1024x512 : Shape := ⟨2, ![1024, 512]⟩
abbrev S1x6x512 : Shape := ⟨3, ![1, 6, 512]⟩
abbrev S4096x512 : Shape := ⟨2, ![4096, 512]⟩
abbrev S1x1x512 : Shape := ⟨3, ![1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S6144x4096, .bf16⟩
  | .hbm, ⟨1, _⟩ => ⟨S4x4096x4096, .f32⟩
  | .hbm, ⟨2, _⟩ => ⟨S6144x4096, .f32⟩
  | .hbm, ⟨3, _⟩ => ⟨S8x6x4096, .f32⟩
  | .hbm, ⟨4, _⟩ => ⟨S6144x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x6x512, .f32⟩
  | .local _ .vmem, ⟨7, _⟩ => ⟨S1x6x512, .f32⟩
  | .local _ .vmem, ⟨8, _⟩ => ⟨S1024x512, .f32⟩
  | .local _ .vmem, ⟨9, _⟩ => ⟨S1024x512, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  ![v20.toNat, c0_i32_8.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S6144x4096 : Shape := ⟨2, ![6144, 4096]⟩
abbrev S4x4096x4096 : Shape := ⟨3, ![4, 4096, 4096]⟩
abbrev S8x6x4096 : Shape := ⟨3, ![8, 6, 4096]⟩
abbrev S1x1x4096 : Shape := ⟨3, ![1, 1, 4096]⟩
abbrev S1x4096 : Shape := ⟨2, ![1, 4096]⟩
abbrev S4096x4096 : Shape := ⟨2, ![4096, 4096]⟩
abbrev S2x1x4096 : Shape := ⟨3, ![2, 1, 4096]⟩
abbrev S2x4096 : Shape := ⟨2, ![2, 4096]⟩
abbrev S2x1024x4096 : Shape := ⟨3, ![2, 1024, 4096]⟩
abbrev S2048x4096 : Shape := ⟨2, ![2048, 4096]⟩
abbrev S1x4096x4096 : Shape := ⟨3, ![1, 4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S4x4096x4096, .f32⟩
  | .hbm, ⟨2, _⟩ => ⟨S6144x4096, .f32⟩
  | .hbm, ⟨3, _⟩ => ⟨S8x6x4096, .f32⟩
  | .hbm, ⟨4, _⟩ => ⟨S1x1x4096, .f32⟩
  | .hbm, ⟨5, _⟩ => ⟨S1x4096, .f32⟩
  | .hbm, ⟨6, _⟩ => ⟨S4096x4096, .f32⟩
  | .hbm, ⟨7, _⟩ => ⟨S2x1x4096, .f32⟩
  | .hbm, ⟨8, _⟩ => ⟨S2x4096, .f32⟩
  | .hbm, ⟨9, _⟩ => ⟨S2x1024x4096, .f32⟩
  | .hbm, ⟨10, _⟩ => ⟨S2048x4096, .f32⟩
  | .hbm, ⟨11, _⟩ => ⟨S6144x4096, .f32⟩
  | .hbm, ⟨12, _⟩ => ⟨S6144x4096, .f32⟩
  | .hbm, ⟨13, _⟩ => ⟨S1x4096x4096, .f32⟩
  | .hbm, ⟨14, _⟩ => ⟨S4096x4096, .f32⟩
  | .hbm, ⟨15, _⟩ => ⟨S6144x4096, .f32⟩
  | .hbm, ⟨16, _⟩ => ⟨S6144x4096, .f32⟩
  | .hbm, ⟨17, _⟩ => ⟨S6144x4096, .f32⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Merge.lean ====
abbrev S4096x1024 : Shape := ⟨2, ![4096, 1024]⟩
abbrev S2048x1024 : Shape := ⟨2, ![2048, 1024]⟩
abbrev S6144x1024 : Shape := ⟨2, ![6144, 1024]⟩
abbrev S6144x16384 : Shape := ⟨2, ![6144, 16384]⟩
abbrev S4x4x1024x4096 : Shape := ⟨4, ![4, 4, 1024, 4096]⟩
abbrev S6144x4096 : Shape := ⟨2, ![6144, 4096]⟩
abbrev S1024x1024 : Shape := ⟨2, ![1024, 1024]⟩
abbrev S1x4x1024x256 : Shape := ⟨4, ![1, 4, 1024, 256]⟩
abbrev S1024x256 : Shape := ⟨2, ![1024, 256]⟩
abbrev S1x1x1024x256 : Shape := ⟨4, ![1, 1, 1024, 256]⟩

abbrev nBuf : Space → Nat
  | .hbm => 9
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .bf16⟩
  | .hbm, ⟨3, _⟩ => ⟨S2048x1024, .bf16⟩
  | .hbm, ⟨4, _⟩ => ⟨S6144x1024, .bf16⟩
  | .hbm, ⟨5, _⟩ => ⟨S6144x1024, .bf16⟩
  | .hbm, ⟨6, _⟩ => ⟨S6144x16384, .f32⟩
  | .hbm, ⟨7, _⟩ => ⟨S4x4x1024x4096, .f32⟩
  | .hbm, ⟨8, _⟩ => ⟨S6144x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x4x1024x256, .f32⟩
  | .local _ .vmem, ⟨13, _⟩ => ⟨S1x4x1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .bf16⟩
  | .local _ .vmem, ⟨23, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S4096x1024 : Shape := ⟨2, ![4096, 1024]⟩
abbrev S2048x1024 : Shape := ⟨2, ![2048, 1024]⟩
abbrev S6144x1024 : Shape := ⟨2, ![6144, 1024]⟩
abbrev S6144x16384 : Shape := ⟨2, ![6144, 16384]⟩
abbrev S4x4x1024x4096 : Shape := ⟨4, ![4, 4, 1024, 4096]⟩
abbrev S1x6144x1024 : Shape := ⟨3, ![1, 6144, 1024]⟩
abbrev S4x6144x1024 : Shape := ⟨3, ![4, 6144, 1024]⟩
abbrev S1x4x1024x4096 : Shape := ⟨4, ![1, 4, 1024, 4096]⟩
abbrev S4x1024x4096 : Shape := ⟨3, ![4, 1024, 4096]⟩
abbrev S4x4096x6144 : Shape := ⟨3, ![4, 4096, 6144]⟩
abbrev S6144x4x4096 : Shape := ⟨3, ![6144, 4, 4096]⟩
abbrev S_ : Shape := ⟨0, ![]⟩
abbrev S6144x4096 : Shape := ⟨2, ![6144, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .bf16⟩
  | .hbm, ⟨3, _⟩ => ⟨S2048x1024, .bf16⟩
  | .hbm, ⟨4, _⟩ => ⟨S6144x1024, .bf16⟩
  | .hbm, ⟨5, _⟩ => ⟨S6144x1024, .bf16⟩
  | .hbm, ⟨6, _⟩ => ⟨S6144x16384, .f32⟩
  | .hbm, ⟨7, _⟩ => ⟨S4x4x1024x4096, .f32⟩
  | .hbm, ⟨8, _⟩ => ⟨S4096x1024, .f32⟩
  | .hbm, ⟨9, _⟩ => ⟨S2048x1024, .f32⟩
  | .hbm, ⟨10, _⟩ => ⟨S6144x1024, .f32⟩
  | .hbm, ⟨11, _⟩ => ⟨S4096x1024, .f32⟩
  | .hbm, ⟨12, _⟩ => ⟨S2048x1024, .f32⟩
  | .hbm, ⟨13, _⟩ => ⟨S6144x1024, .f32⟩
  | .hbm, ⟨14, _⟩ => ⟨S6144x1024, .f32⟩
  | .hbm, ⟨15, _⟩ => ⟨S6144x1024, .f32⟩
  | .hbm, ⟨16, _⟩ => ⟨S1x6144x1024, .f32⟩
  | .hbm, ⟨17, _⟩ => ⟨S1x6144x1024, .f32⟩
  | .hbm, ⟨18, _⟩ => ⟨S1x6144x1024, .f32⟩
  | .hbm, ⟨19, _⟩ => ⟨S1x6144x1024, .f32⟩
  | .hbm, ⟨20, _⟩ => ⟨S4x6144x1024, .f32⟩
  | .hbm, ⟨21, _⟩ => ⟨S1x4x1024x4096, .f32⟩
  | .hbm, ⟨22, _⟩ => ⟨S4x1024x4096, .f32⟩
  | .hbm, ⟨23, _⟩ => ⟨S4x4096x6144, .f32⟩
  | .hbm, ⟨24, _⟩ => ⟨S6144x4x4096, .f32⟩
  | .hbm, ⟨25, _⟩ => ⟨S6144x4x4096, .f32⟩
  | .hbm, ⟨26, _⟩ => ⟨S6144x4x4096, .f32⟩
  | .hbm, ⟨27, _⟩ => ⟨S6144x4x4096, .f32⟩
  | .hbm, ⟨28, _⟩ => ⟨S_, .f32⟩
  | .hbm, ⟨29, _⟩ => ⟨S6144x4x4096, .f32⟩
  | .hbm, ⟨30, _⟩ => ⟨S6144x4x4096, .f32⟩
  | .hbm, ⟨31, _⟩ => ⟨S_, .f32⟩
  | .hbm, ⟨32, _⟩ => ⟨S6144x4x4096, .f32⟩
  | .hbm, ⟨33, _⟩ => ⟨S6144x4x4096, .f32⟩
  | .hbm, ⟨34, _⟩ => ⟨S6144x4x4096, .f32⟩
  | .hbm, ⟨35, _⟩ => ⟨S_, .f32⟩
  | .hbm, ⟨36, _⟩ => ⟨S6144x4096, .f32⟩
  | .hbm, ⟨37, _⟩ => ⟨S6144x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Up.lean ====
abbrev S64 : Shape := ⟨1, ![64]⟩
abbrev S1 : Shape := ⟨1, ![1]⟩
abbrev S16384x4096 : Shape := ⟨2, ![16384, 4096]⟩
abbrev S4x16x4096x1024 : Shape := ⟨4, ![4, 16, 4096, 1024]⟩
abbrev S16384x1024 : Shape := ⟨2, ![16384, 1024]⟩
abbrev S256x4096 : Shape := ⟨2, ![256, 4096]⟩
abbrev S1x1x4096x512 : Shape := ⟨4, ![1, 1, 4096, 512]⟩
abbrev S256x512 : Shape := ⟨2, ![256, 512]⟩
abbrev S4096x512 : Shape := ⟨2, ![4096, 512]⟩

abbrev nBuf : Space → Nat
  | .hbm => 4
  | .vmem => 8
  | .smem => 2
  | _ => 0

abbrev bufTy : (tb : Table) → Fin (tcTables nBuf tb) → BufTy
  | .hbm, ⟨0, _⟩ => ⟨S16384x4096, .bf16⟩
  | .hbm, ⟨1, _⟩ => ⟨S4x16x4096x1024, .f32⟩
  | .hbm, ⟨2, _⟩ => ⟨S4x16x4096x1024, .f32⟩
  | .hbm, ⟨3, _⟩ => ⟨S16384x1024, .bf16⟩
  | .local _ .vmem, ⟨0, _⟩ => ⟨S256x4096, .bf16⟩
  | .local _ .vmem, ⟨1, _⟩ => ⟨S256x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S256x512, .bf16⟩
  | .local _ .vmem, ⟨7, _⟩ => ⟨S256x512, .bf16⟩
  | .local _ .smem, ⟨0, _⟩ => ⟨S64, .i32⟩
  | .local _ .smem, ⟨1, _⟩ => ⟨S1, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S64 : Shape := ⟨1, ![64]⟩
abbrev S1 : Shape := ⟨1, ![1]⟩
abbrev S16384x4096 : Shape := ⟨2, ![16384, 4096]⟩
abbrev S4x16x4096x1024 : Shape := ⟨4, ![4, 16, 4096, 1024]⟩
abbrev S64x256x4096 : Shape := ⟨3, ![64, 256, 4096]⟩
abbrev S1x16x4096x1024 : Shape := ⟨4, ![1, 16, 4096, 1024]⟩
abbrev S16x4096x1024 : Shape := ⟨3, ![16, 4096, 1024]⟩
abbrev S_ : Shape := ⟨0, ![]⟩
abbrev S64x1 : Shape := ⟨2, ![64, 1]⟩
abbrev S64x4096x1024 : Shape := ⟨3, ![64, 4096, 1024]⟩
abbrev S64x256x1024 : Shape := ⟨3, ![64, 256, 1024]⟩
abbrev S64x1x1 : Shape := ⟨3, ![64, 1, 1]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S64, .i32⟩
  | .hbm, ⟨1, _⟩ => ⟨S1, .i32⟩
  | .hbm, ⟨2, _⟩ => ⟨S16384x4096, .bf16⟩
  | .hbm, ⟨3, _⟩ => ⟨S4x16x4096x1024, .f32⟩
  | .hbm, ⟨4, _⟩ => ⟨S4x16x4096x1024, .f32⟩
  | .hbm, ⟨5, _⟩ => ⟨S16384x4096, .f32⟩
  | .hbm, ⟨6, _⟩ => ⟨S64x256x4096, .f32⟩
  | .hbm, ⟨7, _⟩ => ⟨S1x16x4096x1024, .f32⟩
  | .hbm, ⟨8, _⟩ => ⟨S16x4096x1024, .f32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64x4096x1024, .f32⟩
  | .hbm, ⟨18, _⟩ => ⟨S64x256x1024, .f32⟩
  | .hbm, ⟨19, _⟩ => ⟨S1x16x4096x1024, .f32⟩
  | .hbm, ⟨20, _⟩ => ⟨S16x4096x1024, .f32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S64x4096x1024, .f32⟩
  | .hbm, ⟨30, _⟩ => ⟨S64x256x1024, .f32⟩
  | .hbm, ⟨31, _⟩ => ⟨S64x256x1024, .f32⟩
  | .hbm, ⟨32, _⟩ => ⟨S64x256x1024, .f32⟩
  | .hbm, ⟨33, _⟩ => ⟨S_, .f32⟩
  | .hbm, ⟨34, _⟩ => ⟨S64x256x1024, .f32⟩
  | .hbm, ⟨35, _⟩ => ⟨S64x256x1024, .f32⟩
  | .hbm, ⟨36, _⟩ => ⟨S_, .f32⟩
  | .hbm, ⟨37, _⟩ => ⟨S64x256x1024, .f32⟩
  | .hbm, ⟨38, _⟩ => ⟨S64x256x1024, .f32⟩
  | .hbm, ⟨39, _⟩ => ⟨S64x256x1024, .f32⟩
  | .hbm, ⟨40, _⟩ => ⟨S64x256x1024, .f32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S64x1x1, .i1⟩
  | .hbm, ⟨46, _⟩ => ⟨S_, .f32⟩
  | .hbm, ⟨47, _⟩ => ⟨S_, .f32⟩
  | .hbm, ⟨48, _⟩ => ⟨S64x256x1024, .i1⟩
  | .hbm, ⟨49, _⟩ => ⟨S64x256x1024, .f32⟩
  | .hbm, ⟨50, _⟩ => ⟨S64x256x1024, .f32⟩
  | .hbm, ⟨51, _⟩ => ⟨S16384x1024, .f32⟩
  | .hbm, ⟨52, _⟩ => ⟨S16384x1024, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Down.lean ====
abbrev S64 : Shape := ⟨1, ![64]⟩
abbrev S1 : Shape := ⟨1, ![1]⟩
abbrev S16384x1024 : Shape := ⟨2, ![16384, 1024]⟩
abbrev S4x16x1024x4096 : Shape := ⟨4, ![4, 16, 1024, 4096]⟩
abbrev S16384x4096 : Shape := ⟨2, ![16384, 4096]⟩
abbrev S256x1024 : Shape := ⟨2, ![256, 1024]⟩
abbrev S1x1x1024x2048 : Shape := ⟨4, ![1, 1, 1024, 2048]⟩
abbrev S256x2048 : Shape := ⟨2, ![256, 2048]⟩
abbrev S1024x2048 : Shape := ⟨2, ![1024, 2048]⟩

abbrev nBuf : Space → Nat
  | .hbm => 3
  | .vmem => 6
  | .smem => 2
  | _ => 0

abbrev bufTy : (tb : Table) → Fin (tcTables nBuf tb) → BufTy
  | .hbm, ⟨0, _⟩ => ⟨S16384x1024, .bf16⟩
  | .hbm, ⟨1, _⟩ => ⟨S4x16x1024x4096, .f32⟩
  | .hbm, ⟨2, _⟩ => ⟨S16384x4096, .f32⟩
  | .local _ .vmem, ⟨0, _⟩ => ⟨S256x1024, .bf16⟩
  | .local _ .vmem, ⟨1, _⟩ => ⟨S256x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S256x2048, .f32⟩
  | .local _ .vmem, ⟨5, _⟩ => ⟨S256x2048, .f32⟩
  | .local _ .smem, ⟨0, _⟩ => ⟨S64, .i32⟩
  | .local _ .smem, ⟨1, _⟩ => ⟨S1, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S64 : Shape := ⟨1, ![64]⟩
abbrev S1 : Shape := ⟨1, ![1]⟩
abbrev S16384x1024 : Shape := ⟨2, ![16384, 1024]⟩
abbrev S4x16x1024x4096 : Shape := ⟨4, ![4, 16, 1024, 4096]⟩
abbrev S64x256x1024 : Shape := ⟨3, ![64, 256, 1024]⟩
abbrev S1x16x1024x4096 : Shape := ⟨4, ![1, 16, 1024, 4096]⟩
abbrev S16x1024x4096 : Shape := ⟨3, ![16, 1024, 4096]⟩
abbrev S_ : Shape := ⟨0, ![]⟩
abbrev S64x1 : Shape := ⟨2, ![64, 1]⟩
abbrev S64x1024x4096 : Shape := ⟨3, ![64, 1024, 4096]⟩
abbrev S64x256x4096 : Shape := ⟨3, ![64, 256, 4096]⟩
abbrev S64x1x1 : Shape := ⟨3, ![64, 1, 1]⟩
abbrev S16384x4096 : Shape := ⟨2, ![16384, 4096]⟩

abbrev nBuf : Space → Nat
  | .hbm => 29
  | .vmem => 0
  | .smem => 0
  | _ => 0

abbrev bufTy : (tb : Table) → Fin (tcTables nBuf tb) → BufTy
  | .hbm, ⟨0, _⟩ => ⟨S64, .i32⟩
  | .hbm, ⟨1, _⟩ => ⟨S1, .i32⟩
  | .hbm, ⟨2, _⟩ => ⟨S16384x1024, .bf16⟩
  | .hbm, ⟨3, _⟩ => ⟨S4x16x1024x4096, .f32⟩
  | .hbm, ⟨4, _⟩ => ⟨S16384x1024, .f32⟩
  | .hbm, ⟨5, _⟩ => ⟨S64x256x1024, .f32⟩
  | .hbm, ⟨6, _⟩ => ⟨S1x16x1024x4096, .f32⟩
  | .hbm, ⟨7, _⟩ => ⟨S16x1024x4096, .f32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x1024x4096, .f32⟩
  | .hbm, ⟨17, _⟩ => ⟨S64x256x4096, .f32⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i1⟩
  | .hbm, ⟨22, _⟩ => ⟨S64x1x1, .i1⟩
  | .hbm, ⟨23, _⟩ => ⟨S_, .f32⟩
  | .hbm, ⟨24, _⟩ => ⟨S_, .f32⟩
  | .hbm, ⟨25, _⟩ => ⟨S64x256x4096, .i1⟩
  | .hbm, ⟨26, _⟩ => ⟨S64x256x4096, .f32⟩
  | .hbm, ⟨27, _⟩ => ⟨S64x256x4096, .f32⟩
  | .hbm, ⟨28, _⟩ => ⟨S16384x4096, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== NormMod.lean ====
abbrev S6144x4096 : Shape := ⟨2, ![6144, 4096]⟩
abbrev S4096 : Shape := ⟨1, ![4096]⟩
abbrev S8x6x4096 : Shape := ⟨3, ![8, 6, 4096]⟩
abbrev S1x4096 : Shape := ⟨2, ![1, 4096]⟩
abbrev S256x4096 : Shape := ⟨2, ![256, 4096]⟩
abbrev S1x6x4096 : Shape := ⟨3, ![1, 6, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 5
  | .vmem => 7
  | .smem => 0
  | _ => 0

abbrev bufTy : (tb : Table) → Fin (tcTables nBuf tb) → BufTy
  | .hbm, ⟨0, _⟩ => ⟨S6144x4096, .f32⟩
  | .hbm, ⟨1, _⟩ => ⟨S4096, .f32⟩
  | .hbm, ⟨2, _⟩ => ⟨S8x6x4096, .f32⟩
  | .hbm, ⟨3, _⟩ => ⟨S1x4096, .f32⟩
  | .hbm, ⟨4, _⟩ => ⟨S6144x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S256x4096, .bf16⟩
  | .local _ .vmem, ⟨6, _⟩ => ⟨S256x4096, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormModRefIdeal.lean ====
abbrev S6144x4096 : Shape := ⟨2, ![6144, 4096]⟩
abbrev S4096 : Shape := ⟨1, ![4096]⟩
abbrev S8x6x4096 : Shape := ⟨3, ![8, 6, 4096]⟩
abbrev S1x6x4096 : Shape := ⟨3, ![1, 6, 4096]⟩
abbrev S4096x6x4096 : Shape := ⟨3, ![4096, 6, 4096]⟩
abbrev S2x6x4096 : Shape := ⟨3, ![2, 6, 4096]⟩
abbrev S2x1024x6x4096 : Shape := ⟨4, ![2, 1024, 6, 4096]⟩
abbrev S2048x6x4096 : Shape := ⟨3, ![2048, 6, 4096]⟩
abbrev S6144x6x4096 : Shape := ⟨3, ![6144, 6, 4096]⟩
abbrev S_ : Shape := ⟨0, ![]⟩
abbrev S6144 : Shape := ⟨1, ![6144]⟩
abbrev S6144x1 : Shape := ⟨2, ![6144, 1]⟩
abbrev S1x4096 : Shape := ⟨2, ![1, 4096]⟩
abbrev S6144x1x4096 : Shape := ⟨3, ![6144, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S4096, .f32⟩
  | .hbm, ⟨2, _⟩ => ⟨S8x6x4096, .f32⟩
  | .hbm, ⟨3, _⟩ => ⟨S1x6x4096, .f32⟩
  | .hbm, ⟨4, _⟩ => ⟨S4096x6x4096, .f32⟩
  | .hbm, ⟨5, _⟩ => ⟨S2x6x4096, .f32⟩
  | .hbm, ⟨6, _⟩ => ⟨S2x1024x6x4096, .f32⟩
  | .hbm, ⟨7, _⟩ => ⟨S2048x6x4096, .f32⟩
  | .hbm, ⟨8, _⟩ => ⟨S6144x6x4096, .f32⟩
  | .hbm, ⟨9, _⟩ => ⟨S6144x4096, .f32⟩
  | .hbm, ⟨10, _⟩ => ⟨S_, .f32⟩
  | .hbm, ⟨11, _⟩ => ⟨S6144, .f32⟩
  | .hbm, ⟨12, _⟩ => ⟨S6144x1, .f32⟩
  | .hbm, ⟨13, _⟩ => ⟨S_, .f32⟩
  | .hbm, ⟨14, _⟩ => ⟨S6144x1, .f32⟩
  | .hbm, ⟨15, _⟩ => ⟨S6144x1, .f32⟩
  | .hbm, ⟨16, _⟩ => ⟨S_, .f32⟩
  | .hbm, ⟨17, _⟩ => ⟨S6144x1, .f32⟩
  | .hbm, ⟨18, _⟩ => ⟨S6144x1, .f32⟩
  | .hbm, ⟨19, _⟩ => ⟨S6144x1, .f32⟩
  | .hbm, ⟨20, _⟩ => ⟨S6144x4096, .f32⟩
  | .hbm, ⟨21, _⟩ => ⟨S6144x4096, .f32⟩
  | .hbm, ⟨22, _⟩ => ⟨S1x4096, .f32⟩
  | .hbm, ⟨23, _⟩ => ⟨S6144x4096, .f32⟩
  | .hbm, ⟨24, _⟩ => ⟨S6144x4096, .f32⟩
  | .hbm, ⟨25, _⟩ => ⟨S6144x1x4096, .f32⟩
  | .hbm, ⟨26, _⟩ => ⟨S6144x4096, .f32⟩
  | .hbm, ⟨27, _⟩ => ⟨S_, .f32⟩
  | .hbm, ⟨28, _⟩ => ⟨S6144x4096, .f32⟩
  | .hbm, ⟨29, _⟩ => ⟨S6144x4096, .f32⟩
  | .hbm, ⟨30, _⟩ => ⟨S6144x4096, .f32⟩
  | .hbm, ⟨31, _⟩ => ⟨S6144x1x4096, .f32⟩
  | .hbm, ⟨32, _⟩ => ⟨S6144x4096, .f32⟩
  | .hbm, ⟨33, _⟩ => ⟨S6144x4096, .f32⟩
  | .hbm, ⟨34, _⟩ => ⟨S6144x4096, .bf16⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== RouteNorm.lean ====
abbrev S6144x4096 : Shape := ⟨2, ![6144, 4096]⟩
abbrev S4096 : Shape := ⟨1, ![4096]⟩
abbrev S8x6x4096 : Shape := ⟨3, ![8, 6, 4096]⟩
abbrev S4096x16 : Shape := ⟨2, ![4096, 16]⟩
abbrev S16 : Shape := ⟨1, ![16]⟩
abbrev S16x4096 : Shape := ⟨2, ![16, 4096]⟩
abbrev S1x4096 : Shape := ⟨2, ![1, 4096]⟩
abbrev S16x1 : Shape := ⟨2, ![16, 1]⟩
abbrev S2x6144 : Shape := ⟨2, ![2, 6144]⟩
abbrev S256x4096 : Shape := ⟨2, ![256, 4096]⟩
abbrev S1x6x4096 : Shape := ⟨3, ![1, 6, 4096]⟩
abbrev S2x256 : Shape := ⟨2, ![2, 256]⟩
abbrev S256 : Shape := ⟨1, ![256]⟩
abbrev S256x1 : Shape := ⟨2, ![256, 1]⟩
abbrev S1x1x4096 : Shape := ⟨3, ![1, 1, 4096]⟩
abbrev S16x256 : Shape := ⟨2, ![16, 256]⟩
abbrev S1x256 : Shape := ⟨2, ![1, 256]⟩

abbrev nBuf : Space → Nat
  | .hbm => 15
  | .vmem => 14
  | .smem => 0
  | _ => 0

abbrev bufTy : (tb : Table) → Fin (tcTables nBuf tb) → BufTy
  | .hbm, ⟨0, _⟩ => ⟨S6144x4096, .f32⟩
  | .hbm, ⟨1, _⟩ => ⟨S4096, .f32⟩
  | .hbm, ⟨2, _⟩ => ⟨S8x6x4096, .f32⟩
  | .hbm, ⟨3, _⟩ => ⟨S4096x16, .f32⟩
  | .hbm, ⟨4, _⟩ => ⟨S16, .f32⟩
  | .hbm, ⟨5, _⟩ => ⟨S16x4096, .f32⟩
  | .hbm, ⟨6, _⟩ => ⟨S16x4096, .bf16⟩
  | .hbm, ⟨7, _⟩ => ⟨S16x4096, .f32⟩
  | .hbm, ⟨8, _⟩ => ⟨S16x4096, .f32⟩
  | .hbm, ⟨9, _⟩ => ⟨S16x4096, .bf16⟩
  | .hbm, ⟨10, _⟩ => ⟨S1x4096, .f32⟩
  | .hbm, ⟨11, _⟩ => ⟨S16x1, .f32⟩
  | .hbm, ⟨12, _⟩ => ⟨S6144x4096, .f32⟩
  | .hbm, ⟨13, _⟩ => ⟨S2x6144, .i32⟩
  | .hbm, ⟨14, _⟩ => ⟨S2x6144, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S16x4096, .bf16⟩
  | .local _ .vmem, ⟨6, _⟩ => ⟨S16x4096, .bf16⟩
  | .local _ .vmem, ⟨7, _⟩ => ⟨S16x1, .f32⟩
  | .local _ .vmem, ⟨8, _⟩ => ⟨S256x4096, .f32⟩
  | .local _ .vmem, ⟨9, _⟩ => ⟨S256x4096, .f32⟩
  | .local _ .vmem, ⟨10, _⟩ => ⟨S2x256, .i32⟩
  | .local _ .vmem, ⟨11, _⟩ => ⟨S2x256, .i32⟩
  | .local _ .vmem, ⟨12, _⟩ => ⟨S2x256, .f32⟩
  | .local _ .vmem, ⟨13, _⟩ => ⟨S2x256, .f32⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RouteNormRefIdeal.lean ====
abbrev S6144x4096 : Shape := ⟨2, ![6144, 4096]⟩
abbrev S4096 : Shape := ⟨1, ![4096]⟩
abbrev S8x6x4096 : Shape := ⟨3, ![8, 6, 4096]⟩
abbrev S4096x16 : Shape := ⟨2, ![4096, 16]⟩
abbrev S16 : Shape := ⟨1, ![16]⟩
abbrev S1x6x4096 : Shape := ⟨3, ![1, 6, 4096]⟩
abbrev S4096x6x4096 : Shape := ⟨3, ![4096, 6, 4096]⟩
abbrev S2x6x4096 : Shape := ⟨3, ![2, 6, 4096]⟩
abbrev S2x1024x6x4096 : Shape := ⟨4, ![2, 1024, 6, 4096]⟩
abbrev S2048x6x4096 : Shape := ⟨3, ![2048, 6, 4096]⟩
abbrev S6144x6x4096 : Shape := ⟨3, ![6144, 6, 4096]⟩
abbrev S_ : Shape := ⟨0, ![]⟩
abbrev S6144 : Shape := ⟨1, ![6144]⟩
abbrev S6144x1 : Shape := ⟨2, ![6144, 1]⟩
abbrev S1x4096 : Shape := ⟨2, ![1, 4096]⟩
abbrev S6144x1x4096 : Shape := ⟨3, ![6144, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S4096, .f32⟩
  | .hbm, ⟨2, _⟩ => ⟨S8x6x4096, .f32⟩
  | .hbm, ⟨3, _⟩ => ⟨S4096x16, .f32⟩
  | .hbm, ⟨4, _⟩ => ⟨S16, .f32⟩
  | .hbm, ⟨5, _⟩ => ⟨S1x6x4096, .f32⟩
  | .hbm, ⟨6, _⟩ => ⟨S4096x6x4096, .f32⟩
  | .hbm, ⟨7, _⟩ => ⟨S2x6x4096, .f32⟩
  | .hbm, ⟨8, _⟩ => ⟨S2x1024x6x4096, .f32⟩
  | .hbm, ⟨9, _⟩ => ⟨S2048x6x4096, .f32⟩
  | .hbm, ⟨10, _⟩ => ⟨S6144x6x4096, .f32⟩
  | .hbm, ⟨11, _⟩ => ⟨S6144x4096, .f32⟩
  | .hbm, ⟨12, _⟩ => ⟨S_, .f32⟩
  | .hbm, ⟨13, _⟩ => ⟨S6144, .f32⟩
  | .hbm, ⟨14, _⟩ => ⟨S6144x1, .f32⟩
  | .hbm, ⟨15, _⟩ => ⟨S_, .f32⟩
  | .hbm, ⟨16, _⟩ => ⟨S6144x1, .f32⟩
  | .hbm, ⟨17, _⟩ => ⟨S6144x1, .f32⟩
  | .hbm, ⟨18, _⟩ => ⟨S_, .f32⟩
  | .hbm, ⟨19, _⟩ => ⟨S6144x1, .f32⟩
  | .hbm, ⟨20, _⟩ => ⟨S6144x1, .f32⟩
  | .hbm, ⟨21, _⟩ => ⟨S6144x1, .f32⟩
  | .hbm, ⟨22, _⟩ => ⟨S6144x4096, .f32⟩
  | .hbm, ⟨23, _⟩ => ⟨S6144x4096, .f32⟩
  | .hbm, ⟨24, _⟩ => ⟨S1x4096, .f32⟩
  | .hbm, ⟨25, _⟩ => ⟨S6144x4096, .f32⟩
  | .hbm, ⟨26, _⟩ => ⟨S6144x4096, .f32⟩
  | .hbm, ⟨27, _⟩ => ⟨S6144x1x4096, .f32⟩
  | .hbm, ⟨28, _⟩ => ⟨S6144x4096, .f32⟩
  | .hbm, ⟨29, _⟩ => ⟨S_, .f32⟩
  | .hbm, ⟨30, _⟩ => ⟨S6144x4096, .f32⟩
  | .hbm, ⟨31, _⟩ => ⟨S6144x4096, .f32⟩
  | .hbm, ⟨32, _⟩ => ⟨S6144x4096, .f32⟩
  | .hbm, ⟨33, _⟩ => ⟨S6144x1x4096, .f32⟩
  | .hbm, ⟨34, _⟩ => ⟨S6144x4096, .f32⟩
  | .hbm, ⟨35, _⟩ => ⟨S6144x4096, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Route.lean ====
abbrev S6144x4096 : Shape := ⟨2, ![6144, 4096]⟩
abbrev S4096 : Shape := ⟨1, ![4096]⟩
abbrev S8x6x4096 : Shape := ⟨3, ![8, 6, 4096]⟩
abbrev S4096x16 : Shape := ⟨2, ![4096, 16]⟩
abbrev S16 : Shape := ⟨1, ![16]⟩
abbrev S16x4096 : Shape := ⟨2, ![16, 4096]⟩
abbrev S1x4096 : Shape := ⟨2, ![1, 4096]⟩
abbrev S16x1 : Shape := ⟨2, ![16, 1]⟩
abbrev S2x6144 : Shape := ⟨2, ![2, 6144]⟩
abbrev S256x4096 : Shape := ⟨2, ![256, 4096]⟩
abbrev S1x6x4096 : Shape := ⟨3, ![1, 6, 4096]⟩
abbrev S2x256 : Shape := ⟨2, ![2, 256]⟩
abbrev S256 : Shape := ⟨1, ![256]⟩
abbrev S256x1 : Shape := ⟨2, ![256, 1]⟩
abbrev S1x1x4096 : Shape := ⟨3, ![1, 1, 4096]⟩
abbrev S16x256 : Shape := ⟨2, ![16, 256]⟩
abbrev S1x256 : Shape := ⟨2, ![1, 256]⟩

abbrev nBuf : Space → Nat
  | .hbm => 15
  | .vmem => 14
  | .smem => 0
  | _ => 0

abbrev bufTy : (tb : Table) → Fin (tcTables nBuf tb) → BufTy
  | .hbm, ⟨0, _⟩ => ⟨S6144x4096, .f32⟩
  | .hbm, ⟨1, _⟩ => ⟨S4096, .f32⟩
  | .hbm, ⟨2, _⟩ => ⟨S8x6x4096, .f32⟩
  | .hbm, ⟨3, _⟩ => ⟨S4096x16, .f32⟩
  | .hbm, ⟨4, _⟩ => ⟨S16, .f32⟩
  | .hbm, ⟨5, _⟩ => ⟨S16x4096, .f32⟩
  | .hbm, ⟨6, _⟩ => ⟨S16x4096, .bf16⟩
  | .hbm, ⟨7, _⟩ => ⟨S16x4096, .f32⟩
  | .hbm, ⟨8, _⟩ => ⟨S16x4096, .f32⟩
  | .hbm, ⟨9, _⟩ => ⟨S16x4096, .bf16⟩
  | .hbm, ⟨10, _⟩ => ⟨S1x4096, .f32⟩
  | .hbm, ⟨11, _⟩ => ⟨S16x1, .f32⟩
  | .hbm, ⟨12, _⟩ => ⟨S6144x4096, .f32⟩
  | .hbm, ⟨13, _⟩ => ⟨S2x6144, .i32⟩
  | .hbm, ⟨14, _⟩ => ⟨S2x6144, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S16x4096, .bf16⟩
  | .local _ .vmem, ⟨6, _⟩ => ⟨S16x4096, .bf16⟩
  | .local _ .vmem, ⟨7, _⟩ => ⟨S16x1, .f32⟩
  | .local _ .vmem, ⟨8, _⟩ => ⟨S256x4096, .f32⟩
  | .local _ .vmem, ⟨9, _⟩ => ⟨S256x4096, .f32⟩
  | .local _ .vmem, ⟨10, _⟩ => ⟨S2x256, .i32⟩
  | .local _ .vmem, ⟨11, _⟩ => ⟨S2x256, .i32⟩
  | .local _ .vmem, ⟨12, _⟩ => ⟨S2x256, .f32⟩
  | .local _ .vmem, ⟨13, _⟩ => ⟨S2x256, .f32⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RouteRefIdeal.lean ====
abbrev S6144x4096 : Shape := ⟨2, ![6144, 4096]⟩
abbrev S4096 : Shape := ⟨1, ![4096]⟩
abbrev S8x6x4096 : Shape := ⟨3, ![8, 6, 4096]⟩
abbrev S4096x16 : Shape := ⟨2, ![4096, 16]⟩
abbrev S16 : Shape := ⟨1, ![16]⟩
abbrev S1x6x4096 : Shape := ⟨3, ![1, 6, 4096]⟩
abbrev S4096x6x4096 : Shape := ⟨3, ![4096, 6, 4096]⟩
abbrev S2x6x4096 : Shape := ⟨3, ![2, 6, 4096]⟩
abbrev S2x1024x6x4096 : Shape := ⟨4, ![2, 1024, 6, 4096]⟩
abbrev S2048x6x4096 : Shape := ⟨3, ![2048, 6, 4096]⟩
abbrev S6144x6x4096 : Shape := ⟨3, ![6144, 6, 4096]⟩
abbrev S_ : Shape := ⟨0, ![]⟩
abbrev S6144 : Shape := ⟨1, ![6144]⟩
abbrev S6144x1 : Shape := ⟨2, ![6144, 1]⟩
abbrev S1x4096 : Shape := ⟨2, ![1, 4096]⟩
abbrev S6144x1x4096 : Shape := ⟨3, ![6144, 1, 4096]⟩
abbrev S6144x16 : Shape := ⟨2, ![6144, 16]⟩
abbrev S1x16 : Shape := ⟨2, ![1, 16]⟩
abbrev S6144x4x4 : Shape := ⟨3, ![6144, 4, 4]⟩
abbrev S6144x4 : Shape := ⟨2, ![6144, 4]⟩
abbrev S6144x4x1 : Shape := ⟨3, ![6144, 4, 1]⟩
abbrev S4 : Shape := ⟨1, ![4]⟩
abbrev S1x1x4 : Shape := ⟨3, ![1, 1, 4]⟩
abbrev S4x1 : Shape := ⟨2, ![4, 1]⟩
abbrev S6144x1x1 : Shape := ⟨3, ![6144, 1, 1]⟩
abbrev S1x4x1 : Shape := ⟨3, ![1, 4, 1]⟩
abbrev S1x6144 : Shape := ⟨2, ![1, 6144]⟩
abbrev S2x6144 : Shape := ⟨2, ![2, 6144]⟩

abbrev nBuf : Space → Nat
  | .hbm => 168
  | .vmem => 0
  | .smem => 0
  | _ => 0

abbrev hbmTy0_0 (i : Nat) : BufTy := match i % 128 with
  | 0 => ⟨S6144x4096, .f32⟩
  | 1 => ⟨S4096, .f32⟩
  | 2 => ⟨S8x6x4096, .f32⟩
  | 3 => ⟨S4096x16, .f32⟩
  | 4 => ⟨S16, .f32⟩
  | 5 => ⟨S1x6x4096, .f32⟩
  | 6 => ⟨S4096x6x4096, .f32⟩
  | 7 => ⟨S2x6x4096, .f32⟩
  | 8 => ⟨S2x1024x6x4096, .f32⟩
  | 9 => ⟨S2048x6x4096, .f32⟩
  | 10 => ⟨S6144x6x4096, .f32⟩
  | 11 => ⟨S6144x4096, .f32⟩
  | 12 => ⟨S_, .f32⟩
  | 13 => ⟨S6144, .f32⟩
  | 14 => ⟨S6144x1, .f32⟩
  | 15 => ⟨S_, .f32⟩
  | 16 => ⟨S6144x1, .f32⟩
  | 17 => ⟨S6144x1, .f32⟩
  | 18 => ⟨S_, .f32⟩
  | 19 => ⟨S6144x1, .f32⟩
  | 20 => ⟨S6144x1, .f32⟩
  | 21 => ⟨S6144x1, .f32⟩
  | 22 => ⟨S6144x4096, .f32⟩
  | 23 => ⟨S6144x4096, .f32⟩
  | 24 => ⟨S1x4096, .f32⟩
  | 25 => ⟨S6144x4096, .f32⟩
  | 26 => ⟨S6144x4096, .f32⟩
  | 27 => ⟨S6144x1x4096, .f32⟩
  | 28 => ⟨S6144x4096, .f32⟩
  | 29 => ⟨S_, .f32⟩
  | 30 => ⟨S6144x4096, .f32⟩
  | 31 => ⟨S6144x4096, .f32⟩
  | 32 => ⟨S6144x4096, .f32⟩
  | 33 => ⟨S6144x1x4096, .f32⟩
  | 34 => ⟨S6144x4096, .f32⟩
  | 35 => ⟨S6144x4096, .f32⟩
  | 36 => ⟨S6144x16, .f32⟩
  | 37 => ⟨S6144x16, .f32⟩
  | 38 => ⟨S6144x16, .f32⟩
  | 39 => ⟨S_, .f32⟩
  | 40 => ⟨S6144x16, .f32⟩
  | 41 => ⟨S6144x16, .f32⟩
  | 42 => ⟨S_, .f32⟩
  | 43 => ⟨S6144x16, .f32⟩
  | 44 => ⟨S6144x16, .f32⟩
  | 45 => ⟨S1x16, .f32⟩
  | 46 => ⟨S6144x16, .f32⟩
  | 47 => ⟨S6144x16, .f32⟩
  | 48 => ⟨S6144x4x4, .f32⟩
  | 49 => ⟨S_, .f32⟩
  | 50 => ⟨S6144x4, .f32⟩
  | 51 => ⟨S6144x4x1, .f32⟩
  | 52 => ⟨S6144x4x4, .f32⟩
  | 53 => ⟨S6144x4x4, .i1⟩
  | 54 => ⟨S4, .i32⟩
  | 55 => ⟨S_, .i32⟩
  | 56 => ⟨S_, .i32⟩
  | 57 => ⟨S6144x4x4, .i32⟩
  | 58 => ⟨S6144x4x4, .i32⟩
  | 59 => ⟨S6144x4x4, .i32⟩
  | 60 => ⟨S_, .i32⟩
  | 61 => ⟨S6144x4, .i32⟩
  | 62 => ⟨S4, .i32⟩
  | 63 => ⟨S6144x4x1, .i32⟩
  | 64 => ⟨S1x1x4, .i32⟩
  | 65 => ⟨S6144x4x4, .i32⟩
  | 66 => ⟨S6144x4x4, .i32⟩
  | 67 => ⟨S6144x4x4, .i1⟩
  | 68 => ⟨S_, .f32⟩
  | 69 => ⟨S_, .f32⟩
  | 70 => ⟨S6144x4x4, .f32⟩
  | 71 => ⟨S6144x4x4, .f32⟩
  | 72 => ⟨S_, .f32⟩
  | 73 => ⟨S6144x4, .f32⟩
  | 74 => ⟨S_, .f32⟩
  | 75 => ⟨S6144x4, .f32⟩
  | 76 => ⟨S6144x4, .f32⟩
  | 77 => ⟨S_, .f32⟩
  | 78 => ⟨S6144, .f32⟩
  | 79 => ⟨S6144x1, .f32⟩
  | 80 => ⟨S6144x4, .f32⟩
  | 81 => ⟨S6144x4, .i1⟩
  | 82 => ⟨S4, .i32⟩
  | 83 => ⟨S_, .i32⟩
  | 84 => ⟨S_, .i32⟩
  | 85 => ⟨S6144x4, .i32⟩
  | 86 => ⟨S6144x4, .i32⟩
  | 87 => ⟨S6144x4, .i32⟩
  | 88 => ⟨S_, .i32⟩
  | 89 => ⟨S6144, .i32⟩
  | 90 => ⟨S4, .i32⟩
  | 91 => ⟨S4x1, .i32⟩
  | 92 => ⟨S6144x1x1, .i32⟩
  | 93 => ⟨S1x4x1, .i32⟩
  | 94 => ⟨S6144x4x1, .i32⟩
  | 95 => ⟨S6144x4x1, .i32⟩
  | 96 => ⟨S6144x4x1, .i1⟩
  | 97 => ⟨S_, .f32⟩
  | 98 => ⟨S_, .f32⟩
  | 99 => ⟨S6144x4x4, .i1⟩
  | 100 => ⟨S6144x4x4, .f32⟩
  | 101 => ⟨S6144x4x4, .f32⟩
  | 102 => ⟨S6144x16, .f32⟩
  | 103 => ⟨S_, .f32⟩
  | 104 => ⟨S6144, .f32⟩
  | 105 => ⟨S6144x1, .f32⟩
  | 106 => ⟨S6144x16, .f32⟩
  | 107 => ⟨S6144x16, .i1⟩
  | 108 => ⟨S16, .i32⟩
  | 109 => ⟨S_, .i32⟩
  | 110 => ⟨S_, .i32⟩
  | 111 => ⟨S6144x16, .i32⟩
  | 112 => ⟨S6144x16, .i32⟩
  | 113 => ⟨S6144x16, .i32⟩
  | 114 => ⟨S_, .i32⟩
  | 115 => ⟨S6144, .i32⟩
  | 116 => ⟨S16, .i32⟩
  | 117 => ⟨S6144x1, .i32⟩
  | 118 => ⟨S1x16, .i32⟩
  | 119 => ⟨S6144x16, .i32⟩
  | 120 => ⟨S6144x16, .i32⟩
  | 121 => ⟨S6144x16, .i1⟩
  | 122 => ⟨S_, .f32⟩
  | 123 => ⟨S_, .f32⟩
  | 124 => ⟨S6144x16, .f32⟩
  | 125 => ⟨S6144x16, .f32⟩
  | 126 => ⟨S_, .f32⟩
  | 127 => ⟨S6144, .f32⟩
  | _ => ⟨S6144x4096, .f32⟩

abbrev hbmTy0_1 (i : Nat) : BufTy := match i % 128 with
  | 0 => ⟨S6144x1, .f32⟩
  | 1 => ⟨S6144x16, .f32⟩
  | 2 => ⟨S6144x16, .i1⟩
  | 3 => ⟨S16, .i32⟩
  | 4 => ⟨S_, .i32⟩
  | 5 => ⟨S_, .i32⟩
  | 6 => ⟨S6144x16, .i32⟩
  | 7 => ⟨S6144x16, .i32⟩
  | 8 => ⟨S6144x16, .i32⟩
  | 9 => ⟨S_, .i32⟩
  | 10 => ⟨S6144, .i32⟩
  | 11 => ⟨S16, .i32⟩
  | 12 => ⟨S6144x1, .i32⟩
  | 13 => ⟨S1x16, .i32⟩
  | 14 => ⟨S6144x16, .i32⟩
  | 15 => ⟨S6144x16, .i32⟩
  | 16 => ⟨S6144x16, .i1⟩
  | 17 => ⟨S_, .f32⟩
  | 18 => ⟨S_, .f32⟩
  | 19 => ⟨S6144x16, .f32⟩
  | 20 => ⟨S6144x16, .f32⟩
  | 21 => ⟨S_, .f32⟩
  | 22 => ⟨S6144, .f32⟩
  | 23 => ⟨S_, .f32⟩
  | 24 => ⟨S_, .f32⟩
  | 25 => ⟨S6144x16, .f32⟩
  | 26 => ⟨S6144x16, .f32⟩
  | 27 => ⟨S_, .f32⟩
  | 28 => ⟨S6144, .f32⟩
  | 29 => ⟨S1x6144, .f32⟩
  | 30 => ⟨S1x6144, .f32⟩
  | 31 => ⟨S2x6144, .f32⟩
  | 32 => ⟨S1x6144, .i32⟩
  | 33 => ⟨S1x6144, .i32⟩
  | 34 => ⟨S2x6144, .i32⟩
  | 35 => ⟨S1x6144, .f32⟩
  | 36 => ⟨S1x6144, .f32⟩
  | 37 => ⟨S1x6144, .f32⟩
  | 38 => ⟨S2x6144, .f32⟩
  | 39 => ⟨S2x6144, .f32⟩
  | _ => ⟨S6144x4096, .f32⟩

abbrev hbmTy (i : Nat) : BufTy := match i / 128 with
  | 0 => hbmTy0_0 i
  | 1 => hbmTy0_1 i
  | _ => ⟨S6144x4096, .f32⟩

abbrev bufTy : (tb : Table) → Fin (tcTables nBuf tb) → BufTy
  | .hbm, ⟨i, _⟩ => hbmTy i
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v43 : Ref sig .tc := ⟨.hbm, 59, rfl⟩
abbrev main_c_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_call1_v0 : Ref sig .tc := ⟨.hbm, 69, rfl⟩
abbrev main_call1_v1 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v76 : Ref sig .tc := ⟨.hbm, 113, rfl⟩
abbrev main_c_16 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_17 : Ref sig .tc := ⟨.hbm, 122, rfl⟩
abbrev main_call5_v0 : Ref sig .tc := ⟨.hbm, 123, rfl⟩
abbrev main_call5_v1 : Ref sig .tc := ⟨.hbm, 124, rfl⟩
abbrev main_v84 : Ref sig .tc := ⟨.hbm, 125, rfl⟩
abbrev main_cst_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_19 : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_v90 : Ref sig .tc := ⟨.hbm, 136, rfl⟩
abbrev main_c_20 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_21 : Ref sig .tc := ⟨.hbm, 145, rfl⟩
abbrev main_call7_v0 : Ref sig .tc := ⟨.hbm, 146, rfl⟩
abbrev main_call7_v1 : Ref sig .tc := ⟨.hbm, 147, rfl⟩
abbrev main_v98 : Ref sig .tc := ⟨.hbm, 148, rfl⟩
abbrev main_cst_22 : Ref sig .tc := ⟨.hbm, 149, rfl⟩
abbrev main_v99 : Ref sig .tc := ⟨.hbm, 150, rfl⟩
abbrev main_cst_23 : Ref sig .tc := ⟨.hbm, 151, rfl⟩
abbrev main_call8_v0 : Ref sig .tc := ⟨.hbm, 152, rfl⟩
abbrev main_call8_v1 : Ref sig .tc := ⟨.hbm, 153, rfl⟩
abbrev main_v100 : Ref sig .tc := ⟨.hbm, 154, rfl⟩
abbrev main_cst_24 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩

abbrev nD : Nat := 1
abbrev τ : Topo := Topo.v7x

variable {F : FTy → Type} [FloatOps F]
-- ==== FinalNorm.lean ====
abbrev S6144x4096 : Shape := ⟨2, ![6144, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S6144x4096, .f32⟩
  | .hbm, ⟨1, _⟩ => ⟨S4096, .f32⟩
  | .hbm, ⟨2, _⟩ => ⟨S1x4096, .f32⟩
  | .hbm, ⟨3, _⟩ => ⟨S6144x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S6144x4096 : Shape := ⟨2, ![6144, 4096]⟩
abbrev S4096 : Shape := ⟨1, ![4096]⟩
abbrev S_ : Shape := ⟨0, ![]⟩
abbrev S6144 : Shape := ⟨1, ![6144]⟩
abbrev S6144x1 : Shape := ⟨2, ![6144, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S4096, .f32⟩
  | .hbm, ⟨2, _⟩ => ⟨S6144x4096, .f32⟩
  | .hbm, ⟨3, _⟩ => ⟨S_, .f32⟩
  | .hbm, ⟨4, _⟩ => ⟨S6144, .f32⟩
  | .hbm, ⟨5, _⟩ => ⟨S6144x1, .f32⟩
  | .hbm, ⟨6, _⟩ => ⟨S_, .f32⟩
  | .hbm, ⟨7, _⟩ => ⟨S6144x1, .f32⟩
  | .hbm, ⟨8, _⟩ => ⟨S6144x1, .f32⟩
  | .hbm, ⟨9, _⟩ => ⟨S_, .f32⟩
  | .hbm, ⟨10, _⟩ => ⟨S6144x1, .f32⟩
  | .hbm, ⟨11, _⟩ => ⟨S6144x1, .f32⟩
  | .hbm, ⟨12, _⟩ => ⟨S6144x1, .f32⟩
  | .hbm, ⟨13, _⟩ => ⟨S6144x4096, .f32⟩
  | .hbm, ⟨14, _⟩ => ⟨S6144x4096, .f32⟩
  | .hbm, ⟨15, _⟩ => ⟨S1x4096, .f32⟩
  | .hbm, ⟨16, _⟩ => ⟨S6144x4096, .f32⟩
  | .hbm, ⟨17, _⟩ => ⟨S6144x4096, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Ada.lean ====
abbrev S8x4096 : Shape := ⟨2, ![8, 4096]⟩
abbrev S4x4096x24576 : Shape := ⟨3, ![4, 4096, 24576]⟩
abbrev S4x24576 : Shape := ⟨2, ![4, 24576]⟩
abbrev S4x1x24576 : Shape := ⟨3, ![4, 1, 24576]⟩
abbrev S4x8x24576 : Shape := ⟨3, ![4, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x24576, .f32⟩
  | .hbm, ⟨3, _⟩ => ⟨S4x1x24576, .f32⟩
  | .hbm, ⟨4, _⟩ => ⟨S4x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x4096 : Shape := ⟨2, ![8, 4096]⟩
abbrev S4x4096x24576 : Shape := ⟨3, ![4, 4096, 24576]⟩
abbrev S4x24576 : Shape := ⟨2, ![4, 24576]⟩
abbrev S_ : Shape := ⟨0, ![]⟩
abbrev S4x24576x8 : Shape := ⟨3, ![4, 24576, 8]⟩
abbrev S4x8x24576 : Shape := ⟨3, ![4, 8, 24576]⟩
abbrev S4x1x24576 : Shape := ⟨3, ![4, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4x24576x8, .f32⟩
  | .hbm, ⟨13, _⟩ => ⟨S4x8x24576, .f32⟩
  | .hbm, ⟨14, _⟩ => ⟨S4x1x24576, .f32⟩
  | .hbm, ⟨15, _⟩ => ⟨S4x8x24576, .f32⟩
  | .hbm, ⟨16, _⟩ => ⟨S4x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== S5Gate.lean ====
abbrev S6144x5632 : Shape := ⟨2, ![6144, 5632]⟩
abbrev S2x6144x1024 : Shape := ⟨3, ![2, 6144, 1024]⟩
abbrev S4x1024 : Shape := ⟨2, ![4, 1024]⟩
abbrev S4x1024x1024 : Shape := ⟨3, ![4, 1024, 1024]⟩
abbrev S4x1x1024 : Shape := ⟨3, ![4, 1, 1024]⟩
abbrev S6144x1024 : Shape := ⟨2, ![6144, 1024]⟩
abbrev S512x512 : Shape := ⟨2, ![512, 512]⟩
abbrev S1x512x1024 : Shape := ⟨3, ![1, 512, 1024]⟩
abbrev S1x1x1024 : Shape := ⟨3, ![1, 1, 1024]⟩
abbrev S1x1024x1024 : Shape := ⟨3, ![1, 1024, 1024]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S6144x5632, .f32⟩
  | .hbm, ⟨1, _⟩ => ⟨S2x6144x1024, .f32⟩
  | .hbm, ⟨2, _⟩ => ⟨S4x1024, .f32⟩
  | .hbm, ⟨3, _⟩ => ⟨S4x1024x1024, .f32⟩
  | .hbm, ⟨4, _⟩ => ⟨S4x1x1024, .f32⟩
  | .hbm, ⟨5, _⟩ => ⟨S6144x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1024x1024, .f32⟩
  | .local _ .vmem, ⟨10, _⟩ => ⟨S512x1024, .bf16⟩
  | .local _ .vmem, ⟨11, _⟩ => ⟨S512x1024, .bf16⟩
  | _, _ => ⟨S6144x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c9_i32 : BitVec 32 := 9#32
  let c0_i32_0 : BitVec 32 := 0#32
  ![v0.toNat, c9_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c10_i32 : BitVec 32 := 10#32
  let c0_i32_0 : BitVec 32 := 0#32
  ![v0.toNat, c10_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== S5GateRefIdeal.lean ====
abbrev S6144x5632 : Shape := ⟨2, ![6144, 5632]⟩
abbrev S2x6144x1024 : Shape := ⟨3, ![2, 6144, 1024]⟩
abbrev S4x1024 : Shape := ⟨2, ![4, 1024]⟩
abbrev S4x1024x1024 : Shape := ⟨3, ![4, 1024, 1024]⟩
abbrev S6144x1024 : Shape := ⟨2, ![6144, 1024]⟩
abbrev S1x1024 : Shape := ⟨2, ![1, 1024]⟩
abbrev S1024 : Shape := ⟨1, ![1024]⟩
abbrev S1x6144x1024 : Shape := ⟨3, ![1, 6144, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 46
  | .vmem => 0
  | .smem => 0
  | _ => 0

abbrev bufTy : (tb : Table) → Fin (tcTables nBuf tb) → BufTy
  | .hbm, ⟨0, _⟩ => ⟨S6144x5632, .f32⟩
  | .hbm, ⟨1, _⟩ => ⟨S2x6144x1024, .f32⟩
  | .hbm, ⟨2, _⟩ => ⟨S4x1024, .f32⟩
  | .hbm, ⟨3, _⟩ => ⟨S4x1024x1024, .f32⟩
  | .hbm, ⟨4, _⟩ => ⟨S6144x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S6144x1024, .f32⟩
  | .hbm, ⟨9, _⟩ => ⟨S6144x1024, .f32⟩
  | .hbm, ⟨10, _⟩ => ⟨S1x6144x1024, .f32⟩
  | .hbm, ⟨11, _⟩ => ⟨S6144x1024, .f32⟩
  | .hbm, ⟨12, _⟩ => ⟨S6144x1024, .f32⟩
  | .hbm, ⟨13, _⟩ => ⟨S1x6144x1024, .f32⟩
  | .hbm, ⟨14, _⟩ => ⟨S6144x1024, .f32⟩
  | .hbm, ⟨15, _⟩ => ⟨S6144x1024, .f32⟩
  | .hbm, ⟨16, _⟩ => ⟨S6144x1024, .f32⟩
  | .hbm, ⟨17, _⟩ => ⟨S6144x1024, .f32⟩
  | .hbm, ⟨18, _⟩ => ⟨S_, .f32⟩
  | .hbm, ⟨19, _⟩ => ⟨S6144x1024, .f32⟩
  | .hbm, ⟨20, _⟩ => ⟨S6144x1024, .f32⟩
  | .hbm, ⟨21, _⟩ => ⟨S6144x1024, .f32⟩
  | .hbm, ⟨22, _⟩ => ⟨S_, .f32⟩
  | .hbm, ⟨23, _⟩ => ⟨S6144x1024, .f32⟩
  | .hbm, ⟨24, _⟩ => ⟨S6144x1024, .f32⟩
  | .hbm, ⟨25, _⟩ => ⟨S6144x1024, .f32⟩
  | .hbm, ⟨26, _⟩ => ⟨S_, .f32⟩
  | .hbm, ⟨27, _⟩ => ⟨S6144x1024, .f32⟩
  | .hbm, ⟨28, _⟩ => ⟨S6144x1024, .f32⟩
  | .hbm, ⟨29, _⟩ => ⟨S_, .f32⟩
  | .hbm, ⟨30, _⟩ => ⟨S6144x1024, .f32⟩
  | .hbm, ⟨31, _⟩ => ⟨S6144x1024, .f32⟩
  | .hbm, ⟨32, _⟩ => ⟨S6144x1024, .f32⟩
  | .hbm, ⟨33, _⟩ => ⟨S1x1024x1024, .f32⟩
  | .hbm, ⟨34, _⟩ => ⟨S1024x1024, .f32⟩
  | .hbm, ⟨35, _⟩ => ⟨S6144x1024, .f32⟩
  | .hbm, ⟨36, _⟩ => ⟨S6144x1024, .f32⟩
  | .hbm, ⟨37, _⟩ => ⟨S6144x1024, .f32⟩
  | .hbm, ⟨38, _⟩ => ⟨S_, .f32⟩
  | .hbm, ⟨39, _⟩ => ⟨S6144x1024, .f32⟩
  | .hbm, ⟨40, _⟩ => ⟨S6144x1024, .f32⟩
  | .hbm, ⟨41, _⟩ => ⟨S_, .f32⟩
  | .hbm, ⟨42, _⟩ => ⟨S6144x1024, .f32⟩
  | .hbm, ⟨43, _⟩ => ⟨S6144x1024, .f32⟩
  | .hbm, ⟨44, _⟩ => ⟨S6144x1024, .f32⟩
  | .hbm, ⟨45, _⟩ => ⟨S6144x1024, .bf16⟩
  | _, _ => ⟨S6144x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== CtxGqa.lean ====
abbrev S6144x5632 : Shape := ⟨2, ![6144, 5632]⟩
abbrev S128 : Shape := ⟨1, ![128]⟩
abbrev S1x128 : Shape := ⟨2, ![1, 128]⟩
abbrev S4096x1024 : Shape := ⟨2, ![4096, 1024]⟩
abbrev S16x2x256x128 : Shape := ⟨4, ![16, 2, 256, 128]⟩
abbrev S256x1024 : Shape := ⟨2, ![256, 1024]⟩
abbrev S256x256 : Shape := ⟨2, ![256, 256]⟩
abbrev S1x2x256x128 : Shape := ⟨4, ![1, 2, 256, 128]⟩
abbrev S256x128 : Shape := ⟨2, ![256, 128]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 8
  | .vmem => 14
  | .smem => 0
  | _ => 0

abbrev bufTy : (tb : Table) → Fin (tcTables nBuf tb) → BufTy
  | .hbm, ⟨0, _⟩ => ⟨S6144x5632, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S4096x1024, .bf16⟩
  | .hbm, ⟨6, _⟩ => ⟨S16x2x256x128, .f32⟩
  | .hbm, ⟨7, _⟩ => ⟨S16x2x256x128, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S1x2x256x128, .f32⟩
  | .local _ .vmem, ⟨11, _⟩ => ⟨S1x2x256x128, .f32⟩
  | .local _ .vmem, ⟨12, _⟩ => ⟨S1x2x256x128, .f32⟩
  | .local _ .vmem, ⟨13, _⟩ => ⟨S1x2x256x128, .f32⟩
  | _, _ => ⟨S6144x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CtxGqaIdeal.lean ====
variable {F : FTy → Type} [FloatOps F] [Named F]
def κ : String → Option EReal := fun
  | "s" => some (((Real.sqrt 128)⁻¹ : ℝ) : EReal)
  | _ => none
-- ==== CtxGqaRefIdeal.lean ====
abbrev S6144x5632 : Shape := ⟨2, ![6144, 5632]⟩
abbrev S128 : Shape := ⟨1, ![128]⟩
abbrev S4096x1536 : Shape := ⟨2, ![4096, 1536]⟩
abbrev S16x256x1536 : Shape := ⟨3, ![16, 256, 1536]⟩
abbrev S16x256x1024 : Shape := ⟨3, ![16, 256, 1024]⟩
abbrev S16x256x256 : Shape := ⟨3, ![16, 256, 256]⟩
abbrev S16x256x8x128 : Shape := ⟨4, ![16, 256, 8, 128]⟩
abbrev S16x8x256x128 : Shape := ⟨4, ![16, 8, 256, 128]⟩
abbrev S_ : Shape := ⟨0, ![]⟩
abbrev S16x8x256 : Shape := ⟨3, ![16, 8, 256]⟩
abbrev S16x8x256x1 : Shape := ⟨4, ![16, 8, 256, 1]⟩
abbrev S1x1x1x128 : Shape := ⟨4, ![1, 1, 1, 128]⟩
abbrev S16x256x2x128 : Shape := ⟨4, ![16, 256, 2, 128]⟩
abbrev S16x2x256x128 : Shape := ⟨4, ![16, 2, 256, 128]⟩
abbrev S16x2x256 : Shape := ⟨3, ![16, 2, 256]⟩
abbrev S16x2x256x1 : Shape := ⟨4, ![16, 2, 256, 1]⟩
abbrev S16x2x4x256x128 : Shape := ⟨5, ![16, 2, 4, 256, 128]⟩
abbrev S16x8x256x256 : Shape := ⟨4, ![16, 8, 256, 256]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S6144x5632, .f32⟩
  | .hbm, ⟨1, _⟩ => ⟨S128, .f32⟩
  | .hbm, ⟨2, _⟩ => ⟨S128, .f32⟩
  | .hbm, ⟨3, _⟩ => ⟨S4096x1536, .f32⟩
  | .hbm, ⟨4, _⟩ => ⟨S16x256x1536, .f32⟩
  | .hbm, ⟨5, _⟩ => ⟨S16x256x1024, .f32⟩
  | .hbm, ⟨6, _⟩ => ⟨S16x256x256, .f32⟩
  | .hbm, ⟨7, _⟩ => ⟨S16x256x256, .f32⟩
  | .hbm, ⟨8, _⟩ => ⟨S16x256x8x128, .f32⟩
  | .hbm, ⟨9, _⟩ => ⟨S16x8x256x128, .f32⟩
  | .hbm, ⟨10, _⟩ => ⟨S16x8x256x128, .f32⟩
  | .hbm, ⟨11, _⟩ => ⟨S_, .f32⟩
  | .hbm, ⟨12, _⟩ => ⟨S16x8x256, .f32⟩
  | .hbm, ⟨13, _⟩ => ⟨S16x8x256x1, .f32⟩
  | .hbm, ⟨14, _⟩ => ⟨S_, .f32⟩
  | .hbm, ⟨15, _⟩ => ⟨S16x8x256x1, .f32⟩
  | .hbm, ⟨16, _⟩ => ⟨S16x8x256x1, .f32⟩
  | .hbm, ⟨17, _⟩ => ⟨S_, .f32⟩
  | .hbm, ⟨18, _⟩ => ⟨S16x8x256x1, .f32⟩
  | .hbm, ⟨19, _⟩ => ⟨S16x8x256x1, .f32⟩
  | .hbm, ⟨20, _⟩ => ⟨S16x8x256x1, .f32⟩
  | .hbm, ⟨21, _⟩ => ⟨S16x8x256x128, .f32⟩
  | .hbm, ⟨22, _⟩ => ⟨S16x8x256x128, .f32⟩
  | .hbm, ⟨23, _⟩ => ⟨S1x1x1x128, .f32⟩
  | .hbm, ⟨24, _⟩ => ⟨S16x8x256x128, .f32⟩
  | .hbm, ⟨25, _⟩ => ⟨S16x8x256x128, .f32⟩
  | .hbm, ⟨26, _⟩ => ⟨S16x256x2x128, .f32⟩
  | .hbm, ⟨27, _⟩ => ⟨S16x2x256x128, .f32⟩
  | .hbm, ⟨28, _⟩ => ⟨S16x2x256x128, .f32⟩
  | .hbm, ⟨29, _⟩ => ⟨S_, .f32⟩
  | .hbm, ⟨30, _⟩ => ⟨S16x2x256, .f32⟩
  | .hbm, ⟨31, _⟩ => ⟨S16x2x256x1, .f32⟩
  | .hbm, ⟨32, _⟩ => ⟨S_, .f32⟩
  | .hbm, ⟨33, _⟩ => ⟨S16x2x256x1, .f32⟩
  | .hbm, ⟨34, _⟩ => ⟨S16x2x256x1, .f32⟩
  | .hbm, ⟨35, _⟩ => ⟨S_, .f32⟩
  | .hbm, ⟨36, _⟩ => ⟨S16x2x256x1, .f32⟩
  | .hbm, ⟨37, _⟩ => ⟨S16x2x256x1, .f32⟩
  | .hbm, ⟨38, _⟩ => ⟨S16x2x256x1, .f32⟩
  | .hbm, ⟨39, _⟩ => ⟨S16x2x256x128, .f32⟩
  | .hbm, ⟨40, _⟩ => ⟨S16x2x256x128, .f32⟩
  | .hbm, ⟨41, _⟩ => ⟨S1x1x1x128, .f32⟩
  | .hbm, ⟨42, _⟩ => ⟨S16x2x256x128, .f32⟩
  | .hbm, ⟨43, _⟩ => ⟨S16x2x256x128, .f32⟩
  | .hbm, ⟨44, _⟩ => ⟨S16x256x2x128, .f32⟩
  | .hbm, ⟨45, _⟩ => ⟨S16x2x256x128, .f32⟩
  | .hbm, ⟨46, _⟩ => ⟨S16x2x4x256x128, .f32⟩
  | .hbm, ⟨47, _⟩ => ⟨S16x8x256x128, .f32⟩
  | .hbm, ⟨48, _⟩ => ⟨S16x2x4x256x128, .f32⟩
  | .hbm, ⟨49, _⟩ => ⟨S16x8x256x128, .f32⟩
  | .hbm, ⟨50, _⟩ => ⟨S16x8x256x256, .f32⟩
  | .hbm, ⟨51, _⟩ => ⟨S_, .f32⟩
  | .hbm, ⟨52, _⟩ => ⟨S_, .f32⟩
  | .hbm, ⟨53, _⟩ => ⟨S16x8x256x256, .f32⟩
  | .hbm, ⟨54, _⟩ => ⟨S16x8x256x256, .f32⟩
  | .hbm, ⟨55, _⟩ => ⟨S_, .f32⟩
  | .hbm, ⟨56, _⟩ => ⟨S16x8x256, .f32⟩
  | .hbm, ⟨57, _⟩ => ⟨S_, .f32⟩
  | .hbm, ⟨58, _⟩ => ⟨S16x8x256, .f32⟩
  | .hbm, ⟨59, _⟩ => ⟨S16x8x256, .f32⟩
  | .hbm, ⟨60, _⟩ => ⟨S16x8x256x1, .f32⟩
  | .hbm, ⟨61, _⟩ => ⟨S16x8x256x256, .f32⟩
  | .hbm, ⟨62, _⟩ => ⟨S16x8x256x256, .f32⟩
  | .hbm, ⟨63, _⟩ => ⟨S16x8x256x256, .f32⟩
  | .hbm, ⟨64, _⟩ => ⟨S_, .f32⟩
  | .hbm, ⟨65, _⟩ => ⟨S16x8x256, .f32⟩
  | .hbm, ⟨66, _⟩ => ⟨S16x8x256x1, .f32⟩
  | .hbm, ⟨67, _⟩ => ⟨S16x8x256x256, .f32⟩
  | .hbm, ⟨68, _⟩ => ⟨S16x8x256x256, .f32⟩
  | .hbm, ⟨69, _⟩ => ⟨S16x8x256x128, .f32⟩
  | .hbm, ⟨70, _⟩ => ⟨S16x256x8x128, .f32⟩
  | .hbm, ⟨71, _⟩ => ⟨S4096x1024, .f32⟩
  | .hbm, ⟨72, _⟩ => ⟨S4096x1024, .bf16⟩
  | _, _ => ⟨S6144x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== LatGqa.lean ====
abbrev S6144x5632 : Shape := ⟨2, ![6144, 5632]⟩
abbrev S2x4x2x512x128 : Shape := ⟨5, ![2, 4, 2, 512, 128]⟩
abbrev S128 : Shape := ⟨1, ![128]⟩
abbrev S1024x32 : Shape := ⟨2, ![1024, 32]⟩
abbrev S1024x128 : Shape := ⟨2, ![1024, 128]⟩
abbrev S1x128 : Shape := ⟨2, ![1, 128]⟩
abbrev S2048x1024 : Shape := ⟨2, ![2048, 1024]⟩
abbrev S1024x512 : Shape := ⟨2, ![1024, 512]⟩
abbrev S1x1x1x512x128 : Shape := ⟨5, ![1, 1, 1, 512, 128]⟩
abbrev S1536x128 : Shape := ⟨2, ![1536, 128]⟩
abbrev S512x128 : Shape := ⟨2, ![512, 128]⟩
abbrev S1024 : Shape := ⟨1, ![1024]⟩
abbrev S1024x1 : Shape := ⟨2, ![1024, 1]⟩
abbrev S256x128 : Shape := ⟨2, ![256, 128]⟩
abbrev S256 : Shape := ⟨1, ![256]⟩
abbrev S256x1 : Shape := ⟨2, ![256, 1]⟩
abbrev S256x1536 : Shape := ⟨2, ![256, 1536]⟩

abbrev nBuf : Space → Nat
  | .hbm => 20
  | .vmem => 18
  | .smem => 0
  | _ => 0

abbrev bufTy : (tb : Table) → Fin (tcTables nBuf tb) → BufTy
  | .hbm, ⟨0, _⟩ => ⟨S6144x5632, .f32⟩
  | .hbm, ⟨1, _⟩ => ⟨S2x4x2x512x128, .f32⟩
  | .hbm, ⟨2, _⟩ => ⟨S2x4x2x512x128, .f32⟩
  | .hbm, ⟨3, _⟩ => ⟨S128, .f32⟩
  | .hbm, ⟨4, _⟩ => ⟨S128, .f32⟩
  | .hbm, ⟨5, _⟩ => ⟨S1024x32, .f32⟩
  | .hbm, ⟨6, _⟩ => ⟨S1024x32, .f32⟩
  | .hbm, ⟨7, _⟩ => ⟨S1024x32, .f32⟩
  | .hbm, ⟨8, _⟩ => ⟨S1024x32, .f32⟩
  | .hbm, ⟨9, _⟩ => ⟨S1024x128, .f32⟩
  | .hbm, ⟨10, _⟩ => ⟨S1024x32, .f32⟩
  | .hbm, ⟨11, _⟩ => ⟨S1024x32, .f32⟩
  | .hbm, ⟨12, _⟩ => ⟨S1024x32, .f32⟩
  | .hbm, ⟨13, _⟩ => ⟨S1024x32, .f32⟩
  | .hbm, ⟨14, _⟩ => ⟨S1024x32, .f32⟩
  | .hbm, ⟨15, _⟩ => ⟨S1024x32, .f32⟩
  | .hbm, ⟨16, _⟩ => ⟨S1024x128, .f32⟩
  | .hbm, ⟨17, _⟩ => ⟨S1x128, .f32⟩
  | .hbm, ⟨18, _⟩ => ⟨S1x128, .f32⟩
  | .hbm, ⟨19, _⟩ => ⟨S2048x1024, .bf16⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1x1x512x128, .f32⟩
  | .local _ .vmem, ⟨7, _⟩ => ⟨S1x1x1x512x128, .f32⟩
  | .local _ .vmem, ⟨8, _⟩ => ⟨S1x1x1x512x128, .f32⟩
  | .local _ .vmem, ⟨9, _⟩ => ⟨S1x1x1x512x128, .f32⟩
  | .local _ .vmem, ⟨10, _⟩ => ⟨S1x128, .f32⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | .local _ .vmem, ⟨14, _⟩ => ⟨S1024x512, .bf16⟩
  | .local _ .vmem, ⟨15, _⟩ => ⟨S1024x512, .bf16⟩
  | .local _ .vmem, ⟨16, _⟩ => ⟨S1536x128, .bf16⟩
  | .local _ .vmem, ⟨17, _⟩ => ⟨S1536x128, .bf16⟩
  | _, _ => ⟨S6144x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c6_i32 : BitVec 32 := 6#32
  let v1 : BitVec 32 := Scalar.addi c6_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c32_i32 : BitVec 32 := 32#32
  let v1 : BitVec 32 := Scalar.addi c32_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c34_i32 : BitVec 32 := 34#32
  let v1 : BitVec 32 := Scalar.addi c34_i32 arg1
  let c0_i32 : BitVec 32 := 0#32
  ![v0.toNat, v1.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LatGqaIdeal.lean ====
variable {F : FTy → Type} [FloatOps F] [Named F]
def κ : String → Option EReal := fun
  | "s" => some (((Real.sqrt 128)⁻¹ : ℝ) : EReal)
  | _ => none
-- ==== LatGqaRefIdeal.lean ====
abbrev S6144x5632 : Shape := ⟨2, ![6144, 5632]⟩
abbrev S2x4x2x512x128 : Shape := ⟨5, ![2, 4, 2, 512, 128]⟩
abbrev S128 : Shape := ⟨1, ![128]⟩
abbrev S1024x32 : Shape := ⟨2, ![1024, 32]⟩
abbrev S2048x1536 : Shape := ⟨2, ![2048, 1536]⟩
abbrev S2x1024x1536 : Shape := ⟨3, ![2, 1024, 1536]⟩
abbrev S2x1024x1024 : Shape := ⟨3, ![2, 1024, 1024]⟩
abbrev S2x1024x256 : Shape := ⟨3, ![2, 1024, 256]⟩
abbrev S2x1024x8x128 : Shape := ⟨4, ![2, 1024, 8, 128]⟩
abbrev S2x8x1024x128 : Shape := ⟨4, ![2, 8, 1024, 128]⟩
abbrev S_ : Shape := ⟨0, ![]⟩
abbrev S2x8x1024 : Shape := ⟨3, ![2, 8, 1024]⟩
abbrev S2x8x1024x1 : Shape := ⟨4, ![2, 8, 1024, 1]⟩
abbrev S1x1x1x128 : Shape := ⟨4, ![1, 1, 1, 128]⟩
abbrev S2x8x1024x64 : Shape := ⟨4, ![2, 8, 1024, 64]⟩
abbrev S2x8x1024x32 : Shape := ⟨4, ![2, 8, 1024, 32]⟩
abbrev S1x1x1024x32 : Shape := ⟨4, ![1, 1, 1024, 32]⟩
abbrev S2x1024x2x128 : Shape := ⟨4, ![2, 1024, 2, 128]⟩
abbrev S2x2x1024x128 : Shape := ⟨4, ![2, 2, 1024, 128]⟩
abbrev S2x2x1024 : Shape := ⟨3, ![2, 2, 1024]⟩
abbrev S2x2x1024x1 : Shape := ⟨4, ![2, 2, 1024, 1]⟩
abbrev S2x2x1024x64 : Shape := ⟨4, ![2, 2, 1024, 64]⟩
abbrev S2x2x1024x32 : Shape := ⟨4, ![2, 2, 1024, 32]⟩
abbrev S2x1x2x512x128 : Shape := ⟨5, ![2, 1, 2, 512, 128]⟩
abbrev S2x2x512x128 : Shape := ⟨4, ![2, 2, 512, 128]⟩
abbrev S2x2x1536x128 : Shape := ⟨4, ![2, 2, 1536, 128]⟩
abbrev S2x2x4x1536x128 : Shape := ⟨5, ![2, 2, 4, 1536, 128]⟩
abbrev S2x8x1536x128 : Shape := ⟨4, ![2, 8, 1536, 128]⟩
abbrev S2x8x1024x1536 : Shape := ⟨4, ![2, 8, 1024, 1536]⟩
abbrev S2048x1024 : Shape := ⟨2, ![2048, 1024]⟩

abbrev nBuf : Space → Nat
  | .hbm => 165
  | .vmem => 0
  | .smem => 0
  | _ => 0

abbrev hbmTy0_0 (i : Nat) : BufTy := match i % 128 with
  | 0 => ⟨S6144x5632, .f32⟩
  | 1 => ⟨S2x4x2x512x128, .f32⟩
  | 2 => ⟨S2x4x2x512x128, .f32⟩
  | 3 => ⟨S128, .f32⟩
  | 4 => ⟨S128, .f32⟩
  | 5 => ⟨S1024x32, .f32⟩
  | 6 => ⟨S1024x32, .f32⟩
  | 7 => ⟨S2048x1536, .f32⟩
  | 8 => ⟨S2x1024x1536, .f32⟩
  | 9 => ⟨S2x1024x1024, .f32⟩
  | 10 => ⟨S2x1024x256, .f32⟩
  | 11 => ⟨S2x1024x256, .f32⟩
  | 12 => ⟨S2x1024x8x128, .f32⟩
  | 13 => ⟨S2x8x1024x128, .f32⟩
  | 14 => ⟨S2x8x1024x128, .f32⟩
  | 15 => ⟨S_, .f32⟩
  | 16 => ⟨S2x8x1024, .f32⟩
  | 17 => ⟨S2x8x1024x1, .f32⟩
  | 18 => ⟨S_, .f32⟩
  | 19 => ⟨S2x8x1024x1, .f32⟩
  | 20 => ⟨S2x8x1024x1, .f32⟩
  | 21 => ⟨S_, .f32⟩
  | 22 => ⟨S2x8x1024x1, .f32⟩
  | 23 => ⟨S2x8x1024x1, .f32⟩
  | 24 => ⟨S2x8x1024x1, .f32⟩
  | 25 => ⟨S2x8x1024x128, .f32⟩
  | 26 => ⟨S2x8x1024x128, .f32⟩
  | 27 => ⟨S1x1x1x128, .f32⟩
  | 28 => ⟨S2x8x1024x128, .f32⟩
  | 29 => ⟨S2x8x1024x128, .f32⟩
  | 30 => ⟨S2x8x1024x64, .f32⟩
  | 31 => ⟨S2x8x1024x64, .f32⟩
  | 32 => ⟨S2x8x1024x32, .f32⟩
  | 33 => ⟨S2x8x1024x32, .f32⟩
  | 34 => ⟨S1024x32, .f32⟩
  | 35 => ⟨S1024x32, .f32⟩
  | 36 => ⟨S1x1x1024x32, .f32⟩
  | 37 => ⟨S2x8x1024x32, .f32⟩
  | 38 => ⟨S2x8x1024x32, .f32⟩
  | 39 => ⟨S1x1x1024x32, .f32⟩
  | 40 => ⟨S2x8x1024x32, .f32⟩
  | 41 => ⟨S2x8x1024x32, .f32⟩
  | 42 => ⟨S2x8x1024x32, .f32⟩
  | 43 => ⟨S1x1x1024x32, .f32⟩
  | 44 => ⟨S2x8x1024x32, .f32⟩
  | 45 => ⟨S2x8x1024x32, .f32⟩
  | 46 => ⟨S1x1x1024x32, .f32⟩
  | 47 => ⟨S2x8x1024x32, .f32⟩
  | 48 => ⟨S2x8x1024x32, .f32⟩
  | 49 => ⟨S2x8x1024x32, .f32⟩
  | 50 => ⟨S2x8x1024x64, .f32⟩
  | 51 => ⟨S2x8x1024x32, .f32⟩
  | 52 => ⟨S2x8x1024x32, .f32⟩
  | 53 => ⟨S1024x32, .f32⟩
  | 54 => ⟨S1024x32, .f32⟩
  | 55 => ⟨S1x1x1024x32, .f32⟩
  | 56 => ⟨S2x8x1024x32, .f32⟩
  | 57 => ⟨S2x8x1024x32, .f32⟩
  | 58 => ⟨S1x1x1024x32, .f32⟩
  | 59 => ⟨S2x8x1024x32, .f32⟩
  | 60 => ⟨S2x8x1024x32, .f32⟩
  | 61 => ⟨S2x8x1024x32, .f32⟩
  | 62 => ⟨S1x1x1024x32, .f32⟩
  | 63 => ⟨S2x8x1024x32, .f32⟩
  | 64 => ⟨S2x8x1024x32, .f32⟩
  | 65 => ⟨S1x1x1024x32, .f32⟩
  | 66 => ⟨S2x8x1024x32, .f32⟩
  | 67 => ⟨S2x8x1024x32, .f32⟩
  | 68 => ⟨S2x8x1024x32, .f32⟩
  | 69 => ⟨S2x8x1024x64, .f32⟩
  | 70 => ⟨S2x8x1024x128, .f32⟩
  | 71 => ⟨S2x1024x2x128, .f32⟩
  | 72 => ⟨S2x2x1024x128, .f32⟩
  | 73 => ⟨S2x2x1024x128, .f32⟩
  | 74 => ⟨S_, .f32⟩
  | 75 => ⟨S2x2x1024, .f32⟩
  | 76 => ⟨S2x2x1024x1, .f32⟩
  | 77 => ⟨S_, .f32⟩
  | 78 => ⟨S2x2x1024x1, .f32⟩
  | 79 => ⟨S2x2x1024x1, .f32⟩
  | 80 => ⟨S_, .f32⟩
  | 81 => ⟨S2x2x1024x1, .f32⟩
  | 82 => ⟨S2x2x1024x1, .f32⟩
  | 83 => ⟨S2x2x1024x1, .f32⟩
  | 84 => ⟨S2x2x1024x128, .f32⟩
  | 85 => ⟨S2x2x1024x128, .f32⟩
  | 86 => ⟨S1x1x1x128, .f32⟩
  | 87 => ⟨S2x2x1024x128, .f32⟩
  | 88 => ⟨S2x2x1024x128, .f32⟩
  | 89 => ⟨S2x2x1024x64, .f32⟩
  | 90 => ⟨S2x2x1024x64, .f32⟩
  | 91 => ⟨S2x2x1024x32, .f32⟩
  | 92 => ⟨S2x2x1024x32, .f32⟩
  | 93 => ⟨S1024x32, .f32⟩
  | 94 => ⟨S1024x32, .f32⟩
  | 95 => ⟨S1x1x1024x32, .f32⟩
  | 96 => ⟨S2x2x1024x32, .f32⟩
  | 97 => ⟨S2x2x1024x32, .f32⟩
  | 98 => ⟨S1x1x1024x32, .f32⟩
  | 99 => ⟨S2x2x1024x32, .f32⟩
  | 100 => ⟨S2x2x1024x32, .f32⟩
  | 101 => ⟨S2x2x1024x32, .f32⟩
  | 102 => ⟨S1x1x1024x32, .f32⟩
  | 103 => ⟨S2x2x1024x32, .f32⟩
  | 104 => ⟨S2x2x1024x32, .f32⟩
  | 105 => ⟨S1x1x1024x32, .f32⟩
  | 106 => ⟨S2x2x1024x32, .f32⟩
  | 107 => ⟨S2x2x1024x32, .f32⟩
  | 108 => ⟨S2x2x1024x32, .f32⟩
  | 109 => ⟨S2x2x1024x64, .f32⟩
  | 110 => ⟨S2x2x1024x32, .f32⟩
  | 111 => ⟨S2x2x1024x32, .f32⟩
  | 112 => ⟨S1024x32, .f32⟩
  | 113 => ⟨S1024x32, .f32⟩
  | 114 => ⟨S1x1x1024x32, .f32⟩
  | 115 => ⟨S2x2x1024x32, .f32⟩
  | 116 => ⟨S2x2x1024x32, .f32⟩
  | 117 => ⟨S1x1x1024x32, .f32⟩
  | 118 => ⟨S2x2x1024x32, .f32⟩
  | 119 => ⟨S2x2x1024x32, .f32⟩
  | 120 => ⟨S2x2x1024x32, .f32⟩
  | 121 => ⟨S1x1x1024x32, .f32⟩
  | 122 => ⟨S2x2x1024x32, .f32⟩
  | 123 => ⟨S2x2x1024x32, .f32⟩
  | 124 => ⟨S1x1x1024x32, .f32⟩
  | 125 => ⟨S2x2x1024x32, .f32⟩
  | 126 => ⟨S2x2x1024x32, .f32⟩
  | 127 => ⟨S2x2x1024x32, .f32⟩
  | _ => ⟨S6144x5632, .f32⟩

abbrev hbmTy0_1 (i : Nat) : BufTy := match i % 128 with
  | 0 => ⟨S2x2x1024x64, .f32⟩
  | 1 => ⟨S2x2x1024x128, .f32⟩
  | 2 => ⟨S2x1x2x512x128, .f32⟩
  | 3 => ⟨S2x2x512x128, .f32⟩
  | 4 => ⟨S2x2x1536x128, .f32⟩
  | 5 => ⟨S2x1x2x512x128, .f32⟩
  | 6 => ⟨S2x2x512x128, .f32⟩
  | 7 => ⟨S2x1024x2x128, .f32⟩
  | 8 => ⟨S2x2x1024x128, .f32⟩
  | 9 => ⟨S2x2x1536x128, .f32⟩
  | 10 => ⟨S2x2x4x1536x128, .f32⟩
  | 11 => ⟨S2x8x1536x128, .f32⟩
  | 12 => ⟨S2x2x4x1536x128, .f32⟩
  | 13 => ⟨S2x8x1536x128, .f32⟩
  | 14 => ⟨S2x8x1024x1536, .f32⟩
  | 15 => ⟨S_, .f32⟩
  | 16 => ⟨S_, .f32⟩
  | 17 => ⟨S2x8x1024x1536, .f32⟩
  | 18 => ⟨S2x8x1024x1536, .f32⟩
  | 19 => ⟨S_, .f32⟩
  | 20 => ⟨S2x8x1024, .f32⟩
  | 21 => ⟨S_, .f32⟩
  | 22 => ⟨S2x8x1024, .f32⟩
  | 23 => ⟨S2x8x1024, .f32⟩
  | 24 => ⟨S2x8x1024x1, .f32⟩
  | 25 => ⟨S2x8x1024x1536, .f32⟩
  | 26 => ⟨S2x8x1024x1536, .f32⟩
  | 27 => ⟨S2x8x1024x1536, .f32⟩
  | 28 => ⟨S_, .f32⟩
  | 29 => ⟨S2x8x1024, .f32⟩
  | 30 => ⟨S2x8x1024x1, .f32⟩
  | 31 => ⟨S2x8x1024x1536, .f32⟩
  | 32 => ⟨S2x8x1024x1536, .f32⟩
  | 33 => ⟨S2x8x1024x128, .f32⟩
  | 34 => ⟨S2x1024x8x128, .f32⟩
  | 35 => ⟨S2048x1024, .f32⟩
  | 36 => ⟨S2048x1024, .bf16⟩
  | _ => ⟨S6144x5632, .f32⟩

abbrev hbmTy (i : Nat) : BufTy := match i / 128 with
  | 0 => hbmTy0_0 i
  | 1 => hbmTy0_1 i
  | _ => ⟨S6144x5632, .f32⟩

abbrev bufTy : (tb : Table) → Fin (tcTables nBuf tb) → BufTy
  | .hbm, ⟨i, _⟩ => hbmTy i
  | _, _ => ⟨S6144x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_2 : Ref sig .tc := ⟨.hbm, 74, rfl⟩
abbrev main_v64 : Ref sig .tc := ⟨.hbm, 75, rfl⟩
abbrev main_v65 : Ref sig .tc := ⟨.hbm, 76, rfl⟩
abbrev main_cst_3 : Ref sig .tc := ⟨.hbm, 77, rfl⟩
abbrev main_v66 : Ref sig .tc := ⟨.hbm, 78, rfl⟩
abbrev main_v67 : Ref sig .tc := ⟨.hbm, 79, rfl⟩
abbrev main_cst_4 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_cst_5 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_cst_6 : Ref sig .tc := ⟨.hbm, 147, rfl⟩
abbrev main_v133 : Ref sig .tc := ⟨.hbm, 148, rfl⟩
abbrev main_cst_7 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_cst_8 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩

abbrev nD : Nat := 1
abbrev τ : Topo := Topo.v7x

variable {F : FTy → Type} [FloatOps F]
-- ==== S5Disc.lean ====
abbrev S2x64x64 : Shape := ⟨3, ![2, 64, 64]⟩
abbrev S2x64 : Shape := ⟨2, ![2, 64]⟩
abbrev S2x64x64x16 : Shape := ⟨4, ![2, 64, 64, 16]⟩
abbrev S2x64x1x64 : Shape := ⟨4, ![2, 64, 1, 64]⟩
abbrev S2x64x16x64 : Shape := ⟨4, ![2, 64, 16, 64]⟩
abbrev S2048x64 : Shape := ⟨2, ![2048, 64]⟩
abbrev S2x64x1x1 : Shape := ⟨4, ![2, 64, 1, 1]⟩

abbrev nBuf : Space → Nat
  | .hbm => 23
  | .vmem => 9
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64, .f32⟩
  | .hbm, ⟨3, _⟩ => ⟨S2x64x64x16, .f32⟩
  | .hbm, ⟨4, _⟩ => ⟨S2x64x64x16, .f32⟩
  | .hbm, ⟨5, _⟩ => ⟨S2x64, .f32⟩
  | .hbm, ⟨6, _⟩ => ⟨S2x64x1x64, .f32⟩
  | .hbm, ⟨7, _⟩ => ⟨S2x64x16x64, .f32⟩
  | .hbm, ⟨8, _⟩ => ⟨S2048x64, .f32⟩
  | .hbm, ⟨9, _⟩ => ⟨S2x64x1x64, .f32⟩
  | .hbm, ⟨10, _⟩ => ⟨S2x64x16x64, .f32⟩
  | .hbm, ⟨11, _⟩ => ⟨S2048x64, .f32⟩
  | .hbm, ⟨12, _⟩ => ⟨S2x64x1x1, .f32⟩
  | .hbm, ⟨13, _⟩ => ⟨S2x64x16x64, .f32⟩
  | .hbm, ⟨14, _⟩ => ⟨S2048x64, .f32⟩
  | .hbm, ⟨15, _⟩ => ⟨S2x64x16x64, .f32⟩
  | .hbm, ⟨16, _⟩ => ⟨S2048x64, .f32⟩
  | .hbm, ⟨17, _⟩ => ⟨S2x64x16x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | _, _ => ⟨S2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== S5DiscRefIdeal.lean ====
abbrev S2x64x64 : Shape := ⟨3, ![2, 64, 64]⟩
abbrev S2x64 : Shape := ⟨2, ![2, 64]⟩
abbrev S2x64x64x16 : Shape := ⟨4, ![2, 64, 64, 16]⟩
abbrev S2x64x1 : Shape := ⟨3, ![2, 64, 1]⟩
abbrev S_ : Shape := ⟨0, ![]⟩
abbrev S2x64x64x1 : Shape := ⟨4, ![2, 64, 64, 1]⟩
abbrev S2x64x16x64 : Shape := ⟨4, ![2, 64, 16, 64]⟩
abbrev S2048x64 : Shape := ⟨2, ![2048, 64]⟩

abbrev nBuf : Space → Nat
  | .hbm => 58
  | .vmem => 0
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64, .f32⟩
  | .hbm, ⟨3, _⟩ => ⟨S2x64x64x16, .f32⟩
  | .hbm, ⟨4, _⟩ => ⟨S2x64x64x16, .f32⟩
  | .hbm, ⟨5, _⟩ => ⟨S2x64, .f32⟩
  | .hbm, ⟨6, _⟩ => ⟨S2x64x1, .f32⟩
  | .hbm, ⟨7, _⟩ => ⟨S2x64x64, .f32⟩
  | .hbm, ⟨8, _⟩ => ⟨S2x64x64, .f32⟩
  | .hbm, ⟨9, _⟩ => ⟨S2x64x64, .f32⟩
  | .hbm, ⟨10, _⟩ => ⟨S2x64x64, .f32⟩
  | .hbm, ⟨11, _⟩ => ⟨S2x64x64, .f32⟩
  | .hbm, ⟨12, _⟩ => ⟨S2x64x64, .f32⟩
  | .hbm, ⟨13, _⟩ => ⟨S2x64x64, .f32⟩
  | .hbm, ⟨14, _⟩ => ⟨S2x64x64, .f32⟩
  | .hbm, ⟨15, _⟩ => ⟨S2x64x64, .f32⟩
  | .hbm, ⟨16, _⟩ => ⟨S2x64x64, .f32⟩
  | .hbm, ⟨17, _⟩ => ⟨S2x64x64, .f32⟩
  | .hbm, ⟨18, _⟩ => ⟨S2x64x64, .f32⟩
  | .hbm, ⟨19, _⟩ => ⟨S2x64x64, .f32⟩
  | .hbm, ⟨20, _⟩ => ⟨S2x64x64, .f32⟩
  | .hbm, ⟨21, _⟩ => ⟨S_, .f32⟩
  | .hbm, ⟨22, _⟩ => ⟨S2x64x64, .f32⟩
  | .hbm, ⟨23, _⟩ => ⟨S2x64x64, .f32⟩
  | .hbm, ⟨24, _⟩ => ⟨S2x64x64, .f32⟩
  | .hbm, ⟨25, _⟩ => ⟨S2x64x64, .f32⟩
  | .hbm, ⟨26, _⟩ => ⟨S2x64x64, .f32⟩
  | .hbm, ⟨27, _⟩ => ⟨S2x64x64, .f32⟩
  | .hbm, ⟨28, _⟩ => ⟨S2x64x64, .f32⟩
  | .hbm, ⟨29, _⟩ => ⟨S2x64x64, .f32⟩
  | .hbm, ⟨30, _⟩ => ⟨S2x64x64, .f32⟩
  | .hbm, ⟨31, _⟩ => ⟨S2x64x64, .f32⟩
  | .hbm, ⟨32, _⟩ => ⟨S2x64x64x1, .f32⟩
  | .hbm, ⟨33, _⟩ => ⟨S2x64x64x16, .f32⟩
  | .hbm, ⟨34, _⟩ => ⟨S2x64x64x16, .f32⟩
  | .hbm, ⟨35, _⟩ => ⟨S2x64x64x1, .f32⟩
  | .hbm, ⟨36, _⟩ => ⟨S2x64x64x16, .f32⟩
  | .hbm, ⟨37, _⟩ => ⟨S2x64x64x16, .f32⟩
  | .hbm, ⟨38, _⟩ => ⟨S2x64x64x16, .f32⟩
  | .hbm, ⟨39, _⟩ => ⟨S2x64x64x1, .f32⟩
  | .hbm, ⟨40, _⟩ => ⟨S2x64x64x16, .f32⟩
  | .hbm, ⟨41, _⟩ => ⟨S2x64x64x16, .f32⟩
  | .hbm, ⟨42, _⟩ => ⟨S2x64x64x1, .f32⟩
  | .hbm, ⟨43, _⟩ => ⟨S2x64x64x16, .f32⟩
  | .hbm, ⟨44, _⟩ => ⟨S2x64x64x16, .f32⟩
  | .hbm, ⟨45, _⟩ => ⟨S2x64x64x16, .f32⟩
  | .hbm, ⟨46, _⟩ => ⟨S2x64x64x1, .f32⟩
  | .hbm, ⟨47, _⟩ => ⟨S2x64x64x16, .f32⟩
  | .hbm, ⟨48, _⟩ => ⟨S2x64x16x64, .f32⟩
  | .hbm, ⟨49, _⟩ => ⟨S2048x64, .f32⟩
  | .hbm, ⟨50, _⟩ => ⟨S2x64x64x1, .f32⟩
  | .hbm, ⟨51, _⟩ => ⟨S2x64x64x16, .f32⟩
  | .hbm, ⟨52, _⟩ => ⟨S2x64x16x64, .f32⟩
  | .hbm, ⟨53, _⟩ => ⟨S2048x64, .f32⟩
  | .hbm, ⟨54, _⟩ => ⟨S2x64x16x64, .f32⟩
  | .hbm, ⟨55, _⟩ => ⟨S2048x64, .f32⟩
  | .hbm, ⟨56, _⟩ => ⟨S2x64x16x64, .f32⟩
  | .hbm, ⟨57, _⟩ => ⟨S2048x64, .f32⟩
  | _, _ => ⟨S2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩

abbrev nD : Nat := 1
abbrev τ : Topo := Topo.v7x

variable {F : FTy → Type} [FloatOps F]
-- ==== Proof.Softmax.lean ====
/- The softmax-weighted sum both the kernels and the references compute, as one function of a row of scores, and the
   two ways its scores are scaled: the kernel multiplies by the named `1/√128`, the reference divides by `√128`. -/
module

public import Idealize.ShloMosaic.Lib.Pipeline.ValueKit

@[expose] public section

noncomputable section

namespace Cert.Attn

open Idealize.ShloMosaic

/-- The largest score of a row, as both programs compute it: folded from the float word of minus infinity. -/
def rowMax {n : ℕ} (s : Fin n → EReal) : EReal :=
  Finset.fold max (Ideal.ofBits .f32 4286578688#32) s Finset.univ

/-- The softmax of a row of scores `s`, weighting the values `v`. -/
def soft {n : ℕ} (s v : Fin n → EReal) : EReal :=
  ∑ l, Ideal.div (Ideal.exp (s l - rowMax s)) (∑ l', Ideal.exp (s l' - rowMax s)) * v l

/-- Equal operations fold equally. -/
theorem fold_op {ι α : Type} (op op' : α → α → α) [Std.Commutative op] [Std.Associative op] [Std.Commutative op'] [Std.Associative op']
    (h : op = op') (b b' : α) (hb : b = b') (f : ι → α) (s : Finset ι) : s.fold op b f = s.fold op' b' f := by
  subst h hb; rfl

/-- The reference takes the maximum with minus infinity once more, which changes nothing. -/
theorem max_rowMax {n : ℕ} (s : Fin n → EReal) :
    max (Ideal.ofBits .f32 4286578688#32) (rowMax s) = rowMax s :=
  max_eq_right ((Finset.le_fold_max _).2 (Or.inl le_rfl))

/-- The float word `128.0` is the real 128. -/
theorem ofBits_128 : Ideal.ofBits .f32 1124073472#32 = ((128 : ℝ) : EReal) := by
  simp [Ideal.ofBits, Ideal.ieee, -EReal.coe_mul]; norm_num

/-- Dividing by the root of 128 is multiplying by its reciprocal, on all extended reals. -/
theorem div_sqrt (x : EReal) :
    Ideal.div x (Ideal.sqrt (Ideal.ofBits .f32 1124073472#32)) = x * (((Real.sqrt 128)⁻¹ : ℝ) : EReal) := by
  rw [ofBits_128, Ideal.sqrt_coe, if_neg (by norm_num),
    Ideal.div_coe (show Real.sqrt 128 ≠ 0 from (Real.sqrt_pos.mpr (by norm_num)).ne'), one_div]

/-- Equal scores and equal values give equal weighted sums. -/
theorem soft_congr {n : ℕ} {s s' v v' : Fin n → EReal} (hs : ∀ l, s l = s' l) (hv : ∀ l, v l = v' l) :
    soft s v = soft s' v' := by
  rw [funext hs, funext hv]

end Cert.Attn

end
-- ==== Proof.CtxValue.lean ====
/- The value of the context attention call: the three arrays the kernel leaves are the attention of the sixteen
   prompts, their keys and their values, as the reference computes them. -/
module

public import proofs.«01_k».proof.Proof.Gen.CtxIdeal.Frame
public import proofs.«01_k».proof.Proof.Gen.CtxRefIdeal.Run
public import proofs.«01_k».proof.Proof.Softmax
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.CtxIdeal.Whole
open Cert.CtxIdeal Cert.CtxIdeal.Gen Cert.Attn
/-- The named scale of the kernel is the reciprocal of the root of 128. -/
theorem named_s : Named.named (F := Ideal) κ "s" (φ := .f32) 0x3DB504F3#32 = (((Real.sqrt 128)⁻¹ : ℝ) : EReal) :=
  IdealRules.named_const.ideal_named_scalar _ _ _ _ rfl

/-- One head's payload at an index: the softmax of the scaled scores, weighting the values. -/
theorem pay (k v q : FVec Ideal S256x128 .f32) (x : S256x128.Idx) :
    k0_pay2 (F := Ideal) k v q x =
    soft (fun l : Fin 256 => (∑ d : Fin 128, q (ix2 (x 0) d) * k (ix2 l d)) * (((Real.sqrt 128)⁻¹ : ℝ) : EReal))
      (fun l => v (ix2 l (x 1))) := by
  pointwise [k0_pay2]
  rw [named_s]; rfl
variable (m : (ℓ : Loc nD τ sig) → Buf (Elt Ideal) ℓ)

/-- Which block each window holds at grid point `t`: prompt `t`. -/
theorem idx : ∀ t : Fin cfg0.N, win0_0.index t = ![t.val, 0] ∧ win0_1.index t = ![t.val, 1] ∧ win0_2.index t = ![t.val, 2]
    ∧ win0_3.index t = ![t.val, 0] ∧ win0_4.index t = ![t.val, 0, 0, 0] ∧ win0_5.index t = ![t.val, 0, 0, 0] :=
  (by decide +kernel : ∀ t : Fin grid0.N, _)

/-- Column `e` of the token at position `r` of prompt `b`. -/
abbrev TOK (X : FVec Ideal S6144x5632 .f32) (b : Fin 16) (r : Fin 256) (e : ℕ) (he : e < 5632) : EReal :=
  X (ix2 ⟨b.val * 256 + r.val, by omega⟩ ⟨e, he⟩)

/-- The attention of head `h` of prompt `b` at position `r`, component `e`. -/
abbrev HEAD (X : FVec Ideal S6144x5632 .f32) (b : Fin 16) (r : Fin 256) (h : Fin 8) (e : Fin 128) : EReal :=
  soft (fun l : Fin 256 => (∑ d : Fin 128, TOK X b r (h.val * 128 + d.val) (by omega) * TOK X b l (1024 + (h.val * 128 + d.val)) (by omega))
      * (((Real.sqrt 128)⁻¹ : ℝ) : EReal))
    (fun l => TOK X b l (2048 + (h.val * 128 + e.val)) (by omega))

/-- The tokens of the sixteen prompts, their first 3072 columns. -/
abbrev QKV (X : FVec Ideal S6144x5632 .f32) : FVec Ideal Cert.CtxRefIdeal.S16x256x3072 .f32 :=
  shapeCast _ (extractStridedSlice Cert.CtxRefIdeal.S4096x3072 ![0, 0] X Cert.CtxRefIdeal.Gen.slices_S6144x5632_S4096x3072_0_0) Cert.CtxRefIdeal.Gen.shapeCasts_S4096x3072_S16x256x3072

/-- The reference's queries, by prompt, head, position and component. -/
def RQ (X : FVec Ideal S6144x5632 .f32) : FVec Ideal S16x8x256x128 .f32 :=
  transpose S16x8x256x128 [0, 2, 1, 3] (shapeCast _ (extractStridedSlice Cert.CtxRefIdeal.S16x256x1024 ![0, 0, 0] (QKV X)
    Cert.CtxRefIdeal.Gen.slices_S16x256x3072_S16x256x1024_0_0_0) Cert.CtxRefIdeal.Gen.shapeCasts_S16x256x1024_S16x256x8x128)
    Cert.CtxRefIdeal.Gen.transposes_S16x256x8x128_S16x8x256x128_0_2_1_3

/-- The reference's keys, which are also its second result. -/
def RK (X : FVec Ideal S6144x5632 .f32) : FVec Ideal S16x8x256x128 .f32 :=
  transpose S16x8x256x128 [0, 2, 1, 3] (shapeCast _ (extractStridedSlice Cert.CtxRefIdeal.S16x256x1024 ![0, 0, 1024] (QKV X)
    Cert.CtxRefIdeal.Gen.slices_S16x256x3072_S16x256x1024_0_0_1024) Cert.CtxRefIdeal.Gen.shapeCasts_S16x256x1024_S16x256x8x128)
    Cert.CtxRefIdeal.Gen.transposes_S16x256x8x128_S16x8x256x128_0_2_1_3

/-- The reference's values, which are also its third result. -/
def RV (X : FVec Ideal S6144x5632 .f32) : FVec Ideal S16x8x256x128 .f32 :=
  transpose S16x8x256x128 [0, 2, 1, 3] (shapeCast _ (extractStridedSlice Cert.CtxRefIdeal.S16x256x1024 ![0, 0, 2048] (QKV X)
    Cert.CtxRefIdeal.Gen.slices_S16x256x3072_S16x256x1024_0_0_2048) Cert.CtxRefIdeal.Gen.shapeCasts_S16x256x1024_S16x256x8x128)
    Cert.CtxRefIdeal.Gen.transposes_S16x256x8x128_S16x8x256x128_0_2_1_3

/-- The reference's scaled scores. -/
def RS (q k : FVec Ideal S16x8x256x128 .f32) : FVec Ideal Cert.CtxRefIdeal.S16x8x256x256 .f32 :=
  Host.divf (Host.dotGeneral Cert.CtxRefIdeal.dot_S16x8x256x128_S16x8x256x128_S16x8x256x256_3_3_2_2_01_01 none q k)
    (broadcastInDim Cert.CtxRefIdeal.S16x8x256x256 ![] Cert.CtxRefIdeal.Gen.bcast_S_S16x8x256x256
      (Host.sqrt (constant Cert.CtxRefIdeal.S_ .f32 0x43000000#32)))

/-- The reference's largest score of every row. -/
def RM (s : FVec Ideal Cert.CtxRefIdeal.S16x8x256x256 .f32) : FVec Ideal Cert.CtxRefIdeal.S16x8x256 .f32 :=
  Host.reduce FloatOps.maximumf s (constant Cert.CtxRefIdeal.S_ .f32 0xFF800000#32)
    Cert.CtxRefIdeal.Gen.reducesTo_S16x8x256x256_S16x8x256_d3 Cert.CtxRefIdeal.Gen.h_S_

/-- The reference's exponentials of scores less their row's maximum. -/
def RE (s : FVec Ideal Cert.CtxRefIdeal.S16x8x256x256 .f32) (mx : FVec Ideal Cert.CtxRefIdeal.S16x8x256 .f32) : FVec Ideal Cert.CtxRefIdeal.S16x8x256x256 .f32 :=
  Host.exp (subf s (broadcastInDim Cert.CtxRefIdeal.S16x8x256x256 ![0, 1, 2, 3] Cert.CtxRefIdeal.Gen.bcast_S16x8x256x1_S16x8x256x256_0_1_2_3
    (broadcastInDim Cert.CtxRefIdeal.S16x8x256x1 ![0, 1, 2] Cert.CtxRefIdeal.Gen.bcast_S16x8x256_S16x8x256x1_0_1_2
      (maximumf (broadcastInDim Cert.CtxRefIdeal.S16x8x256 ![] Cert.CtxRefIdeal.Gen.bcast_S_S16x8x256 (constant Cert.CtxRefIdeal.S_ .f32 0xFF800000#32))
        mx))))

/-- The reference's weighted sum of the values. -/
def RO (s : FVec Ideal Cert.CtxRefIdeal.S16x8x256x256 .f32) (v : FVec Ideal S16x8x256x128 .f32) : FVec Ideal S16x8x256x128 .f32 :=
  Host.dotGeneral Cert.CtxRefIdeal.dot_S16x8x256x256_S16x8x256x128_S16x8x256x128_3_2_2_3_01_01 none
    (Host.divf (RE s (RM s)) (broadcastInDim Cert.CtxRefIdeal.S16x8x256x256 ![0, 1, 2, 3] Cert.CtxRefIdeal.Gen.bcast_S16x8x256x1_S16x8x256x256_0_1_2_3
      (broadcastInDim Cert.CtxRefIdeal.S16x8x256x1 ![0, 1, 2] Cert.CtxRefIdeal.Gen.bcast_S16x8x256_S16x8x256x1_0_1_2
        (Host.reduceAdd (RE s (RM s)) (constant Cert.CtxRefIdeal.S_ .f32 0x00000000#32)
          Cert.CtxRefIdeal.Gen.reducesTo_S16x8x256x256_S16x8x256_d3 Cert.CtxRefIdeal.Gen.h_S_)))) v

/-- The reference's first result: heads side by side. -/
def RY (X : FVec Ideal S6144x5632 .f32) : FVec Ideal S4096x1024 .bf16 :=
  truncf .bf16 (shapeCast _ (transpose Cert.CtxRefIdeal.S16x256x8x128 [0, 2, 1, 3] (RO (RS (RQ X) (RK X)) (RV X))
    Cert.CtxRefIdeal.Gen.transposes_S16x8x256x128_S16x256x8x128_0_2_1_3) Cert.CtxRefIdeal.Gen.shapeCasts_S16x256x8x128_S4096x1024)
    Cert.CtxRefIdeal.Gen.bitsLt_bf16_f32

/-- The named pieces make up the first result of the reference's run. -/
theorem ref_eq (mr : (ℓ : Loc Cert.CtxRefIdeal.nD Cert.CtxRefIdeal.τ Cert.CtxRefIdeal.sig) → Buf (Elt Ideal) ℓ) (c : Dev Cert.CtxRefIdeal.nD) :
    Cert.CtxRefIdeal.Value.res_main_v29 (F := Ideal) mr c
      = RY (mr ((c.tc : Thread Cert.CtxRefIdeal.nD Cert.CtxRefIdeal.τ).loc Cert.CtxRefIdeal.main_arg0)) := by
  unfold Cert.CtxRefIdeal.Value.res_main_v29 RY RO RE RM RS RQ RK RV
  rfl

/-- A query entry is a token entry. -/
theorem RQ_apply (X : FVec Ideal S6144x5632 .f32) (b : Fin 16) (h : Fin 8) (r : Fin 256) (e : Fin 128) :
    RQ X (ix4 b h r e) = TOK X b r (h.val * 128 + e.val) (by omega) := by
  pointwise [RQ, QKV]

/-- A key entry is a token entry, 1024 columns on. -/
theorem RK_apply (X : FVec Ideal S6144x5632 .f32) (b : Fin 16) (h : Fin 8) (r : Fin 256) (e : Fin 128) :
    RK X (ix4 b h r e) = TOK X b r (1024 + (h.val * 128 + e.val)) (by omega) := by
  pointwise [RK, QKV]

/-- A value entry is a token entry, 2048 columns on. -/
theorem RV_apply (X : FVec Ideal S6144x5632 .f32) (b : Fin 16) (h : Fin 8) (r : Fin 256) (e : Fin 128) :
    RV X (ix4 b h r e) = TOK X b r (2048 + (h.val * 128 + e.val)) (by omega) := by
  pointwise [RV, QKV]

/-- A score is the product of a query and a key, over the root of 128. -/
theorem RS_apply (q k : FVec Ideal S16x8x256x128 .f32) (b : Fin 16) (h : Fin 8) (r l : Fin 256) :
    RS q k (ix4 b h r l) = (∑ d : Fin 128, q (ix4 b h r d) * k (ix4 b h l d)) * (((Real.sqrt 128)⁻¹ : ℝ) : EReal) := by
  rw [← div_sqrt]
  pointwise [RS]

/-- A row's maximum is the fold of its scores. -/
theorem RM_apply (s : FVec Ideal Cert.CtxRefIdeal.S16x8x256x256 .f32) (b : Fin 16) (h : Fin 8) (r : Fin 256) :
    RM s (ix3 b h r) = rowMax (fun l => s (ix4 b h r l)) := by
  unfold RM rowMax
  have hr : Cert.CtxRefIdeal.S16x8x256x256.Reduces [3] Cert.CtxRefIdeal.S16x8x256 := by decide
  rw [Host.reduce_eq_fold_single _ _ _ _ hr]
  have : (s ∘ hr.lift (ix3 b h r)) = fun l => s (ix4 b h r l) := by
    funext l
    refine congrArg s (funext fun a => ?_)
    fin_cases a <;> rfl
  rw [this]
  exact fold_op _ _ rfl _ _ rfl _ _

/-- An exponential is taken of the score less the row's maximum. -/
theorem RE_apply (s : FVec Ideal Cert.CtxRefIdeal.S16x8x256x256 .f32) (mx : FVec Ideal Cert.CtxRefIdeal.S16x8x256 .f32) (b : Fin 16) (h : Fin 8) (r l : Fin 256) :
    RE s mx (ix4 b h r l) = Ideal.exp (s (ix4 b h r l) - max (Ideal.ofBits .f32 4286578688#32) (mx (ix3 b h r))) := by
  pointwise [RE]

/-- The weighted sum is the softmax of the scores weighting the values. -/
theorem RO_apply (s : FVec Ideal Cert.CtxRefIdeal.S16x8x256x256 .f32) (v : FVec Ideal S16x8x256x128 .f32)  (b : Fin 16) (h : Fin 8) (r : Fin 256) (e : Fin 128) :
    RO s v (ix4 b h r e) = soft (fun l => s (ix4 b h r l)) (fun l => v (ix4 b h l e)) := by
  pointwise [RO]
  simp only [RE_apply, RM_apply, max_rowMax]
  rfl

/-- The first result at an index is the attention of that head, prompt and position. -/
theorem RY_apply (X : FVec Ideal S6144x5632 .f32) (b : Fin 16) (r : Fin 256) (h : Fin 8) (e : Fin 128) (j : S4096x1024.Idx)
    (hj0 : (j 0 : ℕ) = b.val * 256 + r.val) (hj1 : (j 1 : ℕ) = h.val * 128 + e.val) : RY X j = HEAD X b r h e := by
  have : RY X j = RO (RS (RQ X) (RK X)) (RV X) (ix4 b h r e) := by
    pointwise [RY]
    refine congrArg (RO _ _) ?_
    congr 1 <;> exact Fin.ext (by simp; omega)
  rw [this, RO_apply]
  refine soft_congr (fun l => ?_) (fun l => RV_apply X b h l e)
  rw [RS_apply]
  simp only [RQ_apply, RK_apply]

/-- Entry of the query tile at point `t`. -/
theorem rd0 (c : Dev nD) (t : Fin cfg0.N) (b : Fin 16) (hb : b.val = t.val) (a : Fin 256) (e : Fin 1024) :
    X0_0 m c t (ix2 a e) = TOK (m ((c : Thread nD τ).loc main_arg0)) b a e.val (by omega) := by
  unfold X0_0 Pipeline.Window.fill
  rw [dif_pos (moved0_0 t _)]
  unfold iblk V
  blk_point [iblk, V, idx t, hb]

/-- Entry of the key tile at point `t`. -/
theorem rd1 (c : Dev nD) (t : Fin cfg0.N) (b : Fin 16) (hb : b.val = t.val) (a : Fin 256) (e : Fin 1024) :
    X0_1 m c t (ix2 a e) = TOK (m ((c : Thread nD τ).loc main_arg0)) b a (1024 + e.val) (by omega) := by
  unfold X0_1 Pipeline.Window.fill
  rw [dif_pos (moved0_1 t _)]
  unfold iblk V
  blk_point [iblk, V, idx t, hb]

/-- Entry of the value tile at point `t`. -/
theorem rd2 (c : Dev nD) (t : Fin cfg0.N) (b : Fin 16) (hb : b.val = t.val) (a : Fin 256) (e : Fin 1024) :
    X0_2 m c t (ix2 a e) = TOK (m ((c : Thread nD τ).loc main_arg0)) b a (2048 + e.val) (by omega) := by
  unfold X0_2 Pipeline.Window.fill
  rw [dif_pos (moved0_2 t _)]
  unfold iblk V
  blk_point [iblk, V, idx t, hb]

/-- The 128 columns of a tile from column `o` on. -/
theorem ld_cols (X : FVec Ideal S256x1024 .f32) (o : ℕ) (inb) (a : Fin 256) (d : Fin 128) (hd : o + d.val < 1024) :
    View.ld (Val := Elt Ideal) (e' := .f32) X (Rect.unit (s := S256x1024) ![0, o] ![256, 128] inb) (ix2 a d)
      = X (ix2 a ⟨o + d.val, hd⟩) := by
  refine congrArg X (funext fun k => Fin.ext ?_)
  fin_cases k <;> simp [Rect.unit]

/-- A head's tile of attention outputs is that part of the reference's first result. -/
theorem piece_y (X : FVec Ideal S6144x5632 .f32) (q k v : FVec Ideal S256x1024 .f32) (b : Fin 16)
    (hq : ∀ (a : Fin 256) (e : Fin 1024), q (ix2 a e) = TOK X b a e.val (by omega))
    (hk : ∀ (a : Fin 256) (e : Fin 1024), k (ix2 a e) = TOK X b a (1024 + e.val) (by omega))
    (hv : ∀ (a : Fin 256) (e : Fin 1024), v (ix2 a e) = TOK X b a (2048 + e.val) (by omega))
    (h : Fin 8) (o : ℕ) (ho : o = h.val * 128) (inb) (x : S256x128.Idx) (j : S4096x1024.Idx)
    (hj0 : (j 0 : ℕ) = b.val * 256 + (x 0 : ℕ)) (hj1 : (j 1 : ℕ) = o + (x 1 : ℕ)) :
    k0_pay2 (F := Ideal) (View.ld (Val := Elt Ideal) (e' := .f32) k (Rect.unit (s := S256x1024) ![0, o] ![256, 128] inb))
      (View.ld (Val := Elt Ideal) (e' := .f32) v (Rect.unit (s := S256x1024) ![0, o] ![256, 128] inb))
      (View.ld (Val := Elt Ideal) (e' := .f32) q (Rect.unit (s := S256x1024) ![0, o] ![256, 128] inb)) x = RY X j := by
  subst ho
  rw [RY_apply X b (x 0) h (x 1) j hj0 hj1]
  refine (pay _ _ _ x).trans (soft_congr (fun l => ?_) (fun l => ?_))
  · refine congrArg (· * _) (Finset.sum_congr rfl fun d _ => ?_)
    refine congrArg₂ (· * ·) ((ld_cols q _ inb (x 0) d (by omega)).trans (hq _ _)) ((ld_cols k _ inb l d (by omega)).trans (hk _ _))
  · have : (x 1 : ℕ) < 128 := (x 1).isLt
    exact (ld_cols v _ inb l (x 1) (by omega)).trans (hv _ _)

/-- The first output array after the whole grid is the reference's attention. -/
theorem final3 (c : Dev nD) : (dats m 0 c).arrAt 3 (cfgs 0).N = RY (m ((c : Thread nD τ).loc main_arg0)) := by
  refine (dats m 0 c).arrAt_eq_of_covers 3 _ (by decide +kernel) fun t _ y => ?_
  blk_simp
  rw [after0_3]; unfold outsAt0; frame_out
  have hb : t.val < 16 := t.isLt
  have e0 : ((((cfg0.win 3).blk t).view.emb y) 0 : ℕ) = t.val * 256 + (y 0 : ℕ) := by blk_simp [idx t]
  have e1 : ((((cfg0.win 3).blk t).view.emb y) 1 : ℕ) = (y 1 : ℕ) := by blk_simp [idx t]
  have p := piece_y (m ((c : Thread nD τ).loc main_arg0)) (X0_0 m c t) (X0_1 m c t) (X0_2 m c t) ⟨t.val, hb⟩
    (rd0 m c t _ rfl) (rd1 m c t _ rfl) (rd2 m c t _ rfl)
  canon_tiles x h
  case piece0 => exact p 7 896 rfl inb_S256x1024_S256x128_0_896 x _ (e0.trans (by rw [h0])) (e1.trans h1)
  case piece1 => exact p 6 768 rfl inb_S256x1024_S256x128_0_768 x _ (e0.trans (by rw [h0])) (e1.trans h1)
  case piece2 => exact p 5 640 rfl inb_S256x1024_S256x128_0_640 x _ (e0.trans (by rw [h0])) (e1.trans h1)
  case piece3 => exact p 4 512 rfl inb_S256x1024_S256x128_0_512 x _ (e0.trans (by rw [h0])) (e1.trans h1)
  case piece4 => exact p 3 384 rfl inb_S256x1024_S256x128_0_384 x _ (e0.trans (by rw [h0])) (e1.trans h1)
  case piece5 => exact p 2 256 rfl inb_S256x1024_S256x128_0_256 x _ (e0.trans (by rw [h0])) (e1.trans h1)
  case piece6 => exact p 1 128 rfl inb_S256x1024_S256x128_0_128 x _ (e0.trans (by rw [h0])) (e1.trans h1)
  case piece7 => exact p 0 0 rfl inb_S256x1024_S256x128_0_0 x _ (e0.trans (by rw [h0])) (e1.trans (by omega))
/-- The stored form of a head's keys: the tile itself. -/
theorem pay3 (v : FVec Ideal S256x128 .f32) (x : S1x1x256x128.Idx) : k0_pay3 (F := Ideal) v x = v (ix2 (x 2) (x 3)) := by
  pointwise [k0_pay3]
/-- A head's stored columns of a tile `w`, when the tile holds the columns of the tokens from `z` on. -/
theorem piece_kv (R : FVec Ideal S16x8x256x128 .f32) (w : FVec Ideal S256x1024 .f32) (b : Fin 16)
    (hw : ∀ (a : Fin 256) (h : Fin 8) (e : Fin 128), w (ix2 a ⟨h.val * 128 + e.val, by omega⟩) = R (ix4 b h a e))
    (h : Fin 8) (o : ℕ) (ho : o = h.val * 128) (inb) (x : S1x1x256x128.Idx) (j : S16x8x256x128.Idx)
    (hj0 : (j 0 : ℕ) = b.val) (hj1 : (j 1 : ℕ) = h.val + (x 1 : ℕ)) (hj2 : (j 2 : ℕ) = x 2) (hj3 : (j 3 : ℕ) = x 3) :
    k0_pay3 (F := Ideal) (View.ld (Val := Elt Ideal) (e' := .f32) w (Rect.unit (s := S256x1024) ![0, o] ![256, 128] inb)) x = R j := by
  subst ho
  have h1 : (x 1 : ℕ) < 1 := (x 1).isLt
  have h3 : (x 3 : ℕ) < 128 := (x 3).isLt
  have : j = ix4 b h (x 2) (x 3) := by
    funext a
    refine Fin.ext ?_
    fin_cases a
    · exact hj0
    · exact hj1.trans (show h.val + (x 1 : ℕ) = h.val by omega)
    · exact hj2
    · exact hj3
  rw [this, pay3]
  exact (ld_cols w _ inb (x 2) (x 3) (by omega)).trans (hw _ _ _)
/-- The second output array is the reference's keys. -/
theorem final4 (c : Dev nD) : (dats m 0 c).arrAt 4 (cfgs 0).N = RK (m ((c : Thread nD τ).loc main_arg0)) := by
  refine (dats m 0 c).arrAt_eq_of_covers 4 _ (by decide +kernel) fun t _ y => ?_
  blk_simp
  rw [after0_4]; unfold outsAt0; frame_out
  have hb : t.val < 16 := t.isLt
  have e0 : ((((cfg0.win 4).blk t).view.emb y) 0 : ℕ) = t.val := by blk_simp [idx t]
  have e1 : ((((cfg0.win 4).blk t).view.emb y) 1 : ℕ) = (y 1 : ℕ) := by blk_simp [idx t]
  have e2 : ((((cfg0.win 4).blk t).view.emb y) 2 : ℕ) = (y 2 : ℕ) := by blk_simp [idx t]
  have e3 : ((((cfg0.win 4).blk t).view.emb y) 3 : ℕ) = (y 3 : ℕ) := by blk_simp [idx t]
  have p := piece_kv (RK (m ((c : Thread nD τ).loc main_arg0))) (X0_1 m c t) ⟨t.val, hb⟩
    (fun a h e => (rd1 m c t _ rfl _ _).trans (RK_apply _ _ _ _ _).symm)
  canon_tiles x h
  case piece0 => exact p 7 896 rfl inb_S256x1024_S256x128_0_896 x _ e0 (e1.trans h1) (e2.trans h2) (e3.trans h3)
  case piece1 => exact p 6 768 rfl inb_S256x1024_S256x128_0_768 x _ e0 (e1.trans h1) (e2.trans h2) (e3.trans h3)
  case piece2 => exact p 5 640 rfl inb_S256x1024_S256x128_0_640 x _ e0 (e1.trans h1) (e2.trans h2) (e3.trans h3)
  case piece3 => exact p 4 512 rfl inb_S256x1024_S256x128_0_512 x _ e0 (e1.trans h1) (e2.trans h2) (e3.trans h3)
  case piece4 => exact p 3 384 rfl inb_S256x1024_S256x128_0_384 x _ e0 (e1.trans h1) (e2.trans h2) (e3.trans h3)
  case piece5 => exact p 2 256 rfl inb_S256x1024_S256x128_0_256 x _ e0 (e1.trans h1) (e2.trans h2) (e3.trans h3)
  case piece6 => exact p 1 128 rfl inb_S256x1024_S256x128_0_128 x _ e0 (e1.trans h1) (e2.trans h2) (e3.trans h3)
  case piece7 => exact p 0 0 rfl inb_S256x1024_S256x128_0_0 x _ e0 (e1.trans (h1.trans (Nat.zero_add _).symm)) (e2.trans h2) (e3.trans h3)
/-- The third output array is the reference's values. -/
theorem final5 (c : Dev nD) : (dats m 0 c).arrAt 5 (cfgs 0).N = RV (m ((c : Thread nD τ).loc main_arg0)) := by
  refine (dats m 0 c).arrAt_eq_of_covers 5 _ (by decide +kernel) fun t _ y => ?_
  blk_simp
  rw [after0_5]; unfold outsAt0; frame_out
  have hb : t.val < 16 := t.isLt
  have e0 : ((((cfg0.win 5).blk t).view.emb y) 0 : ℕ) = t.val := by blk_simp [idx t]
  have e1 : ((((cfg0.win 5).blk t).view.emb y) 1 : ℕ) = (y 1 : ℕ) := by blk_simp [idx t]
  have e2 : ((((cfg0.win 5).blk t).view.emb y) 2 : ℕ) = (y 2 : ℕ) := by blk_simp [idx t]
  have e3 : ((((cfg0.win 5).blk t).view.emb y) 3 : ℕ) = (y 3 : ℕ) := by blk_simp [idx t]
  have p := piece_kv (RV (m ((c : Thread nD τ).loc main_arg0))) (X0_2 m c t) ⟨t.val, hb⟩
    (fun a h e => (rd2 m c t _ rfl _ _).trans (RV_apply _ _ _ _ _).symm)
  canon_tiles x h
  case piece0 => exact p 7 896 rfl inb_S256x1024_S256x128_0_896 x _ e0 (e1.trans h1) (e2.trans h2) (e3.trans h3)
  case piece1 => exact p 6 768 rfl inb_S256x1024_S256x128_0_768 x _ e0 (e1.trans h1) (e2.trans h2) (e3.trans h3)
  case piece2 => exact p 5 640 rfl inb_S256x1024_S256x128_0_640 x _ e0 (e1.trans h1) (e2.trans h2) (e3.trans h3)
  case piece3 => exact p 4 512 rfl inb_S256x1024_S256x128_0_512 x _ e0 (e1.trans h1) (e2.trans h2) (e3.trans h3)
  case piece4 => exact p 3 384 rfl inb_S256x1024_S256x128_0_384 x _ e0 (e1.trans h1) (e2.trans h2) (e3.trans h3)
  case piece5 => exact p 2 256 rfl inb_S256x1024_S256x128_0_256 x _ e0 (e1.trans h1) (e2.trans h2) (e3.trans h3)
  case piece6 => exact p 1 128 rfl inb_S256x1024_S256x128_0_128 x _ e0 (e1.trans h1) (e2.trans h2) (e3.trans h3)
  case piece7 => exact p 0 0 rfl inb_S256x1024_S256x128_0_0 x _ e0 (e1.trans (h1.trans (Nat.zero_add _).symm)) (e2.trans h2) (e3.trans h3)

end Cert.CtxIdeal.Whole

end
-- ==== Proof.InMixValue.lean ====
/- The value of the first input projection call (columns 0 to 5631 of layer 1's weights):
   the array the tiled kernel leaves is the whole product of the reference. -/
module

public import proofs.«01_k».proof.Proof.Gen.InMixIdeal.Frame
public import proofs.«01_k».proof.Proof.Gen.InMixRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InMixIdeal.Whole

open Cert.InMixIdeal Cert.InMixIdeal.Gen

variable (m : (ℓ : Loc nD τ sig) → Buf (Elt Ideal) ℓ)

/-- The reference's result as a function of its two arguments: the token rows times layer 1's columns. -/
abbrev REF (X : FVec Ideal S6144x4096 .bf16) (W : FVec Ideal S4x4096x25344 .f32) : FVec Ideal S6144x5632 .f32 :=
  Host.dotGeneral Cert.InMixRefIdeal.dot_S6144x4096_S4096x5632_S6144x5632_1_0_0_1_n_n none
    (extf .f32 X Cert.InMixRefIdeal.Gen.bitsLt_bf16_f32)
    (shapeCast Cert.InMixRefIdeal.S4096x5632
      (extractStridedSlice Cert.InMixRefIdeal.S1x4096x5632 ![1, 0, 0] W
        Cert.InMixRefIdeal.Gen.slices_S4x4096x25344_S1x4096x5632_1_0_0)
      Cert.InMixRefIdeal.Gen.shapeCasts_S1x4096x5632_S4096x5632)

/-- Which block each window holds at grid point `t`: row band `t / 22`, column band `t % 22`. -/
theorem idx : ∀ t : Fin cfg0.N, win0_0.index t = ![t.val / 22, 0] ∧ win0_1.index t = ![1, 0, t.val % 22]
    ∧ win0_2.index t = ![t.val / 22, t.val % 22] :=
  (by decide +kernel : ∀ t : Fin grid0.N, _)

/-- At every grid point, the block computed from the two input blocks is that block of the reference's product. -/
theorem point (c : Dev nD) (t : Fin cfg0.N) (y) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The output array after the whole grid is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InMixIdeal.Whole

end
-- ==== Proof.InRwkvValue.lean ====
/- The value of the second input projection call (columns 5632 to 8959 of layer 1's weights):
   the array the tiled kernel leaves is the whole product of the reference. -/
module

public import proofs.«01_k».proof.Proof.Gen.InRwkvIdeal.Frame
public import proofs.«01_k».proof.Proof.Gen.InRwkvRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InRwkvIdeal.Whole

open Cert.InRwkvIdeal Cert.InRwkvIdeal.Gen

variable (m : (ℓ : Loc nD τ sig) → Buf (Elt Ideal) ℓ)

/-- The reference's result as a function of its two arguments: the token rows times layer 1's columns. -/
abbrev REF (X : FVec Ideal S6144x4096 .bf16) (W : FVec Ideal S4x4096x25344 .f32) : FVec Ideal S6144x3328 .f32 :=
  Host.dotGeneral Cert.InRwkvRefIdeal.dot_S6144x4096_S4096x3328_S6144x3328_1_0_0_1_n_n none
    (extf .f32 X Cert.InRwkvRefIdeal.Gen.bitsLt_bf16_f32)
    (shapeCast Cert.InRwkvRefIdeal.S4096x3328
      (extractStridedSlice Cert.InRwkvRefIdeal.S1x4096x3328 ![1, 0, 5632] W
        Cert.InRwkvRefIdeal.Gen.slices_S4x4096x25344_S1x4096x3328_1_0_5632)
      Cert.InRwkvRefIdeal.Gen.shapeCasts_S1x4096x3328_S4096x3328)

/-- Which block each window holds at grid point `t`: row band `t / 13`, column band `t % 13`. -/
theorem idx : ∀ t : Fin cfg0.N, win0_0.index t = ![t.val / 13, 0] ∧ win0_1.index t = ![1, 0, 22 + t.val % 13]
    ∧ win0_2.index t = ![t.val / 13, t.val % 13] :=
  (by decide +kernel : ∀ t : Fin grid0.N, _)

/-- At every grid point, the block computed from the two input blocks is that block of the reference's product. -/
theorem point (c : Dev nD) (t : Fin cfg0.N) (y) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The output array after the whole grid is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InRwkvIdeal.Whole

end
-- ==== Proof.InGateValue.lean ====
/- The value of the third input projection call (columns 8960 to 25343 of layer 1's weights):
   the array the tiled kernel leaves is the whole product of the reference. -/
module

public import proofs.«01_k».proof.Proof.Gen.InGateIdeal.Frame
public import proofs.«01_k».proof.Proof.Gen.InGateRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InGateIdeal.Whole

open Cert.InGateIdeal Cert.InGateIdeal.Gen

variable (m : (ℓ : Loc nD τ sig) → Buf (Elt Ideal) ℓ)

/-- The reference's result as a function of its two arguments: the token rows times layer 1's columns. -/
abbrev REF (X : FVec Ideal S6144x4096 .bf16) (W : FVec Ideal S4x4096x25344 .f32) : FVec Ideal S6144x16384 .f32 :=
  Host.dotGeneral Cert.InGateRefIdeal.dot_S6144x4096_S4096x16384_S6144x16384_1_0_0_1_n_n none
    (extf .f32 X Cert.InGateRefIdeal.Gen.bitsLt_bf16_f32)
    (shapeCast Cert.InGateRefIdeal.S4096x16384
      (extractStridedSlice Cert.InGateRefIdeal.S1x4096x16384 ![1, 0, 8960] W
        Cert.InGateRefIdeal.Gen.slices_S4x4096x25344_S1x4096x16384_1_0_8960)
      Cert.InGateRefIdeal.Gen.shapeCasts_S1x4096x16384_S4096x16384)

/-- Which block each window holds at grid point `t`: row band `t / 64`, column band `t % 64`. -/
theorem idx : ∀ t : Fin cfg0.N, win0_0.index t = ![t.val / 64, 0] ∧ win0_1.index t = ![1, 0, 35 + t.val % 64]
    ∧ win0_2.index t = ![t.val / 64, t.val % 64] :=
  (by decide +kernel : ∀ t : Fin grid0.N, _)

/-- At every grid point, the block computed from the two input blocks is that block of the reference's product. -/
theorem point (c : Dev nD) (t : Fin cfg0.N) (y) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The output array after the whole grid is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InGateIdeal.Whole

end
-- ==== Proof.OutProjValue.lean ====
/- The value of the output projection call with its gated residual: the array the tiled kernel leaves is
   `x + gate * (merged @ W)` of the reference, over all 6144 tokens. -/
module

public import proofs.«01_k».proof.Proof.Gen.OutProjIdeal.Frame
public import proofs.«01_k».proof.Proof.Gen.OutProjRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Whole

open Cert.OutProjIdeal Cert.OutProjIdeal.Gen

variable (m : (ℓ : Loc nD τ sig) → Buf (Elt Ideal) ℓ)

/-- The reference's gate of every token: row 0 of the modulation for the 4096 prompt tokens, rows 1 and 2 for
    the two latent streams of 1024 tokens each. -/
abbrev GATE (D : FVec Ideal S8x6x4096 .f32) : FVec Ideal S6144x4096 .f32 :=
  concatenate Cert.OutProjRefIdeal.S6144x4096 0
    [⟨Cert.OutProjRefIdeal.S4096x4096, broadcastInDim Cert.OutProjRefIdeal.S4096x4096 ![0, 1]
        Cert.OutProjRefIdeal.Gen.bcast_S1x4096_S4096x4096_0_1
        (shapeCast Cert.OutProjRefIdeal.S1x4096
          (extractStridedSlice Cert.OutProjRefIdeal.S1x1x4096 ![0, 2, 0] D
            Cert.OutProjRefIdeal.Gen.slices_S8x6x4096_S1x1x4096_0_2_0)
          Cert.OutProjRefIdeal.Gen.shapeCasts_S1x1x4096_S1x4096)⟩,
     ⟨Cert.OutProjRefIdeal.S2048x4096, shapeCast Cert.OutProjRefIdeal.S2048x4096
        (broadcastInDim Cert.OutProjRefIdeal.S2x1024x4096 ![0, 2]
          Cert.OutProjRefIdeal.Gen.bcast_S2x4096_S2x1024x4096_0_2
          (shapeCast Cert.OutProjRefIdeal.S2x4096
            (extractStridedSlice Cert.OutProjRefIdeal.S2x1x4096 ![1, 2, 0] D
              Cert.OutProjRefIdeal.Gen.slices_S8x6x4096_S2x1x4096_1_2_0)
            Cert.OutProjRefIdeal.Gen.shapeCasts_S2x1x4096_S2x4096))
        Cert.OutProjRefIdeal.Gen.shapeCasts_S2x1024x4096_S2048x4096⟩]
    Cert.OutProjRefIdeal.Gen.concatenates_S4096x4096_S2048x4096_S6144x4096_d0

/-- The reference's result as a function of its four arguments. -/
abbrev REF (A : FVec Ideal S6144x4096 .bf16) (W : FVec Ideal S4x4096x4096 .f32) (X : FVec Ideal S6144x4096 .f32)
    (D : FVec Ideal S8x6x4096 .f32) : FVec Ideal S6144x4096 .f32 :=
  addf X (mulf (GATE D)
    (Host.dotGeneral Cert.OutProjRefIdeal.dot_S6144x4096_S4096x4096_S6144x4096_1_0_0_1_n_n none
      (extf .f32 A Cert.OutProjRefIdeal.Gen.bitsLt_bf16_f32)
      (shapeCast Cert.OutProjRefIdeal.S4096x4096
        (extractStridedSlice Cert.OutProjRefIdeal.S1x4096x4096 ![1, 0, 0] W
          Cert.OutProjRefIdeal.Gen.slices_S4x4096x4096_S1x4096x4096_1_0_0)
        Cert.OutProjRefIdeal.Gen.shapeCasts_S1x4096x4096_S4096x4096)))

/-- Which block each window holds at grid point `t`: row band `t / 8`, column band `t % 8`; the modulation row is
    0 for the four prompt bands and then 1, 2. -/
theorem idx : ∀ t : Fin cfg0.N, win0_0.index t = ![t.val / 8, 0] ∧ win0_1.index t = ![1, 0, t.val % 8]
    ∧ win0_2.index t = ![t.val / 8, t.val % 8] ∧ win0_3.index t = ![t.val / 8 - 3, 0, t.val % 8]
    ∧ win0_4.index t = ![t.val / 8, t.val % 8] :=
  (by decide +kernel : ∀ t : Fin grid0.N, _)

/-- An entry of the block computed at grid point `t` is the entry of the reference's result at the row and column
    that block position stands for. -/
theorem core (c : Dev nD) (t : Fin cfg0.N) (y : S1024x512.Idx) (j : S6144x4096.Idx)
    (hj0 : (j 0 : ℕ) = t.val / 8 * 1024 + y 0) (hj1 : (j 1 : ℕ) = t.val % 8 * 512 + y 1) :
    k0_pay1 (F := Ideal) (iblk m c 0 t) (iblk m c 1 t) (iblk m c 2 t) (View.ld (iblk m c 3 t) r0_3) y
      = REF (m ((c : Thread nD τ).loc main_arg0)) (m ((c : Thread nD τ).loc main_arg1))
          (m ((c : Thread nD τ).loc main_arg2)) (m ((c : Thread nD τ).loc main_arg3)) j := by
  pointwise [k0_pay1, REF, GATE]
  blk_point [iblk, V, idx t]

/-- The output array after the whole grid is the reference's result. -/
theorem final (c : Dev nD) : (dats m 0 c).arrAt 4 (cfgs 0).N
    = REF (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact core m c t y _ (by blk_simp [idx t]) (by blk_simp [idx t])

end Cert.OutProjIdeal.Whole

end
-- ==== Proof.MergeValue.lean ====
/- The value of the branch merge call: the array the tiled kernel leaves is the reference's sum over the four branches
   of the sigmoid gate times the branch's projection. -/
module

public import proofs.«01_k».proof.Proof.Gen.MergeIdeal.Frame
public import proofs.«01_k».proof.Proof.Gen.MergeRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Whole

open Cert.MergeIdeal Cert.MergeIdeal.Gen

variable (m : (ℓ : Loc nD τ sig) → Buf (Elt Ideal) ℓ)

/-- The reference's stack of the four branches' outputs over all 6144 tokens; the first two branches come as a prompt
    part and a latent part, set one after the other. -/
abbrev YS (A0 : FVec Ideal S4096x1024 .bf16) (A1 : FVec Ideal S2048x1024 .bf16) (A2 : FVec Ideal S4096x1024 .bf16)
    (A3 : FVec Ideal S2048x1024 .bf16) (A4 A5 : FVec Ideal S6144x1024 .bf16) :
    FVec Ideal Cert.MergeRefIdeal.S4x6144x1024 .f32 :=
  concatenate Cert.MergeRefIdeal.S4x6144x1024 0
    [⟨Cert.MergeRefIdeal.S1x6144x1024, broadcastInDim Cert.MergeRefIdeal.S1x6144x1024 ![1, 2]
        Cert.MergeRefIdeal.Gen.bcast_S6144x1024_S1x6144x1024_1_2
        (concatenate Cert.MergeRefIdeal.S6144x1024 0
          [⟨Cert.MergeRefIdeal.S4096x1024, (extf .f32 A0 Cert.MergeRefIdeal.Gen.bitsLt_bf16_f32)⟩,
           ⟨Cert.MergeRefIdeal.S2048x1024, (extf .f32 A1 Cert.MergeRefIdeal.Gen.bitsLt_bf16_f32)⟩]
          Cert.MergeRefIdeal.Gen.concatenates_S4096x1024_S2048x1024_S6144x1024_d0)⟩,
     ⟨Cert.MergeRefIdeal.S1x6144x1024, broadcastInDim Cert.MergeRefIdeal.S1x6144x1024 ![1, 2]
        Cert.MergeRefIdeal.Gen.bcast_S6144x1024_S1x6144x1024_1_2
        (concatenate Cert.MergeRefIdeal.S6144x1024 0
          [⟨Cert.MergeRefIdeal.S4096x1024, (extf .f32 A2 Cert.MergeRefIdeal.Gen.bitsLt_bf16_f32)⟩,
           ⟨Cert.MergeRefIdeal.S2048x1024, (extf .f32 A3 Cert.MergeRefIdeal.Gen.bitsLt_bf16_f32)⟩]
          Cert.MergeRefIdeal.Gen.concatenates_S4096x1024_S2048x1024_S6144x1024_d0)⟩,
     ⟨Cert.MergeRefIdeal.S1x6144x1024, broadcastInDim Cert.MergeRefIdeal.S1x6144x1024 ![1, 2]
        Cert.MergeRefIdeal.Gen.bcast_S6144x1024_S1x6144x1024_1_2
        (extf .f32 A4 Cert.MergeRefIdeal.Gen.bitsLt_bf16_f32)⟩,
     ⟨Cert.MergeRefIdeal.S1x6144x1024, broadcastInDim Cert.MergeRefIdeal.S1x6144x1024 ![1, 2]
        Cert.MergeRefIdeal.Gen.bcast_S6144x1024_S1x6144x1024_1_2
        (extf .f32 A5 Cert.MergeRefIdeal.Gen.bitsLt_bf16_f32)⟩]
    Cert.MergeRefIdeal.Gen.concatenates_S1x6144x1024_S1x6144x1024_S1x6144x1024_S1x6144x1024_S4x6144x1024_d0

/-- The reference's sigmoid of the gate columns, branch by branch. -/
abbrev SIG (G : FVec Ideal S6144x16384 .f32) : FVec Ideal Cert.MergeRefIdeal.S6144x4x4096 .f32 :=
  Host.divf (broadcastInDim Cert.MergeRefIdeal.S6144x4x4096 ![] Cert.MergeRefIdeal.Gen.bcast_S_S6144x4x4096
      (constant Cert.MergeRefIdeal.S_ .f32 0x3F800000#32))
    (addf (broadcastInDim Cert.MergeRefIdeal.S6144x4x4096 ![] Cert.MergeRefIdeal.Gen.bcast_S_S6144x4x4096
      (constant Cert.MergeRefIdeal.S_ .f32 0x3F800000#32))
      (Host.exp (Host.negf (shapeCast Cert.MergeRefIdeal.S6144x4x4096 G
        Cert.MergeRefIdeal.Gen.shapeCasts_S6144x16384_S6144x4x4096))))

/-- The reference's four branch projections with layer 1's weights. -/
abbrev BR (Y : FVec Ideal Cert.MergeRefIdeal.S4x6144x1024 .f32) (W : FVec Ideal S4x4x1024x4096 .f32) :
    FVec Ideal Cert.MergeRefIdeal.S6144x4x4096 .f32 :=
  transpose Cert.MergeRefIdeal.S6144x4x4096 [2, 0, 1]
    (Host.dotGeneral Cert.MergeRefIdeal.dot_S4x1024x4096_S4x6144x1024_S4x4096x6144_1_2_2_1_0_0 none
      (shapeCast Cert.MergeRefIdeal.S4x1024x4096
        (extractStridedSlice Cert.MergeRefIdeal.S1x4x1024x4096 ![1, 0, 0, 0] W
          Cert.MergeRefIdeal.Gen.slices_S4x4x1024x4096_S1x4x1024x4096_1_0_0_0)
        Cert.MergeRefIdeal.Gen.shapeCasts_S1x4x1024x4096_S4x1024x4096) Y)
    Cert.MergeRefIdeal.Gen.transposes_S4x4096x6144_S6144x4x4096_2_0_1

/-- The reference's result as a function of its eight arguments. -/
abbrev REF (A0 : FVec Ideal S4096x1024 .bf16) (A1 : FVec Ideal S2048x1024 .bf16) (A2 : FVec Ideal S4096x1024 .bf16)
    (A3 : FVec Ideal S2048x1024 .bf16) (A4 A5 : FVec Ideal S6144x1024 .bf16) (G : FVec Ideal S6144x16384 .f32)
    (W : FVec Ideal S4x4x1024x4096 .f32) : FVec Ideal S6144x4096 .bf16 :=
  truncf .bf16 (Host.reduceAdd (mulf (SIG G) (BR (YS A0 A1 A2 A3 A4 A5) W))
    (constant Cert.MergeRefIdeal.S_ .f32 0x00000000#32)
    Cert.MergeRefIdeal.Gen.reducesTo_S6144x4x4096_S6144x4096_d1 Cert.MergeRefIdeal.Gen.h_S_)
    Cert.MergeRefIdeal.Gen.bitsLt_bf16_f32

/-- Which block each window holds at grid point `t`: row band `t / 16`, column band `t % 16`. -/
theorem idx : ∀ t : Fin cfg0.N, win0_0.index t = ![min (t.val / 16) 3, 0] ∧ win0_1.index t = ![t.val / 16 - 4, 0]
    ∧ win0_2.index t = ![min (t.val / 16) 3, 0] ∧ win0_3.index t = ![t.val / 16 - 4, 0]
    ∧ win0_4.index t = ![t.val / 16, 0] ∧ win0_5.index t = ![t.val / 16, 0]
    ∧ win0_6.index t = ![1, 0, 0, t.val % 16]
    ∧ win0_7.index t = ![t.val / 16, t.val % 16] ∧ win0_8.index t = ![t.val / 16, 16 + t.val % 16]
    ∧ win0_9.index t = ![t.val / 16, 32 + t.val % 16] ∧ win0_10.index t = ![t.val / 16, 48 + t.val % 16]
    ∧ win0_11.index t = ![t.val / 16, t.val % 16] :=
  (by decide +kernel : ∀ t : Fin grid0.N, _)

/-- The kernel takes the prompt's blocks in the first four row bands and the latent streams' blocks after them. -/
theorem pick (t : Fin cfg0.N) (a b : EReal) :
    Scalar.select (Scalar.cmpi .slt (BitVec.ofNat 32 (grid0.coords t 0).val) 4#32) a b
      = if t.val / 16 < 4 then a else b := by
  rw [(by decide +kernel : ∀ t : Fin grid0.N, Scalar.cmpi .slt (BitVec.ofNat 32 (grid0.coords t 0).val) 4#32
    = BitVec.ofBool (decide (t.val / 16 < 4))) t]
  by_cases h : t.val / 16 < 4 <;> simp [h, Scalar.select]

/-- A gated branch: equal gates and equal factors give equal terms, with the product taken in either order. -/
theorem gated_congr {n : ℕ} {g g' : EReal} {a b a' b' : Fin n → EReal} (hg : g = g') (ha : ∀ k, a k = a' k)
    (hb : ∀ k, b k = b' k) : Ideal.logistic g * ∑ k, a k * b k = Ideal.div 1 (1 + Ideal.exp (-g')) * ∑ k, b' k * a' k := by
  subst hg
  rw [Ideal.logistic, Finset.sum_congr rfl fun k _ => by rw [ha k, hb k, mul_comm]]

/-- An entry of the block computed at grid point `t` is the entry of the reference's result at the row and column
    that block position stands for. -/
theorem core (c : Dev nD) (t : Fin cfg0.N) (y : S1024x256.Idx) (j : S6144x4096.Idx)
    (hj0 : (j 0 : ℕ) = t.val / 16 * 1024 + y 0) (hj1 : (j 1 : ℕ) = t.val % 16 * 256 + y 1) :
    k0_pay1 (F := Ideal) (iblk m c 4 t) (iblk m c 5 t)
        (k0_pay2 (grid0.coords t) (iblk m c 0 t) (iblk m c 1 t) (iblk m c 2 t) (iblk m c 3 t)
          (View.ld (iblk m c 6 t) r0_1) (iblk m c 7 t) (View.ld (iblk m c 6 t) r0_3) (iblk m c 8 t))
        (k0_pay3 (View.ld (iblk m c 6 t) r0_4)) (iblk m c 9 t) (View.ld (iblk m c 6 t) r0_5) (iblk m c 10 t) y
      = REF (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) j := by
  pointwise [k0_pay1, k0_pay2, k0_pay3, REF, SIG, BR, YS]
  rw [Fin.sum_univ_four]
  simp only [show ((0 : Fin 4) : ℕ) = 0 from rfl, show ((1 : Fin 4) : ℕ) = 1 from rfl, show ((2 : Fin 4) : ℕ) = 2 from rfl,
    show ((3 : Fin 4) : ℕ) = 3 from rfl, Nat.reduceLT, Nat.reduceSub, ↓reduceDIte]
  have hy0 : (y 0 : ℕ) < 1024 := (y 0).isLt
  refine congrArg₂ (· + ·) (congrArg₂ (· + ·) (congrArg₂ (· + ·) ?_ ?_) ?_) ?_
  · refine gated_congr ?_ (fun k => (pick t _ _).trans ?_) (fun k => ?_)
    · blk_point [iblk, V, idx t]
    · by_cases h : (j 0 : ℕ) < 4096
      · rw [if_pos (by omega), dif_pos h]; blk_point [iblk, V, idx t]
      · rw [if_neg (by omega), dif_neg h]; blk_point [iblk, V, idx t]
    · blk_point [iblk, V, idx t]
  · refine gated_congr ?_ (fun k => (pick t _ _).trans ?_) (fun k => ?_)
    · blk_point [iblk, V, idx t]
    · by_cases h : (j 0 : ℕ) < 4096
      · rw [if_pos (by omega), dif_pos h]; blk_point [iblk, V, idx t]
      · rw [if_neg (by omega), dif_neg h]; blk_point [iblk, V, idx t]
    · blk_point [iblk, V, idx t]
  all_goals refine gated_congr ?_ (fun k => ?_) (fun k => ?_) <;> blk_point [iblk, V, idx t]

/-- The output array after the whole grid is the reference's result. -/
theorem final (c : Dev nD) : (dats m 0 c).arrAt 11 (cfgs 0).N
    = REF (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (dats m 0 c).arrAt_eq_of_covers 11 _ (by decide +kernel) fun t _ y => ?_
  blk_simp
  rw [after0_11]; frame_out
  exact core m c t y _ (by blk_simp [idx t]) (by blk_simp [idx t])

end Cert.MergeIdeal.Whole

end
-- ==== Proof.UpIdealFrame.lean ====
/- The experts' first products, as a pipeline over the blocks of rows: what the call's body does at a grid point for any
   contents of its two tables (the block's expert, and how many blocks are used), and what its run leaves. At a used block the
   body stores the gated product; at another it stores zeros. So every block of the output is stored, whatever the tables say. -/
module

public import proofs.«01_k».proof.Defs
public import proofs.«01_k».proof.Proof.Gen.UpIdeal
public import proofs.«01_k».proof.Proof.Gen.UpIdeal.Launch
public import proofs.«01_k».proof.Proof.Gen.UpIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.UpIdealRun

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c` holds when the call starts: the launch contents. -/
abbrev V (c : Dev nD) (b : Ref sig .tc) : Buf (Elt F) ((c : Thread nD τ).loc b) := m ((c : Thread nD τ).loc b)

/-- The two tables. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Each block names an expert that exists. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tb0 : Memref sig .tc .smem S64 .i32 := Memref.whole main_arg0
abbrev tb1 : Memref sig .tc .smem S1 .i32 := Memref.whole main_arg1

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- How many blocks are used. -/
abbrev used (f : TbBuf (F := F) (0 : Dev nD) tb1) : BitVec 32 := f fun a => ⟨0, by fin_cases a; decide⟩

theorem S1_idx (x y : S1.Idx) : x = y := by
  funext a; fin_cases a; exact Subsingleton.elim (α := Fin 1) _ _

/-- The body at a used block: one store, of the gated product (the list of stores is what the run finds). -/
def kernelRunA (c : Dev nD) (i : grid0.Coords) (arg4 : Memref sig .tc .vmem S256x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S256x512 .bf16) (harg7 : arg7.IsWhole)
    (x0 : Vec F S256x4096 .bf16) (x1 : Vec F S1x1x4096x512 .f32) (x2 : Vec F S1x1x4096x512 .f32) (xt0 : TbBuf (F := F) c tb0) (xt1 : TbBuf (F := F) c tb1)
    (h1 : k0_cond1 i (used xt1) = 1#1) (h2 : ¬ k0_cond2 i (used xt1) = 1#1) :
    { L3 : List (View.Piece (Elt F) S256x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt c tb0 xt0 ∗ tbPt c tb1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ tbPt c tb0 xt0 ∗ tbPt c tb1 xt1) -∗ K ⟨⟩))
          ⊢ wp frame (wpE (defs₀ (F := F)) Variants.none c none) E (cc0_moe_up i tb0 (Memref.isWhole_whole _) tb1 (Memref.isWhole_whole _) arg4 harg4 arg5 harg5 arg6 harg6 arg7 harg7) K } := by
  refine ⟨?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0; obtain rfl := harg5.eq_unread hf1; obtain rfl := harg6.eq_unread hf2
    sl_exec
    rw [show kernelRunA.sl.r c xt1 = used xt1 from congrArg xt1 (S1_idx _ _), dif_neg h2, dif_pos h1]
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

/-- The body at a block that is not used: one store, of zeros. -/
def kernelRunB (c : Dev nD) (i : grid0.Coords) (arg4 : Memref sig .tc .vmem S256x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S256x512 .bf16) (harg7 : arg7.IsWhole)
    (x0 : Vec F S256x4096 .bf16) (x1 : Vec F S1x1x4096x512 .f32) (x2 : Vec F S1x1x4096x512 .f32) (xt0 : TbBuf (F := F) c tb0) (xt1 : TbBuf (F := F) c tb1)
    (h1 : ¬ k0_cond1 i (used xt1) = 1#1) (h2 : k0_cond2 i (used xt1) = 1#1) :
    { L3 : List (View.Piece (Elt F) S256x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt c tb0 xt0 ∗ tbPt c tb1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ tbPt c tb0 xt0 ∗ tbPt c tb1 xt1) -∗ K ⟨⟩))
          ⊢ wp frame (wpE (defs₀ (F := F)) Variants.none c none) E (cc0_moe_up i tb0 (Memref.isWhole_whole _) tb1 (Memref.isWhole_whole _) arg4 harg4 arg5 harg5 arg6 harg6 arg7 harg7) K } := by
  refine ⟨?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0; obtain rfl := harg5.eq_unread hf1; obtain rfl := harg6.eq_unread hf2
    sl_exec
    rw [show kernelRunB.sl.r c xt1 = used xt1 from congrArg xt1 (S1_idx _ _), dif_pos h2, dif_neg h1]
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

/-! What a staging buffer of the output ends with. -/

/-- A staging buffer of the output, to state contents through. -/
abbrev VO : View sig .tc .vmem S256x512 .bf16 := (Memref.whole cc0_stg3_0 : Memref sig .tc .vmem S256x512 .bf16).view

theorem coverA (c : Dev nD) (i : grid0.Coords) (arg4 : Memref sig .tc .vmem S256x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S256x512 .bf16) (harg7 : arg7.IsWhole)
    (x0 : Vec F S256x4096 .bf16) (x1 : Vec F S1x1x4096x512 .f32) (x2 : Vec F S1x1x4096x512 .f32) (xt0 : TbBuf (F := F) c tb0) (xt1 : TbBuf (F := F) c tb1) (h1 h2) (y : S256x512.Idx) :
    ∃ pc ∈ (kernelRunA c i arg4 harg4 arg5 harg5 arg6 harg6 arg7 harg7 x0 x1 x2 xt0 xt1 h1 h2).1, y ∈ pc.1.set :=
  View.cover_of_tiledL _ S256x512.size (by sl_kernel_rfl) y

theorem coverB (c : Dev nD) (i : grid0.Coords) (arg4 : Memref sig .tc .vmem S256x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S256x512 .bf16) (harg7 : arg7.IsWhole)
    (x0 : Vec F S256x4096 .bf16) (x1 : Vec F S1x1x4096x512 .f32) (x2 : Vec F S1x1x4096x512 .f32) (xt0 : TbBuf (F := F) c tb0) (xt1 : TbBuf (F := F) c tb1) (h1 h2) (y : S256x512.Idx) :
    ∃ pc ∈ (kernelRunB c i arg4 harg4 arg5 harg5 arg6 harg6 arg7 harg7 x0 x1 x2 xt0 xt1 h1 h2).1, y ∈ pc.1.set :=
  View.cover_of_tiledL _ S256x512.size (by sl_kernel_rfl) y

/-- A block is used or it is not: the two conditions of the body exclude and exhaust one another. -/
theorem cond_not (i : grid0.Coords) (w : BitVec 32) : k0_cond2 i w = 1#1 ↔ ¬ k0_cond1 i w = 1#1 := by
  unfold k0_cond1 k0_cond2 Scalar.cmpi Scalar.extui
  simp only [IntOp.cmpi]
  by_cases h : (BitVec.ofNat 32 (i 1).val).slt w <;> simp [h, BitVec.sle_eq_not_slt]

/-- So the output's buffer is stored at every point. -/
theorem idle3 (hO : Ok m) (t : Fin (cfgM m hO).N) : (cfgM m hO).idle 3 ((cfgM m hO).grid.coords t) = false := by
  show (!(k0_cond1 (grid0.coords t) ((tbl m).atD 1 ![0]) == 1#1) && !(k0_cond2 (grid0.coords t) ((tbl m).atD 1 ![0]) == 1#1)) = false
  by_cases h : k0_cond1 (grid0.coords t) ((tbl m).atD 1 ![0]) = 1#1
  · simp only [h, beq_self_eq_true, Bool.not_true, Bool.false_and]
  · simp only [(cond_not _ _).mpr h, beq_self_eq_true, Bool.not_true, Bool.and_false]

/-! ## The pipeline's data and the run -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S256x4096 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x4096x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x4096x512 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S256x512 .bf16 := spec0_3.stage ((cfgM m hO).slots t 3)
abbrev hs3 (hO : Ok m) (t : Fin (cfgM m hO).N) : (ms3 m hO t).IsWhole := hstage0_3 (((cfgM m hO).slots t 3).cast nbuf0_3)

/-- The body at point `t`. -/
abbrev bodyAt (a : (pcfg0 (F := F)).Adm) (t : Fin (cfg0 a).N) : Prog (TpuEff nD τ sig (Elt F) Λ₀ .tc) PUnit :=
  cc0_moe_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

/-- Point `t` works on a used block. -/
abbrev usedAt (hO : Ok m) (t : Fin (cfgM m hO).N) : Prop := k0_cond1 (grid0.coords t) (used (F := F) (tbl m 1)) = 1#1

/-- The output's block after point `t`. -/
def outsAt (hO : Ok m) (c : Dev nD) (t : Fin (cfgM m hO).N) : Vec F S256x512 .bf16 :=
  if h : usedAt m hO t then
    VO.read (Elt F) (VO.writes (Elt F) VO.junk (kernelRunA c (grid0.coords t) (ms0 m hO t) (hs0 m hO t) (ms1 m hO t) (hs1 m hO t) (ms2 m hO t) (hs2 m hO t) (ms3 m hO t) (hs3 m hO t) (iblk m hO c 0 t) (iblk m hO c 1 t) (iblk m hO c 2 t) (tbl m 0) (tbl m 1) h (fun h' => (cond_not _ _).mp h' h)).1)
  else
    VO.read (Elt F) (VO.writes (Elt F) VO.junk (kernelRunB c (grid0.coords t) (ms0 m hO t) (hs0 m hO t) (ms1 m hO t) (hs1 m hO t) (ms2 m hO t) (hs2 m hO t) (ms3 m hO t) (hs3 m hO t) (iblk m hO c 0 t) (iblk m hO c 1 t) (iblk m hO c 2 t) (tbl m 0) (tbl m 1) h ((cond_not _ _).mpr h)).1)

/-- The pipeline's data: the arrays as launched, the inputs' buffers at their blocks and the output's at `outsAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = outsAt m hO c t := by dsimp only [dats]; try rfl

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- What the body is called with, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2]
  rw [show (dats m hO 0 c).Φ t.succ = (dats m hO 0 c).Φ t.castSucc from rfl,
    show (dats m hO 0 c).owesAt () t.succ = (dats m hO 0 c).owesAt () t.castSucc from rfl,
    after0, after1, after2, after3]
  rw [show (dats m hO 0 c).Φ t.castSucc = iprop(Pipeline.ΦA spec0 c ∗ Pipeline.ΦT pre0 (tbl m) c) from rfl, PhiT_eq]
  unfold outsAt
  by_cases h : usedAt m hO t
  · rw [dif_pos h]
    iintro ⟨⟨HΦ, ⟨HT0, HT1⟩⟩, Ho, ⟨%d0, H0⟩, ⟨%d1, H1⟩, ⟨%d2, H2⟩, ⟨%d3, H3⟩⟩
    iapply ((kernelRunA c (grid0.coords t) _ _ _ _ _ _ _ _ (iblk m hO c 0 t) (iblk m hO c 1 t) (iblk m hO c 2 t) (tbl m 0) (tbl m 1) h (fun h' => (cond_not _ _).mp h' h)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _ _)
  · rw [dif_neg h]
    iintro ⟨⟨HΦ, ⟨HT0, HT1⟩⟩, Ho, ⟨%d0, H0⟩, ⟨%d1, H1⟩, ⟨%d2, H2⟩, ⟨%d3, H3⟩⟩
    iapply ((kernelRunB c (grid0.coords t) _ _ _ _ _ _ _ _ (iblk m hO c 0 t) (iblk m hO c 1 t) (iblk m hO c 2 t) (tbl m 0) (tbl m 1) h ((cond_not _ _).mpr h)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO, idle3]
  exact triple_restated (sound_body m hO c t) rfl .rfl fun _ => .rfl

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
/-- Every execution ends, with each array at what the pipeline's data say, every other buffer as launched and every counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- Every execution ends with the output at what its blocks are after their points, the arguments as launched and every
    counter at zero. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_quiescent m ρ hO)

/-! ## The weights' blocks -/

/-- The row block of grid point `i`, as an index of the table of experts. -/
abbrev rowOf (i : grid0.Coords) : S64.Idx := fun a => ⟨(i 1).val, by fin_cases a; exact (i 1).isLt⟩

/-- The weights' block at a grid point: layer 1, the row block's expert, all rows, the column tile. -/
theorem weights_at (pf : pre0.Contents (Elt F)) (i : grid0.Coords) :
    cc0_transform_1 k0_off1_inb numel1_S1 pf i = ![1, ((pf 0 : IVec S64 32) (rowOf i)).toNat, 0, (i 0).val] := by
  have h0 : (i 0).val < 2 := (i 0).isLt
  have h1 : (i 1).val < 64 := (i 1).isLt
  have e0 : (BitVec.ofNat 32 (i 0).val).toNat = (i 0).val := WordCmp.toNat_ofNat_of_lt (by omega)
  have e1 : (BitVec.ofNat 32 (i 1).val).toNat = (i 1).val := WordCmp.toNat_ofNat_of_lt (by omega)
  have ha : (pf.at 0 (Rect.unit (s := S64) ![(BitVec.ofNat 32 (i 1).val).toNat] S1.size (k0_off1_inb i)) numel1_S1 : BitVec 32)
      = (pf 0 : IVec S64 32) (rowOf i) := by
    refine congrArg (pf 0 : IVec S64 32) (funext fun a => Fin.ext ?_)
    fin_cases a
    show (BitVec.ofNat 32 (i 1).val).toNat + 1 * 0 = (i 1).val
    omega
  exact congrArg₂ (fun (w : BitVec 32) (n : ℕ) => (![1, w.toNat, 0, n] : Fin 4 → ℕ)) ha e0

/-- Tables whose experts are all under 16 keep the weights' blocks inside the weights. -/
theorem ok_of (h : ∀ x, ((tbl m 0 : IVec S64 32) x).toNat < 16) : Ok m := by
  have key : ∀ i : grid0.Coords, ∀ a, (cc0_transform_1 k0_off1_inb numel1_S1 (tbl m) i a + 1) * S1x1x4096x512.size a ≤ S4x16x4096x1024.size a := by
    intro i a
    have h0 : (i 0).val < 2 := (i 0).isLt
    have hx := h (rowOf i)
    rw [weights_at]
    fin_cases a
    · show (1 + 1) * 1 ≤ 4; omega
    · show (((tbl m 0 : IVec S64 32) (rowOf i)).toNat + 1) * 1 ≤ 16; omega
    · show (0 + 1) * 4096 ≤ 4096; omega
    · show ((i 0).val + 1) * 512 ≤ 1024; omega
  exact ⟨fun i => ⟨key i, .inl rfl⟩, fun i => ⟨key i, .inl rfl⟩⟩

end Cert.UpIdealRun
-- ==== Proof.Experts.lean ====
/- What the two experts' calls share: the reference's choice of a block's expert (a gather of whole weight matrices), the range
   of the table it reads, and the sigmoid both sides form. -/
module

public import proofs.«01_k».proof.Proof.Gen.UpRefIdeal
public import Idealize.ShloMosaic.Lib.Pipeline.ValueKit
public import Idealize.ShloMosaic.Lib.ValueIdxCore
public import Idealize.ShloMosaic.Lib.WordCmp

@[expose] public section

noncomputable section

namespace Cert.Experts

open Idealize.ShloMosaic Idealize.ShloMosaic.WordCmp

/-- A signed word at least 0 and under 16 is under 16 as a natural number. -/
theorem toNat_lt {w : BitVec 32} (h : IntOp.andi (IntOp.cmpi .sge w 0#32) (IntOp.cmpi .slt w 16#32) = 1#1) : w.toNat < 16 := by
  rw [IntOp.andi_eq_one, cmpi_sge_eq, cmpi_slt_eq, ofBool_decide_eq_one_iff, ofBool_decide_eq_one_iff] at h
  have h0 : (0#32).toInt = 0 := rfl
  have h16 : (16#32).toInt = 16 := rfl
  have hw := BitVec.toInt_eq_toNat_cond w
  split at hw <;> omega

theorem toInt_eq {w : BitVec 32} (h : w.toNat < 16) : w.toInt = (w.toNat : Int) :=
  toInt_eq_toNat_of_lt_half (by omega)

/-- The reference counts a negative expert from the end; an expert in range is taken as it is. -/
theorem wrap {w : BitVec 32} (h : w.toNat < 16) : Scalar.select (IntOp.cmpi .slt w 0#32) (IntOp.addi w 16#32) w = w := by
  rw [cmpi_slt_eq, toInt_eq h, decide_eq_false (show ¬ ((w.toNat : Int) < (0#32).toInt) from by
    rw [show (0#32).toInt = 0 from rfl]; omega)]
  rfl

/-- The dimension numbers of `table[idx]` for a table of `N` matrices and a list of `R` choices. -/
abbrev pickDims (N R A B : ℕ)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Entry `(r, a, b)` of `table[idx]` is entry `(a, b)` of the matrix that choice `r` names, when it names one. -/
theorem pick_apply {α : Type} {N R A B : ℕ}
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (r : Fin R) (a : Fin A) (b : Fin B)
    (hr : (idx (ix2 r 0)).toInt = ((idx (ix2 r 0)).toNat : Int)) (hn : (idx (ix2 r 0)).toNat < N) :
    Host.gather (pickDims N R A B wf) x idx (ix3 r a b) = x (ix3 ⟨(idx (ix2 r 0)).toNat, hn⟩ a b) := by
  unfold Host.gather
  refine congrArg x (funext fun d => Fin.ext ?_)
  show (pickDims N R A B wf).start (ix3 r a b) idx d + (pickDims N R A B wf).batchCoord (ix3 r a b) d
      + (pickDims N R A B wf).offCoord (ix3 r a b) d = _
  rw [GatherDims.batchCoord_eq_zero _ _ _ List.not_mem_nil]
  have hd : d = (0 : Fin 3) ∨ d = (1 : Fin 3) ∨ d = (2 : Fin 3) := by
    match d with
    | ⟨0, _⟩ => exact .inl rfl
    | ⟨1, _⟩ => exact .inr (.inl rfl)
    | ⟨2, _⟩ => exact .inr (.inr rfl)
  rcases hd with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (pickDims N R A B wf).startIndexMap from List.mem_singleton.mpr rfl)]
    have hsi : (pickDims N R A B wf).siIdx (ix3 r a b) ⟨List.idxOf (0 : Fin 3) (pickDims N R A B wf).startIndexMap,
        List.idxOf_lt_length_iff.2 (List.mem_singleton.mpr rfl)⟩ = ix2 r 0 := by
      funext e; refine Fin.ext ?_
      match e with
      | ⟨0, _⟩ => rfl
      | ⟨1, _⟩ => rfl
    rw [hsi, hr]
    show min ((idx (ix2 r 0)).toNat : Int).toNat (N - 1) = (idx (ix2 r 0)).toNat
    omega
  · unfold GatherDims.start
    rw [dif_neg (show (1 : Fin 3) ∉ (pickDims N R A B wf).startIndexMap from fun h => absurd (List.mem_singleton.mp h) (show ¬ (1 : Fin 3) = 0 from by decide))]
    unfold GatherDims.offCoord
    rw [dif_pos (show (1 : Fin 3) ∈ (pickDims N R A B wf).sKept from (GatherDims.mem_sKept _ _).mpr
      ⟨fun h => absurd (List.mem_singleton.mp h) (show ¬ (1 : Fin 3) = 0 from by decide), List.not_mem_nil⟩)]
    simp only [Nat.zero_add, Nat.add_zero]
    rfl
  · unfold GatherDims.start
    rw [dif_neg (show (2 : Fin 3) ∉ (pickDims N R A B wf).startIndexMap from fun h => absurd (List.mem_singleton.mp h) (show ¬ (2 : Fin 3) = 0 from by decide))]
    unfold GatherDims.offCoord
    rw [dif_pos (show (2 : Fin 3) ∈ (pickDims N R A B wf).sKept from (GatherDims.mem_sKept _ _).mpr
      ⟨fun h => absurd (List.mem_singleton.mp h) (show ¬ (2 : Fin 3) = 0 from by decide), List.not_mem_nil⟩)]
    simp only [Nat.zero_add, Nat.add_zero]
    rfl

end Cert.Experts

end
-- ==== Proof.UpValue.lean ====
/- The value of the experts' first products: the array the call leaves is the reference's gated product of each used block of
   rows with the block's expert, and zeros in the other blocks. -/
module

public import proofs.«01_k».proof.Proof.UpIdealFrame
public import proofs.«01_k».proof.Proof.Experts
public import proofs.«01_k».proof.Proof.Gen.UpRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpIdealRun

open Cert.UpIdeal Cert.UpIdeal.Gen

/-- The reference's choice of matrices: entry `r` is the matrix of row block `r`'s expert in layer 1. -/
abbrev MAT (E : IVec S64 32) (W : FVec Ideal S4x16x4096x1024 .f32) : FVec Ideal Cert.UpRefIdeal.S64x4096x1024 .f32 :=
  Host.gather Cert.UpRefIdeal.gather_S16x4096x1024_S64x1_S64x4096x1024_12_0_n_n_0_1_140961024
    (shapeCast Cert.UpRefIdeal.S16x4096x1024
      (extractStridedSlice Cert.UpRefIdeal.S1x16x4096x1024 ![1, 0, 0, 0] W
        Cert.UpRefIdeal.Gen.slices_S4x16x4096x1024_S1x16x4096x1024_1_0_0_0)
      Cert.UpRefIdeal.Gen.shapeCasts_S1x16x4096x1024_S16x4096x1024)
    (broadcastInDim Cert.UpRefIdeal.S64x1 ![0] Cert.UpRefIdeal.Gen.bcast_S64_S64x1_0
      (select (cmpi .slt E (broadcastInDim S64 ![] Cert.UpRefIdeal.Gen.bcast_S_S64 (constantI Cert.UpRefIdeal.S_ 32 0#32)))
        (addi E (broadcastInDim S64 ![] Cert.UpRefIdeal.Gen.bcast_S_S64 (constantI Cert.UpRefIdeal.S_ 32 16#32))) E))

/-- The reference's products of the blocks of rows with chosen matrices. -/
abbrev DOT (X : FVec Ideal S16384x4096 .bf16) (G : FVec Ideal Cert.UpRefIdeal.S64x4096x1024 .f32) :
    FVec Ideal Cert.UpRefIdeal.S64x256x1024 .f32 :=
  Host.dotGeneral Cert.UpRefIdeal.dot_S64x256x4096_S64x4096x1024_S64x256x1024_2_1_1_2_0_0 none
    (shapeCast Cert.UpRefIdeal.S64x256x4096 (extf .f32 X Cert.UpRefIdeal.Gen.bitsLt_bf16_f32)
      Cert.UpRefIdeal.Gen.shapeCasts_S16384x4096_S64x256x4096) G

/-- The reference's result from the count of used blocks, the rows, and the chosen matrices. -/
abbrev OUT (N : IVec S1 32) (X : FVec Ideal S16384x4096 .bf16) (G U : FVec Ideal Cert.UpRefIdeal.S64x4096x1024 .f32) :
    FVec Ideal S16384x1024 .bf16 :=
  truncf .bf16 (shapeCast S16384x1024 (select
      (broadcastInDim Cert.UpRefIdeal.S64x256x1024 ![0, 1, 2] Cert.UpRefIdeal.Gen.bcast_S64x1x1_S64x256x1024_0_1_2
        (broadcastInDim Cert.UpRefIdeal.S64x1x1 ![0] Cert.UpRefIdeal.Gen.bcast_S64_S64x1x1_0
          (cmpi .slt (iotaInDim S64 32 0) (broadcastInDim S64 ![] Cert.UpRefIdeal.Gen.bcast_S_S64
            (shapeCast Cert.UpRefIdeal.S_ N Cert.UpRefIdeal.Gen.shapeCasts_S1_S_)))))
      (mulf (mulf (DOT X G)
          (Host.divf (broadcastInDim Cert.UpRefIdeal.S64x256x1024 ![] Cert.UpRefIdeal.Gen.bcast_S_S64x256x1024
              (constant Cert.UpRefIdeal.S_ .f32 0x3F800000#32))
            (addf (broadcastInDim Cert.UpRefIdeal.S64x256x1024 ![] Cert.UpRefIdeal.Gen.bcast_S_S64x256x1024
                (constant Cert.UpRefIdeal.S_ .f32 0x3F800000#32))
              (Host.exp (Host.negf (DOT X G))))))
        (DOT X U))
      (broadcastInDim Cert.UpRefIdeal.S64x256x1024 ![] Cert.UpRefIdeal.Gen.bcast_S_S64x256x1024
        (id (constant Cert.UpRefIdeal.S_ .f32 0x00000000#32))))
    Cert.UpRefIdeal.Gen.shapeCasts_S64x256x1024_S16384x1024) Cert.UpRefIdeal.Gen.bitsLt_bf16_f32

/-- The reference's result as a function of its five arguments. -/
abbrev REF (E : IVec S64 32) (N : IVec S1 32) (X : FVec Ideal S16384x4096 .bf16) (WG WU : FVec Ideal S4x16x4096x1024 .f32) :
    FVec Ideal S16384x1024 .bf16 := OUT N X (MAT E WG) (MAT E WU)

/-- A chosen matrix at an entry. -/
theorem mat_apply (E : IVec S64 32) (W : FVec Ideal S4x16x4096x1024 .f32) (h : ∀ x, (E x).toNat < 16)
    (r : Fin 64) (k : Fin 4096) (n : Fin 1024) :
    MAT E W (ix3 r k n) = W (ix4 1 ⟨(E (ix1 r)).toNat, h _⟩ k n) := by
  have hidx : (broadcastInDim Cert.UpRefIdeal.S64x1 ![0] Cert.UpRefIdeal.Gen.bcast_S64_S64x1_0
      (select (cmpi .slt E (broadcastInDim S64 ![] Cert.UpRefIdeal.Gen.bcast_S_S64 (constantI Cert.UpRefIdeal.S_ 32 0#32)))
        (addi E (broadcastInDim S64 ![] Cert.UpRefIdeal.Gen.bcast_S_S64 (constantI Cert.UpRefIdeal.S_ 32 16#32))) E)) (ix2 r 0)
      = E (ix1 r) := by
    pointwise []
    exact Cert.Experts.wrap (h _)
  refine (Cert.Experts.pick_apply Cert.UpRefIdeal.Gen.facts.gather_S16x4096x1024_S64x1_S64x4096x1024_12_0_n_n_0_1_140961024_wf _ _ r k n
    (by rw [hidx]; exact Cert.Experts.toInt_eq (h _)) (by rw [hidx]; exact h _)).trans ?_
  pointwise []
  exact congrArg W (congrArg (fun q => ix4 1 q k n) (Fin.ext (congrArg BitVec.toNat (Cert.Experts.wrap (h _)))))

/-- The kernel's test that a block is used is the reference's. -/
theorem cond_iff (i : grid0.Coords) (w : BitVec 32) :
    k0_cond1 i w = 1#1 ↔ IntOp.cmpi .slt (BitVec.ofNat 32 (i 1).val) w = 1#1 := by
  unfold k0_cond1
  show IntOp.cmpi .ne ((IntOp.cmpi .slt (BitVec.ofNat 32 (i 1).val) w).setWidth 32) 0#32 = 1#1 ↔ _
  generalize IntOp.cmpi .slt (BitVec.ofNat 32 (i 1).val) w = b
  revert b; decide

/-- An entry of a used block is the reference's, where the block's rows and the tiles are the reference's. -/
theorem core_used (X : FVec Ideal S16384x4096 .bf16) (N : IVec S1 32) (G U : FVec Ideal Cert.UpRefIdeal.S64x4096x1024 .f32)
    (x0 : FVec Ideal S256x4096 .bf16) (x1 x2 : FVec Ideal S1x1x4096x512 .f32) (y : S256x512.Idx) (j : S16384x1024.Idx)
    (hr : (j 0 : ℕ) / 256 < 64) (hn : IntOp.cmpi .slt (BitVec.ofNat 32 ((j 0 : ℕ) / 256)) (N (ix1 0)) = 1#1)
    (hx : ∀ k, x0 (ix2 (y 0) k) = X (ix2 (j 0) k))
    (hg : ∀ k, x1 (ix4 0 0 k (y 1)) = G (ix3 ⟨(j 0 : ℕ) / 256, hr⟩ k (j 1)))
    (hu : ∀ k, x2 (ix4 0 0 k (y 1)) = U (ix3 ⟨(j 0 : ℕ) / 256, hr⟩ k (j 1))) :
    k0_pay1 (F := Ideal) x0 x1 x2 y = OUT N X G U j := by
  pointwise [k0_pay1, OUT, DOT]
  refine Eq.trans ?_ (if_pos hn).symm
  simp only [hx, hg, hu, Ideal.logistic]

/-- An entry of a block that is not used is the reference's zero. -/
theorem core_rest (X : FVec Ideal S16384x4096 .bf16) (N : IVec S1 32) (G U : FVec Ideal Cert.UpRefIdeal.S64x4096x1024 .f32)
    (y : S256x512.Idx) (j : S16384x1024.Idx)
    (hn : ¬ IntOp.cmpi .slt (BitVec.ofNat 32 ((j 0 : ℕ) / 256)) (N (ix1 0)) = 1#1) :
    k0_pay2 (F := Ideal) y = OUT N X G U j := by
  pointwise [k0_pay2, OUT, DOT]
  refine Eq.trans ?_ (if_neg hn).symm
  exact (show constant (F := Ideal) Cert.UpRefIdeal.S_ .f32 0x00000000#32 Idealize.ShloMosaic.ix0 = 0 by pointwise []).symm

variable (m : (ℓ : Loc nD τ sig) → Buf (Elt Ideal) ℓ)

/-- Where grid point `t` stands: column tile `t / 64`, row block `t % 64`. -/
theorem at_point : ∀ t : Fin grid0.N, (grid0.coords t 0).val = t.val / 64 ∧ (grid0.coords t 1).val = t.val % 64
    ∧ cc0_transform_0 (grid0.coords t) = ![t.val % 64, 0] ∧ cc0_transform_3 (grid0.coords t) = ![t.val % 64, t.val / 64] := by
  decide +kernel

/-- Every point writes its block back. -/
theorem flush_out : ∀ t : Fin grid0.N, Pipeline.Window.flushOf grid0 true cc0_transform_3 t = true := by decide +kernel

/-- The rows' block at a point. -/
theorem read0 (hO : Ok m) (c : Dev nD) (t : Fin (cfgM m hO).N) (y : S256x4096.Idx) (j : S16384x4096.Idx)
    (h : ∀ a, (j a : ℕ) = cc0_transform_0 (grid0.coords t) a * S256x4096.size a + y a) :
    iblk m hO c 0 t y = m ((c : Thread nD τ).loc main_arg2) j := by
  show m ((c : Thread nD τ).loc main_arg2) ((((cfgM m hO).win 0).rect t).emb y) = _
  refine congrArg _ (funext fun a => Fin.ext ?_)
  have e := Pipeline.Window.rect_emb_val ((cfgM m hO).win 0) t y a rfl
  exact e.trans (h a).symm

/-- The gate weights' block at a point. -/
theorem read1 (hO : Ok m) (c : Dev nD) (t : Fin (cfgM m hO).N) (y : S1x1x4096x512.Idx) (j : S4x16x4096x1024.Idx)
    (h : ∀ a, (j a : ℕ) = cc0_transform_1 k0_off1_inb numel1_S1 (tbl m) (grid0.coords t) a * S1x1x4096x512.size a + y a) :
    iblk m hO c 1 t y = m ((c : Thread nD τ).loc main_arg3) j := by
  show m ((c : Thread nD τ).loc main_arg3) ((((cfgM m hO).win 1).rect t).emb y) = _
  refine congrArg _ (funext fun a => Fin.ext ?_)
  have e := Pipeline.Window.rect_emb_val ((cfgM m hO).win 1) t y a rfl
  exact e.trans (h a).symm

/-- The up weights' block at a point. -/
theorem read2 (hO : Ok m) (c : Dev nD) (t : Fin (cfgM m hO).N) (y : S1x1x4096x512.Idx) (j : S4x16x4096x1024.Idx)
    (h : ∀ a, (j a : ℕ) = cc0_transform_1 k0_off1_inb numel1_S1 (tbl m) (grid0.coords t) a * S1x1x4096x512.size a + y a) :
    iblk m hO c 2 t y = m ((c : Thread nD τ).loc main_arg4) j := by
  show m ((c : Thread nD τ).loc main_arg4) ((((cfgM m hO).win 2).rect t).emb y) = _
  refine congrArg _ (funext fun a => Fin.ext ?_)
  have e := Pipeline.Window.rect_emb_val ((cfgM m hO).win 2) t y a rfl
  exact e.trans (h a).symm

/-- The written-back blocks cover the output. -/
theorem covers (hO : Ok m) : ((cfgM m hO).win 3).Covers := by
  refine ⟨fun a => ?_, fun β => ?_⟩
  · fin_cases a
    · exact (by decide : 0 < 256)
    · exact (by decide : 0 < 512)
  · have b0 : (β (0 : Fin 2) : ℕ) < 64 := (β (0 : Fin 2)).isLt.trans_eq (by show (16384 + 256 - 1) / 256 = 64; rfl)
    have b1 : (β (1 : Fin 2) : ℕ) < 2 := (β (1 : Fin 2)).isLt.trans_eq (by show (1024 + 512 - 1) / 512 = 2; rfl)
    have hN : grid0.N = 128 := N_0
    refine ⟨⟨(β (1 : Fin 2) : ℕ) * 64 + (β (0 : Fin 2) : ℕ), by show _ < grid0.N; omega⟩, flush_out _, fun a => ⟨?_, .inl rfl⟩⟩
    show cc0_transform_3 (grid0.coords _) a = β a
    rw [(at_point _).2.2.2]
    fin_cases a
    · show ((β (1 : Fin 2) : ℕ) * 64 + (β (0 : Fin 2) : ℕ)) % 64 = (β (0 : Fin 2) : ℕ); omega
    · show ((β (1 : Fin 2) : ℕ) * 64 + (β (0 : Fin 2) : ℕ)) / 64 = (β (1 : Fin 2) : ℕ); omega

/-- What a point at a used block leaves. -/
theorem outs_used (hO : Ok m) (c : Dev nD) (t : Fin (cfgM m hO).N) (h : usedAt m hO t) :
    outsAt m hO c t = k0_pay1 (F := Ideal) (iblk m hO c 0 t) (iblk m hO c 1 t) (iblk m hO c 2 t) := by
  unfold outsAt; rw [dif_pos h]
  frame_out
  exact congr (congr (congrArg _ ((hs0 m hO t).read_unread _)) ((hs1 m hO t).read_unread _)) ((hs2 m hO t).read_unread _)

/-- What a point at a block that is not used leaves. -/
theorem outs_rest (hO : Ok m) (c : Dev nD) (t : Fin (cfgM m hO).N) (h : ¬ usedAt m hO t) :
    outsAt m hO c t = k0_pay2 (F := Ideal) := by
  unfold outsAt; rw [dif_neg h]
  frame_out

/-- What a point leaves is its block of the reference's result. -/
theorem point (hO : Ok m) (h : ∀ x, ((tbl m 0 : IVec S64 32) x).toNat < 16) (c : Dev nD) (t : Fin (cfgM m hO).N)
    (y : S256x512.Idx) (j : S16384x1024.Idx)
    (hj : ∀ a, (j a : ℕ) = cc0_transform_3 (grid0.coords t) a * S256x512.size a + y a) :
    outsAt m hO c t y = REF (m ((c : Thread nD τ).loc main_arg0)) (m ((c : Thread nD τ).loc main_arg1))
      (m ((c : Thread nD τ).loc main_arg2)) (m ((c : Thread nD τ).loc main_arg3)) (m ((c : Thread nD τ).loc main_arg4)) j := by
  obtain rfl : c = 0 := Subsingleton.elim _ _
  obtain ⟨p0, p1, q0, q3⟩ := at_point t
  have j0 : (j 0 : ℕ) = t.val % 64 * 256 + y 0 := (hj 0).trans (by rw [q3]; rfl)
  have j1 : (j 1 : ℕ) = t.val / 64 * 512 + y 1 := (hj 1).trans (by rw [q3]; rfl)
  have y0 : (y 0 : ℕ) < 256 := (y 0).isLt
  have hd : (j 0 : ℕ) / 256 = t.val % 64 := by omega
  have hr : (j 0 : ℕ) / 256 < 64 := by omega
  have hw : used (F := Ideal) (tbl m 1) = (tbl m 1 : IVec S1 32) (ix1 0) := congrArg (tbl m 1) (S1_idx _ _)
  have hrow : (rowOf (grid0.coords t) : S64.Idx) = ix1 ⟨(j 0 : ℕ) / 256, hr⟩ := by
    funext a; fin_cases a; exact Fin.ext (p1.trans hd.symm)
  by_cases hu : usedAt m hO t
  · rw [outs_used m hO 0 t hu]
    have hn := (cond_iff _ _).mp hu
    rw [p1, ← hd, hw] at hn
    refine core_used _ _ _ _ _ _ _ y j hr hn (fun k => read0 m hO 0 t _ _ fun a => ?_) (fun k => ?_) (fun k => ?_)
    · rw [q0]; fin_cases a
      · exact j0
      · show (k : ℕ) = 0 * 4096 + k; omega
    · refine (read1 m hO 0 t _ _ fun a => ?_).trans (mat_apply (tbl m 0) _ h _ k (j 1)).symm
      rw [weights_at, hrow, p0]; fin_cases a
      · rfl
      · show ((tbl m 0 : IVec S64 32) _).toNat = ((tbl m 0 : IVec S64 32) _).toNat * 1 + 0; omega
      · show (k : ℕ) = 0 * 4096 + k; omega
      · exact j1
    · refine (read2 m hO 0 t _ _ fun a => ?_).trans (mat_apply (tbl m 0) _ h _ k (j 1)).symm
      rw [weights_at, hrow, p0]; fin_cases a
      · rfl
      · show ((tbl m 0 : IVec S64 32) _).toNat = ((tbl m 0 : IVec S64 32) _).toNat * 1 + 0; omega
      · show (k : ℕ) = 0 * 4096 + k; omega
      · exact j1
  · rw [outs_rest m hO 0 t hu]
    refine core_rest _ _ _ _ y j fun hn => hu ((cond_iff _ _).mpr ?_)
    rw [p1, ← hd, hw]; exact hn

/-- The output array after the whole grid is the reference's result. -/
theorem final (hO : Ok m) (h : ∀ x, ((tbl m 0 : IVec S64 32) x).toNat < 16) (c : Dev nD) :
    (dats m hO 0 c).arrAt 3 (cfgM m hO).N
      = REF (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m hO 0 c).arrAt_eq_of_covers 3 _ (covers m hO) fun t _ y => ?_
  exact point m hO h c t y _ fun a => Pipeline.Window.rect_emb_val _ t y a

end Cert.UpIdealRun

end
-- ==== Proof.DownIdealFrame.lean ====
/- The experts' last products, as a pipeline over the blocks of rows: what the call's body does at a grid point for any
   contents of its two tables (the block's expert, and how many blocks are used), and what its run leaves. At a used block the
   body stores the product; at another it stores zeros. So every block of the output is stored, whatever the tables say. -/
module

public import proofs.«01_k».proof.Defs
public import proofs.«01_k».proof.Proof.Gen.DownIdeal
public import proofs.«01_k».proof.Proof.Gen.DownIdeal.Launch
public import proofs.«01_k».proof.Proof.Gen.DownIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.DownIdealRun

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c` holds when the call starts: the launch contents. -/
abbrev V (c : Dev nD) (b : Ref sig .tc) : Buf (Elt F) ((c : Thread nD τ).loc b) := m ((c : Thread nD τ).loc b)

/-- The two tables. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Each block names an expert that exists. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tb0 : Memref sig .tc .smem S64 .i32 := Memref.whole main_arg0
abbrev tb1 : Memref sig .tc .smem S1 .i32 := Memref.whole main_arg1

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- How many blocks are used. -/
abbrev used (f : TbBuf (F := F) (0 : Dev nD) tb1) : BitVec 32 := f fun a => ⟨0, by fin_cases a; decide⟩

theorem S1_idx (x y : S1.Idx) : x = y := by
  funext a; fin_cases a; exact Subsingleton.elim (α := Fin 1) _ _

/-- The body at a used block: one store, of the product (the list of stores is what the run finds). -/
def kernelRunA (c : Dev nD) (i : grid0.Coords) (arg4 : Memref sig .tc .vmem S256x1024 .bf16) (harg4 : arg4.IsWhole) (arg5 : Memref sig .tc .vmem S1x1x1024x2048 .f32) (harg5 : arg5.IsWhole) (arg6 : Memref sig .tc .vmem S256x2048 .f32) (harg6 : arg6.IsWhole)
    (x0 : Vec F S256x1024 .bf16) (x1 : Vec F S1x1x1024x2048 .f32) (xt0 : TbBuf (F := F) c tb0) (xt1 : TbBuf (F := F) c tb1)
    (h1 : k0_cond1 i (used xt1) = 1#1) (h2 : ¬ k0_cond2 i (used xt1) = 1#1) :
    { L2 : List (View.Piece (Elt F) S256x2048 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ tbPt c tb0 xt0 ∗ tbPt c tb1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ tbPt c tb0 xt0 ∗ tbPt c tb1 xt1) -∗ K ⟨⟩))
          ⊢ wp frame (wpE (defs₀ (F := F)) Variants.none c none) E (cc0_moe_down i tb0 (Memref.isWhole_whole _) tb1 (Memref.isWhole_whole _) arg4 harg4 arg5 harg5 arg6 harg6) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec
    rw [show kernelRunA.sl.r c xt1 = used xt1 from congrArg xt1 (S1_idx _ _), dif_neg h2, dif_pos h1]
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

/-- The body at a block that is not used: one store, of zeros. -/
def kernelRunB (c : Dev nD) (i : grid0.Coords) (arg4 : Memref sig .tc .vmem S256x1024 .bf16) (harg4 : arg4.IsWhole) (arg5 : Memref sig .tc .vmem S1x1x1024x2048 .f32) (harg5 : arg5.IsWhole) (arg6 : Memref sig .tc .vmem S256x2048 .f32) (harg6 : arg6.IsWhole)
    (x0 : Vec F S256x1024 .bf16) (x1 : Vec F S1x1x1024x2048 .f32) (xt0 : TbBuf (F := F) c tb0) (xt1 : TbBuf (F := F) c tb1)
    (h1 : ¬ k0_cond1 i (used xt1) = 1#1) (h2 : k0_cond2 i (used xt1) = 1#1) :
    { L2 : List (View.Piece (Elt F) S256x2048 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ tbPt c tb0 xt0 ∗ tbPt c tb1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ tbPt c tb0 xt0 ∗ tbPt c tb1 xt1) -∗ K ⟨⟩))
          ⊢ wp frame (wpE (defs₀ (F := F)) Variants.none c none) E (cc0_moe_down i tb0 (Memref.isWhole_whole _) tb1 (Memref.isWhole_whole _) arg4 harg4 arg5 harg5 arg6 harg6) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec
    rw [show kernelRunB.sl.r c xt1 = used xt1 from congrArg xt1 (S1_idx _ _), dif_pos h2, dif_neg h1]
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

/-! What a staging buffer of the output ends with. -/

/-- A staging buffer of the output, to state contents through. -/
abbrev VO : View sig .tc .vmem S256x2048 .f32 := (Memref.whole cc0_stg2_0 : Memref sig .tc .vmem S256x2048 .f32).view

theorem coverA (c : Dev nD) (i : grid0.Coords) (arg4 : Memref sig .tc .vmem S256x1024 .bf16) (harg4 : arg4.IsWhole) (arg5 : Memref sig .tc .vmem S1x1x1024x2048 .f32) (harg5 : arg5.IsWhole) (arg6 : Memref sig .tc .vmem S256x2048 .f32) (harg6 : arg6.IsWhole)
    (x0 : Vec F S256x1024 .bf16) (x1 : Vec F S1x1x1024x2048 .f32) (xt0 : TbBuf (F := F) c tb0) (xt1 : TbBuf (F := F) c tb1) (h1 h2) (y : S256x2048.Idx) :
    ∃ pc ∈ (kernelRunA c i arg4 harg4 arg5 harg5 arg6 harg6 x0 x1 xt0 xt1 h1 h2).1, y ∈ pc.1.set :=
  View.cover_of_tiledL _ S256x2048.size (by sl_kernel_rfl) y

theorem coverB (c : Dev nD) (i : grid0.Coords) (arg4 : Memref sig .tc .vmem S256x1024 .bf16) (harg4 : arg4.IsWhole) (arg5 : Memref sig .tc .vmem S1x1x1024x2048 .f32) (harg5 : arg5.IsWhole) (arg6 : Memref sig .tc .vmem S256x2048 .f32) (harg6 : arg6.IsWhole)
    (x0 : Vec F S256x1024 .bf16) (x1 : Vec F S1x1x1024x2048 .f32) (xt0 : TbBuf (F := F) c tb0) (xt1 : TbBuf (F := F) c tb1) (h1 h2) (y : S256x2048.Idx) :
    ∃ pc ∈ (kernelRunB c i arg4 harg4 arg5 harg5 arg6 harg6 x0 x1 xt0 xt1 h1 h2).1, y ∈ pc.1.set :=
  View.cover_of_tiledL _ S256x2048.size (by sl_kernel_rfl) y

/-- A block is used or it is not: the two conditions of the body exclude and exhaust one another. -/
theorem cond_not (i : grid0.Coords) (w : BitVec 32) : k0_cond2 i w = 1#1 ↔ ¬ k0_cond1 i w = 1#1 := by
  unfold k0_cond1 k0_cond2 Scalar.cmpi Scalar.extui
  simp only [IntOp.cmpi]
  by_cases h : (BitVec.ofNat 32 (i 1).val).slt w <;> simp [h, BitVec.sle_eq_not_slt]

/-- So the output's buffer is stored at every point. -/
theorem idle2 (hO : Ok m) (t : Fin (cfgM m hO).N) : (cfgM m hO).idle 2 ((cfgM m hO).grid.coords t) = false := by
  show (!(k0_cond1 (grid0.coords t) ((tbl m).atD 1 ![0]) == 1#1) && !(k0_cond2 (grid0.coords t) ((tbl m).atD 1 ![0]) == 1#1)) = false
  by_cases h : k0_cond1 (grid0.coords t) ((tbl m).atD 1 ![0]) = 1#1
  · simp only [h, beq_self_eq_true, Bool.not_true, Bool.false_and]
  · simp only [(cond_not _ _).mpr h, beq_self_eq_true, Bool.not_true, Bool.and_false]

/-! ## The pipeline's data and the run -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S256x1024 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S256x2048 .f32 := spec0_2.stage ((cfgM m hO).slots t 2)
abbrev hs2 (hO : Ok m) (t : Fin (cfgM m hO).N) : (ms2 m hO t).IsWhole := hstage0_2 (((cfgM m hO).slots t 2).cast nbuf0_2)

/-- The body at point `t`. -/
abbrev bodyAt (a : (pcfg0 (F := F)).Adm) (t : Fin (cfg0 a).N) : Prog (TpuEff nD τ sig (Elt F) Λ₀ .tc) PUnit :=
  cc0_moe_down (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-- Point `t` works on a used block. -/
abbrev usedAt (hO : Ok m) (t : Fin (cfgM m hO).N) : Prop := k0_cond1 (grid0.coords t) (used (F := F) (tbl m 1)) = 1#1

/-- The output's block after point `t`. -/
def outsAt (hO : Ok m) (c : Dev nD) (t : Fin (cfgM m hO).N) : Vec F S256x2048 .f32 :=
  if h : usedAt m hO t then
    VO.read (Elt F) (VO.writes (Elt F) VO.junk (kernelRunA c (grid0.coords t) (ms0 m hO t) (hs0 m hO t) (ms1 m hO t) (hs1 m hO t) (ms2 m hO t) (hs2 m hO t) (iblk m hO c 0 t) (iblk m hO c 1 t) (tbl m 0) (tbl m 1) h (fun h' => (cond_not _ _).mp h' h)).1)
  else
    VO.read (Elt F) (VO.writes (Elt F) VO.junk (kernelRunB c (grid0.coords t) (ms0 m hO t) (hs0 m hO t) (ms1 m hO t) (hs1 m hO t) (ms2 m hO t) (hs2 m hO t) (iblk m hO c 0 t) (iblk m hO c 1 t) (tbl m 0) (tbl m 1) h ((cond_not _ _).mpr h)).1)

/-- The pipeline's data: the arrays as launched, the inputs' buffers at their blocks and the output's at `outsAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = outsAt m hO c t := by dsimp only [dats]; try rfl

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- What the body is called with, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t))

theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1]
  rw [show (dats m hO 0 c).Φ t.succ = (dats m hO 0 c).Φ t.castSucc from rfl,
    show (dats m hO 0 c).owesAt () t.succ = (dats m hO 0 c).owesAt () t.castSucc from rfl,
    after0, after1, after2]
  rw [show (dats m hO 0 c).Φ t.castSucc = iprop(Pipeline.ΦA spec0 c ∗ Pipeline.ΦT pre0 (tbl m) c) from rfl, PhiT_eq]
  unfold outsAt
  by_cases h : usedAt m hO t
  · rw [dif_pos h]
    iintro ⟨⟨HΦ, ⟨HT0, HT1⟩⟩, Ho, ⟨%d0, H0⟩, ⟨%d1, H1⟩, ⟨%d2, H2⟩⟩
    iapply ((kernelRunA c (grid0.coords t) _ _ _ _ _ _ (iblk m hO c 0 t) (iblk m hO c 1 t) (tbl m 0) (tbl m 1) h (fun h' => (cond_not _ _).mp h' h)).2 Set.univ _)
    isplitl [H0]; · iexact H0
    isplitl [H1]; · iexact H1
    isplitl [H2]; · iexists _; iexact H2
    isplitl [HT0]; · iexact HT0
    isplitl [HT1]; · iexact HT1
    iintro ⟨H0, H1, ⟨%e2, H2⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _ _ _ _)
  · rw [dif_neg h]
    iintro ⟨⟨HΦ, ⟨HT0, HT1⟩⟩, Ho, ⟨%d0, H0⟩, ⟨%d1, H1⟩, ⟨%d2, H2⟩⟩
    iapply ((kernelRunB c (grid0.coords t) _ _ _ _ _ _ (iblk m hO c 0 t) (iblk m hO c 1 t) (tbl m 0) (tbl m 1) h ((cond_not _ _).mpr h)).2 Set.univ _)
    isplitl [H0]; · iexact H0
    isplitl [H1]; · iexact H1
    isplitl [H2]; · iexists _; iexact H2
    isplitl [HT0]; · iexact HT0
    isplitl [HT1]; · iexact HT1
    iintro ⟨H0, H1, ⟨%e2, H2⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO, idle2]
  exact triple_restated (sound_body m hO c t) rfl .rfl fun _ => .rfl

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
/-- Every execution ends, with each array at what the pipeline's data say, every other buffer as launched and every counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- Every execution ends with the output at what its blocks are after their points, the arguments as launched and every
    counter at zero. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 2,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1))⟩, h.2⟩) (run_quiescent m ρ hO)

/-! ## The weights' blocks -/

/-- The row block of grid point `i`, as an index of the table of experts. -/
abbrev rowOf (i : grid0.Coords) : S64.Idx := fun a => ⟨(i 1).val, by fin_cases a; exact (i 1).isLt⟩

/-- The weights' block at a grid point: layer 1, the row block's expert, all rows, the column tile. -/
theorem weights_at (pf : pre0.Contents (Elt F)) (i : grid0.Coords) :
    cc0_transform_1 k0_off1_inb numel1_S1 pf i = ![1, ((pf 0 : IVec S64 32) (rowOf i)).toNat, 0, (i 0).val] := by
  have h0 : (i 0).val < 2 := (i 0).isLt
  have h1 : (i 1).val < 64 := (i 1).isLt
  have e0 : (BitVec.ofNat 32 (i 0).val).toNat = (i 0).val := WordCmp.toNat_ofNat_of_lt (by omega)
  have e1 : (BitVec.ofNat 32 (i 1).val).toNat = (i 1).val := WordCmp.toNat_ofNat_of_lt (by omega)
  have ha : (pf.at 0 (Rect.unit (s := S64) ![(BitVec.ofNat 32 (i 1).val).toNat] S1.size (k0_off1_inb i)) numel1_S1 : BitVec 32)
      = (pf 0 : IVec S64 32) (rowOf i) := by
    refine congrArg (pf 0 : IVec S64 32) (funext fun a => Fin.ext ?_)
    fin_cases a
    show (BitVec.ofNat 32 (i 1).val).toNat + 1 * 0 = (i 1).val
    omega
  exact congrArg₂ (fun (w : BitVec 32) (n : ℕ) => (![1, w.toNat, 0, n] : Fin 4 → ℕ)) ha e0

/-- Tables whose experts are all under 16 keep the weights' blocks inside the weights. -/
theorem ok_of (h : ∀ x, ((tbl m 0 : IVec S64 32) x).toNat < 16) : Ok m := by
  have key : ∀ i : grid0.Coords, ∀ a, (cc0_transform_1 k0_off1_inb numel1_S1 (tbl m) i a + 1) * S1x1x1024x2048.size a ≤ S4x16x1024x4096.size a := by
    intro i a
    have h0 : (i 0).val < 2 := (i 0).isLt
    have hx := h (rowOf i)
    rw [weights_at]
    fin_cases a
    · show (1 + 1) * 1 ≤ 4; omega
    · show (((tbl m 0 : IVec S64 32) (rowOf i)).toNat + 1) * 1 ≤ 16; omega
    · show (0 + 1) * 1024 ≤ 1024; omega
    · show ((i 0).val + 1) * 2048 ≤ 4096; omega
  exact fun i => ⟨key i, .inl rfl⟩

end Cert.DownIdealRun
-- ==== Proof.DownValue.lean ====
/- The value of the experts' last product: the array the call leaves is the reference's product of each used block of rows
   with the block's expert, and zeros in the other blocks. -/
module

public import proofs.«01_k».proof.Proof.DownIdealFrame
public import proofs.«01_k».proof.Proof.Experts
public import proofs.«01_k».proof.Proof.Gen.DownRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownIdealRun

open Cert.DownIdeal Cert.DownIdeal.Gen

/-- The reference's choice of matrices: entry `r` is the matrix of row block `r`'s expert in layer 1. -/
abbrev MAT (E : IVec S64 32) (W : FVec Ideal S4x16x1024x4096 .f32) : FVec Ideal Cert.DownRefIdeal.S64x1024x4096 .f32 :=
  Host.gather Cert.DownRefIdeal.gather_S16x1024x4096_S64x1_S64x1024x4096_12_0_n_n_0_1_110244096
    (shapeCast Cert.DownRefIdeal.S16x1024x4096
      (extractStridedSlice Cert.DownRefIdeal.S1x16x1024x4096 ![1, 0, 0, 0] W
        Cert.DownRefIdeal.Gen.slices_S4x16x1024x4096_S1x16x1024x4096_1_0_0_0)
      Cert.DownRefIdeal.Gen.shapeCasts_S1x16x1024x4096_S16x1024x4096)
    (broadcastInDim Cert.DownRefIdeal.S64x1 ![0] Cert.DownRefIdeal.Gen.bcast_S64_S64x1_0
      (select (cmpi .slt E (broadcastInDim S64 ![] Cert.DownRefIdeal.Gen.bcast_S_S64 (constantI Cert.DownRefIdeal.S_ 32 0#32)))
        (addi E (broadcastInDim S64 ![] Cert.DownRefIdeal.Gen.bcast_S_S64 (constantI Cert.DownRefIdeal.S_ 32 16#32))) E))

/-- The reference's result from the count of used blocks, the rows, and the chosen matrices. -/
abbrev OUT (N : IVec S1 32) (X : FVec Ideal S16384x1024 .bf16) (G : FVec Ideal Cert.DownRefIdeal.S64x1024x4096 .f32) :
    FVec Ideal S16384x4096 .f32 :=
  shapeCast S16384x4096 (select
      (broadcastInDim Cert.DownRefIdeal.S64x256x4096 ![0, 1, 2] Cert.DownRefIdeal.Gen.bcast_S64x1x1_S64x256x4096_0_1_2
        (broadcastInDim Cert.DownRefIdeal.S64x1x1 ![0] Cert.DownRefIdeal.Gen.bcast_S64_S64x1x1_0
          (cmpi .slt (iotaInDim S64 32 0) (broadcastInDim S64 ![] Cert.DownRefIdeal.Gen.bcast_S_S64
            (shapeCast Cert.DownRefIdeal.S_ N Cert.DownRefIdeal.Gen.shapeCasts_S1_S_)))))
      (Host.dotGeneral Cert.DownRefIdeal.dot_S64x256x1024_S64x1024x4096_S64x256x4096_2_1_1_2_0_0 none
        (shapeCast Cert.DownRefIdeal.S64x256x1024 (extf .f32 X Cert.DownRefIdeal.Gen.bitsLt_bf16_f32)
          Cert.DownRefIdeal.Gen.shapeCasts_S16384x1024_S64x256x1024) G)
      (broadcastInDim Cert.DownRefIdeal.S64x256x4096 ![] Cert.DownRefIdeal.Gen.bcast_S_S64x256x4096
        (id (constant Cert.DownRefIdeal.S_ .f32 0x00000000#32))))
    Cert.DownRefIdeal.Gen.shapeCasts_S64x256x4096_S16384x4096

/-- The reference's result as a function of its four arguments. -/
abbrev REF (E : IVec S64 32) (N : IVec S1 32) (X : FVec Ideal S16384x1024 .bf16) (W : FVec Ideal S4x16x1024x4096 .f32) :
    FVec Ideal S16384x4096 .f32 := OUT N X (MAT E W)

/-- A chosen matrix at an entry. -/
theorem mat_apply (E : IVec S64 32) (W : FVec Ideal S4x16x1024x4096 .f32) (h : ∀ x, (E x).toNat < 16)
    (r : Fin 64) (k : Fin 1024) (n : Fin 4096) :
    MAT E W (ix3 r k n) = W (ix4 1 ⟨(E (ix1 r)).toNat, h _⟩ k n) := by
  have hidx : (broadcastInDim Cert.DownRefIdeal.S64x1 ![0] Cert.DownRefIdeal.Gen.bcast_S64_S64x1_0
      (select (cmpi .slt E (broadcastInDim S64 ![] Cert.DownRefIdeal.Gen.bcast_S_S64 (constantI Cert.DownRefIdeal.S_ 32 0#32)))
        (addi E (broadcastInDim S64 ![] Cert.DownRefIdeal.Gen.bcast_S_S64 (constantI Cert.DownRefIdeal.S_ 32 16#32))) E)) (ix2 r 0)
      = E (ix1 r) := by
    pointwise []
    exact Cert.Experts.wrap (h _)
  refine (Cert.Experts.pick_apply Cert.DownRefIdeal.Gen.facts.gather_S16x1024x4096_S64x1_S64x1024x4096_12_0_n_n_0_1_110244096_wf _ _ r k n
    (by rw [hidx]; exact Cert.Experts.toInt_eq (h _)) (by rw [hidx]; exact h _)).trans ?_
  pointwise []
  exact congrArg W (congrArg (fun q => ix4 1 q k n) (Fin.ext (congrArg BitVec.toNat (Cert.Experts.wrap (h _)))))

/-- The kernel's test that a block is used is the reference's. -/
theorem cond_iff (i : grid0.Coords) (w : BitVec 32) :
    k0_cond1 i w = 1#1 ↔ IntOp.cmpi .slt (BitVec.ofNat 32 (i 1).val) w = 1#1 := by
  unfold k0_cond1
  show IntOp.cmpi .ne ((IntOp.cmpi .slt (BitVec.ofNat 32 (i 1).val) w).setWidth 32) 0#32 = 1#1 ↔ _
  generalize IntOp.cmpi .slt (BitVec.ofNat 32 (i 1).val) w = b
  revert b; decide

/-- An entry of a used block is the reference's, where the block's rows and the tile are the reference's. -/
theorem core_used (X : FVec Ideal S16384x1024 .bf16) (N : IVec S1 32) (G : FVec Ideal Cert.DownRefIdeal.S64x1024x4096 .f32)
    (x0 : FVec Ideal S256x1024 .bf16) (x1 : FVec Ideal S1x1x1024x2048 .f32) (y : S256x2048.Idx) (j : S16384x4096.Idx)
    (hr : (j 0 : ℕ) / 256 < 64) (hn : IntOp.cmpi .slt (BitVec.ofNat 32 ((j 0 : ℕ) / 256)) (N (ix1 0)) = 1#1)
    (hx : ∀ k, x0 (ix2 (y 0) k) = X (ix2 (j 0) k))
    (hg : ∀ k, x1 (ix4 0 0 k (y 1)) = G (ix3 ⟨(j 0 : ℕ) / 256, hr⟩ k (j 1))) :
    k0_pay1 (F := Ideal) x0 x1 y = OUT N X G j := by
  pointwise [k0_pay1, OUT]
  refine Eq.trans ?_ (if_pos hn).symm
  simp only [hx, hg]

/-- An entry of a block that is not used is the reference's zero. -/
theorem core_rest (X : FVec Ideal S16384x1024 .bf16) (N : IVec S1 32) (G : FVec Ideal Cert.DownRefIdeal.S64x1024x4096 .f32)
    (y : S256x2048.Idx) (j : S16384x4096.Idx)
    (hn : ¬ IntOp.cmpi .slt (BitVec.ofNat 32 ((j 0 : ℕ) / 256)) (N (ix1 0)) = 1#1) :
    k0_pay2 (F := Ideal) y = OUT N X G j := by
  pointwise [k0_pay2, OUT]
  refine Eq.trans ?_ (if_neg hn).symm
  exact (show constant (F := Ideal) Cert.DownRefIdeal.S_ .f32 0x00000000#32 Idealize.ShloMosaic.ix0 = 0 by pointwise []).symm

variable (m : (ℓ : Loc nD τ sig) → Buf (Elt Ideal) ℓ)

/-- Where grid point `t` stands: column tile `t / 64`, row block `t % 64`. -/
theorem at_point : ∀ t : Fin grid0.N, (grid0.coords t 0).val = t.val / 64 ∧ (grid0.coords t 1).val = t.val % 64
    ∧ cc0_transform_0 (grid0.coords t) = ![t.val % 64, 0] ∧ cc0_transform_2 (grid0.coords t) = ![t.val % 64, t.val / 64] := by
  decide +kernel

/-- Every point writes its block back. -/
theorem flush_out : ∀ t : Fin grid0.N, Pipeline.Window.flushOf grid0 true cc0_transform_2 t = true := by decide +kernel

/-- The rows' block at a point. -/
theorem read0 (hO : Ok m) (c : Dev nD) (t : Fin (cfgM m hO).N) (y : S256x1024.Idx) (j : S16384x1024.Idx)
    (h : ∀ a, (j a : ℕ) = cc0_transform_0 (grid0.coords t) a * S256x1024.size a + y a) :
    iblk m hO c 0 t y = m ((c : Thread nD τ).loc main_arg2) j := by
  show m ((c : Thread nD τ).loc main_arg2) ((((cfgM m hO).win 0).rect t).emb y) = _
  refine congrArg _ (funext fun a => Fin.ext ?_)
  have e := Pipeline.Window.rect_emb_val ((cfgM m hO).win 0) t y a rfl
  exact e.trans (h a).symm

/-- The weights' block at a point. -/
theorem read1 (hO : Ok m) (c : Dev nD) (t : Fin (cfgM m hO).N) (y : S1x1x1024x2048.Idx) (j : S4x16x1024x4096.Idx)
    (h : ∀ a, (j a : ℕ) = cc0_transform_1 k0_off1_inb numel1_S1 (tbl m) (grid0.coords t) a * S1x1x1024x2048.size a + y a) :
    iblk m hO c 1 t y = m ((c : Thread nD τ).loc main_arg3) j := by
  show m ((c : Thread nD τ).loc main_arg3) ((((cfgM m hO).win 1).rect t).emb y) = _
  refine congrArg _ (funext fun a => Fin.ext ?_)
  have e := Pipeline.Window.rect_emb_val ((cfgM m hO).win 1) t y a rfl
  exact e.trans (h a).symm

/-- The written-back blocks cover the output. -/
theorem covers (hO : Ok m) : ((cfgM m hO).win 2).Covers := by
  refine ⟨fun a => ?_, fun β => ?_⟩
  · fin_cases a
    · exact (by decide : 0 < 256)
    · exact (by decide : 0 < 2048)
  · have b0 : (β (0 : Fin 2) : ℕ) < 64 := (β (0 : Fin 2)).isLt.trans_eq (by show (16384 + 256 - 1) / 256 = 64; rfl)
    have b1 : (β (1 : Fin 2) : ℕ) < 2 := (β (1 : Fin 2)).isLt.trans_eq (by show (4096 + 2048 - 1) / 2048 = 2; rfl)
    have hN : grid0.N = 128 := N_0
    refine ⟨⟨(β (1 : Fin 2) : ℕ) * 64 + (β (0 : Fin 2) : ℕ), by show _ < grid0.N; omega⟩, flush_out _, fun a => ⟨?_, .inl rfl⟩⟩
    show cc0_transform_2 (grid0.coords _) a = β a
    rw [(at_point _).2.2.2]
    fin_cases a
    · show ((β (1 : Fin 2) : ℕ) * 64 + (β (0 : Fin 2) : ℕ)) % 64 = (β (0 : Fin 2) : ℕ); omega
    · show ((β (1 : Fin 2) : ℕ) * 64 + (β (0 : Fin 2) : ℕ)) / 64 = (β (1 : Fin 2) : ℕ); omega

/-- What a point at a used block leaves. -/
theorem outs_used (hO : Ok m) (c : Dev nD) (t : Fin (cfgM m hO).N) (h : usedAt m hO t) :
    outsAt m hO c t = k0_pay1 (F := Ideal) (iblk m hO c 0 t) (iblk m hO c 1 t) := by
  unfold outsAt; rw [dif_pos h]
  frame_out
  exact congr (congrArg _ ((hs0 m hO t).read_unread _)) ((hs1 m hO t).read_unread _)

/-- What a point at a block that is not used leaves. -/
theorem outs_rest (hO : Ok m) (c : Dev nD) (t : Fin (cfgM m hO).N) (h : ¬ usedAt m hO t) :
    outsAt m hO c t = k0_pay2 (F := Ideal) := by
  unfold outsAt; rw [dif_neg h]
  frame_out

/-- What a point leaves is its block of the reference's result. -/
theorem point (hO : Ok m) (h : ∀ x, ((tbl m 0 : IVec S64 32) x).toNat < 16) (c : Dev nD) (t : Fin (cfgM m hO).N)
    (y : S256x2048.Idx) (j : S16384x4096.Idx)
    (hj : ∀ a, (j a : ℕ) = cc0_transform_2 (grid0.coords t) a * S256x2048.size a + y a) :
    outsAt m hO c t y = REF (m ((c : Thread nD τ).loc main_arg0)) (m ((c : Thread nD τ).loc main_arg1))
      (m ((c : Thread nD τ).loc main_arg2)) (m ((c : Thread nD τ).loc main_arg3)) j := by
  obtain rfl : c = 0 := Subsingleton.elim _ _
  obtain ⟨p0, p1, q0, q3⟩ := at_point t
  have j0 : (j 0 : ℕ) = t.val % 64 * 256 + y 0 := (hj 0).trans (by rw [q3]; rfl)
  have j1 : (j 1 : ℕ) = t.val / 64 * 2048 + y 1 := (hj 1).trans (by rw [q3]; rfl)
  have y0 : (y 0 : ℕ) < 256 := (y 0).isLt
  have hd : (j 0 : ℕ) / 256 = t.val % 64 := by omega
  have hr : (j 0 : ℕ) / 256 < 64 := by omega
  have hw : used (F := Ideal) (tbl m 1) = (tbl m 1 : IVec S1 32) (ix1 0) := congrArg (tbl m 1) (S1_idx _ _)
  have hrow : (rowOf (grid0.coords t) : S64.Idx) = ix1 ⟨(j 0 : ℕ) / 256, hr⟩ := by
    funext a; fin_cases a; exact Fin.ext (p1.trans hd.symm)
  by_cases hu : usedAt m hO t
  · rw [outs_used m hO 0 t hu]
    have hn := (cond_iff _ _).mp hu
    rw [p1, ← hd, hw] at hn
    refine core_used _ _ _ _ _ y j hr hn (fun k => read0 m hO 0 t _ _ fun a => ?_) (fun k => ?_)
    · rw [q0]; fin_cases a
      · exact j0
      · show (k : ℕ) = 0 * 1024 + k; omega
    · refine (read1 m hO 0 t _ _ fun a => ?_).trans (mat_apply (tbl m 0) _ h _ k (j 1)).symm
      rw [weights_at, hrow, p0]; fin_cases a
      · rfl
      · show ((tbl m 0 : IVec S64 32) _).toNat = ((tbl m 0 : IVec S64 32) _).toNat * 1 + 0; omega
      · show (k : ℕ) = 0 * 1024 + k; omega
      · exact j1
  · rw [outs_rest m hO 0 t hu]
    refine core_rest _ _ _ y j fun hn => hu ((cond_iff _ _).mpr ?_)
    rw [p1, ← hd, hw]; exact hn

/-- The output array after the whole grid is the reference's result. -/
theorem final (hO : Ok m) (h : ∀ x, ((tbl m 0 : IVec S64 32) x).toNat < 16) (c : Dev nD) :
    (dats m hO 0 c).arrAt 2 (cfgM m hO).N
      = REF (m ((c : Thread nD τ).loc main_arg0)) (m ((c : Thread nD τ).loc main_arg1))
      (m ((c : Thread nD τ).loc main_arg2)) (m ((c : Thread nD τ).loc main_arg3)) := by
  refine (dats m hO 0 c).arrAt_eq_of_covers 2 _ (covers m hO) fun t _ y => ?_
  exact point m hO h c t y _ fun a => Pipeline.Window.rect_emb_val _ t y a

end Cert.DownIdealRun

end
-- ==== Proof.FinalNormValue.lean ====
/- The value of the closing norm: the array the blocked kernel leaves is every token over its root mean square, times
   the gain. -/
module

public import proofs.«01_k».proof.Proof.Gen.FinalNormIdeal.Frame
public import proofs.«01_k».proof.Proof.Gen.FinalNormRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FinalNormIdeal.Whole

open Cert.FinalNormIdeal Cert.FinalNormIdeal.Gen

variable (m : (ℓ : Loc nD τ sig) → Buf (Elt Ideal) ℓ)

/-- The reference's norm of all tokens. -/
abbrev REF (X : FVec Ideal S6144x4096 .f32) (G : FVec Ideal S4096 .f32) : FVec Ideal S6144x4096 .f32 :=
  mulf (mulf X (broadcastInDim S6144x4096 ![0, 1] Cert.FinalNormRefIdeal.Gen.bcast_S6144x1_S6144x4096_0_1
      (Host.rsqrt (addf (Host.divf
        (broadcastInDim Cert.FinalNormRefIdeal.S6144x1 ![0] Cert.FinalNormRefIdeal.Gen.bcast_S6144_S6144x1_0
          (Host.reduceAdd (mulf X X) (constant Cert.FinalNormRefIdeal.S_ .f32 0x00000000#32)
            Cert.FinalNormRefIdeal.Gen.reducesTo_S6144x4096_S6144_d1 Cert.FinalNormRefIdeal.Gen.h_S_))
        (broadcastInDim Cert.FinalNormRefIdeal.S6144x1 ![] Cert.FinalNormRefIdeal.Gen.bcast_S_S6144x1
          (constant Cert.FinalNormRefIdeal.S_ .f32 0x45800000#32)))
        (broadcastInDim Cert.FinalNormRefIdeal.S6144x1 ![] Cert.FinalNormRefIdeal.Gen.bcast_S_S6144x1
          (constant Cert.FinalNormRefIdeal.S_ .f32 0x358637BD#32))))))
    (broadcastInDim S6144x4096 ![0, 1] Cert.FinalNormRefIdeal.Gen.bcast_S1x4096_S6144x4096_0_1
      (broadcastInDim S1x4096 ![1] Cert.FinalNormRefIdeal.Gen.bcast_S4096_S1x4096_1 G))

/-- Which block each window holds at grid point `t`: 256 tokens, and the one gain. -/
theorem idx : ∀ t : Fin cfg0.N, win0_0.index t = ![t.val, 0] ∧ win0_1.index t = ![0, 0] ∧ win0_2.index t = ![t.val, 0] :=
  (by decide +kernel : ∀ t : Fin grid0.N, _)

/-- The gain as the call is handed it: one row. -/
theorem gain (c : Dev nD) : V m c main_v0 = shapeCast S1x4096 (m ((c : Thread nD τ).loc main_arg1) : FVec Ideal S4096 .f32) shapeCasts_S4096_S1x4096 := by
  unfold V; after_results; rfl

/-- An entry of the block computed at grid point `t` is the entry of the reference's result it stands for. -/
theorem core (c : Dev nD) (t : Fin cfg0.N) (y : S256x4096.Idx) (j : S6144x4096.Idx)
    (hj0 : (j 0 : ℕ) = t.val * 256 + y 0) (hj1 : (j 1 : ℕ) = y 1) :
    k0_pay1 (F := Ideal) (iblk m c 0 t) (iblk m c 1 t) y
      = REF (m ((c : Thread nD τ).loc main_arg0)) (m ((c : Thread nD τ).loc main_arg1)) j := by
  pointwise [k0_pay1, REF]
  blk_point [iblk, V, idx t, gain]

/-- The output array after the whole grid is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact core m c t y _ (by blk_simp [idx t]) (by blk_simp [idx t])

end Cert.FinalNormIdeal.Whole

end
-- ==== Proof.NormModValue.lean ====
/- The value of the modulated norm: the array the blocked kernel leaves is every token over its root mean square, times
   the gain, scaled by one plus its group's scale and moved by its group's shift. -/
module

public import proofs.«01_k».proof.Proof.Gen.NormModIdeal.Frame
public import proofs.«01_k».proof.Proof.Gen.NormModRefIdeal
public import proofs.«01_k».proof.Proof.FinalNormValue

@[expose] public section

set_option maxRecDepth 16384

noncomputable section

open Idealize.ShloMosaic Idealize.ShloMosaic.TcCoe Idealize.SL.Sem
open Idealize.ShloMosaic.Pipeline (Dat)

namespace Cert.NormModIdeal.Whole

open Cert.NormModIdeal Cert.NormModIdeal.Gen

variable (m : (ℓ : Loc nD τ sig) → Buf (Elt Ideal) ℓ)

/-- The reference's six modulation rows of every token: group 0 for the prompts, groups 1 and 2 for the two latent streams. -/
abbrev PER (D : FVec Ideal S8x6x4096 .f32) : FVec Ideal Cert.NormModRefIdeal.S6144x6x4096 .f32 :=
  concatenate Cert.NormModRefIdeal.S6144x6x4096 0
    [⟨Cert.NormModRefIdeal.S4096x6x4096, broadcastInDim Cert.NormModRefIdeal.S4096x6x4096 ![0, 1, 2]
        Cert.NormModRefIdeal.Gen.bcast_S1x6x4096_S4096x6x4096_0_1_2
        (extractStridedSlice S1x6x4096 ![0, 0, 0] D Cert.NormModRefIdeal.Gen.slices_S8x6x4096_S1x6x4096_0_0_0)⟩,
     ⟨Cert.NormModRefIdeal.S2048x6x4096, shapeCast _
        (broadcastInDim Cert.NormModRefIdeal.S2x1024x6x4096 ![0, 2, 3]
          Cert.NormModRefIdeal.Gen.bcast_S2x6x4096_S2x1024x6x4096_0_2_3
          (extractStridedSlice Cert.NormModRefIdeal.S2x6x4096 ![1, 0, 0] D
            Cert.NormModRefIdeal.Gen.slices_S8x6x4096_S2x6x4096_1_0_0))
        Cert.NormModRefIdeal.Gen.shapeCasts_S2x1024x6x4096_S2048x6x4096⟩]
    Cert.NormModRefIdeal.Gen.concatenates_S4096x6x4096_S2048x6x4096_S6144x6x4096_d0

/-- The reference's result: the norm, scaled and moved. -/
abbrev REF (X : FVec Ideal S6144x4096 .f32) (G : FVec Ideal Cert.NormModRefIdeal.S4096 .f32) (D : FVec Ideal S8x6x4096 .f32) : FVec Ideal S6144x4096 .bf16 :=
  truncf .bf16 (addf (mulf (Cert.FinalNormIdeal.Whole.REF X G)
      (addf (broadcastInDim S6144x4096 ![] Cert.NormModRefIdeal.Gen.bcast_S_S6144x4096 (constant Cert.NormModRefIdeal.S_ .f32 0x3F800000#32))
        (shapeCast _ (extractStridedSlice Cert.NormModRefIdeal.S6144x1x4096 ![0, 1, 0] (PER D)
          Cert.NormModRefIdeal.Gen.slices_S6144x6x4096_S6144x1x4096_0_1_0) Cert.NormModRefIdeal.Gen.shapeCasts_S6144x1x4096_S6144x4096)))
    (shapeCast _ (extractStridedSlice Cert.NormModRefIdeal.S6144x1x4096 ![0, 0, 0] (PER D)
      Cert.NormModRefIdeal.Gen.slices_S6144x6x4096_S6144x1x4096_0_0_0) Cert.NormModRefIdeal.Gen.shapeCasts_S6144x1x4096_S6144x4096))
    Cert.NormModRefIdeal.Gen.bitsLt_bf16_f32

/-- Which block each window holds at grid point `t`: 256 tokens, the one gain, and the group's modulation: group 0 for the
    sixteen prompt blocks, then four blocks to a latent stream. -/
theorem idx : ∀ t : Fin cfg0.N, win0_0.index t = ![t.val, 0] ∧ win0_1.index t = ![0, 0]
    ∧ win0_2.index t = ![t.val / 4 - 3, 0, 0] ∧ win0_3.index t = ![t.val, 0] :=
  (by decide +kernel : ∀ t : Fin grid0.N, _)

/-- The gain as the call is handed it: one row. -/
theorem gain (c : Dev nD) : V m c main_v0
    = shapeCast S1x4096 (m ((c : Thread nD τ).loc main_arg1) : FVec Ideal S4096 .f32) shapeCasts_S4096_S1x4096 := by
  unfold V; after_results; rfl

/-- An entry of the block computed at grid point `t` is the entry of the reference's result it stands for. -/
theorem core (c : Dev nD) (t : Fin cfg0.N) (y : S256x4096.Idx) (j : S6144x4096.Idx)
    (hj0 : (j 0 : ℕ) = t.val * 256 + y 0) (hj1 : (j 1 : ℕ) = y 1) :
    k0_pay1 (F := Ideal) (iblk m c 0 t) (iblk m c 1 t) (View.ld (iblk m c 2 t) r0_2) (View.ld (iblk m c 2 t) r0_3) y
      = REF (m ((c : Thread nD τ).loc main_arg0)) (m ((c : Thread nD τ).loc main_arg1)) (m ((c : Thread nD τ).loc main_arg2)) j := by
  pointwise [k0_pay1, REF, PER, Cert.FinalNormIdeal.Whole.REF]
  blk_point [iblk, V, idx t, gain]

/-- The output array after the whole grid is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact core m c t y _ (by blk_simp [idx t]) (by blk_simp [idx t])

end Cert.NormModIdeal.Whole

end
-- ==== Proof.RouteNormValue.lean ====
/- The value of the first result of the routing call: every token over its root mean square, times the gain, scaled by
   one plus its group's scale and moved by its group's shift, the fourth and fifth of the six modulation rows. -/
module

public import proofs.«01_k».proof.Proof.Gen.RouteNormIdeal.Frame
public import proofs.«01_k».proof.Proof.Gen.RouteNormRefIdeal
public import proofs.«01_k».proof.Proof.NormModValue

@[expose] public section

set_option maxRecDepth 16384

noncomputable section

open Idealize.ShloMosaic Idealize.ShloMosaic.TcCoe Idealize.SL.Sem
open Idealize.ShloMosaic.Pipeline (Dat)

namespace Cert.RouteNormIdeal.Whole

open Cert.RouteNormIdeal Cert.RouteNormIdeal.Gen

variable (m : (ℓ : Loc nD τ sig) → Buf (Elt Ideal) ℓ)

/-- The reference's result: the norm, scaled and moved. -/
abbrev REF (X : FVec Ideal S6144x4096 .f32) (G : FVec Ideal Cert.RouteNormRefIdeal.S4096 .f32) (D : FVec Ideal S8x6x4096 .f32) : FVec Ideal S6144x4096 .f32 :=
  addf (mulf (Cert.FinalNormIdeal.Whole.REF X G)
      (addf (broadcastInDim S6144x4096 ![] Cert.RouteNormRefIdeal.Gen.bcast_S_S6144x4096 (constant Cert.RouteNormRefIdeal.S_ .f32 0x3F800000#32))
        (shapeCast _ (extractStridedSlice Cert.RouteNormRefIdeal.S6144x1x4096 ![0, 4, 0] (Cert.NormModIdeal.Whole.PER D)
          Cert.RouteNormRefIdeal.Gen.slices_S6144x6x4096_S6144x1x4096_0_4_0) Cert.RouteNormRefIdeal.Gen.shapeCasts_S6144x1x4096_S6144x4096)))
    (shapeCast _ (extractStridedSlice Cert.RouteNormRefIdeal.S6144x1x4096 ![0, 3, 0] (Cert.NormModIdeal.Whole.PER D)
      Cert.RouteNormRefIdeal.Gen.slices_S6144x6x4096_S6144x1x4096_0_3_0) Cert.RouteNormRefIdeal.Gen.shapeCasts_S6144x1x4096_S6144x4096)

/-- Which block each window holds at grid point `t`: 256 tokens, the one gain, and the group's modulation: group 0 for the
    sixteen prompt blocks, then four blocks to a latent stream. -/
theorem idx : ∀ t : Fin cfg0.N, win0_0.index t = ![t.val, 0] ∧ win0_1.index t = ![0, 0]
    ∧ win0_2.index t = ![t.val / 4 - 3, 0, 0] ∧ win0_6.index t = ![t.val, 0] :=
  (by decide +kernel : ∀ t : Fin grid0.N, _)

/-- The gain as the call is handed it: one row. -/
theorem gain (c : Dev nD) : V m c main_v5
    = shapeCast S1x4096 (m ((c : Thread nD τ).loc main_arg1) : FVec Ideal S4096 .f32) shapeCasts_S4096_S1x4096 := by
  unfold V; after_results; rfl

/-- An entry of the block computed at grid point `t` is the entry of the reference's result it stands for. -/
theorem core (c : Dev nD) (t : Fin cfg0.N) (y : S256x4096.Idx) (j : S6144x4096.Idx)
    (hj0 : (j 0 : ℕ) = t.val * 256 + y 0) (hj1 : (j 1 : ℕ) = y 1) :
    k0_pay2 (F := Ideal) (iblk m c 0 t) (iblk m c 1 t) (View.ld (iblk m c 2 t) r0_2) (View.ld (iblk m c 2 t) r0_3) y
      = REF (m ((c : Thread nD τ).loc main_arg0)) (m ((c : Thread nD τ).loc main_arg1)) (m ((c : Thread nD τ).loc main_arg2)) j := by
  pointwise [k0_pay2, REF, Cert.NormModIdeal.Whole.PER, Cert.FinalNormIdeal.Whole.REF]
  blk_point [iblk, V, idx t, gain]

/-- The first output array after the whole grid is the reference's result. -/
theorem final (c : Dev nD) : (dats m 0 c).arrAt 6 (cfgs 0).N
    = REF (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  exact core m c t y _ (by blk_simp [idx t]) (by blk_simp [idx t])

end Cert.RouteNormIdeal.Whole

end
-- ==== Proof.TopTwo.lean ====
/- The position of the first largest entry of a row, and the choice of the two best of four groups of four: once over the
   four entries of the chosen group, and once over all sixteen with the other groups masked by minus infinity. -/
module

public import proofs.«01_k».proof.Proof.Softmax

@[expose] public section

noncomputable section

namespace Cert.TopTwo

open Idealize.ShloMosaic

/-- Position `l` holds a largest entry of the row, and no earlier position does. -/
def First {n : ℕ} (v : Fin n → EReal) (l : Fin n) : Prop :=
  (∀ k, v k ≤ v l) ∧ ∀ k, v k = v l → l ≤ k

/-- There is one such position only. -/
theorem First.unique {n : ℕ} {v : Fin n → EReal} {l l' : Fin n} (h : First v l) (h' : First v l') : l = l' :=
  le_antisymm (h.2 l' (le_antisymm (h.1 l') (h'.1 l))) (h'.2 l (le_antisymm (h'.1 l) (h.1 l')))

/-- There is such a position in every row that is not empty. -/
theorem exists_first {n : ℕ} [NeZero n] (v : Fin n → EReal) : ∃ l, First v l := by
  classical
  obtain ⟨m, hm⟩ := Finite.exists_max v
  have hs : (Finset.univ.filter fun l => v l = v m).Nonempty := ⟨m, by simp⟩
  have h := (Finset.univ.filter fun l => v l = v m).min'_mem hs
  simp only [Finset.mem_filter, Finset.mem_univ, true_and] at h
  exact ⟨_, fun k => h ▸ hm k, fun k hk => Finset.min'_le _ _ (by simp [hk.trans h])⟩

/-- The position of the first largest entry. -/
def arg {n : ℕ} [NeZero n] (v : Fin n → EReal) : Fin n := (exists_first v).choose

theorem first_arg {n : ℕ} [NeZero n] (v : Fin n → EReal) : First v (arg v) := (exists_first v).choose_spec

theorem arg_eq {n : ℕ} [NeZero n] {v : Fin n → EReal} {l : Fin n} (h : First v l) : arg v = l :=
  (first_arg v).unique h

/-- The float word of minus infinity. -/
theorem ofBits_bot : Ideal.ofBits .f32 4286578688#32 = ⊥ := by
  simp [Ideal.ofBits, Ideal.ieee]

/-- A row's largest entry stands at that position. -/
theorem rowMax_eq {n : ℕ} [NeZero n] (v : Fin n → EReal) : Cert.Attn.rowMax v = v (arg v) := by
  refine le_antisymm ((Finset.fold_max_le _).2 ⟨by rw [ofBits_bot]; exact bot_le, fun k _ => (first_arg v).1 k⟩) ?_
  exact (Finset.le_fold_max _).2 (Or.inr ⟨_, Finset.mem_univ _, le_rfl⟩)

/-- The chooser over four entries that moves on only to a strictly larger one. -/
def pick (a : Fin 4 → EReal) : BitVec 32 :=
  if max (max (a 0) (a 1)) (a 2) < a 3 then 3#32 else if max (a 0) (a 1) < a 2 then 2#32 else if a 0 < a 1 then 1#32 else 0#32

/-- It ends at the first largest. -/
theorem pick_eq (a : Fin 4 → EReal) : pick a = BitVec.ofNat 32 (arg a).val := by
  unfold pick
  split_ifs with h3 h2 h1
  · rw [arg_eq (l := 3) ⟨?_, ?_⟩] <;> [rfl; skip; skip] <;> simp only [max_lt_iff] at h3
    · intro k; fin_cases k <;> simp [h3.1.1.le, h3.1.2.le, h3.2.le]
    · intro k hk; fin_cases k <;> first | exact absurd hk h3.1.1.ne | exact absurd hk h3.1.2.ne | exact absurd hk h3.2.ne | exact le_rfl
  · rw [arg_eq (l := 2) ⟨?_, ?_⟩] <;> [rfl; skip; skip] <;> simp only [not_lt, le_max_iff] at h3 <;> simp only [max_lt_iff] at h2 <;>
      have h4 : a 3 ≤ a 2 := by rcases h3 with (h | h) | h <;> [exact h.trans h2.1.le; exact h.trans h2.2.le; exact h]
    · intro k; fin_cases k <;> simp [h2.1.le, h2.2.le, h4]
    · intro k hk; fin_cases k <;> first | exact absurd hk h2.1.ne | exact absurd hk h2.2.ne | exact (by decide)
  · rw [arg_eq (l := 1) ⟨?_, ?_⟩] <;> [rfl; skip; skip] <;> simp only [not_lt, le_max_iff] at h2 h3 <;>
      have h4 : a 2 ≤ a 1 := by rcases h2 with h | h <;> [exact h.trans h1.le; exact h]
    all_goals have h5 : a 3 ≤ a 1 := by rcases h3 with (h | h) | h <;> [exact h.trans h1.le; exact h; exact h.trans h4]
    · intro k; fin_cases k <;> simp [h1.le, h4, h5]
    · intro k hk; fin_cases k <;> first | exact absurd hk h1.ne | exact (by decide)
  · rw [arg_eq (l := 0) ⟨?_, ?_⟩] <;> [rfl; skip; skip] <;> simp only [not_lt, le_max_iff] at h1 h2 h3 <;>
      have h4 : a 2 ≤ a 0 := by rcases h2 with h | h <;> [exact h; exact h.trans h1]
    all_goals have h5 : a 3 ≤ a 0 := by rcases h3 with (h | h) | h <;> [exact h; exact h.trans h1; exact h.trans h4]
    · intro k; fin_cases k <;> simp [h1, h4, h5]
    · intro k hk; exact Fin.zero_le _

/-- The smallest of the positions of the largest entry, the others standing at the row's length. -/
theorem fold_first {n : ℕ} [NeZero n] (hn : n < 2 ^ 31) (v : Fin n → EReal) (f : Fin n → BitVec 32)
    (hf : ∀ l, f l = if v l = v (arg v) then BitVec.ofNat 32 l.val else BitVec.ofNat 32 n) :
    Finset.fold IntOp.minsi 2147483647#32 f Finset.univ = BitVec.ofNat 32 (arg v).val := by
  have hi : ∀ k : ℕ, k ≤ n → (BitVec.ofNat 32 k).toInt = k := fun k hk => by
    have h : (BitVec.ofNat 32 k).toNat = k := by rw [BitVec.toNat_ofNat, Nat.mod_eq_of_lt]; omega
    rw [BitVec.toInt_eq_toNat_of_lt (by omega), h]
  have hm : ∀ x y : BitVec 32, (IntOp.minsi x y).toInt = min x.toInt y.toInt := fun x y => by
    simp only [IntOp.minsi, BitVec.slt, decide_eq_true_eq]
    split_ifs <;> omega
  apply BitVec.eq_of_toInt_eq
  rw [← Finset.fold_hom (op' := min) (m := BitVec.toInt) hm, hi _ (arg v).isLt.le]
  refine le_antisymm ((Finset.fold_min_le _).2 (Or.inr ⟨arg v, Finset.mem_univ _, ?_⟩)) ((Finset.le_fold_min _).2 ⟨?_, fun k _ => ?_⟩)
  · rw [hf, if_pos rfl, hi _ (arg v).isLt.le]
  · have : (2147483647#32).toInt = 2147483647 := by decide
    have := (arg v).isLt
    omega
  · rw [hf]
    split_ifs with h
    · rw [hi _ k.isLt.le]; exact_mod_cast (first_arg v).2 k h
    · rw [hi _ le_rfl]; exact_mod_cast (arg v).isLt.le

/-- The sum of a group's two largest entries: the largest, and the largest of the others. -/
def pairMax (a : Fin 4 → EReal) : EReal :=
  a (arg a) + Cert.Attn.rowMax fun i => if i = arg a then ⊥ else a i

/-- It is the largest of the six sums of two. -/
theorem pairs_eq (a : Fin 4 → EReal) :
    max (max (max (max (max (a 0 + a 1) (a 0 + a 2)) (a 0 + a 3)) (a 1 + a 2)) (a 1 + a 3)) (a 2 + a 3) = pairMax a := by
  have hr : ∀ j, j ≠ arg a → a j ≤ Cert.Attn.rowMax fun i => if i = arg a then ⊥ else a i := fun j hj =>
    (Finset.le_fold_max _).2 (Or.inr ⟨j, Finset.mem_univ _, by rw [if_neg hj]⟩)
  have hp : ∀ i j, i ≠ j → a i + a j ≤ pairMax a := fun i j hij => by
    by_cases hj : j = arg a
    · rw [add_comm, hj]; exact add_le_add le_rfl (hr i (hj ▸ hij))
    · exact add_le_add ((first_arg a).1 i) (hr j hj)
  have hl : ∀ i j : Fin 4, i ≠ j → a i + a j
      ≤ max (max (max (max (max (a 0 + a 1) (a 0 + a 2)) (a 0 + a 3)) (a 1 + a 2)) (a 1 + a 3)) (a 2 + a 3) := by
    intro i j hij
    fin_cases i <;> fin_cases j <;>
      first | exact absurd rfl hij | (simp [le_max_iff]; done) | (rw [add_comm]; simp [le_max_iff]; done)
  refine le_antisymm ?_ ?_
  · simp only [max_le_iff]
    refine ⟨⟨⟨⟨⟨hp _ _ ?_, hp _ _ ?_⟩, hp _ _ ?_⟩, hp _ _ ?_⟩, hp _ _ ?_⟩, hp _ _ ?_⟩ <;> decide
  · rw [pairMax, rowMax_eq]
    split_ifs with h
    · rw [EReal.add_bot]; exact bot_le
    · exact hl _ _ (Ne.symm h)

/-- The entries of the group chosen, its best and its second best position. -/
def group (s : Fin 4 → Fin 4 → EReal) : Fin 4 := arg fun g => pairMax (s g)
def best (s : Fin 4 → Fin 4 → EReal) : Fin 4 := arg (s (group s))
def second (s : Fin 4 → Fin 4 → EReal) : Fin 4 := arg fun i => if i = best s then ⊥ else s (group s) i

/-- Entry `i` of group `g` in the row of all sixteen. -/
def at16 (g i : Fin 4) : Fin 16 := ⟨4 * g.val + i.val, by omega⟩

/-- The sixteen entries with the other groups masked. -/
def kept (s : Fin 4 → Fin 4 → EReal) (e : Fin 16) : EReal :=
  if (⟨e.val / 4, by omega⟩ : Fin 4) = group s then s ⟨e.val / 4, by omega⟩ ⟨e.val % 4, by omega⟩ else ⊥

theorem at16_split (e : Fin 16) : e = at16 ⟨e.val / 4, by omega⟩ ⟨e.val % 4, by omega⟩ := by
  apply Fin.ext; simp only [at16]; omega

/-- A row of sixteen that is minus infinity off one group has its first largest where the group has. -/
theorem arg_masked (v : Fin 16 → EReal) (a : Fin 4 → EReal) (g : Fin 4) (hg : ∀ i, v (at16 g i) = a i)
    (ho : ∀ g' i, g' ≠ g → v (at16 g' i) = ⊥) (ha : ∃ i, a i ≠ ⊥) : arg v = at16 g (arg a) := by
  have hb : a (arg a) ≠ ⊥ := by
    obtain ⟨i, hi⟩ := ha
    intro h
    exact hi (le_bot_iff.1 (h ▸ (first_arg a).1 i))
  refine arg_eq ⟨fun e => ?_, fun e he => ?_⟩
  · rw [at16_split e, hg]
    by_cases h : (⟨e.val / 4, by omega⟩ : Fin 4) = g
    · rw [h, hg]; exact (first_arg a).1 _
    · rw [ho _ _ h]; exact bot_le
  · rw [at16_split e] at he ⊢
    rw [hg] at he
    by_cases h : (⟨e.val / 4, by omega⟩ : Fin 4) = g
    · rw [h, hg] at he
      have := (first_arg a).2 _ he
      rw [h]
      simp only [at16, Fin.le_def] at this ⊢
      omega
    · rw [ho _ _ h] at he
      exact absurd he.symm hb

theorem arg_kept (s : Fin 4 → Fin 4 → EReal) (hs : ∀ g i, s g i ≠ ⊥) : arg (kept s) = at16 (group s) (best s) := by
  refine arg_masked _ _ _ (fun i => ?_) (fun g' i h => ?_) ⟨0, hs _ _⟩
  · have h1 : (4 * (group s).val + i.val) / 4 = (group s).val := by omega
    have h2 : (4 * (group s).val + i.val) % 4 = i.val := by omega
    simp [kept, at16, h1, h2]
  · have h1 : (4 * g'.val + i.val) / 4 = g'.val := by omega
    simp [kept, at16, h1, h]

theorem arg_rest (s : Fin 4 → Fin 4 → EReal) (hs : ∀ g i, s g i ≠ ⊥) :
    arg (fun e => if e = arg (kept s) then ⊥ else kept s e) = at16 (group s) (second s) := by
  rw [arg_kept s hs]
  have hne : ∃ i : Fin 4, i ≠ best s := exists_ne _
  obtain ⟨i0, hi0⟩ := hne
  refine arg_masked _ (fun i => if i = best s then ⊥ else s (group s) i) _ (fun i => ?_) (fun g' i h => ?_) ⟨i0, by simp [hi0, hs]⟩
  · have h1 : (4 * (group s).val + i.val) / 4 = (group s).val := by omega
    have h2 : (4 * (group s).val + i.val) % 4 = i.val := by omega
    simp [kept, at16, h1, h2, Fin.ext_iff]
  · have h1 : (4 * g'.val + i.val) / 4 = g'.val := by omega
    simp [kept, at16, h1, h]

end Cert.TopTwo

end
-- ==== Proof.RouteLane.lean ====
/- The kernel's choice of experts, read at one lane of a block: its chain of selections ends at the two experts of `TopTwo`
   and at their scores. -/
module

public import proofs.«01_k».proof.Proof.Gen.RouteIdeal.Frame
public import proofs.«01_k».proof.Proof.TopTwo
public import Idealize.ShloMosaic.Lib.Pipeline.ValueKit
public import Idealize.ShloMosaic.Lib.ValueIdxCore
public import Idealize.ShloMosaic.Lib.WordCmp

@[expose] public section

set_option maxRecDepth 16384

noncomputable section

namespace Cert.RouteIdeal.Lane

open Idealize.ShloMosaic Idealize.ShloMosaic.TcCoe Idealize.SL.Sem
open Cert.RouteIdeal Cert.RouteIdeal.Gen Cert.TopTwo

/-- Choosing by the bit of a decided proposition. -/
theorem select_ofBool {α : Type} (p : Prop) [Decidable p] (x y : α) :
    Scalar.select (BitVec.ofBool (decide p)) x y = if p then x else y := by
  by_cases h : p <;> simp [h, Scalar.select]

/-- The chain of three comparisons is the chooser over four. -/
theorem chain (a b c d : EReal) :
    (if (if (if a < b then b else a) < c then c else (if a < b then b else a)) < d then 3#32
      else if (if a < b then b else a) < c then 2#32 else if a < b then 1#32 else 0#32)
      = BitVec.ofNat 32 (arg ![a, b, c, d]).val := by
  have hm : ∀ x y : EReal, (if x < y then y else x) = max x y := fun x y => by
    rcases lt_or_ge x y with h | h
    · rw [if_pos h, max_eq_right h.le]
    · rw [if_neg h.not_gt, max_eq_left h]
  rw [← pick_eq]
  simp only [hm, pick]
  rfl

/-- The entry of four that a position under four names. -/
theorem among {α : Type} (l : Fin 4) (a b c d : α) :
    Scalar.select (IntOp.cmpi .eq (BitVec.ofNat 32 l.val) 0#32) a (Scalar.select (IntOp.cmpi .eq (BitVec.ofNat 32 l.val) 1#32) b
      (Scalar.select (IntOp.cmpi .eq (BitVec.ofNat 32 l.val) 2#32) c d)) = (![a, b, c, d] : Fin 4 → α) l := by
  fin_cases l <;> rfl

variable (x0 : Vec Ideal S256x4096 .f32) (x1 : Vec Ideal S1x4096 .f32) (x2 : Vec Ideal S1x6x4096 .f32)
  (x3 : Vec Ideal S16x4096 .bf16) (x4 : Vec Ideal S16x4096 .bf16) (x5 : Vec Ideal S16x1 .f32)

/-- The block's scores and its biased scores. -/
def SC : FVec Ideal S16x256 .f32 :=
  k0_pay8 (k0_pay68 x0 x1 x2 x3 x4 x5) (k0_pay69 x0 x1 x2 x3 x4 x5) (k0_pay70 x0 x1 x2 x3 x4 x5) (k0_pay71 x0 x1 x2 x3 x4 x5)
def SE : FVec Ideal S16x256 .f32 :=
  k0_pay9 (k0_pay68 x0 x1 x2 x3 x4 x5) (k0_pay69 x0 x1 x2 x3 x4 x5) (k0_pay70 x0 x1 x2 x3 x4 x5) (k0_pay71 x0 x1 x2 x3 x4 x5) (View.ld x5 r0_5)
/-- One lane's, by group. -/
def sc (y : Fin 256) (g i : Fin 4) : EReal := SC x0 x1 x2 x3 x4 x5 (ix2 (at16 g i) y)
def se (y : Fin 256) (g i : Fin 4) : EReal := SE x0 x1 x2 x3 x4 x5 (ix2 (at16 g i) y)

theorem group_eq (y : Fin 256) : k0_pay86 x0 x1 x2 x3 x4 x5 (ix2 0 y) = BitVec.ofNat 32 (group (se x0 x1 x2 x3 x4 x5 y)).val := by
  have h : (fun g => pairMax (se x0 x1 x2 x3 x4 x5 y g)) = ![pairMax (se x0 x1 x2 x3 x4 x5 y 0), pairMax (se x0 x1 x2 x3 x4 x5 y 1),
      pairMax (se x0 x1 x2 x3 x4 x5 y 2), pairMax (se x0 x1 x2 x3 x4 x5 y 3)] := by
    funext g; fin_cases g <;> rfl
  rw [group, h, ← chain]
  simp only [← pairs_eq, se, SE]
  pointwise [k0_pay86, k0_pay72, k0_pay73, k0_pay74, k0_pay75, k0_pay76, k0_pay77, k0_pay78, k0_pay79, k0_pay80, k0_pay81, k0_pay82, k0_pay83, k0_pay84, k0_pay85, k0_pay42, k0_pay43, k0_pay44, k0_pay45, k0_pay10, k0_pay11, k0_pay12, k0_pay13, k0_pay14, k0_pay15, k0_pay16, k0_pay17, k0_pay18, k0_pay19, k0_pay20, k0_pay21, k0_pay22, k0_pay23, k0_pay24, k0_pay25]
  rfl

/-- An entry of the chosen group is what the three selections on the group's number take. -/
theorem of_group (y : Fin 256) (f : Fin 4 → EReal) : f (group (se x0 x1 x2 x3 x4 x5 y))
    = Scalar.select (IntOp.cmpi .eq (k0_pay86 x0 x1 x2 x3 x4 x5 (ix2 0 y)) 0#32) (f 0) (Scalar.select (IntOp.cmpi .eq (k0_pay86 x0 x1 x2 x3 x4 x5 (ix2 0 y)) 1#32) (f 1)
      (Scalar.select (IntOp.cmpi .eq (k0_pay86 x0 x1 x2 x3 x4 x5 (ix2 0 y)) 2#32) (f 2) (f 3))) := by
  rw [group_eq, among]
  generalize group (se x0 x1 x2 x3 x4 x5 y) = l
  fin_cases l <;> rfl

/-- The chosen group's four biased scores and four scores. -/
theorem picked_eq (y : Fin 256) :
    k0_pay87 x0 x1 x2 x3 x4 x5 (ix2 0 y) = se x0 x1 x2 x3 x4 x5 y (group (se x0 x1 x2 x3 x4 x5 y)) 0
      ∧ k0_pay88 x0 x1 x2 x3 x4 x5 (ix2 0 y) = se x0 x1 x2 x3 x4 x5 y (group (se x0 x1 x2 x3 x4 x5 y)) 1
      ∧ k0_pay89 x0 x1 x2 x3 x4 x5 (ix2 0 y) = se x0 x1 x2 x3 x4 x5 y (group (se x0 x1 x2 x3 x4 x5 y)) 2
      ∧ k0_pay90 x0 x1 x2 x3 x4 x5 (ix2 0 y) = se x0 x1 x2 x3 x4 x5 y (group (se x0 x1 x2 x3 x4 x5 y)) 3
      ∧ k0_pay91 x0 x1 x2 x3 x4 x5 (ix2 0 y) = sc x0 x1 x2 x3 x4 x5 y (group (se x0 x1 x2 x3 x4 x5 y)) 0
      ∧ k0_pay92 x0 x1 x2 x3 x4 x5 (ix2 0 y) = sc x0 x1 x2 x3 x4 x5 y (group (se x0 x1 x2 x3 x4 x5 y)) 1
      ∧ k0_pay93 x0 x1 x2 x3 x4 x5 (ix2 0 y) = sc x0 x1 x2 x3 x4 x5 y (group (se x0 x1 x2 x3 x4 x5 y)) 2
      ∧ k0_pay94 x0 x1 x2 x3 x4 x5 (ix2 0 y) = sc x0 x1 x2 x3 x4 x5 y (group (se x0 x1 x2 x3 x4 x5 y)) 3 := by
  have h := fun i => of_group x0 x1 x2 x3 x4 x5 y (se x0 x1 x2 x3 x4 x5 y · i)
  have h' := fun i => of_group x0 x1 x2 x3 x4 x5 y (sc x0 x1 x2 x3 x4 x5 y · i)
  beta_reduce at h h'
  rw [h, h, h, h, h', h', h', h']
  refine ⟨?_, ?_, ?_, ?_, ?_, ?_, ?_, ?_⟩ <;> simp only [se, sc, SE, SC]
  all_goals
    pointwise [k0_pay86, k0_pay87, k0_pay88, k0_pay89, k0_pay90, k0_pay91, k0_pay92, k0_pay93, k0_pay94, k0_pay72, k0_pay73, k0_pay74, k0_pay75, k0_pay76, k0_pay77, k0_pay78, k0_pay79, k0_pay80, k0_pay81, k0_pay82, k0_pay46, k0_pay47, k0_pay48, k0_pay49, k0_pay50, k0_pay51, k0_pay52, k0_pay53, k0_pay54, k0_pay55, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]
    rfl

theorem four {α : Type} (f : Fin 4 → α) : f = ![f 0, f 1, f 2, f 3] := by
  funext l; fin_cases l <;> rfl

/-- The best of the four. -/
theorem best_eq (y : Fin 256) : k0_pay95 x0 x1 x2 x3 x4 x5 (ix2 0 y) = BitVec.ofNat 32 (best (se x0 x1 x2 x3 x4 x5 y)).val := by
  obtain ⟨h0, h1, h2, h3, -⟩ := picked_eq x0 x1 x2 x3 x4 x5 y
  rw [best, four (se x0 x1 x2 x3 x4 x5 y (group (se x0 x1 x2 x3 x4 x5 y))), ← h0, ← h1, ← h2, ← h3, ← chain]
  pointwise [k0_pay95, k0_pay56]

/-- The chosen group with its best masked. -/
abbrev left (y : Fin 256) (i : Fin 4) : EReal :=
  if i = best (se x0 x1 x2 x3 x4 x5 y) then ⊥ else se x0 x1 x2 x3 x4 x5 y (group (se x0 x1 x2 x3 x4 x5 y)) i

theorem cmpi_ofNat4 (a b : Fin 4) :
    IntOp.cmpi .eq (BitVec.ofNat 32 b.val) (BitVec.ofNat 32 a.val) = BitVec.ofBool (decide (a = b)) := by
  revert a b; decide +kernel

theorem left_eq (y : Fin 256) :
    k0_pay96 x0 x1 x2 x3 x4 x5 (ix2 0 y) = left x0 x1 x2 x3 x4 x5 y 0 ∧ k0_pay97 x0 x1 x2 x3 x4 x5 (ix2 0 y) = left x0 x1 x2 x3 x4 x5 y 1
      ∧ k0_pay98 x0 x1 x2 x3 x4 x5 (ix2 0 y) = left x0 x1 x2 x3 x4 x5 y 2 ∧ k0_pay99 x0 x1 x2 x3 x4 x5 (ix2 0 y) = left x0 x1 x2 x3 x4 x5 y 3 := by
  obtain ⟨h0, h1, h2, h3, -⟩ := picked_eq x0 x1 x2 x3 x4 x5 y
  unfold left
  rw [← h0, ← h1, ← h2, ← h3]
  simp only [← select_ofBool, ← cmpi_ofNat4, ← best_eq, ← ofBits_bot]
  refine ⟨?_, ?_, ?_, ?_⟩
  all_goals
    pointwise [k0_pay96, k0_pay97, k0_pay98, k0_pay99, k0_pay57, k0_pay58, k0_pay59, k0_pay60, k0_pay95]

/-- The second best of the four. -/
theorem second_eq (y : Fin 256) : k0_pay61 (k0_pay96 x0 x1 x2 x3 x4 x5) (k0_pay97 x0 x1 x2 x3 x4 x5) (k0_pay98 x0 x1 x2 x3 x4 x5) (k0_pay99 x0 x1 x2 x3 x4 x5) 0#32 (ix2 0 y)
    = BitVec.ofNat 32 (second (se x0 x1 x2 x3 x4 x5 y)).val := by
  obtain ⟨h0, h1, h2, h3⟩ := left_eq x0 x1 x2 x3 x4 x5 y
  rw [second, four (fun i => if i = best (se x0 x1 x2 x3 x4 x5 y) then ⊥ else se x0 x1 x2 x3 x4 x5 y (group (se x0 x1 x2 x3 x4 x5 y)) i)]
  show _ = BitVec.ofNat 32 (arg ![left x0 x1 x2 x3 x4 x5 y 0, left x0 x1 x2 x3 x4 x5 y 1, left x0 x1 x2 x3 x4 x5 y 2, left x0 x1 x2 x3 x4 x5 y 3]).val
  rw [← h0, ← h1, ← h2, ← h3, ← chain]
  pointwise [k0_pay61]

/-- An expert's number from its group and its position. -/
theorem number : ∀ g i : Fin 4, IntOp.addi (IntOp.muli (BitVec.ofNat 32 g.val) 4#32) (BitVec.ofNat 32 i.val) = BitVec.ofNat 32 (at16 g i).val := by
  decide +kernel

/-- The two experts' numbers. -/
theorem experts_eq (y : Fin 256) :
    k0_pay65 (k0_pay86 x0 x1 x2 x3 x4 x5) (k0_pay95 x0 x1 x2 x3 x4 x5) (ix2 0 y)
        = BitVec.ofNat 32 (at16 (group (se x0 x1 x2 x3 x4 x5 y)) (best (se x0 x1 x2 x3 x4 x5 y))).val
      ∧ k0_pay66 (k0_pay86 x0 x1 x2 x3 x4 x5) (k0_pay96 x0 x1 x2 x3 x4 x5) (k0_pay97 x0 x1 x2 x3 x4 x5) (k0_pay98 x0 x1 x2 x3 x4 x5) (k0_pay99 x0 x1 x2 x3 x4 x5) 0#32 (ix2 0 y)
        = BitVec.ofNat 32 (at16 (group (se x0 x1 x2 x3 x4 x5 y)) (second (se x0 x1 x2 x3 x4 x5 y))).val := by
  rw [← number, ← number, ← second_eq, ← best_eq, ← group_eq]
  constructor <;> rfl

/-- Their scores. -/
theorem scores_eq (y : Fin 256) :
    k0_pay62 (k0_pay91 x0 x1 x2 x3 x4 x5) (k0_pay92 x0 x1 x2 x3 x4 x5) (k0_pay93 x0 x1 x2 x3 x4 x5) (k0_pay94 x0 x1 x2 x3 x4 x5) (k0_pay95 x0 x1 x2 x3 x4 x5) (ix2 0 y)
        = sc x0 x1 x2 x3 x4 x5 y (group (se x0 x1 x2 x3 x4 x5 y)) (best (se x0 x1 x2 x3 x4 x5 y))
      ∧ k0_pay63 (k0_pay91 x0 x1 x2 x3 x4 x5) (k0_pay92 x0 x1 x2 x3 x4 x5) (k0_pay93 x0 x1 x2 x3 x4 x5) (k0_pay94 x0 x1 x2 x3 x4 x5)
          (k0_pay96 x0 x1 x2 x3 x4 x5) (k0_pay97 x0 x1 x2 x3 x4 x5) (k0_pay98 x0 x1 x2 x3 x4 x5) (k0_pay99 x0 x1 x2 x3 x4 x5) 0#32 (ix2 0 y)
        = sc x0 x1 x2 x3 x4 x5 y (group (se x0 x1 x2 x3 x4 x5 y)) (second (se x0 x1 x2 x3 x4 x5 y)) := by
  obtain ⟨-, -, -, -, h0, h1, h2, h3⟩ := picked_eq x0 x1 x2 x3 x4 x5 y
  rw [four (sc x0 x1 x2 x3 x4 x5 y (group (se x0 x1 x2 x3 x4 x5 y))), ← h0, ← h1, ← h2, ← h3, ← among, ← among, ← second_eq, ← best_eq]
  constructor <;> rfl

/-- The weights: each score over the two scores' sum. -/
theorem weights_eq (y : Fin 256) :
    k0_pay67 (k0_pay91 x0 x1 x2 x3 x4 x5) (k0_pay92 x0 x1 x2 x3 x4 x5) (k0_pay93 x0 x1 x2 x3 x4 x5) (k0_pay94 x0 x1 x2 x3 x4 x5) (k0_pay95 x0 x1 x2 x3 x4 x5)
          (k0_pay96 x0 x1 x2 x3 x4 x5) (k0_pay97 x0 x1 x2 x3 x4 x5) (k0_pay98 x0 x1 x2 x3 x4 x5) (k0_pay99 x0 x1 x2 x3 x4 x5) 0#32 (ix2 0 y)
        = Ideal.div (sc x0 x1 x2 x3 x4 x5 y (group (se x0 x1 x2 x3 x4 x5 y)) (best (se x0 x1 x2 x3 x4 x5 y)))
          (sc x0 x1 x2 x3 x4 x5 y (group (se x0 x1 x2 x3 x4 x5 y)) (best (se x0 x1 x2 x3 x4 x5 y))
            + sc x0 x1 x2 x3 x4 x5 y (group (se x0 x1 x2 x3 x4 x5 y)) (second (se x0 x1 x2 x3 x4 x5 y)))
      ∧ k0_pay1 (k0_pay63 (k0_pay91 x0 x1 x2 x3 x4 x5) (k0_pay92 x0 x1 x2 x3 x4 x5) (k0_pay93 x0 x1 x2 x3 x4 x5) (k0_pay94 x0 x1 x2 x3 x4 x5)
          (k0_pay96 x0 x1 x2 x3 x4 x5) (k0_pay97 x0 x1 x2 x3 x4 x5) (k0_pay98 x0 x1 x2 x3 x4 x5) (k0_pay99 x0 x1 x2 x3 x4 x5) 0#32)
          (k0_pay64 (k0_pay91 x0 x1 x2 x3 x4 x5) (k0_pay92 x0 x1 x2 x3 x4 x5) (k0_pay93 x0 x1 x2 x3 x4 x5) (k0_pay94 x0 x1 x2 x3 x4 x5) (k0_pay95 x0 x1 x2 x3 x4 x5)
            (k0_pay96 x0 x1 x2 x3 x4 x5) (k0_pay97 x0 x1 x2 x3 x4 x5) (k0_pay98 x0 x1 x2 x3 x4 x5) (k0_pay99 x0 x1 x2 x3 x4 x5) 0#32) (ix2 0 y)
        = Ideal.div (sc x0 x1 x2 x3 x4 x5 y (group (se x0 x1 x2 x3 x4 x5 y)) (second (se x0 x1 x2 x3 x4 x5 y)))
          (sc x0 x1 x2 x3 x4 x5 y (group (se x0 x1 x2 x3 x4 x5 y)) (best (se x0 x1 x2 x3 x4 x5 y))
            + sc x0 x1 x2 x3 x4 x5 y (group (se x0 x1 x2 x3 x4 x5 y)) (second (se x0 x1 x2 x3 x4 x5 y))) := by
  obtain ⟨h1, h2⟩ := scores_eq x0 x1 x2 x3 x4 x5 y
  rw [← h1, ← h2]
  constructor <;> pointwise [k0_pay67, k0_pay1, k0_pay64]

end Cert.RouteIdeal.Lane

end
-- ==== Proof.RouteRef.lean ====
/- The reference's choice of experts, read at one token: its reductions are the maxima, the first largest positions and the
   sums over the token's row, and the two experts and their weights are those of `TopTwo`. -/
module

public import proofs.«01_k».proof.Proof.Gen.RouteRefIdeal
public import proofs.«01_k».proof.Proof.Gen.RouteRefIdeal.Run
public import proofs.«01_k».proof.Proof.TopTwo
public import Idealize.ShloMosaic.Lib.Pipeline.ValueKit
public import Idealize.ShloMosaic.Lib.ValueIdxCore
public import Idealize.ShloMosaic.Lib.WordCmp

@[expose] public section

set_option maxRecDepth 16384

noncomputable section

namespace Cert.RouteRef

open Idealize.ShloMosaic Idealize.ShloMosaic.TcCoe Idealize.SL.Sem
open Cert.RouteRefIdeal Cert.RouteRefIdeal.Gen Cert.TopTwo Cert.Attn

/-- The largest of a group, the first position it stands at, and the two largest's sum. -/
def MAXG (v : FVec Ideal S6144x4x4 .f32) : FVec Ideal S6144x4 .f32 :=
  Host.reduce FloatOps.maximumf v (constant S_ .f32 0xFF800000#32) reducesTo_S6144x4x4_S6144x4_d2 h_S_
def FIRSTG (v : FVec Ideal S6144x4x4 .f32) : IVec S6144x4 32 :=
  Host.reduce IntOp.minsi (select (cmpf .oeq v (broadcastInDim S6144x4x4 ![0, 1, 2] bcast_S6144x4x1_S6144x4x4_0_1_2 (broadcastInDim S6144x4x1 ![0, 1] bcast_S6144x4_S6144x4x1_0_1 (MAXG v)))) (broadcastInDim S6144x4x4 ![2] bcast_S4_S6144x4x4_2 (iotaInDim S4 32 0)) (broadcastInDim S6144x4x4 ![] bcast_S_S6144x4x4 (id (constantI S_ 32 4#32)))) (constantI S_ 32 2147483647#32) reducesTo_S6144x4x4_S6144x4_d2 h_S_
def OTHERS (v : FVec Ideal S6144x4x4 .f32) : FVec Ideal S6144x4x4 .f32 :=
  select (cmpi .eq (broadcastInDim S6144x4x4 ![0, 1, 2] bcast_S1x1x4_S6144x4x4_0_1_2 (broadcastInDim S1x1x4 ![2] bcast_S4_S1x1x4_2 (iotaInDim S4 32 0))) (broadcastInDim S6144x4x4 ![0, 1, 2] bcast_S6144x4x1_S6144x4x4_0_1_2 (broadcastInDim S6144x4x1 ![0, 1] bcast_S6144x4_S6144x4x1_0_1 (FIRSTG v)))) (broadcastInDim S6144x4x4 ![] bcast_S_S6144x4x4 (id (constant S_ .f32 0xFF800000#32))) v
def PAIR (v : FVec Ideal S6144x4x4 .f32) : FVec Ideal S6144x4 .f32 := addf (MAXG v) (MAXG (OTHERS v))
/-- The first largest of the four groups' sums. -/
def MAX4 (v : FVec Ideal S6144x4 .f32) : FVec Ideal S6144 .f32 :=
  Host.reduce FloatOps.maximumf v (constant S_ .f32 0xFF800000#32) reducesTo_S6144x4_S6144_d1 h_S_
def FIRST4 (v : FVec Ideal S6144x4 .f32) : IVec S6144 32 :=
  Host.reduce IntOp.minsi (select (cmpf .oeq v (broadcastInDim S6144x4 ![0, 1] bcast_S6144x1_S6144x4_0_1 (broadcastInDim S6144x1 ![0] bcast_S6144_S6144x1_0 (MAX4 v)))) (broadcastInDim S6144x4 ![1] bcast_S4_S6144x4_1 (iotaInDim S4 32 0)) (broadcastInDim S6144x4 ![] bcast_S_S6144x4 (id (constantI S_ 32 4#32)))) (constantI S_ 32 2147483647#32) reducesTo_S6144x4_S6144_d1 h_S_
/-- The entries of the group chosen, the other groups masked. -/
def KEPT (v : FVec Ideal S6144x4x4 .f32) (b : IVec S6144 32) : FVec Ideal S6144x16 .f32 :=
  shapeCast _ (select (broadcastInDim S6144x4x4 ![0, 1, 2] bcast_S6144x4x1_S6144x4x4_0_1_2 (cmpi .eq (broadcastInDim S6144x4x1 ![0, 1, 2] bcast_S1x4x1_S6144x4x1_0_1_2 (broadcastInDim S1x4x1 ![1, 2] bcast_S4x1_S1x4x1_1_2 (broadcastInDim S4x1 ![0] bcast_S4_S4x1_0 (iotaInDim S4 32 0)))) (broadcastInDim S6144x4x1 ![0, 1, 2] bcast_S6144x1x1_S6144x4x1_0_1_2 (broadcastInDim S6144x1x1 ![0] bcast_S6144_S6144x1x1_0 b)))) v (broadcastInDim S6144x4x4 ![] bcast_S_S6144x4x4 (id (constant S_ .f32 0xFF800000#32)))) shapeCasts_S6144x4x4_S6144x16
/-- The first largest of the sixteen, the row without it, and an expert's weight before dividing. -/
def MAX16 (v : FVec Ideal S6144x16 .f32) : FVec Ideal S6144 .f32 :=
  Host.reduce FloatOps.maximumf v (constant S_ .f32 0xFF800000#32) reducesTo_S6144x16_S6144_d1 h_S_
def FIRST16 (v : FVec Ideal S6144x16 .f32) : IVec S6144 32 :=
  Host.reduce IntOp.minsi (select (cmpf .oeq v (broadcastInDim S6144x16 ![0, 1] bcast_S6144x1_S6144x16_0_1 (broadcastInDim S6144x1 ![0] bcast_S6144_S6144x1_0 (MAX16 v)))) (broadcastInDim S6144x16 ![1] bcast_S16_S6144x16_1 (iotaInDim S16 32 0)) (broadcastInDim S6144x16 ![] bcast_S_S6144x16 (id (constantI S_ 32 16#32)))) (constantI S_ 32 2147483647#32) reducesTo_S6144x16_S6144_d1 h_S_
def HOT (i : IVec S6144 32) : IVec S6144x16 1 :=
  cmpi .eq (broadcastInDim S6144x16 ![0, 1] bcast_S1x16_S6144x16_0_1 (broadcastInDim S1x16 ![1] bcast_S16_S1x16_1 (iotaInDim S16 32 0))) (broadcastInDim S6144x16 ![0, 1] bcast_S6144x1_S6144x16_0_1 (broadcastInDim S6144x1 ![0] bcast_S6144_S6144x1_0 i))
def REST (k : FVec Ideal S6144x16 .f32) : FVec Ideal S6144x16 .f32 :=
  select (HOT (FIRST16 k)) (broadcastInDim S6144x16 ![] bcast_S_S6144x16 (id (constant S_ .f32 0xFF800000#32))) k
def WT (S : FVec Ideal S6144x16 .f32) (i : IVec S6144 32) : FVec Ideal S6144 .f32 :=
  Host.reduceAdd (select (HOT i) S (broadcastInDim S6144x16 ![] bcast_S_S6144x16 (id (constant S_ .f32 0x00000000#32)))) (constant S_ .f32 0x00000000#32) reducesTo_S6144x16_S6144_d1 h_S_
def PICKED (E : FVec Ideal S6144x4x4 .f32) : FVec Ideal S6144x16 .f32 := KEPT E (FIRST4 (PAIR E))
/-- Both results, from the scores `S` and the biased scores `E` by group. -/
def EXPERTS (E : FVec Ideal S6144x4x4 .f32) : IVec S2x6144 32 :=
  concatenate S2x6144 0 [⟨S1x6144, (broadcastInDim S1x6144 ![1] bcast_S6144_S1x6144_1 (FIRST16 (PICKED E)))⟩, ⟨S1x6144, (broadcastInDim S1x6144 ![1] bcast_S6144_S1x6144_1 (FIRST16 (REST (PICKED E))))⟩] concatenates_S1x6144_S1x6144_S2x6144_d0
def BOTH (S : FVec Ideal S6144x16 .f32) (E : FVec Ideal S6144x4x4 .f32) : FVec Ideal S2x6144 .f32 :=
  concatenate S2x6144 0 [⟨S1x6144, (broadcastInDim S1x6144 ![1] bcast_S6144_S1x6144_1 (WT S (FIRST16 (PICKED E))))⟩, ⟨S1x6144, (broadcastInDim S1x6144 ![1] bcast_S6144_S1x6144_1 (WT S (FIRST16 (REST (PICKED E)))))⟩] concatenates_S1x6144_S1x6144_S2x6144_d0
def WEIGHTS (S : FVec Ideal S6144x16 .f32) (E : FVec Ideal S6144x4x4 .f32) : FVec Ideal S2x6144 .f32 :=
  Host.divf (BOTH S E) (broadcastInDim S2x6144 ![0, 1] bcast_S1x6144_S2x6144_0_1 (addf (extractStridedSlice S1x6144 ![0, 0] (BOTH S E) slices_S2x6144_S1x6144_0_0) (extractStridedSlice S1x6144 ![1, 0] (BOTH S E) slices_S2x6144_S1x6144_1_0)))

/-- The run's results are these. -/
theorem picked_eq (V0 : Valuation τ sig (Elt Ideal)) : Value.res_main_v70 (F := Ideal) V0 = PICKED (Value.res_main_v37 V0) := by
  unfold Value.res_main_v70 Value.res_main_v54; rfl
theorem experts_eq (V0 : Valuation τ sig (Elt Ideal)) :
    concatenate S2x6144 0 [⟨S1x6144, (broadcastInDim S1x6144 ![1] bcast_S6144_S1x6144_1 (Value.res_main_v77 (F := Ideal) V0))⟩, ⟨S1x6144, (broadcastInDim S1x6144 ![1] bcast_S6144_S1x6144_1 (Value.res_main_v91 (F := Ideal) V0))⟩] concatenates_S1x6144_S1x6144_S2x6144_d0
      = EXPERTS (Value.res_main_v37 V0) := by
  unfold Value.res_main_v91 Value.res_main_v84 Value.res_main_v83 Value.res_main_v77
  rw [picked_eq]; rfl
theorem weights_eq (V0 : Valuation τ sig (Elt Ideal)) :
    Value.res_main_v104 (F := Ideal) V0 = BOTH (Value.res_main_v33 V0) (Value.res_main_v37 V0) := by
  unfold Value.res_main_v104 Value.res_main_v91 Value.res_main_v84 Value.res_main_v83 Value.res_main_v77
  rw [picked_eq]; rfl

/-- A reduction over a token's row, of groups, of four and of sixteen. -/
theorem red_g {α : Type} (f : α → α → α) [Std.Commutative f] [Std.Associative f] (x : S6144x4x4.Idx → α) (init : S_.Idx → α)
    (t : Fin 6144) (g : Fin 4) : Host.reduce f x init reducesTo_S6144x4x4_S6144x4_d2 h_S_ (ix2 t g)
      = Finset.fold f (init (Shape.Idx.first h_S_)) (fun i : Fin 4 => x (ix3 t g i)) Finset.univ := by
  have hr : S6144x4x4.Reduces [2] S6144x4 := by decide
  rw [Host.reduce_eq_fold_single _ _ _ _ hr]
  have : (x ∘ hr.lift (ix2 t g)) = fun i : Fin 4 => x (ix3 t g i) := by
    funext l
    refine congrArg x (funext fun a => ?_)
    fin_cases a <;> rfl
  rw [this]; rfl
theorem red_4 {α : Type} (f : α → α → α) [Std.Commutative f] [Std.Associative f] (x : S6144x4.Idx → α) (init : S_.Idx → α)
    (t : Fin 6144) : Host.reduce f x init reducesTo_S6144x4_S6144_d1 h_S_ (ix1 t)
      = Finset.fold f (init (Shape.Idx.first h_S_)) (fun i : Fin 4 => x (ix2 t i)) Finset.univ := by
  have hr : S6144x4.Reduces [1] S6144 := by decide
  rw [Host.reduce_eq_fold_single _ _ _ _ hr]
  have : (x ∘ hr.lift (ix1 t)) = fun i : Fin 4 => x (ix2 t i) := by
    funext l
    refine congrArg x (funext fun a => ?_)
    fin_cases a <;> rfl
  rw [this]; rfl
theorem red_16 {α : Type} (f : α → α → α) [Std.Commutative f] [Std.Associative f] (x : S6144x16.Idx → α) (init : S_.Idx → α)
    (t : Fin 6144) : Host.reduce f x init reducesTo_S6144x16_S6144_d1 h_S_ (ix1 t)
      = Finset.fold f (init (Shape.Idx.first h_S_)) (fun i : Fin 16 => x (ix2 t i)) Finset.univ := by
  have hr : S6144x16.Reduces [1] S6144 := by decide
  rw [Host.reduce_eq_fold_single _ _ _ _ hr]
  have : (x ∘ hr.lift (ix1 t)) = fun i : Fin 16 => x (ix2 t i) := by
    funext l
    refine congrArg x (funext fun a => ?_)
    fin_cases a <;> rfl
  rw [this]; rfl

theorem MAXG_apply (v : FVec Ideal S6144x4x4 .f32) (t : Fin 6144) (g : Fin 4) : MAXG v (ix2 t g) = rowMax fun i => v (ix3 t g i) := by
  unfold MAXG rowMax; rw [red_g]; exact fold_op _ _ rfl _ _ rfl _ _
theorem MAX4_apply (v : FVec Ideal S6144x4 .f32) (t : Fin 6144) : MAX4 v (ix1 t) = rowMax fun i => v (ix2 t i) := by
  unfold MAX4 rowMax; rw [red_4]; exact fold_op _ _ rfl _ _ rfl _ _
theorem MAX16_apply (v : FVec Ideal S6144x16 .f32) (t : Fin 6144) : MAX16 v (ix1 t) = rowMax fun i => v (ix2 t i) := by
  unfold MAX16 rowMax; rw [red_16]; exact fold_op _ _ rfl _ _ rfl _ _

/-- Choosing by the bit of a decided proposition. -/
theorem select_ofBool {α : Type} (p : Prop) [Decidable p] (x y : α) :
    Scalar.select (BitVec.ofBool (decide p)) x y = if p then x else y := by
  by_cases h : p <;> simp [h, Scalar.select]

/-- Two small words are equal when their numbers are. -/
theorem cmpi_ofNat : ∀ a b : Fin 16,
    IntOp.cmpi .eq (BitVec.ofNat 32 a.val) (BitVec.ofNat 32 b.val) = BitVec.ofBool (decide (a = b)) := by
  decide +kernel

theorem FIRSTG_apply (v : FVec Ideal S6144x4x4 .f32) (t : Fin 6144) (g : Fin 4) :
    FIRSTG v (ix2 t g) = BitVec.ofNat 32 (arg fun i => v (ix3 t g i)).val := by
  unfold FIRSTG
  rw [red_g]
  refine fold_first (by norm_num) (fun i => v (ix3 t g i)) _ fun l => ?_
  rw [← rowMax_eq (fun i => v (ix3 t g i)), ← MAXG_apply, ← select_ofBool]
  pointwise [FIRSTG]
  rfl
theorem FIRST4_apply (v : FVec Ideal S6144x4 .f32) (t : Fin 6144) :
    FIRST4 v (ix1 t) = BitVec.ofNat 32 (arg fun i => v (ix2 t i)).val := by
  unfold FIRST4
  rw [red_4]
  refine fold_first (by norm_num) (fun i => v (ix2 t i)) _ fun l => ?_
  rw [← rowMax_eq (fun i => v (ix2 t i)), ← MAX4_apply, ← select_ofBool]
  pointwise [FIRST4]
  rfl
theorem FIRST16_apply (v : FVec Ideal S6144x16 .f32) (t : Fin 6144) :
    FIRST16 v (ix1 t) = BitVec.ofNat 32 (arg fun i => v (ix2 t i)).val := by
  unfold FIRST16
  rw [red_16]
  refine fold_first (by norm_num) (fun i => v (ix2 t i)) _ fun l => ?_
  rw [← rowMax_eq (fun i => v (ix2 t i)), ← MAX16_apply, ← select_ofBool]
  pointwise [FIRST16]
  rfl

theorem cmpi_ofNat4 (a b : Fin 4) :
    IntOp.cmpi .eq (BitVec.ofNat 32 a.val) (BitVec.ofNat 32 b.val) = BitVec.ofBool (decide (a = b)) := by
  revert a b; decide +kernel

theorem PAIR_apply (v : FVec Ideal S6144x4x4 .f32) (t : Fin 6144) (g : Fin 4) :
    PAIR v (ix2 t g) = pairMax fun i => v (ix3 t g i) := by
  unfold PAIR pairMax
  beta_reduce
  rw [show v (ix3 t g (arg fun i => v (ix3 t g i))) = MAXG v (ix2 t g) from ((MAXG_apply v t g).trans (rowMax_eq _)).symm]
  show MAXG v (ix2 t g) + MAXG (OTHERS v) (ix2 t g) = _
  refine congrArg (MAXG v (ix2 t g) + ·) ((MAXG_apply _ _ _).trans (congrArg rowMax (funext fun i => ?_)))
  rw [← select_ofBool, ← cmpi_ofNat4, ← FIRSTG_apply, ← ofBits_bot]
  pointwise [OTHERS]
  rfl

/-- The chosen entries are `TopTwo`'s. -/
theorem PICKED_apply (v : FVec Ideal S6144x4x4 .f32) (t : Fin 6144) (e : Fin 16) :
    PICKED v (ix2 t e) = kept (fun g i => v (ix3 t g i)) e := by
  unfold PICKED kept group
  simp only [← PAIR_apply]
  rw [← select_ofBool, ← cmpi_ofNat4, ← FIRST4_apply, ← ofBits_bot]
  pointwise [KEPT]
  rfl

theorem REST_apply (k : FVec Ideal S6144x16 .f32) (t : Fin 6144) (e : Fin 16) :
    REST k (ix2 t e) = if e = arg (fun e => k (ix2 t e)) then ⊥ else k (ix2 t e) := by
  rw [← select_ofBool, ← cmpi_ofNat, ← FIRST16_apply, ← ofBits_bot]
  pointwise [REST, HOT]
  rfl

/-- The weight is the score of the expert named. -/
theorem WT_apply (S : FVec Ideal S6144x16 .f32) (i : IVec S6144 32) (t : Fin 6144) (l : Fin 16) (hi : i (ix1 t) = BitVec.ofNat 32 l.val) :
    WT S i (ix1 t) = S (ix2 t l) := by
  have h0 : Ideal.ofBits .f32 0#32 = 0 := by simp [Ideal.ofBits, Ideal.ieee]
  have h : ∀ e : Fin 16, select (HOT i) S (broadcastInDim S6144x16 ![] bcast_S_S6144x16 (id (constant S_ .f32 0x00000000#32))) (ix2 t e)
      = if e = l then S (ix2 t e) else 0 := fun e => by
    rw [← select_ofBool, ← cmpi_ofNat, ← hi]
    pointwise [HOT]
    exact congrArg (Scalar.select _ _) h0
  unfold WT
  generalize select (HOT i) S (broadcastInDim S6144x16 ![] bcast_S_S6144x16 (id (constant S_ .f32 0x00000000#32))) = q at h ⊢
  pointwise []
  simp [h]

/-- The two experts of a token, where no biased score is minus infinity. -/
theorem first_best (v : FVec Ideal S6144x4x4 .f32) (t : Fin 6144) (hs : ∀ g i, v (ix3 t g i) ≠ ⊥) :
    FIRST16 (PICKED v) (ix1 t) = BitVec.ofNat 32 (at16 (group fun g i => v (ix3 t g i)) (best fun g i => v (ix3 t g i))).val := by
  rw [FIRST16_apply, ← arg_kept _ hs, funext (PICKED_apply v t)]
theorem first_second (v : FVec Ideal S6144x4x4 .f32) (t : Fin 6144) (hs : ∀ g i, v (ix3 t g i) ≠ ⊥) :
    FIRST16 (REST (PICKED v)) (ix1 t) = BitVec.ofNat 32 (at16 (group fun g i => v (ix3 t g i)) (second fun g i => v (ix3 t g i))).val := by
  rw [FIRST16_apply, ← arg_rest _ hs, funext (REST_apply (PICKED v) t), funext (PICKED_apply v t)]
  simp only [PICKED_apply]

/-- Both results at the token. -/
theorem EXPERTS_apply (v : FVec Ideal S6144x4x4 .f32) (t : Fin 6144) :
    EXPERTS v (ix2 0 t) = FIRST16 (PICKED v) (ix1 t) ∧ EXPERTS v (ix2 1 t) = FIRST16 (REST (PICKED v)) (ix1 t) := by
  constructor <;> pointwise [EXPERTS]

theorem BOTH_apply (S : FVec Ideal S6144x16 .f32) (v : FVec Ideal S6144x4x4 .f32) (t : Fin 6144) (hs : ∀ g i, v (ix3 t g i) ≠ ⊥) :
    BOTH S v (ix2 0 t) = S (ix2 t (at16 (group fun g i => v (ix3 t g i)) (best fun g i => v (ix3 t g i))))
      ∧ BOTH S v (ix2 1 t) = S (ix2 t (at16 (group fun g i => v (ix3 t g i)) (second fun g i => v (ix3 t g i)))) := by
  rw [← WT_apply S _ t _ (first_best v t hs), ← WT_apply S _ t _ (first_second v t hs)]
  constructor <;> pointwise [BOTH]

theorem WEIGHTS_apply (S : FVec Ideal S6144x16 .f32) (v : FVec Ideal S6144x4x4 .f32) (t : Fin 6144) (r : Fin 2) :
    WEIGHTS S v (ix2 r t) = Ideal.div (BOTH S v (ix2 r t)) (BOTH S v (ix2 0 t) + BOTH S v (ix2 1 t)) := by
  pointwise [WEIGHTS]

end Cert.RouteRef

end
-- ==== Proof.RouteReal.lean ====
/- The routing call's condition: every entry of its arguments is a real number. Then so is every entry of the normed tokens,
   and a difference of two equal entries is zero. -/
module

public import proofs.«01_k».proof.Proof.RouteNormValue
public import proofs.«01_k».proof.Proof.Gen.Pre_route_finite

@[expose] public section

set_option maxRecDepth 16384

noncomputable section

namespace Cert.RouteReal

open Idealize.ShloMosaic Idealize.ShloMosaic.TcCoe Idealize.SL.Sem
open Cert.Pre_route_finite Cert.Pre_route_finite.Gen

/-- An extended real that is a real; a real not under zero; a real over zero. -/
def Re (x : EReal) : Prop := ∃ r : ℝ, x = r
def Nn (x : EReal) : Prop := ∃ r : ℝ, 0 ≤ r ∧ x = r
def Ps (x : EReal) : Prop := ∃ r : ℝ, 0 < r ∧ x = r

theorem Re.add {x y : EReal} : Re x → Re y → Re (x + y) := fun ⟨a, ha⟩ ⟨b, hb⟩ => ⟨a + b, by rw [ha, hb, EReal.coe_add]⟩
theorem Re.mul {x y : EReal} : Re x → Re y → Re (x * y) := fun ⟨a, ha⟩ ⟨b, hb⟩ => ⟨a * b, by rw [ha, hb, EReal.coe_mul]⟩
theorem Re.sub_self {x : EReal} : Re x → x - x = 0 := fun ⟨a, ha⟩ => by
  rw [ha, ← EReal.coe_sub, _root_.sub_self, EReal.coe_zero]
theorem Re.sum {n : ℕ} {f : Fin n → EReal} (h : ∀ i, Re (f i)) : Re (∑ i, f i) :=
  Finset.sum_induction f Re (fun _ _ => Re.add) ⟨0, rfl⟩ fun i _ => h i
theorem Re.sq {x : EReal} : Re x → Nn (x * x) := fun ⟨a, ha⟩ => ⟨a * a, mul_self_nonneg a, by rw [ha, EReal.coe_mul]⟩
theorem Nn.sum {n : ℕ} {f : Fin n → EReal} (h : ∀ i, Nn (f i)) : Nn (∑ i, f i) :=
  Finset.sum_induction f Nn (fun _ _ ⟨a, h, ha⟩ ⟨b, h', hb⟩ => ⟨a + b, add_nonneg h h', by rw [ha, hb, EReal.coe_add]⟩)
    ⟨0, le_rfl, rfl⟩ fun i _ => h i
theorem Re.ne_bot {x : EReal} : Re x → x ≠ ⊥ := fun ⟨a, ha⟩ => ha ▸ EReal.coe_ne_bot a

/-- The reciprocal root of a mean of squares and the small constant is a real. -/
theorem Nn.rsqrt {x : EReal} : Nn x → Re (Ideal.rsqrt (Ideal.div x (Ideal.ofBits .f32 1166016512#32) + Ideal.ofBits .f32 897988541#32)) := by
  rintro ⟨a, h, rfl⟩
  have e1 : Ideal.ofBits .f32 1166016512#32 = ((4096 : ℝ) : EReal) := by
    simp [Ideal.ofBits, Ideal.ieee, -EReal.coe_mul]; norm_num
  have e2 : Ps (Ideal.ofBits .f32 897988541#32) := by
    refine ⟨8796093 / 2 ^ 43, by norm_num, ?_⟩
    simp [Ideal.ofBits, Ideal.ieee, -EReal.coe_mul]; norm_num
  obtain ⟨b, hb, e2⟩ := e2
  rw [e1, e2, Ideal.div_coe (by norm_num), ← EReal.coe_mul, ← EReal.coe_add, Ideal.rsqrt_coe]
  have : 0 < a * (1 / 4096) + b := by positivity
  rw [if_neg (not_lt.2 this.le), if_neg this.ne']
  exact ⟨_, rfl⟩

/-- The sigmoid of a real is a real. -/
theorem Re.sigmoid {x : EReal} : Re x → Re (Ideal.div 1 (1 + Ideal.exp (-x))) := by
  rintro ⟨a, rfl⟩
  have h : 1 + Real.exp (-a) ≠ 0 := by positivity
  rw [← EReal.coe_neg, Ideal.exp_coe, ← EReal.coe_one, ← EReal.coe_add, Ideal.div_coe h, ← EReal.coe_mul]
  exact ⟨_, rfl⟩

/-- An entry whose size is under infinity is a real. -/
theorem re_of_bit {x : EReal} (h : BitVec.ofBool (decide (max x (-x) < Ideal.ofBits .f32 2139095040#32)) = 1#1) : Re x := by
  have e : Ideal.ofBits .f32 2139095040#32 = ⊤ := by simp [Ideal.ofBits, Ideal.ieee]
  have h' : max x (-x) < ⊤ := by
    by_contra hc
    rw [e, decide_eq_false hc] at h
    exact absurd h (by decide)
  induction x with
  | bot => simp at h'
  | top => simp at h'
  | coe r => exact ⟨r, rfl⟩

/-- A conjunction over all entries that holds, holds of each. -/
theorem all_of_reduce {s : Shape} {axes : List (Fin s.rank)} (x : IVec s 1) (init : IVec S_ 1) (h : s.ReducesTo axes S_) (j : S_.Idx)
    (hj : Host.reduce IntOp.andi x init h h_S_ j = 1#1) (i : s.Idx) : x i = 1#1 := by
  rw [Host.reduce_eq_fold] at hj
  have hr : ∀ {a b c : BitVec 1}, (a = 1#1 ∧ IntOp.andi b c = 1#1) ↔ ((a = 1#1 ∧ b = 1#1) ∧ (a = 1#1 ∧ c = 1#1)) := by
    intro a b c; rw [IntOp.andi_eq_one]; tauto
  have := (Finset.fold_op_rel_iff_and (r := fun a b : BitVec 1 => a = 1#1 ∧ b = 1#1) (op := IntOp.andi) hr (c := 1#1)).1 ⟨rfl, hj⟩
  exact (this.2 i (Finset.mem_filter.2 ⟨Finset.mem_univ _, funext fun a => a.elim0⟩)).2

/-- The claim's condition, read: every argument's entries are reals. -/
theorem of_pre (X : FVec Ideal S6144x4096 .f32) (G : FVec Ideal S4096 .f32) (D : FVec Ideal S8x6x4096 .f32) (W : FVec Ideal S4096x16 .f32) (B : FVec Ideal S16 .f32)
    (h : Cert.Pre_route_finite.fn (F := Ideal) X G D W B = fun _ => 1#1) :
    (∀ i, Re (X i)) ∧ (∀ i, Re (G i)) ∧ (∀ i, Re (D i)) ∧ (∀ i, Re (W i)) ∧ ∀ i, Re (B i) := by
  have h := congrFun h ix0
  simp only [Cert.Pre_route_finite.fn, Cert.Pre_route_finite.fn_part1] at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨fun i => re_of_bit (all_of_reduce _ _ _ _ h1 i), fun i => re_of_bit (all_of_reduce _ _ _ _ h2 i),
    fun i => re_of_bit (all_of_reduce _ _ _ _ h3 i), fun i => re_of_bit (all_of_reduce _ _ _ _ h4 i), fun i => re_of_bit (all_of_reduce _ _ _ _ h5 i)⟩

/-- The normed tokens' entries are reals. -/
theorem norm_real (X : FVec Ideal S6144x4096 .f32) (G : FVec Ideal S4096 .f32) (D : FVec Ideal S8x6x4096 .f32)
    (hX : ∀ i, Re (X i)) (hG : ∀ i, Re (G i)) (hD : ∀ i, Re (D i)) (t : Fin 6144) (k : Fin 4096) :
    Re (Cert.RouteNormIdeal.Whole.REF X G D (ix2 t k)) := by
  have e : ∀ (a : EReal), Re a → Re (1 + a) := fun a ha => Re.add ⟨1, rfl⟩ ha
  have hr := Nn.rsqrt (Nn.sum fun l => (hX (ix2 t l)).sq)
  pointwise [Cert.RouteNormIdeal.Whole.REF, Cert.NormModIdeal.Whole.PER, Cert.FinalNormIdeal.Whole.REF]
  refine (((hX _).mul hr).mul (hG _)).mul (e _ ?_) |>.add ?_ <;> split_ifs <;> exact hD _

end Cert.RouteReal

end
-- ==== Proof.RouteValue.lean ====
/- The values of the routing call's other two results: each token's two experts, and their weights. The scores agree because,
   over reals, the low parts the kernel splits its factors into are zero; the choices agree by `TopTwo`. -/
module

public import proofs.«01_k».proof.Proof.RouteLane
public import proofs.«01_k».proof.Proof.RouteRef
public import proofs.«01_k».proof.Proof.RouteReal

@[expose] public section

set_option maxRecDepth 16384

noncomputable section

open Idealize.ShloMosaic Idealize.ShloMosaic.TcCoe Idealize.SL.Sem
open Idealize.ShloMosaic.Pipeline (Dat)

namespace Cert.RouteIdeal.Whole

open Cert.RouteIdeal Cert.RouteIdeal.Gen Cert.TopTwo Cert.RouteReal

variable (m : (ℓ : Loc nD τ sig) → Buf (Elt Ideal) ℓ)

/-- The reference's normed tokens, scores and biased scores by group. -/
abbrev H (X : FVec Ideal S6144x4096 .f32) (G : FVec Ideal S4096 .f32) (D : FVec Ideal S8x6x4096 .f32) : FVec Ideal S6144x4096 .f32 :=
  Cert.RouteNormIdeal.Whole.REF X G D
def SCORE (X : FVec Ideal S6144x4096 .f32) (G : FVec Ideal S4096 .f32) (D : FVec Ideal S8x6x4096 .f32) (W : FVec Ideal S4096x16 .f32) :
    FVec Ideal Cert.RouteRefIdeal.S6144x16 .f32 :=
  Host.divf (broadcastInDim Cert.RouteRefIdeal.S6144x16 ![] Cert.RouteRefIdeal.Gen.bcast_S_S6144x16 (constant Cert.RouteRefIdeal.S_ .f32 0x3F800000#32))
    (addf (broadcastInDim Cert.RouteRefIdeal.S6144x16 ![] Cert.RouteRefIdeal.Gen.bcast_S_S6144x16 (constant Cert.RouteRefIdeal.S_ .f32 0x3F800000#32))
      (Host.exp (Host.negf (Host.dotGeneral Cert.RouteRefIdeal.dot_S6144x4096_S4096x16_S6144x16_1_0_0_1_n_n none (H X G D) W))))
def BIASED (X : FVec Ideal S6144x4096 .f32) (G : FVec Ideal S4096 .f32) (D : FVec Ideal S8x6x4096 .f32) (W : FVec Ideal S4096x16 .f32) (B : FVec Ideal S16 .f32) :
    FVec Ideal Cert.RouteRefIdeal.S6144x4x4 .f32 :=
  shapeCast _ (addf (SCORE X G D W) (broadcastInDim Cert.RouteRefIdeal.S6144x16 ![0, 1] Cert.RouteRefIdeal.Gen.bcast_S1x16_S6144x16_0_1
    (broadcastInDim Cert.RouteRefIdeal.S1x16 ![1] Cert.RouteRefIdeal.Gen.bcast_S16_S1x16_1 B))) Cert.RouteRefIdeal.Gen.shapeCasts_S6144x16_S6144x4x4

theorem SCORE_apply (X : FVec Ideal S6144x4096 .f32) (G : FVec Ideal S4096 .f32) (D : FVec Ideal S8x6x4096 .f32) (W : FVec Ideal S4096x16 .f32)
    (t : Fin 6144) (e : Fin 16) :
    SCORE X G D W (ix2 t e) = Ideal.div 1 (1 + Ideal.exp (-∑ k, H X G D (ix2 t k) * W (ix2 k e))) := by
  unfold SCORE
  generalize H X G D = h
  pointwise []

theorem BIASED_apply (X : FVec Ideal S6144x4096 .f32) (G : FVec Ideal S4096 .f32) (D : FVec Ideal S8x6x4096 .f32) (W : FVec Ideal S4096x16 .f32) (B : FVec Ideal S16 .f32)
    (t : Fin 6144) (g i : Fin 4) :
    BIASED X G D W B (ix3 t g i) = SCORE X G D W (ix2 t (at16 g i)) + B (ix1 (at16 g i)) := by
  pointwise [BIASED, at16]
  simp only [Nat.mul_comm 4]

/-- The reference's scores and biased scores of the call's arguments. -/
def SCORES (c : Dev nD) : FVec Ideal Cert.RouteRefIdeal.S6144x16 .f32 :=
  SCORE (m ((c : Thread nD τ).loc main_arg0)) (m ((c : Thread nD τ).loc main_arg1)) (m ((c : Thread nD τ).loc main_arg2)) (m ((c : Thread nD τ).loc main_arg3))
def BIASES (c : Dev nD) : FVec Ideal Cert.RouteRefIdeal.S6144x4x4 .f32 :=
  BIASED (m ((c : Thread nD τ).loc main_arg0)) (m ((c : Thread nD τ).loc main_arg1)) (m ((c : Thread nD τ).loc main_arg2)) (m ((c : Thread nD τ).loc main_arg3))
    (m ((c : Thread nD τ).loc main_arg4))

/-- Which block each window holds at grid point `t`. -/
theorem idx : ∀ t : Fin cfg0.N, win0_0.index t = ![t.val, 0] ∧ win0_1.index t = ![0, 0]
    ∧ win0_2.index t = ![t.val / 4 - 3, 0, 0] ∧ win0_3.index t = ![0, 0] ∧ win0_4.index t = ![0, 0] ∧ win0_5.index t = ![0, 0]
    ∧ win0_7.index t = ![0, t.val] ∧ win0_8.index t = ![0, t.val] :=
  (by decide +kernel : ∀ t : Fin grid0.N, _)

/-- The router's weights as the call is handed them. -/
abbrev WR (c : Dev nD) : FVec Ideal S4096x16 .f32 := m ((c : Thread nD τ).loc main_arg3)

/-- The call's prepared arguments: the gain and the bias as one row and one column, the weights transposed and their low part. -/
theorem gain (c : Dev nD) : V m c main_v5
    = shapeCast S1x4096 (m ((c : Thread nD τ).loc main_arg1) : FVec Ideal S4096 .f32) shapeCasts_S4096_S1x4096 := by
  unfold V; after_results; rfl
theorem bias (c : Dev nD) : V m c main_v6
    = shapeCast S16x1 (m ((c : Thread nD τ).loc main_arg4) : FVec Ideal S16 .f32) shapeCasts_S16_S16x1 := by
  unfold V; after_results; rfl
theorem high (c : Dev nD) : V m c main_v1 = (truncf FTy.bf16
    (transpose S16x4096 [1, 0] (WR m c) transposes_S4096x16_S16x4096_1_0) bitsLt_bf16_f32 : FVec Ideal S16x4096 .bf16) := by
  unfold V; after_results
theorem low (c : Dev nD) : V m c main_v4 = (truncf FTy.bf16
    (subf (transpose S16x4096 [1, 0] (WR m c) transposes_S4096x16_S16x4096_1_0)
      (extf FTy.f32 (truncf FTy.bf16 (transpose S16x4096 [1, 0] (WR m c) transposes_S4096x16_S16x4096_1_0)
        bitsLt_bf16_f32) bitsLt_bf16_f32)) bitsLt_bf16_f32 : FVec Ideal S16x4096 .bf16) := by
  unfold V; after_results

/-- A normed entry of the block is the reference's. -/
theorem core (c : Dev nD) (t : Fin cfg0.N) (y : S256x4096.Idx) (j : S6144x4096.Idx)
    (hj0 : (j 0 : ℕ) = t.val * 256 + y 0) (hj1 : (j 1 : ℕ) = y 1) :
    k0_pay2 (F := Ideal) (View.ld (iblk m c 0 t) r0_0) (View.ld (iblk m c 1 t) r0_1) (View.ld (iblk m c 2 t) r0_2) (View.ld (iblk m c 2 t) r0_3) y
      = H (m ((c : Thread nD τ).loc main_arg0)) (m ((c : Thread nD τ).loc main_arg1)) (m ((c : Thread nD τ).loc main_arg2)) j := by
  pointwise [k0_pay2, H, Cert.RouteNormIdeal.Whole.REF, Cert.NormModIdeal.Whole.PER, Cert.FinalNormIdeal.Whole.REF]
  blk_point [iblk, V, idx t, gain]

/-- The weight blocks' entries. -/
theorem high_apply (c : Dev nD) (t : Fin cfg0.N) (e : Fin 16) (k : Fin 4096) :
    (iblk m c 3 t : Vec Ideal S16x4096 .bf16) (ix2 e k) = (WR m c) (ix2 k e) := by
  blk_point [iblk, idx t, high]
theorem low_apply (c : Dev nD) (t : Fin cfg0.N) (e : Fin 16) (k : Fin 4096) :
    (iblk m c 4 t : Vec Ideal S16x4096 .bf16) (ix2 e k) = (WR m c) (ix2 k e)
      - (WR m c) (ix2 k e) := by
  have e4 : (iblk m c 4 t : Vec Ideal S16x4096 .bf16) (ix2 e k) = (V m c main_v4 : Vec Ideal S16x4096 .bf16) (ix2 e k) := by
    blk_point [iblk, idx t]
  rw [e4, low]
  pointwise []
theorem bias_apply (c : Dev nD) (t : Fin cfg0.N) (e : Fin 16) :
    (iblk m c 5 t : Vec Ideal S16x1 .f32) (ix2 e 0) = (m ((c : Thread nD τ).loc main_arg4) : FVec Ideal S16 .f32) (ix1 e) := by
  blk_point [iblk, idx t, bias]

/-- The kernel's sum of a token's products with an expert's weights, low parts and all, is the plain one over reals. -/
theorem logit (w h : Fin 4096 → EReal) (hw : ∀ k, Re (w k)) (hh : ∀ k, Re (h k)) :
    (∑ k, w k * h k + ∑ k, w k * (h k - h k)) + ∑ k, (w k - w k) * h k = ∑ k, h k * w k := by
  simp only [(hw _).sub_self, (hh _).sub_self, mul_zero, zero_mul, Finset.sum_const_zero, add_zero]
  exact Finset.sum_congr rfl fun k _ => mul_comm _ _

section

variable (c : Dev nD) (t : Fin cfg0.N) (y : Fin 256) (r : Fin 6144) (hr : r.val = t.val * 256 + y.val)
  (hX : ∀ i, Re ((m ((c : Thread nD τ).loc main_arg0) : FVec Ideal S6144x4096 .f32) i))
  (hG : ∀ i, Re ((m ((c : Thread nD τ).loc main_arg1) : FVec Ideal S4096 .f32) i))
  (hD : ∀ i, Re ((m ((c : Thread nD τ).loc main_arg2) : FVec Ideal S8x6x4096 .f32) i))
  (hW : ∀ i, Re (WR m c i))
include hr hX hG hD hW

/-- A score of the block is the reference's. -/
theorem score (e : Fin 16) : Lane.SC (iblk m c 0 t) (iblk m c 1 t) (iblk m c 2 t) (iblk m c 3 t) (iblk m c 4 t) (iblk m c 5 t) (ix2 e y)
    = SCORE (m ((c : Thread nD τ).loc main_arg0)) (m ((c : Thread nD τ).loc main_arg1)) (m ((c : Thread nD τ).loc main_arg2)) (WR m c) (ix2 r e) := by
  have hc := fun k : Fin 4096 => core m c t (ix2 y k) (ix2 r k) hr rfl
  have hn := fun k : Fin 4096 => norm_real _ _ _ hX hG hD r k
  rw [SCORE_apply, ← logit (fun k => WR m c (ix2 k e)) _ (fun k => hW _) hn]
  change ∀ k, _ = Cert.RouteNormIdeal.Whole.REF _ _ _ _ at hc
  change _ = Ideal.div 1 (1 + Ideal.exp (-((∑ k, _ * Cert.RouteNormIdeal.Whole.REF _ _ _ _ + ∑ k, _ * (Cert.RouteNormIdeal.Whole.REF _ _ _ _ - Cert.RouteNormIdeal.Whole.REF _ _ _ _))
    + ∑ k, _ * Cert.RouteNormIdeal.Whole.REF _ _ _ _)))
  simp only [← hc, ← high_apply m c t, ← low_apply m c t]
  pointwise [Lane.SC, k0_pay8, k0_pay68, k0_pay69, k0_pay70, k0_pay71, k0_pay3, k0_pay4, k0_pay5, k0_pay6, k0_pay7]
  rfl

/-- A biased score of the block is the reference's. -/
theorem biased (e : Fin 16) : Lane.SE (iblk m c 0 t) (iblk m c 1 t) (iblk m c 2 t) (iblk m c 3 t) (iblk m c 4 t) (iblk m c 5 t) (ix2 e y)
    = SCORE (m ((c : Thread nD τ).loc main_arg0)) (m ((c : Thread nD τ).loc main_arg1)) (m ((c : Thread nD τ).loc main_arg2)) (WR m c) (ix2 r e)
      + (m ((c : Thread nD τ).loc main_arg4) : FVec Ideal S16 .f32) (ix1 e) := by
  rw [← score m c t y r hr hX hG hD hW e, ← bias_apply m c t e]
  pointwise [Lane.SE, k0_pay9]
  rfl

/-- So one lane's scores and biased scores by group are the token's. -/
theorem sc_eq : Lane.sc (iblk m c 0 t) (iblk m c 1 t) (iblk m c 2 t) (iblk m c 3 t) (iblk m c 4 t) (iblk m c 5 t) y
    = fun g i => SCORES m c (ix2 r (at16 g i)) := by
  funext g i
  exact score m c t y r hr hX hG hD hW (at16 g i)
theorem se_eq : Lane.se (iblk m c 0 t) (iblk m c 1 t) (iblk m c 2 t) (iblk m c 3 t) (iblk m c 4 t) (iblk m c 5 t) y
    = fun g i => BIASES m c (ix3 r g i) := by
  funext g i
  exact (biased m c t y r hr hX hG hD hW (at16 g i)).trans (BIASED_apply _ _ _ _ _ r g i).symm

omit hr in
/-- A biased score is a real. -/
theorem real (hB : ∀ i, Re ((m ((c : Thread nD τ).loc main_arg4) : FVec Ideal S16 .f32) i)) (g i : Fin 4) : BIASES m c (ix3 r g i) ≠ ⊥ := by
  refine Re.ne_bot ?_
  unfold BIASES
  rw [BIASED_apply, SCORE_apply]
  exact .add (.sigmoid (.sum fun k => .mul (norm_real _ _ _ hX hG hD r k) (hW _))) (hB _)

end

/-- An index of a result is its row and its token; an index of a stored row is its lane. -/
theorem row (j : S2x6144.Idx) (u : Fin 2) (r : Fin 6144) (h0 : (j 0 : ℕ) = u.val) (h1 : (j 1 : ℕ) = r.val) : j = ix2 u r := by
  funext a
  refine Fin.ext ?_
  fin_cases a
  · exact h0
  · exact h1
theorem lane (x : S1x256.Idx) : x = ix2 0 (x 1) := by
  funext a
  refine Fin.ext ?_
  fin_cases a
  · exact Nat.lt_one_iff.1 (x 0).isLt
  · rfl

section

variable (c : Dev nD)
  (h : Cert.Pre_route_finite.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) = fun _ => 1#1)
include h

variable (t : Fin cfg0.N) (x : S1x256.Idx) (j : S2x6144.Idx)

/-- What the block stores in the rows of the first result is the token's first and second expert. -/
theorem expert (hj1 : (j 1 : ℕ) = t.val * 256 + (x 1).val) :
    ((j 0 : ℕ) = 0 → k0_pay65
      (k0_pay86 (iblk m c 0 t) (iblk m c 1 t) (iblk m c 2 t) (iblk m c 3 t) (iblk m c 4 t) (iblk m c 5 t))
      (k0_pay95 (iblk m c 0 t) (iblk m c 1 t) (iblk m c 2 t) (iblk m c 3 t) (iblk m c 4 t) (iblk m c 5 t)) x = Cert.RouteRef.EXPERTS (BIASES m c) j)
    ∧ ((j 0 : ℕ) = 1 → k0_pay66
      (k0_pay86 (iblk m c 0 t) (iblk m c 1 t) (iblk m c 2 t) (iblk m c 3 t) (iblk m c 4 t) (iblk m c 5 t))
      (k0_pay96 (iblk m c 0 t) (iblk m c 1 t) (iblk m c 2 t) (iblk m c 3 t) (iblk m c 4 t) (iblk m c 5 t))
      (k0_pay97 (iblk m c 0 t) (iblk m c 1 t) (iblk m c 2 t) (iblk m c 3 t) (iblk m c 4 t) (iblk m c 5 t))
      (k0_pay98 (iblk m c 0 t) (iblk m c 1 t) (iblk m c 2 t) (iblk m c 3 t) (iblk m c 4 t) (iblk m c 5 t))
      (k0_pay99 (iblk m c 0 t) (iblk m c 1 t) (iblk m c 2 t) (iblk m c 3 t) (iblk m c 4 t) (iblk m c 5 t))
      0#32 x = Cert.RouteRef.EXPERTS (BIASES m c) j) := by
  obtain ⟨hX, hG, hD, hW, hB⟩ := of_pre _ _ _ _ _ h
  have p := se_eq m c t (x 1) (j 1) hj1 hX hG hD hW
  have hs := real m c (j 1) hX hG hD hW hB
  obtain ⟨q0, q1⟩ := Lane.experts_eq (iblk m c 0 t) (iblk m c 1 t) (iblk m c 2 t) (iblk m c 3 t) (iblk m c 4 t) (iblk m c 5 t) (x 1)
  obtain ⟨r0, r1⟩ := Cert.RouteRef.EXPERTS_apply (BIASES m c) (j 1)
  rw [p] at q0 q1
  rw [Cert.RouteRef.first_best _ _ hs] at r0
  rw [Cert.RouteRef.first_second _ _ hs] at r1
  rw [lane x]
  constructor <;> intro hj0
  · rw [row j 0 (j 1) hj0 rfl]; exact q0.trans r0.symm
  · rw [row j 1 (j 1) hj0 rfl]; exact q1.trans r1.symm

/-- What the block stores in the rows of the second result is the two experts' weights. -/
theorem weight (hj1 : (j 1 : ℕ) = t.val * 256 + (x 1).val) :
    ((j 0 : ℕ) = 0 → k0_pay67
      (k0_pay91 (iblk m c 0 t) (iblk m c 1 t) (iblk m c 2 t) (iblk m c 3 t) (iblk m c 4 t) (iblk m c 5 t))
      (k0_pay92 (iblk m c 0 t) (iblk m c 1 t) (iblk m c 2 t) (iblk m c 3 t) (iblk m c 4 t) (iblk m c 5 t))
      (k0_pay93 (iblk m c 0 t) (iblk m c 1 t) (iblk m c 2 t) (iblk m c 3 t) (iblk m c 4 t) (iblk m c 5 t))
      (k0_pay94 (iblk m c 0 t) (iblk m c 1 t) (iblk m c 2 t) (iblk m c 3 t) (iblk m c 4 t) (iblk m c 5 t))
      (k0_pay95 (iblk m c 0 t) (iblk m c 1 t) (iblk m c 2 t) (iblk m c 3 t) (iblk m c 4 t) (iblk m c 5 t))
      (k0_pay96 (iblk m c 0 t) (iblk m c 1 t) (iblk m c 2 t) (iblk m c 3 t) (iblk m c 4 t) (iblk m c 5 t))
      (k0_pay97 (iblk m c 0 t) (iblk m c 1 t) (iblk m c 2 t) (iblk m c 3 t) (iblk m c 4 t) (iblk m c 5 t))
      (k0_pay98 (iblk m c 0 t) (iblk m c 1 t) (iblk m c 2 t) (iblk m c 3 t) (iblk m c 4 t) (iblk m c 5 t))
      (k0_pay99 (iblk m c 0 t) (iblk m c 1 t) (iblk m c 2 t) (iblk m c 3 t) (iblk m c 4 t) (iblk m c 5 t))
      0#32 x = Cert.RouteRef.WEIGHTS (SCORES m c) (BIASES m c) j)
    ∧ ((j 0 : ℕ) = 1 → k0_pay1
      (k0_pay63 (k0_pay91 (iblk m c 0 t) (iblk m c 1 t) (iblk m c 2 t) (iblk m c 3 t) (iblk m c 4 t) (iblk m c 5 t))
      (k0_pay92 (iblk m c 0 t) (iblk m c 1 t) (iblk m c 2 t) (iblk m c 3 t) (iblk m c 4 t) (iblk m c 5 t))
      (k0_pay93 (iblk m c 0 t) (iblk m c 1 t) (iblk m c 2 t) (iblk m c 3 t) (iblk m c 4 t) (iblk m c 5 t))
      (k0_pay94 (iblk m c 0 t) (iblk m c 1 t) (iblk m c 2 t) (iblk m c 3 t) (iblk m c 4 t) (iblk m c 5 t))
      (k0_pay96 (iblk m c 0 t) (iblk m c 1 t) (iblk m c 2 t) (iblk m c 3 t) (iblk m c 4 t) (iblk m c 5 t))
      (k0_pay97 (iblk m c 0 t) (iblk m c 1 t) (iblk m c 2 t) (iblk m c 3 t) (iblk m c 4 t) (iblk m c 5 t))
      (k0_pay98 (iblk m c 0 t) (iblk m c 1 t) (iblk m c 2 t) (iblk m c 3 t) (iblk m c 4 t) (iblk m c 5 t))
      (k0_pay99 (iblk m c 0 t) (iblk m c 1 t) (iblk m c 2 t) (iblk m c 3 t) (iblk m c 4 t) (iblk m c 5 t)) 0#32)
      (k0_pay64 (k0_pay91 (iblk m c 0 t) (iblk m c 1 t) (iblk m c 2 t) (iblk m c 3 t) (iblk m c 4 t) (iblk m c 5 t))
      (k0_pay92 (iblk m c 0 t) (iblk m c 1 t) (iblk m c 2 t) (iblk m c 3 t) (iblk m c 4 t) (iblk m c 5 t))
      (k0_pay93 (iblk m c 0 t) (iblk m c 1 t) (iblk m c 2 t) (iblk m c 3 t) (iblk m c 4 t) (iblk m c 5 t))
      (k0_pay94 (iblk m c 0 t) (iblk m c 1 t) (iblk m c 2 t) (iblk m c 3 t) (iblk m c 4 t) (iblk m c 5 t))
      (k0_pay95 (iblk m c 0 t) (iblk m c 1 t) (iblk m c 2 t) (iblk m c 3 t) (iblk m c 4 t) (iblk m c 5 t))
      (k0_pay96 (iblk m c 0 t) (iblk m c 1 t) (iblk m c 2 t) (iblk m c 3 t) (iblk m c 4 t) (iblk m c 5 t))
      (k0_pay97 (iblk m c 0 t) (iblk m c 1 t) (iblk m c 2 t) (iblk m c 3 t) (iblk m c 4 t) (iblk m c 5 t))
      (k0_pay98 (iblk m c 0 t) (iblk m c 1 t) (iblk m c 2 t) (iblk m c 3 t) (iblk m c 4 t) (iblk m c 5 t))
      (k0_pay99 (iblk m c 0 t) (iblk m c 1 t) (iblk m c 2 t) (iblk m c 3 t) (iblk m c 4 t) (iblk m c 5 t)) 0#32) x = Cert.RouteRef.WEIGHTS (SCORES m c) (BIASES m c) j) := by
  obtain ⟨hX, hG, hD, hW, hB⟩ := of_pre _ _ _ _ _ h
  have p := se_eq m c t (x 1) (j 1) hj1 hX hG hD hW
  have p' := sc_eq m c t (x 1) (j 1) hj1 hX hG hD hW
  have hs := real m c (j 1) hX hG hD hW hB
  obtain ⟨q0, q1⟩ := Lane.weights_eq (iblk m c 0 t) (iblk m c 1 t) (iblk m c 2 t) (iblk m c 3 t) (iblk m c 4 t) (iblk m c 5 t) (x 1)
  obtain ⟨b0, b1⟩ := Cert.RouteRef.BOTH_apply (SCORES m c) (BIASES m c) (j 1) hs
  have r0 := Cert.RouteRef.WEIGHTS_apply (SCORES m c) (BIASES m c) (j 1) 0
  have r1 := Cert.RouteRef.WEIGHTS_apply (SCORES m c) (BIASES m c) (j 1) 1
  rw [p, p'] at q0 q1
  rw [b0, b1] at r0 r1
  rw [lane x]
  constructor <;> intro hj0
  · rw [row j 0 (j 1) hj0 rfl]; exact q0.trans r0.symm
  · rw [row j 1 (j 1) hj0 rfl]; exact q1.trans r1.symm

omit t x j in
/-- The first result after the whole grid is the reference's table of experts. -/
theorem final7 : (dats m 0 c).arrAt 7 (cfgs 0).N = Cert.RouteRef.EXPERTS (BIASES m c) := by
  refine (dats m 0 c).arrAt_eq_of_covers 7 _ (by decide +kernel) fun t _ y => ?_
  blk_simp
  rw [after0_7]; frame_out
  have e0 : ((((cfg0.win 7).blk t).view.emb y) 0 : ℕ) = (y 0 : ℕ) := by blk_simp [idx t]
  have e1 : ((((cfg0.win 7).blk t).view.emb y) 1 : ℕ) = t.val * 256 + (y 1 : ℕ) := by blk_simp [idx t]
  canon_tiles x hx
  case piece0 => exact (expert m c h t x _ (e1.trans (by rw [hx1]))).2 (e0.trans (by omega))
  case piece1 => exact (expert m c h t x _ (e1.trans (by rw [hx1]))).1 (e0.trans (by omega))

omit t x j in
/-- The second result after the whole grid is the reference's table of weights. -/
theorem final8 : (dats m 0 c).arrAt 8 (cfgs 0).N = Cert.RouteRef.WEIGHTS (SCORES m c) (BIASES m c) := by
  refine (dats m 0 c).arrAt_eq_of_covers 8 _ (by decide +kernel) fun t _ y => ?_
  blk_simp
  rw [after0_8]; frame_out
  have e0 : ((((cfg0.win 8).blk t).view.emb y) 0 : ℕ) = (y 0 : ℕ) := by blk_simp [idx t]
  have e1 : ((((cfg0.win 8).blk t).view.emb y) 1 : ℕ) = t.val * 256 + (y 1 : ℕ) := by blk_simp [idx t]
  canon_tiles x hx
  case piece0 => exact (weight m c h t x _ (e1.trans (by rw [hx1]))).2 (e0.trans (by omega))
  case piece1 => exact (weight m c h t x _ (e1.trans (by rw [hx1]))).1 (e0.trans (by omega))

end

end Cert.RouteIdeal.Whole

end
-- ==== Proof.AdaValue.lean ====
/- The value of the modulation call: for each of the four layers, the conditioning rows through silu, times the layer's
   weights, plus its bias. -/
module

public import proofs.«01_k».proof.Proof.Gen.AdaIdeal.Frame
public import proofs.«01_k».proof.Proof.Gen.AdaRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaIdeal.Whole

open Cert.AdaIdeal Cert.AdaIdeal.Gen

variable (m : (ℓ : Loc nD τ sig) → Buf (Elt Ideal) ℓ)

/-- The reference's silu of the conditioning rows. -/
abbrev SILU (X : FVec Ideal S8x4096 .f32) : FVec Ideal S8x4096 .f32 :=
  mulf X (Host.divf (broadcastInDim S8x4096 ![] Cert.AdaRefIdeal.Gen.bcast_S_S8x4096 (constant Cert.AdaRefIdeal.S_ .f32 0x3F800000#32))
    (addf (broadcastInDim S8x4096 ![] Cert.AdaRefIdeal.Gen.bcast_S_S8x4096 (constant Cert.AdaRefIdeal.S_ .f32 0x3F800000#32))
      (Host.exp (Host.negf X))))

/-- The reference's result as a function of its three arguments. -/
abbrev REF (X : FVec Ideal S8x4096 .f32) (W : FVec Ideal S4x4096x24576 .f32) (B : FVec Ideal S4x24576 .f32) : FVec Ideal S4x8x24576 .f32 :=
  addf (transpose S4x8x24576 [0, 2, 1]
      (Host.dotGeneral Cert.AdaRefIdeal.dot_S4x4096x24576_S8x4096_S4x24576x8_1_1_02_0_n_n none W (SILU X))
      Cert.AdaRefIdeal.Gen.transposes_S4x24576x8_S4x8x24576_0_2_1)
    (broadcastInDim S4x8x24576 ![0, 1, 2] Cert.AdaRefIdeal.Gen.bcast_S4x1x24576_S4x8x24576_0_1_2
      (broadcastInDim S4x1x24576 ![0, 2] Cert.AdaRefIdeal.Gen.bcast_S4x24576_S4x1x24576_0_2 B))

/-- Which block each window holds at grid point `t`: layer `t / 48`, column band `t % 48`. -/
theorem idx : ∀ t : Fin cfg0.N, win0_0.index t = ![0, 0] ∧ win0_1.index t = ![t.val / 48, 0, t.val % 48]
    ∧ win0_2.index t = ![t.val / 48, 0, t.val % 48] ∧ win0_3.index t = ![t.val / 48, 0, t.val % 48] :=
  (by decide +kernel : ∀ t : Fin grid0.N, _)

/-- The biases as the call is handed them: one row to a layer. -/
theorem bias (c : Dev nD) : V m c main_v0
    = shapeCast S4x1x24576 (m ((c : Thread nD τ).loc main_arg2) : FVec Ideal S4x24576 .f32) shapeCasts_S4x24576_S4x1x24576 := by
  unfold V; after_results; rfl

/-- Equal numbers have one silu, written with the logistic function or with the exponential. -/
theorem silu_congr {x u : EReal} (h : x = u) : x * Ideal.logistic x = u * Ideal.div 1 (1 + Ideal.exp (-u)) := by
  rw [h, Ideal.logistic]

/-- An entry of the block computed at grid point `t` is the entry of the reference's result it stands for. -/
theorem core (c : Dev nD) (t : Fin cfg0.N) (y : S1x8x512.Idx) (j : S4x8x24576.Idx)
    (hj0 : (j 0 : ℕ) = t.val / 48 + y 0) (hj1 : (j 1 : ℕ) = y 1) (hj2 : (j 2 : ℕ) = t.val % 48 * 512 + y 2) :
    k0_pay1 (F := Ideal) (iblk m c 0 t) (iblk m c 1 t) (iblk m c 2 t) y
      = REF (m ((c : Thread nD τ).loc main_arg0)) (m ((c : Thread nD τ).loc main_arg1)) (m ((c : Thread nD τ).loc main_arg2)) j := by
  have hy : (y 0 : ℕ) < 1 := (y 0).isLt
  pointwise [k0_pay1, REF, SILU]
  refine congrArg₂ (· + ·) (Finset.sum_congr rfl fun k _ => (mul_comm _ _).trans (congrArg₂ (· * ·) ?_ (silu_congr ?_))) ?_
  all_goals blk_point [iblk, V, idx t, bias]

/-- The output array after the whole grid is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact core m c t y _ (by blk_simp [idx t]) (by blk_simp [idx t]) (by blk_simp [idx t])

end Cert.AdaIdeal.Whole

end
-- ==== Proof.S5GateValue.lean ====
/- The value of the S5 branch's gate: the two directions' readings and the skip term, summed, through gelu, times the
   sigmoid of their projection with layer 1's weights. -/
module

public import proofs.«01_k».proof.Proof.Gen.S5GateIdeal.Frame
public import proofs.«01_k».proof.Proof.Gen.S5GateRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.S5GateIdeal.Whole

open Cert.S5GateIdeal Cert.S5GateIdeal.Gen

variable (m : (ℓ : Loc nD τ sig) → Buf (Elt Ideal) ℓ)

/-- The reference's sum of the skip term and the two directions' readings. -/
abbrev SUM (P : FVec Ideal S6144x5632 .f32) (Y : FVec Ideal S2x6144x1024 .f32) (D : FVec Ideal S4x1024 .f32) :
    FVec Ideal S6144x1024 .f32 :=
  addf (addf (mulf (extractStridedSlice S6144x1024 ![0, 4608] P Cert.S5GateRefIdeal.Gen.slices_S6144x5632_S6144x1024_0_4608)
      (broadcastInDim S6144x1024 ![0, 1] Cert.S5GateRefIdeal.Gen.bcast_S1x1024_S6144x1024_0_1
        (broadcastInDim S1x1024 ![1] Cert.S5GateRefIdeal.Gen.bcast_S1024_S1x1024_1
          (shapeCast Cert.S5GateRefIdeal.S1024 (extractStridedSlice S1x1024 ![1, 0] D Cert.S5GateRefIdeal.Gen.slices_S4x1024_S1x1024_1_0)
            Cert.S5GateRefIdeal.Gen.shapeCasts_S1x1024_S1024))))
      (shapeCast S6144x1024 (extractStridedSlice Cert.S5GateRefIdeal.S1x6144x1024 ![0, 0, 0] Y
        Cert.S5GateRefIdeal.Gen.slices_S2x6144x1024_S1x6144x1024_0_0_0) Cert.S5GateRefIdeal.Gen.shapeCasts_S1x6144x1024_S6144x1024))
    (shapeCast S6144x1024 (extractStridedSlice Cert.S5GateRefIdeal.S1x6144x1024 ![1, 0, 0] Y
      Cert.S5GateRefIdeal.Gen.slices_S2x6144x1024_S1x6144x1024_1_0_0) Cert.S5GateRefIdeal.Gen.shapeCasts_S1x6144x1024_S6144x1024)

/-- A constant over all tokens and channels. -/
abbrev ALL (b : BitVec 32) : FVec Ideal S6144x1024 .f32 :=
  broadcastInDim S6144x1024 ![] Cert.S5GateRefIdeal.Gen.bcast_S_S6144x1024 (constant Cert.S5GateRefIdeal.S_ .f32 b)

/-- The reference's gelu. -/
abbrev GELU (Z : FVec Ideal S6144x1024 .f32) : FVec Ideal S6144x1024 .f32 :=
  mulf Z (mulf (ALL 0x3F000000#32) (addf (ALL 0x3F800000#32)
    (Host.tanh (mulf (ALL 0x3F4C422A#32) (addf Z (mulf (ALL 0x3D372713#32) (mulf (mulf Z Z) Z)))))))

/-- The reference's result from the activations: each times the sigmoid of the activations' projection. -/
abbrev GLU (A : FVec Ideal S6144x1024 .f32) (W : FVec Ideal S4x1024x1024 .f32) : FVec Ideal S6144x1024 .bf16 :=
  truncf .bf16 (mulf A (Host.divf (ALL 0x3F800000#32) (addf (ALL 0x3F800000#32) (Host.exp (Host.negf
    (Host.dotGeneral Cert.S5GateRefIdeal.dot_S6144x1024_S1024x1024_S6144x1024_1_0_0_1_n_n none A
      (shapeCast S1024x1024 (extractStridedSlice S1x1024x1024 ![1, 0, 0] W
        Cert.S5GateRefIdeal.Gen.slices_S4x1024x1024_S1x1024x1024_1_0_0) Cert.S5GateRefIdeal.Gen.shapeCasts_S1x1024x1024_S1024x1024)))))))
    Cert.S5GateRefIdeal.Gen.bitsLt_bf16_f32

/-- The kernel's sum of the skip term and the two directions' readings, on one block. -/
abbrev KSUM (a b : Vec Ideal S512x512 .f32) (d : Vec Ideal S1x1x1024 .f32) (y z : Vec Ideal S1x512x1024 .f32) :
    FVec Ideal S512x1024 .f32 :=
  addf (addf (mulf (concatenate S512x1024 1 [⟨S512x512, a⟩, ⟨S512x512, b⟩] concatenates_S512x512_S512x512_S512x1024_d1)
      (broadcastTo S512x1024 (shapeCast S1x1024 d shapeCasts_S1x1x1024_S1x1024) broadcasts_S1x1024_S512x1024))
      (shapeCast S512x1024 y shapeCasts_S1x512x1024_S512x1024)) (shapeCast S512x1024 z shapeCasts_S1x512x1024_S512x1024)

/-- The kernel's gelu on one block. -/
abbrev KGELU (z : FVec Ideal S512x1024 .f32) : FVec Ideal S512x1024 .f32 :=
  mulf z (mulf (broadcast S512x1024 (Scalar.ofBits .f32 0x3F000000#32)) (addf (broadcast S512x1024 (Scalar.ofBits .f32 0x3F800000#32))
    (tanh (mulf (broadcast S512x1024 (Scalar.ofBits .f32 0x3F4C422A#32))
      (addf z (mulf (broadcast S512x1024 (Scalar.ofBits .f32 0x3D372713#32)) (mulf z (mulf z z))))))))

/-- The kernel's gate on one block of activations. -/
abbrev KGLU (a : FVec Ideal S512x1024 .f32) (w : Vec Ideal S1x1024x1024 .f32) : FVec Ideal S512x1024 .bf16 :=
  truncf .bf16 (mulf a (logistic (matmul dot_S512x1024_S1024x1024_S512x1024_1_0_0_1_n_n none (truncf .bf16 a bitsLt_bf16_f32)
    (truncf .bf16 (shapeCast S1024x1024 w shapeCasts_S1x1024x1024_S1024x1024) bitsLt_bf16_f32)
    (constant S512x1024 .f32 0x00000000#32)))) bitsLt_bf16_f32

/-- Which block each window holds at grid point `t`: 512 tokens; the branch's input in two halves of its columns. -/
theorem idx : ∀ t : Fin cfg0.N, win0_0.index t = ![t.val, 9] ∧ win0_1.index t = ![t.val, 10]
    ∧ win0_2.index t = ![0, t.val, 0] ∧ win0_3.index t = ![1, t.val, 0] ∧ win0_4.index t = ![1, 0, 0]
    ∧ win0_5.index t = ![1, 0, 0] ∧ win0_6.index t = ![t.val, 0] :=
  (by decide +kernel : ∀ t : Fin grid0.N, _)

/-- The skip weights as the call is handed them: one row to a layer. -/
theorem skip (c : Dev nD) : V m c main_v0
    = shapeCast S4x1x1024 (m ((c : Thread nD τ).loc main_arg2) : FVec Ideal S4x1024 .f32) shapeCasts_S4x1024_S4x1x1024 := by
  unfold V; after_results; rfl

/-- An entry of a block's sum is the entry of the reference's sum it stands for. -/
theorem sum_eq (c : Dev nD) (t : Fin cfg0.N) (y : S512x1024.Idx) (j : S6144x1024.Idx)
    (hj0 : (j 0 : ℕ) = t.val * 512 + y 0) (hj1 : (j 1 : ℕ) = y 1) :
    KSUM (iblk m c 0 t) (iblk m c 1 t) (iblk m c 4 t) (iblk m c 2 t) (iblk m c 3 t) y
      = SUM (m ((c : Thread nD τ).loc main_arg0)) (m ((c : Thread nD τ).loc main_arg1)) (m ((c : Thread nD τ).loc main_arg2)) j := by
  pointwise [KSUM, SUM]
  refine congrArg₂ (· + ·) (congrArg₂ (· + ·) (congrArg₂ (· * ·) ?_ ?_) ?_) ?_
  · by_cases h : (y 1 : ℕ) < 512
    · rw [dif_pos h]; blk_point [iblk, V, idx t]
    · rw [dif_neg h]; blk_point [iblk, V, idx t]
  all_goals blk_point [iblk, V, idx t, skip]

/-- Equal sums have equal gelus: the two cubes differ in the order of their factors. -/
theorem gelu_eq (z : FVec Ideal S512x1024 .f32) (Z : FVec Ideal S6144x1024 .f32) (y : S512x1024.Idx) (j : S6144x1024.Idx)
    (h : z y = Z j) : KGELU z y = GELU Z j := by
  pointwise [KGELU, GELU, ALL]
  rw [h, mul_comm (Z j) (Z j * Z j)]

/-- A row of equal activations has equal gated entries. -/
theorem glu_eq (c : Dev nD) (t : Fin cfg0.N) (a : FVec Ideal S512x1024 .f32) (A : FVec Ideal S6144x1024 .f32)
    (y : S512x1024.Idx) (j : S6144x1024.Idx) (hj1 : (j 1 : ℕ) = y 1) (h : a y = A j)
    (hk : ∀ k : Fin 1024, a (ix2 (y 0) k) = A (ix2 (j 0) k)) :
    KGLU a (iblk m c 5 t) y = GLU A (m ((c : Thread nD τ).loc main_arg3)) j := by
  pointwise [KGLU, GLU, ALL]
  rw [Ideal.logistic, h]
  refine congrArg (fun s => A j * Ideal.div 1 (1 + Ideal.exp (-s))) (Finset.sum_congr rfl fun k _ =>
    congrArg₂ (· * ·) (hk k) ?_)
  blk_point [iblk, V, idx t]

/-- An entry of the block computed at grid point `t` is the entry of the reference's result it stands for. -/
theorem core (c : Dev nD) (t : Fin cfg0.N) (y : S512x1024.Idx) (j : S6144x1024.Idx)
    (hj0 : (j 0 : ℕ) = t.val * 512 + y 0) (hj1 : (j 1 : ℕ) = y 1) :
    k0_pay1 (F := Ideal) (iblk m c 0 t) (iblk m c 1 t) (iblk m c 4 t) (iblk m c 2 t) (iblk m c 3 t) (iblk m c 5 t) y
      = GLU (GELU (SUM (m ((c : Thread nD τ).loc main_arg0)) (m ((c : Thread nD τ).loc main_arg1))
          (m ((c : Thread nD τ).loc main_arg2)))) (m ((c : Thread nD τ).loc main_arg3)) j :=
  glu_eq m c t (KGELU (KSUM (iblk m c 0 t) (iblk m c 1 t) (iblk m c 4 t) (iblk m c 2 t) (iblk m c 3 t))) _ y j hj1
    (gelu_eq _ _ _ _ (sum_eq m c t y j hj0 hj1))
    fun k => gelu_eq _ _ _ _ (sum_eq m c t _ _ hj0 rfl)

/-- The output array after the whole grid is the reference's result. -/
theorem final (c : Dev nD) : (dats m 0 c).arrAt 6 (cfgs 0).N
    = GLU (GELU (SUM (m ((c : Thread nD τ).loc main_arg0)) (m ((c : Thread nD τ).loc main_arg1))
        (m ((c : Thread nD τ).loc main_arg2)))) (m ((c : Thread nD τ).loc main_arg3)) := by
  refine (dats m 0 c).arrAt_eq_of_covers 6 _ (by decide +kernel) fun t _ y => ?_
  blk_simp
  rw [after0_6]; frame_out
  exact core m c t y _ (by blk_simp [idx t]) (by blk_simp [idx t])

/-- The reference's own result is that function of its arguments. -/
theorem ref_eq (m' : (ℓ : Loc Cert.S5GateRefIdeal.nD Cert.S5GateRefIdeal.τ Cert.S5GateRefIdeal.sig) → Buf (Elt Ideal) ℓ)
    (c : Dev Cert.S5GateRefIdeal.nD) : Cert.S5GateRefIdeal.Value.res_main_v35 m' c
    = GLU (GELU (SUM (m' ((c.tc : Thread _ _).loc Cert.S5GateRefIdeal.main_arg0)) (m' ((c.tc : Thread _ _).loc Cert.S5GateRefIdeal.main_arg1))
        (m' ((c.tc : Thread _ _).loc Cert.S5GateRefIdeal.main_arg2)))) (m' ((c.tc : Thread _ _).loc Cert.S5GateRefIdeal.main_arg3)) := by
  unfold Cert.S5GateRefIdeal.Value.res_main_v35; rfl

end Cert.S5GateIdeal.Whole

end
-- ==== Proof.CtxGqaValue.lean ====
/- The value of the grouped context attention call: the three arrays the kernel leaves are the attention of the sixteen
   prompts with eight query heads over two key heads, their normed keys and their values, as the reference computes them. -/
module

public import proofs.«01_k».proof.Proof.Gen.CtxGqaIdeal.Frame
public import proofs.«01_k».proof.Proof.Gen.CtxGqaRefIdeal.Run
public import proofs.«01_k».proof.Proof.CtxValue

@[expose] public section

set_option maxRecDepth 16384

noncomputable section

open Idealize.ShloMosaic Idealize.ShloMosaic.TcCoe Idealize.SL.Sem
open Idealize.ShloMosaic.Pipeline (Dat)

namespace Cert.CtxGqaIdeal.Whole

open Cert.CtxGqaIdeal Cert.CtxGqaIdeal.Gen Cert.Attn
open Cert.CtxIdeal.Whole (RS RO RS_apply RO_apply ld_cols)

/-- The named scale of the kernel is the reciprocal of the root of 128. -/
theorem named_s : Named.named (F := Ideal) κ "s" (φ := .f32) 0x3DB504F3#32 = (((Real.sqrt 128)⁻¹ : ℝ) : EReal) :=
  IdealRules.named_const.ideal_named_scalar _ _ _ _ rfl

/-- Component `e` of a vector of 128 over its root mean square, times the gain. -/
abbrev unitRow (x g : Fin 128 → EReal) (e : Fin 128) : EReal :=
  x e * Ideal.rsqrt (Ideal.div (∑ d : Fin 128, x d * x d) (Ideal.ofBits .f32 0x43000000#32) + Ideal.ofBits .f32 0x358637BD#32) * g e

/-- The kernel's normed tile, an entry. -/
theorem norm_apply (x : FVec Ideal S256x128 .f32) (g : FVec Ideal S1x128 .f32) (a : Fin 256) (e : Fin 128) :
    k0_pay2 (F := Ideal) x g (ix2 a e) = unitRow (fun d => x (ix2 a d)) (fun d => g (ix2 0 d)) e := by
  pointwise [k0_pay2]

/-- One head of the kernel, from the normed queries: the softmax of the scaled scores, weighting the values. -/
def ATT (kb vb : FVec Ideal S256x128 .bf16) (n : FVec Ideal S256x128 .f32) : FVec Ideal S256x128 .bf16 :=
  let s : FVec Ideal S256x256 .f32 := mulf (matmul dot_S256x128_S256x128_S256x256_1_1_0_0_n_n none (truncf .bf16 n bitsLt_bf16_f32) kb
    (constant S256x256 .f32 0x00000000#32)) (broadcast S256x256 (Named.named κ "s" 0x3DB504F3#32))
  let w : FVec Ideal S256x256 .f32 := exp (subf s (broadcastTo S256x256 (shapeCast S256x1
    (multiReduction .maximumf [1] S256 s 0xFF800000#32 reduces_S256x256_S256 (.inl rfl) rfl) shapeCasts_S256_S256x1) broadcasts_S256x1_S256x256))
  truncf .bf16 (matmul dot_S256x256_S256x128_S256x128_1_0_0_1_n_n none (truncf .bf16 (divf w (broadcastTo S256x256 (shapeCast S256x1
    (multiReduction .add [1] S256 w 0x00000000#32 reduces_S256x256_S256 (.inl rfl) rfl) shapeCasts_S256_S256x1) broadcasts_S256x1_S256x256))
    bitsLt_bf16_f32) vb (constant S256x128 .f32 0x00000000#32)) bitsLt_bf16_f32

/-- An entry of one head. -/
theorem att_apply (kb vb : FVec Ideal S256x128 .bf16) (n : FVec Ideal S256x128 .f32) (x : S256x128.Idx) :
    ATT kb vb n x = soft (fun l : Fin 256 => (∑ d : Fin 128, n (ix2 (x 0) d) * kb (ix2 l d)) * (((Real.sqrt 128)⁻¹ : ℝ) : EReal))
      (fun l => vb (ix2 l (x 1))) := by
  pointwise [ATT]
  rw [named_s]; rfl

variable (m : (ℓ : Loc nD τ sig) → Buf (Elt Ideal) ℓ)

/-- Which block each window holds at grid point `t`: prompt `t`. -/
theorem idx : ∀ t : Fin cfg0.N, win0_0.index t = ![t.val, 3] ∧ win0_1.index t = ![t.val, 16] ∧ win0_2.index t = ![t.val, 17]
    ∧ win0_3.index t = ![0, 0] ∧ win0_4.index t = ![0, 0]
    ∧ win0_5.index t = ![t.val, 0] ∧ win0_6.index t = ![t.val, 0, 0, 0] ∧ win0_7.index t = ![t.val, 0, 0, 0] :=
  (by decide +kernel : ∀ t : Fin grid0.N, _)

/-- The tokens of the sixteen prompts, the 1536 columns of this branch. -/
abbrev QKV (X : FVec Ideal S6144x5632 .f32) : FVec Ideal Cert.CtxGqaRefIdeal.S16x256x1536 .f32 :=
  shapeCast _ (extractStridedSlice Cert.CtxGqaRefIdeal.S4096x1536 ![0, 3072] X Cert.CtxGqaRefIdeal.Gen.slices_S6144x5632_S4096x1536_0_3072)
    Cert.CtxGqaRefIdeal.Gen.shapeCasts_S4096x1536_S16x256x1536

/-- The reference's queries before their norm, by prompt, head, position and component. -/
def RQ (X : FVec Ideal S6144x5632 .f32) : FVec Ideal Cert.CtxGqaRefIdeal.S16x8x256x128 .f32 :=
  transpose Cert.CtxGqaRefIdeal.S16x8x256x128 [0, 2, 1, 3] (shapeCast _ (extractStridedSlice Cert.CtxGqaRefIdeal.S16x256x1024 ![0, 0, 0] (QKV X)
    Cert.CtxGqaRefIdeal.Gen.slices_S16x256x1536_S16x256x1024_0_0_0) Cert.CtxGqaRefIdeal.Gen.shapeCasts_S16x256x1024_S16x256x8x128)
    Cert.CtxGqaRefIdeal.Gen.transposes_S16x256x8x128_S16x8x256x128_0_2_1_3

/-- The reference's keys before their norm. -/
def RK (X : FVec Ideal S6144x5632 .f32) : FVec Ideal S16x2x256x128 .f32 :=
  transpose S16x2x256x128 [0, 2, 1, 3] (shapeCast _ (extractStridedSlice Cert.CtxGqaRefIdeal.S16x256x256 ![0, 0, 1024] (QKV X)
    Cert.CtxGqaRefIdeal.Gen.slices_S16x256x1536_S16x256x256_0_0_1024) Cert.CtxGqaRefIdeal.Gen.shapeCasts_S16x256x256_S16x256x2x128)
    Cert.CtxGqaRefIdeal.Gen.transposes_S16x256x2x128_S16x2x256x128_0_2_1_3

/-- The reference's values, which are also its third result. -/
def RV (X : FVec Ideal S6144x5632 .f32) : FVec Ideal S16x2x256x128 .f32 :=
  transpose S16x2x256x128 [0, 2, 1, 3] (shapeCast _ (extractStridedSlice Cert.CtxGqaRefIdeal.S16x256x256 ![0, 0, 1280] (QKV X)
    Cert.CtxGqaRefIdeal.Gen.slices_S16x256x1536_S16x256x256_0_0_1280) Cert.CtxGqaRefIdeal.Gen.shapeCasts_S16x256x256_S16x256x2x128)
    Cert.CtxGqaRefIdeal.Gen.transposes_S16x256x2x128_S16x2x256x128_0_2_1_3

/-- The reference's norm of eight heads' vectors. -/
def N8 (Q : FVec Ideal Cert.CtxGqaRefIdeal.S16x8x256x128 .f32) (g : FVec Ideal S128 .f32) : FVec Ideal Cert.CtxGqaRefIdeal.S16x8x256x128 .f32 :=
  mulf (mulf Q (broadcastInDim Cert.CtxGqaRefIdeal.S16x8x256x128 ![0, 1, 2, 3] Cert.CtxGqaRefIdeal.Gen.bcast_S16x8x256x1_S16x8x256x128_0_1_2_3
      (Host.rsqrt (addf (Host.divf (broadcastInDim Cert.CtxGqaRefIdeal.S16x8x256x1 ![0, 1, 2] Cert.CtxGqaRefIdeal.Gen.bcast_S16x8x256_S16x8x256x1_0_1_2
          (Host.reduceAdd (mulf Q Q) (constant Cert.CtxGqaRefIdeal.S_ .f32 0x00000000#32)
            Cert.CtxGqaRefIdeal.Gen.reducesTo_S16x8x256x128_S16x8x256_d3 Cert.CtxGqaRefIdeal.Gen.h_S_))
        (broadcastInDim Cert.CtxGqaRefIdeal.S16x8x256x1 ![] Cert.CtxGqaRefIdeal.Gen.bcast_S_S16x8x256x1 (constant Cert.CtxGqaRefIdeal.S_ .f32 0x43000000#32)))
        (broadcastInDim Cert.CtxGqaRefIdeal.S16x8x256x1 ![] Cert.CtxGqaRefIdeal.Gen.bcast_S_S16x8x256x1 (constant Cert.CtxGqaRefIdeal.S_ .f32 0x358637BD#32))))))
    (broadcastInDim Cert.CtxGqaRefIdeal.S16x8x256x128 ![0, 1, 2, 3] Cert.CtxGqaRefIdeal.Gen.bcast_S1x1x1x128_S16x8x256x128_0_1_2_3
      (broadcastInDim Cert.CtxGqaRefIdeal.S1x1x1x128 ![3] Cert.CtxGqaRefIdeal.Gen.bcast_S128_S1x1x1x128_3 g))

/-- The reference's norm of two heads' vectors; of the keys it is also the second result. -/
def N2 (K : FVec Ideal S16x2x256x128 .f32) (g : FVec Ideal S128 .f32) : FVec Ideal S16x2x256x128 .f32 :=
  mulf (mulf K (broadcastInDim S16x2x256x128 ![0, 1, 2, 3] Cert.CtxGqaRefIdeal.Gen.bcast_S16x2x256x1_S16x2x256x128_0_1_2_3
      (Host.rsqrt (addf (Host.divf (broadcastInDim Cert.CtxGqaRefIdeal.S16x2x256x1 ![0, 1, 2] Cert.CtxGqaRefIdeal.Gen.bcast_S16x2x256_S16x2x256x1_0_1_2
          (Host.reduceAdd (mulf K K) (constant Cert.CtxGqaRefIdeal.S_ .f32 0x00000000#32)
            Cert.CtxGqaRefIdeal.Gen.reducesTo_S16x2x256x128_S16x2x256_d3 Cert.CtxGqaRefIdeal.Gen.h_S_))
        (broadcastInDim Cert.CtxGqaRefIdeal.S16x2x256x1 ![] Cert.CtxGqaRefIdeal.Gen.bcast_S_S16x2x256x1 (constant Cert.CtxGqaRefIdeal.S_ .f32 0x43000000#32)))
        (broadcastInDim Cert.CtxGqaRefIdeal.S16x2x256x1 ![] Cert.CtxGqaRefIdeal.Gen.bcast_S_S16x2x256x1 (constant Cert.CtxGqaRefIdeal.S_ .f32 0x358637BD#32))))))
    (broadcastInDim S16x2x256x128 ![0, 1, 2, 3] Cert.CtxGqaRefIdeal.Gen.bcast_S1x1x1x128_S16x2x256x128_0_1_2_3
      (broadcastInDim Cert.CtxGqaRefIdeal.S1x1x1x128 ![3] Cert.CtxGqaRefIdeal.Gen.bcast_S128_S1x1x1x128_3 g))

/-- The reference's two heads, each repeated for its four query heads. -/
def REP (K : FVec Ideal S16x2x256x128 .f32) : FVec Ideal Cert.CtxGqaRefIdeal.S16x8x256x128 .f32 :=
  shapeCast _ (broadcastInDim Cert.CtxGqaRefIdeal.S16x2x4x256x128 ![0, 1, 3, 4] Cert.CtxGqaRefIdeal.Gen.bcast_S16x2x256x128_S16x2x4x256x128_0_1_3_4 K)
    Cert.CtxGqaRefIdeal.Gen.shapeCasts_S16x2x4x256x128_S16x8x256x128

/-- The reference's first result: heads side by side. -/
def RY (X : FVec Ideal S6144x5632 .f32) (gq gk : FVec Ideal S128 .f32) : FVec Ideal S4096x1024 .bf16 :=
  truncf .bf16 (shapeCast _ (transpose Cert.CtxGqaRefIdeal.S16x256x8x128 [0, 2, 1, 3]
      (RO (RS (N8 (RQ X) gq) (REP (N2 (RK X) gk))) (REP (RV X)))
    Cert.CtxGqaRefIdeal.Gen.transposes_S16x8x256x128_S16x256x8x128_0_2_1_3) Cert.CtxGqaRefIdeal.Gen.shapeCasts_S16x256x8x128_S4096x1024)
    Cert.CtxGqaRefIdeal.Gen.bitsLt_bf16_f32

/-- The named pieces make up the first result of the reference's run. -/
theorem ref_eq (mr : (ℓ : Loc Cert.CtxGqaRefIdeal.nD Cert.CtxGqaRefIdeal.τ Cert.CtxGqaRefIdeal.sig) → Buf (Elt Ideal) ℓ) (c : Dev Cert.CtxGqaRefIdeal.nD) :
    Cert.CtxGqaRefIdeal.Value.res_main_v59 (F := Ideal) mr c
      = RY (mr ((c.tc : Thread _ _).loc Cert.CtxGqaRefIdeal.main_arg0)) (mr ((c.tc : Thread _ _).loc Cert.CtxGqaRefIdeal.main_arg1))
          (mr ((c.tc : Thread _ _).loc Cert.CtxGqaRefIdeal.main_arg2)) := by
  unfold Cert.CtxGqaRefIdeal.Value.res_main_v59
  rfl

/-- Column `e` of the token at position `r` of prompt `b`. -/
abbrev TOK (X : FVec Ideal S6144x5632 .f32) (b : Fin 16) (r : Fin 256) (e : ℕ) (he : e < 5632) : EReal :=
  X (ix2 ⟨b.val * 256 + r.val, by omega⟩ ⟨e, he⟩)

/-- A query entry is a token entry. -/
theorem RQ_apply (X : FVec Ideal S6144x5632 .f32) (b : Fin 16) (h : Fin 8) (r : Fin 256) (e : Fin 128) :
    RQ X (ix4 b h r e) = TOK X b r (3072 + (h.val * 128 + e.val)) (by omega) := by
  pointwise [RQ, QKV]

/-- A key entry is a token entry. -/
theorem RK_apply (X : FVec Ideal S6144x5632 .f32) (b : Fin 16) (h : Fin 2) (r : Fin 256) (e : Fin 128) :
    RK X (ix4 b h r e) = TOK X b r (4096 + (h.val * 128 + e.val)) (by omega) := by
  pointwise [RK, QKV]
  exact congrArg (fun e => X (ix2 _ e)) (Fin.ext (by simp; omega))

/-- A value entry is a token entry. -/
theorem RV_apply (X : FVec Ideal S6144x5632 .f32) (b : Fin 16) (h : Fin 2) (r : Fin 256) (e : Fin 128) :
    RV X (ix4 b h r e) = TOK X b r (4352 + (h.val * 128 + e.val)) (by omega) := by
  pointwise [RV, QKV]
  exact congrArg (fun e => X (ix2 _ e)) (Fin.ext (by simp; omega))

/-- A normed entry, of the eight heads. -/
theorem N8_apply (Q : FVec Ideal Cert.CtxGqaRefIdeal.S16x8x256x128 .f32) (g : FVec Ideal S128 .f32) (b : Fin 16) (h : Fin 8) (r : Fin 256) (e : Fin 128) :
    N8 Q g (ix4 b h r e) = unitRow (fun d => Q (ix4 b h r d)) (fun d => g (ix1 d)) e := by
  pointwise [N8]

/-- A normed entry, of the two heads. -/
theorem N2_apply (K : FVec Ideal S16x2x256x128 .f32) (g : FVec Ideal S128 .f32) (b : Fin 16) (h : Fin 2) (r : Fin 256) (e : Fin 128) :
    N2 K g (ix4 b h r e) = unitRow (fun d => K (ix4 b h r d)) (fun d => g (ix1 d)) e := by
  pointwise [N2]

/-- Query head `h` reads key head `h / 4`. -/
theorem REP_apply (K : FVec Ideal S16x2x256x128 .f32) (b : Fin 16) (h : Fin 8) (r : Fin 256) (e : Fin 128) :
    REP K (ix4 b h r e) = K (ix4 b ⟨h.val / 4, by omega⟩ r e) := by
  pointwise [REP]

/-- The first result at an index is the attention of that head, prompt and position. -/
theorem RY_apply (X : FVec Ideal S6144x5632 .f32) (gq gk : FVec Ideal S128 .f32) (b : Fin 16) (r : Fin 256) (h : Fin 8) (e : Fin 128) (j : S4096x1024.Idx)
    (hj0 : (j 0 : ℕ) = b.val * 256 + r.val) (hj1 : (j 1 : ℕ) = h.val * 128 + e.val) :
    RY X gq gk j = RO (RS (N8 (RQ X) gq) (REP (N2 (RK X) gk))) (REP (RV X)) (ix4 b h r e) := by
  pointwise [RY]
  refine congrArg (RO _ _) ?_
  congr 1 <;> exact Fin.ext (by simp; omega)

/-- The query gain as the call is handed it: one row. -/
theorem gainQ (c : Dev nD) : V m c main_v0
    = shapeCast S1x128 (m ((c : Thread nD τ).loc main_arg1) : FVec Ideal S128 .f32) shapeCasts_S128_S1x128 := by
  unfold V; after_results; rfl

/-- The key gain as the call is handed it: one row. -/
theorem gainK (c : Dev nD) : V m c main_v1
    = shapeCast S1x128 (m ((c : Thread nD τ).loc main_arg2) : FVec Ideal S128 .f32) shapeCasts_S128_S1x128 := by
  unfold V; after_results; rfl

/-- Entry of the query tile at point `t`. -/
theorem rdQ (c : Dev nD) (t : Fin cfg0.N) (b : Fin 16) (hb : b.val = t.val) (a : Fin 256) (e : Fin 1024) :
    X0_0 m c t (ix2 a e) = TOK (m ((c : Thread nD τ).loc main_arg0)) b a (3072 + e.val) (by omega) := by
  unfold X0_0 Pipeline.Window.fill
  rw [dif_pos (moved0_0 t _)]
  unfold iblk V
  blk_point [iblk, V, idx t, hb]

/-- Entry of the key tile at point `t`. -/
theorem rdK (c : Dev nD) (t : Fin cfg0.N) (b : Fin 16) (hb : b.val = t.val) (a e : Fin 256) :
    (iblk m c 1 t : FVec Ideal S256x256 .f32) (ix2 a e) = TOK (m ((c : Thread nD τ).loc main_arg0)) b a (4096 + e.val) (by omega) := by
  blk_point [iblk, V, idx t, hb]

/-- Entry of the value tile at point `t`. -/
theorem rdV (c : Dev nD) (t : Fin cfg0.N) (b : Fin 16) (hb : b.val = t.val) (a e : Fin 256) :
    (iblk m c 2 t : FVec Ideal S256x256 .f32) (ix2 a e) = TOK (m ((c : Thread nD τ).loc main_arg0)) b a (4352 + e.val) (by omega) := by
  blk_point [iblk, V, idx t, hb]

/-- Entry of the query gain at point `t`. -/
theorem rdGQ (c : Dev nD) (t : Fin cfg0.N) (e : Fin 128) :
    (iblk m c 3 t : FVec Ideal S1x128 .f32) (ix2 0 e) = (m ((c : Thread nD τ).loc main_arg1) : FVec Ideal S128 .f32) (ix1 e) := by
  blk_point [iblk, V, idx t, gainQ]

/-- Entry of the key gain at point `t`. -/
theorem rdGK (c : Dev nD) (t : Fin cfg0.N) (e : Fin 128) :
    (iblk m c 4 t : FVec Ideal S1x128 .f32) (ix2 0 e) = (m ((c : Thread nD τ).loc main_arg2) : FVec Ideal S128 .f32) (ix1 e) := by
  blk_point [iblk, V, idx t, gainK]

/-- The 128 columns of a key or value tile from column `o` on. -/
theorem ld_kv (X : FVec Ideal S256x256 .f32) (o : ℕ) (inb) (a : Fin 256) (d : Fin 128) (hd : o + d.val < 256) :
    View.ld (Val := Elt Ideal) (e' := .f32) X (Rect.unit (s := S256x256) ![0, o] ![256, 128] inb) (ix2 a d)
      = X (ix2 a ⟨o + d.val, hd⟩) := by
  refine congrArg X (funext fun k => Fin.ext ?_)
  fin_cases k <;> simp [Rect.unit]

/-- The columns of a tile from column `o` on. -/
abbrev COLS (X : FVec Ideal S256x256 .f32) (o : ℕ)
    (inb : ∀ a, (![0, o] : Fin 2 → ℕ) a + (![256, 128] : Fin 2 → ℕ) a ≤ S256x256.size a) : FVec Ideal S256x128 .f32 :=
  View.ld (Val := Elt Ideal) (e' := .f32) X (Rect.unit (s := S256x256) ![0, o] ![256, 128] inb)

/-- The normed keys of a tile are the reference's normed keys. -/
theorem key_eq (X : FVec Ideal S6144x5632 .f32) (Gk : FVec Ideal S128 .f32) (k : FVec Ideal S256x256 .f32) (gk : FVec Ideal S1x128 .f32)
    (b : Fin 16) (hk : ∀ a e : Fin 256, k (ix2 a e) = TOK X b a (4096 + e.val) (by omega))
    (hgk : ∀ e : Fin 128, gk (ix2 0 e) = Gk (ix1 e)) (u : Fin 2) (o : ℕ) (ho : o = u.val * 128) (inb) (a : Fin 256) (e : Fin 128) :
    k0_pay2 (F := Ideal) (COLS k o inb) gk (ix2 a e) = N2 (RK X) Gk (ix4 b u a e) := by
  subst ho
  rw [norm_apply, N2_apply]
  have hx : ∀ d : Fin 128, COLS k (u.val * 128) inb (ix2 a d) = RK X (ix4 b u a d) := fun d =>
    (ld_kv k _ inb a d (by omega)).trans ((hk _ _).trans (RK_apply X b u a d).symm)
  simp only [hx, hgk]

/-- A head's tile of attention outputs is that part of the reference's first result. -/
theorem piece_y (X : FVec Ideal S6144x5632 .f32) (Gq Gk : FVec Ideal S128 .f32) (q : FVec Ideal S256x1024 .f32)
    (k v : FVec Ideal S256x256 .f32) (gq gk : FVec Ideal S1x128 .f32) (b : Fin 16)
    (hq : ∀ (a : Fin 256) (e : Fin 1024), q (ix2 a e) = TOK X b a (3072 + e.val) (by omega))
    (hk : ∀ a e : Fin 256, k (ix2 a e) = TOK X b a (4096 + e.val) (by omega))
    (hv : ∀ a e : Fin 256, v (ix2 a e) = TOK X b a (4352 + e.val) (by omega))
    (hgq : ∀ e : Fin 128, gq (ix2 0 e) = Gq (ix1 e)) (hgk : ∀ e : Fin 128, gk (ix2 0 e) = Gk (ix1 e))
    (h : Fin 8) (o u : ℕ) (ho : o = h.val * 128) (hu : u = h.val / 4 * 128) (inb) (inbu) (x : S256x128.Idx) (j : S4096x1024.Idx)
    (hj0 : (j 0 : ℕ) = b.val * 256 + (x 0 : ℕ)) (hj1 : (j 1 : ℕ) = o + (x 1 : ℕ)) :
    ATT (truncf .bf16 (k0_pay2 (F := Ideal) (COLS k u inbu) gk) bitsLt_bf16_f32) (truncf .bf16 (COLS v u inbu) bitsLt_bf16_f32)
      (k0_pay2 (F := Ideal) (View.ld (Val := Elt Ideal) (e' := .f32) q (Rect.unit (s := S256x1024) ![0, o] ![256, 128] inb)) gq) x
      = RY X Gq Gk j := by
  subst ho
  have h1 : (x 1 : ℕ) < 128 := (x 1).isLt
  have hx : ∀ (a : Fin 256) (d : Fin 128), View.ld (Val := Elt Ideal) (e' := .f32) q
      (Rect.unit (s := S256x1024) ![0, h.val * 128] ![256, 128] inb) (ix2 a d) = RQ X (ix4 b h a d) := fun a d =>
    (ld_cols q _ inb a d (by omega)).trans ((hq _ _).trans (RQ_apply X b h a d).symm)
  have query_eq : ∀ (a : Fin 256) (d : Fin 128), k0_pay2 (F := Ideal) (View.ld (Val := Elt Ideal) (e' := .f32) q
      (Rect.unit (s := S256x1024) ![0, h.val * 128] ![256, 128] inb)) gq (ix2 a d) = N8 (RQ X) Gq (ix4 b h a d) := fun a d => by
    rw [norm_apply, N8_apply]
    simp only [hx, hgq]
  rw [RY_apply X Gq Gk b (x 0) h (x 1) j hj0 hj1]
  refine (att_apply _ _ _ x).trans ((soft_congr (fun l => ?_) (fun l => ?_)).trans (RO_apply _ _ b h (x 0) (x 1)).symm)
  · refine .trans ?_ (RS_apply _ _ b h (x 0) l).symm
    refine congrArg (· * _) (Finset.sum_congr rfl fun d _ => congrArg₂ (· * ·) (query_eq (x 0) d) ?_)
    exact (key_eq X Gk k gk b hk hgk ⟨h.val / 4, by omega⟩ u hu inbu l d).trans (REP_apply _ b h l d).symm
  · subst hu
    exact (ld_kv v _ inbu l (x 1) (by omega)).trans ((hv _ _).trans
      ((RV_apply X b ⟨h.val / 4, by omega⟩ l (x 1)).symm.trans (REP_apply _ b h l (x 1)).symm))

/-- The first output array after the whole grid is the reference's attention. -/
theorem final5 (c : Dev nD) : (dats m 0 c).arrAt 5 (cfgs 0).N
    = RY (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; unfold outsAt0; frame_out
  have hb : t.val < 16 := t.isLt
  have e0 : ((((cfg0.win 5).blk t).view.emb y) 0 : ℕ) = t.val * 256 + (y 0 : ℕ) := by blk_simp [idx t]
  have e1 : ((((cfg0.win 5).blk t).view.emb y) 1 : ℕ) = (y 1 : ℕ) := by blk_simp [idx t]
  have p := piece_y (m ((c : Thread nD τ).loc main_arg0)) (m ((c : Thread nD τ).loc main_arg1)) (m ((c : Thread nD τ).loc main_arg2))
    (X0_0 m c t) (iblk m c 1 t) (iblk m c 2 t) (iblk m c 3 t) (iblk m c 4 t) ⟨t.val, hb⟩
    (rdQ m c t _ rfl) (rdK m c t _ rfl) (rdV m c t _ rfl) (rdGQ m c t) (rdGK m c t)
  have lo := inb_S256x256_S256x128_0_0
  have hi := inb_S256x256_S256x128_0_128
  canon_tiles x h
  case piece0 => exact p 7 896 128 rfl rfl inb_S256x1024_S256x128_0_896 hi x _ (e0.trans (by rw [h0])) (e1.trans h1)
  case piece1 => exact p 6 768 128 rfl rfl inb_S256x1024_S256x128_0_768 hi x _ (e0.trans (by rw [h0])) (e1.trans h1)
  case piece2 => exact p 5 640 128 rfl rfl inb_S256x1024_S256x128_0_640 hi x _ (e0.trans (by rw [h0])) (e1.trans h1)
  case piece3 => exact p 4 512 128 rfl rfl inb_S256x1024_S256x128_0_512 hi x _ (e0.trans (by rw [h0])) (e1.trans h1)
  case piece4 => exact p 3 384 0 rfl rfl inb_S256x1024_S256x128_0_384 lo x _ (e0.trans (by rw [h0])) (e1.trans h1)
  case piece5 => exact p 2 256 0 rfl rfl inb_S256x1024_S256x128_0_256 lo x _ (e0.trans (by rw [h0])) (e1.trans h1)
  case piece6 => exact p 1 128 0 rfl rfl inb_S256x1024_S256x128_0_128 lo x _ (e0.trans (by rw [h0])) (e1.trans h1)
  case piece7 => exact p 0 0 0 rfl rfl inb_S256x1024_S256x128_0_0 lo x _ (e0.trans (by rw [h0])) (e1.trans (by omega))

/-- A tile stored for one head of the two lands where the reference has it. -/
theorem piece_kv (R : FVec Ideal S16x2x256x128 .f32) (w : FVec Ideal S256x128 .f32) (b : Fin 16) (u : Fin 2)
    (hw : ∀ (a : Fin 256) (e : Fin 128), w (ix2 a e) = R (ix4 b u a e)) (x : S1x1x256x128.Idx) (j : S16x2x256x128.Idx)
    (hj0 : (j 0 : ℕ) = b.val) (hj1 : (j 1 : ℕ) = u.val + (x 1 : ℕ)) (hj2 : (j 2 : ℕ) = x 2) (hj3 : (j 3 : ℕ) = x 3) :
    k0_pay4 (F := Ideal) w x = R j := by
  have h1 : (x 1 : ℕ) < 1 := (x 1).isLt
  have hj : j = ix4 b u (x 2) (x 3) := by
    funext a
    refine Fin.ext ?_
    fin_cases a
    · exact hj0
    · exact hj1.trans (show u.val + (x 1 : ℕ) = u.val by omega)
    · exact hj2
    · exact hj3
  have hp : k0_pay4 (F := Ideal) w x = w (ix2 (x 2) (x 3)) := by pointwise [k0_pay4]
  rw [hj, hp]
  exact hw _ _

/-- The second output array is the reference's normed keys. -/
theorem final6 (c : Dev nD) : (dats m 0 c).arrAt 6 (cfgs 0).N
    = N2 (RK (m ((c : Thread nD τ).loc main_arg0))) (m ((c : Thread nD τ).loc main_arg2)) := by
  refine (dats m 0 c).arrAt_eq_of_covers 6 _ (by decide +kernel) fun t _ y => ?_
  blk_simp
  rw [after0_6]; unfold outsAt0; frame_out
  have hb : t.val < 16 := t.isLt
  have e0 : ((((cfg0.win 6).blk t).view.emb y) 0 : ℕ) = t.val := by blk_simp [idx t]
  have e1 : ((((cfg0.win 6).blk t).view.emb y) 1 : ℕ) = (y 1 : ℕ) := by blk_simp [idx t]
  have e2 : ((((cfg0.win 6).blk t).view.emb y) 2 : ℕ) = (y 2 : ℕ) := by blk_simp [idx t]
  have e3 : ((((cfg0.win 6).blk t).view.emb y) 3 : ℕ) = (y 3 : ℕ) := by blk_simp [idx t]
  have p := key_eq (m ((c : Thread nD τ).loc main_arg0)) (m ((c : Thread nD τ).loc main_arg2)) (iblk m c 1 t) (iblk m c 4 t)
    ⟨t.val, hb⟩ (rdK m c t _ rfl) (rdGK m c t)
  canon_tiles x h
  case piece0 => exact piece_kv _ _ _ 1 (p 1 128 rfl inb_S256x256_S256x128_0_128) x _ e0 (e1.trans h1) (e2.trans h2) (e3.trans h3)
  case piece1 => exact piece_kv _ _ _ 0 (p 0 0 rfl inb_S256x256_S256x128_0_0) x _ e0 (e1.trans (h1.trans (Nat.zero_add _).symm)) (e2.trans h2) (e3.trans h3)

/-- The third output array is the reference's values. -/
theorem final7 (c : Dev nD) : (dats m 0 c).arrAt 7 (cfgs 0).N = RV (m ((c : Thread nD τ).loc main_arg0)) := by
  refine (dats m 0 c).arrAt_eq_of_covers 7 _ (by decide +kernel) fun t _ y => ?_
  blk_simp
  rw [after0_7]; unfold outsAt0; frame_out
  have hb : t.val < 16 := t.isLt
  have e0 : ((((cfg0.win 7).blk t).view.emb y) 0 : ℕ) = t.val := by blk_simp [idx t]
  have e1 : ((((cfg0.win 7).blk t).view.emb y) 1 : ℕ) = (y 1 : ℕ) := by blk_simp [idx t]
  have e2 : ((((cfg0.win 7).blk t).view.emb y) 2 : ℕ) = (y 2 : ℕ) := by blk_simp [idx t]
  have e3 : ((((cfg0.win 7).blk t).view.emb y) 3 : ℕ) = (y 3 : ℕ) := by blk_simp [idx t]
  have p : ∀ (u : Fin 2) (inb) (a : Fin 256) (e : Fin 128), COLS (iblk m c 2 t) (u.val * 128) inb (ix2 a e)
      = RV (m ((c : Thread nD τ).loc main_arg0)) (ix4 ⟨t.val, hb⟩ u a e) := fun u inb a e =>
    (ld_kv _ _ inb a e (by omega)).trans ((rdV m c t ⟨t.val, hb⟩ rfl _ _).trans (RV_apply _ _ u a e).symm)
  canon_tiles x h
  case piece0 => exact piece_kv _ _ _ 1 (p 1 inb_S256x256_S256x128_0_128) x _ e0 (e1.trans h1) (e2.trans h2) (e3.trans h3)
  case piece1 => exact piece_kv _ _ _ 0 (p 0 inb_S256x256_S256x128_0_0) x _ e0 (e1.trans (h1.trans (Nat.zero_add _).symm)) (e2.trans h2) (e3.trans h3)

end Cert.CtxGqaIdeal.Whole

end
-- ==== Proof.LatGqaRef.lean ====
/- The reference of the grouped attention of the latents, named piece by piece, and each piece at an index: the norms,
   the two-axis rotation of the positions, the cached keys before the new ones, and the softmax over all of them. -/
module

public import proofs.«01_k».proof.Proof.Gen.LatGqaRefIdeal
public import proofs.«01_k».proof.Proof.Softmax

@[expose] public section

set_option maxRecDepth 16384

noncomputable section

open Idealize.ShloMosaic Idealize.ShloMosaic.TcCoe Idealize.SL.Sem

namespace Cert.LatGqaRefIdeal.Whole

open Cert.LatGqaRefIdeal Cert.LatGqaRefIdeal.Gen Cert.Attn

/-- Component `e` of a vector of 128 over its root mean square, times the gain. -/
abbrev unitRow (x g : Fin 128 → EReal) (e : Fin 128) : EReal :=
  x e * Ideal.rsqrt (Ideal.div (∑ d : Fin 128, x d * x d) (Ideal.ofBits .f32 0x43000000#32) + Ideal.ofBits .f32 0x358637BD#32) * g e

/-- Component `e` of 64 whose halves are turned against each other by the angles `a`. -/
def rotRow (y : Fin 64 → EReal) (a : Fin 32 → EReal) (e : Fin 64) : EReal :=
  if h : e.val < 32 then y e * Ideal.cos (a ⟨e, h⟩) - y ⟨32 + e, by omega⟩ * Ideal.sin (a ⟨e, h⟩)
  else y ⟨32 + (e - 32), by omega⟩ * Ideal.cos (a ⟨e - 32, by omega⟩) + y ⟨e - 32, by omega⟩ * Ideal.sin (a ⟨e - 32, by omega⟩)

/-- Component `e` of 128: the first 64 turned by the row's angles, the last 64 by the column's. -/
def ropeRow (x : Fin 128 → EReal) (ar ac : Fin 32 → EReal) (e : Fin 128) : EReal :=
  if h : e.val < 64 then rotRow (fun d => x ⟨d, by omega⟩) ar ⟨e, h⟩
  else rotRow (fun d => x ⟨64 + d, by omega⟩) ac ⟨e - 64, by omega⟩

/-- The latents' tokens, the 1536 columns of this branch. -/
abbrev QKV (X : FVec Ideal S6144x5632 .f32) : FVec Ideal S2x1024x1536 .f32 :=
  shapeCast _ (extractStridedSlice S2048x1536 ![4096, 3072] X slices_S6144x5632_S2048x1536_4096_3072) shapeCasts_S2048x1536_S2x1024x1536

/-- The queries before their norm, by sample, head, position and component. -/
def RQ (X : FVec Ideal S6144x5632 .f32) : FVec Ideal S2x8x1024x128 .f32 :=
  transpose S2x8x1024x128 [0, 2, 1, 3] (shapeCast _ (extractStridedSlice S2x1024x1024 ![0, 0, 0] (QKV X)
    slices_S2x1024x1536_S2x1024x1024_0_0_0) shapeCasts_S2x1024x1024_S2x1024x8x128) transposes_S2x1024x8x128_S2x8x1024x128_0_2_1_3

/-- The new keys before their norm. -/
def RK (X : FVec Ideal S6144x5632 .f32) : FVec Ideal S2x2x1024x128 .f32 :=
  transpose S2x2x1024x128 [0, 2, 1, 3] (shapeCast _ (extractStridedSlice S2x1024x256 ![0, 0, 1024] (QKV X)
    slices_S2x1024x1536_S2x1024x256_0_0_1024) shapeCasts_S2x1024x256_S2x1024x2x128) transposes_S2x1024x2x128_S2x2x1024x128_0_2_1_3

/-- The new values. -/
def RV (X : FVec Ideal S6144x5632 .f32) : FVec Ideal S2x2x1024x128 .f32 :=
  transpose S2x2x1024x128 [0, 2, 1, 3] (shapeCast _ (extractStridedSlice S2x1024x256 ![0, 0, 1280] (QKV X)
    slices_S2x1024x1536_S2x1024x256_0_0_1280) shapeCasts_S2x1024x256_S2x1024x2x128) transposes_S2x1024x2x128_S2x2x1024x128_0_2_1_3

/-- The norm of eight heads' vectors. -/
def N8 (Q : FVec Ideal S2x8x1024x128 .f32) (g : FVec Ideal S128 .f32) : FVec Ideal S2x8x1024x128 .f32 :=
  mulf (mulf Q (broadcastInDim S2x8x1024x128 ![0, 1, 2, 3] bcast_S2x8x1024x1_S2x8x1024x128_0_1_2_3
      (Host.rsqrt (addf (Host.divf (broadcastInDim S2x8x1024x1 ![0, 1, 2] bcast_S2x8x1024_S2x8x1024x1_0_1_2
          (Host.reduceAdd (mulf Q Q) (constant S_ .f32 0x00000000#32) reducesTo_S2x8x1024x128_S2x8x1024_d3 h_S_))
        (broadcastInDim S2x8x1024x1 ![] bcast_S_S2x8x1024x1 (constant S_ .f32 0x43000000#32)))
        (broadcastInDim S2x8x1024x1 ![] bcast_S_S2x8x1024x1 (constant S_ .f32 0x358637BD#32))))))
    (broadcastInDim S2x8x1024x128 ![0, 1, 2, 3] bcast_S1x1x1x128_S2x8x1024x128_0_1_2_3
      (broadcastInDim S1x1x1x128 ![3] bcast_S128_S1x1x1x128_3 g))

/-- The norm of two heads' vectors. -/
def N2 (K : FVec Ideal S2x2x1024x128 .f32) (g : FVec Ideal S128 .f32) : FVec Ideal S2x2x1024x128 .f32 :=
  mulf (mulf K (broadcastInDim S2x2x1024x128 ![0, 1, 2, 3] bcast_S2x2x1024x1_S2x2x1024x128_0_1_2_3
      (Host.rsqrt (addf (Host.divf (broadcastInDim S2x2x1024x1 ![0, 1, 2] bcast_S2x2x1024_S2x2x1024x1_0_1_2
          (Host.reduceAdd (mulf K K) (constant S_ .f32 0x00000000#32) reducesTo_S2x2x1024x128_S2x2x1024_d3 h_S_))
        (broadcastInDim S2x2x1024x1 ![] bcast_S_S2x2x1024x1 (constant S_ .f32 0x43000000#32)))
        (broadcastInDim S2x2x1024x1 ![] bcast_S_S2x2x1024x1 (constant S_ .f32 0x358637BD#32))))))
    (broadcastInDim S2x2x1024x128 ![0, 1, 2, 3] bcast_S1x1x1x128_S2x2x1024x128_0_1_2_3
      (broadcastInDim S1x1x1x128 ![3] bcast_S128_S1x1x1x128_3 g))

/-- Angles laid over eight heads. -/
abbrev OV8 (a : FVec Ideal S1024x32 .f32) : FVec Ideal S2x8x1024x32 .f32 :=
  broadcastInDim S2x8x1024x32 ![0, 1, 2, 3] bcast_S1x1x1024x32_S2x8x1024x32_0_1_2_3
    (broadcastInDim S1x1x1024x32 ![2, 3] bcast_S1024x32_S1x1x1024x32_2_3 a)

/-- Angles laid over two heads. -/
abbrev OV2 (a : FVec Ideal S1024x32 .f32) : FVec Ideal S2x2x1024x32 .f32 :=
  broadcastInDim S2x2x1024x32 ![0, 1, 2, 3] bcast_S1x1x1024x32_S2x2x1024x32_0_1_2_3
    (broadcastInDim S1x1x1024x32 ![2, 3] bcast_S1024x32_S1x1x1024x32_2_3 a)

/-- One half of eight heads' vectors, turned. -/
def ROT8 (y : FVec Ideal S2x8x1024x64 .f32) (a : FVec Ideal S1024x32 .f32) : FVec Ideal S2x8x1024x64 .f32 :=
  let y1 : FVec Ideal S2x8x1024x32 .f32 := extractStridedSlice S2x8x1024x32 ![0, 0, 0, 0] y slices_S2x8x1024x64_S2x8x1024x32_0_0_0_0
  let y2 : FVec Ideal S2x8x1024x32 .f32 := extractStridedSlice S2x8x1024x32 ![0, 0, 0, 32] y slices_S2x8x1024x64_S2x8x1024x32_0_0_0_32
  concatenate S2x8x1024x64 3
    [⟨S2x8x1024x32, subf (mulf y1 (OV8 (Host.cos a))) (mulf y2 (OV8 (Host.sin a)))⟩,
      ⟨S2x8x1024x32, addf (mulf y2 (OV8 (Host.cos a))) (mulf y1 (OV8 (Host.sin a)))⟩] concatenates_S2x8x1024x32_S2x8x1024x32_S2x8x1024x64_d3

/-- One half of two heads' vectors, turned. -/
def ROT2 (y : FVec Ideal S2x2x1024x64 .f32) (a : FVec Ideal S1024x32 .f32) : FVec Ideal S2x2x1024x64 .f32 :=
  let y1 : FVec Ideal S2x2x1024x32 .f32 := extractStridedSlice S2x2x1024x32 ![0, 0, 0, 0] y slices_S2x2x1024x64_S2x2x1024x32_0_0_0_0
  let y2 : FVec Ideal S2x2x1024x32 .f32 := extractStridedSlice S2x2x1024x32 ![0, 0, 0, 32] y slices_S2x2x1024x64_S2x2x1024x32_0_0_0_32
  concatenate S2x2x1024x64 3
    [⟨S2x2x1024x32, subf (mulf y1 (OV2 (Host.cos a))) (mulf y2 (OV2 (Host.sin a)))⟩,
      ⟨S2x2x1024x32, addf (mulf y2 (OV2 (Host.cos a))) (mulf y1 (OV2 (Host.sin a)))⟩] concatenates_S2x2x1024x32_S2x2x1024x32_S2x2x1024x64_d3

/-- Eight heads' vectors with their positions turned in. -/
def ROPE8 (x : FVec Ideal S2x8x1024x128 .f32) (ar ac : FVec Ideal S1024x32 .f32) : FVec Ideal S2x8x1024x128 .f32 :=
  concatenate S2x8x1024x128 3
    [⟨S2x8x1024x64, ROT8 (extractStridedSlice S2x8x1024x64 ![0, 0, 0, 0] x slices_S2x8x1024x128_S2x8x1024x64_0_0_0_0) ar⟩,
      ⟨S2x8x1024x64, ROT8 (extractStridedSlice S2x8x1024x64 ![0, 0, 0, 64] x slices_S2x8x1024x128_S2x8x1024x64_0_0_0_64) ac⟩]
    concatenates_S2x8x1024x64_S2x8x1024x64_S2x8x1024x128_d3

/-- Two heads' vectors with their positions turned in. -/
def ROPE2 (x : FVec Ideal S2x2x1024x128 .f32) (ar ac : FVec Ideal S1024x32 .f32) : FVec Ideal S2x2x1024x128 .f32 :=
  concatenate S2x2x1024x128 3
    [⟨S2x2x1024x64, ROT2 (extractStridedSlice S2x2x1024x64 ![0, 0, 0, 0] x slices_S2x2x1024x128_S2x2x1024x64_0_0_0_0) ar⟩,
      ⟨S2x2x1024x64, ROT2 (extractStridedSlice S2x2x1024x64 ![0, 0, 0, 64] x slices_S2x2x1024x128_S2x2x1024x64_0_0_0_64) ac⟩]
    concatenates_S2x2x1024x64_S2x2x1024x64_S2x2x1024x128_d3

/-- This layer's cache before the new vectors. -/
def ALL (C : FVec Ideal S2x4x2x512x128 .f32) (k : FVec Ideal S2x2x1024x128 .f32) : FVec Ideal S2x2x1536x128 .f32 :=
  concatenate S2x2x1536x128 2
    [⟨S2x2x512x128, shapeCast _ (extractStridedSlice S2x1x2x512x128 ![0, 1, 0, 0, 0] C slices_S2x4x2x512x128_S2x1x2x512x128_0_1_0_0_0)
        shapeCasts_S2x1x2x512x128_S2x2x512x128⟩,
      ⟨S2x2x1024x128, k⟩] concatenates_S2x2x512x128_S2x2x1024x128_S2x2x1536x128_d2

/-- Two heads, each repeated for its four query heads. -/
def REP (K : FVec Ideal S2x2x1536x128 .f32) : FVec Ideal S2x8x1536x128 .f32 :=
  shapeCast _ (broadcastInDim S2x2x4x1536x128 ![0, 1, 3, 4] bcast_S2x2x1536x128_S2x2x4x1536x128_0_1_3_4 K)
    shapeCasts_S2x2x4x1536x128_S2x8x1536x128

/-- The scaled scores. -/
def RS (q : FVec Ideal S2x8x1024x128 .f32) (k : FVec Ideal S2x8x1536x128 .f32) : FVec Ideal S2x8x1024x1536 .f32 :=
  Host.divf (Host.dotGeneral dot_S2x8x1024x128_S2x8x1536x128_S2x8x1024x1536_3_3_2_2_01_01 none q k)
    (broadcastInDim S2x8x1024x1536 ![] bcast_S_S2x8x1024x1536 (Host.sqrt (constant S_ .f32 0x43000000#32)))

/-- The largest score of every row. -/
def RM (s : FVec Ideal S2x8x1024x1536 .f32) : FVec Ideal S2x8x1024 .f32 :=
  Host.reduce FloatOps.maximumf s (constant S_ .f32 0xFF800000#32) reducesTo_S2x8x1024x1536_S2x8x1024_d3 h_S_

/-- The exponentials of scores less their row's maximum. -/
def RE (s : FVec Ideal S2x8x1024x1536 .f32) (mx : FVec Ideal S2x8x1024 .f32) : FVec Ideal S2x8x1024x1536 .f32 :=
  Host.exp (subf s (broadcastInDim S2x8x1024x1536 ![0, 1, 2, 3] bcast_S2x8x1024x1_S2x8x1024x1536_0_1_2_3
    (broadcastInDim S2x8x1024x1 ![0, 1, 2] bcast_S2x8x1024_S2x8x1024x1_0_1_2
      (maximumf (broadcastInDim S2x8x1024 ![] bcast_S_S2x8x1024 (constant S_ .f32 0xFF800000#32)) mx))))

/-- The weighted sum of the values. -/
def RO (s : FVec Ideal S2x8x1024x1536 .f32) (v : FVec Ideal S2x8x1536x128 .f32) : FVec Ideal S2x8x1024x128 .f32 :=
  Host.dotGeneral dot_S2x8x1024x1536_S2x8x1536x128_S2x8x1024x128_3_2_2_3_01_01 none
    (Host.divf (RE s (RM s)) (broadcastInDim S2x8x1024x1536 ![0, 1, 2, 3] bcast_S2x8x1024x1_S2x8x1024x1536_0_1_2_3
      (broadcastInDim S2x8x1024x1 ![0, 1, 2] bcast_S2x8x1024_S2x8x1024x1_0_1_2
        (Host.reduceAdd (RE s (RM s)) (constant S_ .f32 0x00000000#32) reducesTo_S2x8x1024x1536_S2x8x1024_d3 h_S_)))) v

/-- The queries, normed and turned. -/
abbrev QN (X : FVec Ideal S6144x5632 .f32) (g : FVec Ideal S128 .f32) (ar ac : FVec Ideal S1024x32 .f32) : FVec Ideal S2x8x1024x128 .f32 :=
  ROPE8 (N8 (RQ X) g) ar ac

/-- All keys of the two heads: the cached, then the new, normed and turned. -/
abbrev KA (X : FVec Ideal S6144x5632 .f32) (C : FVec Ideal S2x4x2x512x128 .f32) (g : FVec Ideal S128 .f32) (ar ac : FVec Ideal S1024x32 .f32) :
    FVec Ideal S2x2x1536x128 .f32 := ALL C (ROPE2 (N2 (RK X) g) ar ac)

/-- The result: heads side by side. -/
def RY (X : FVec Ideal S6144x5632 .f32) (Ck Cv : FVec Ideal S2x4x2x512x128 .f32) (gq gk : FVec Ideal S128 .f32)
    (ar ac : FVec Ideal S1024x32 .f32) : FVec Ideal S2048x1024 .bf16 :=
  truncf .bf16 (shapeCast _ (transpose S2x1024x8x128 [0, 2, 1, 3]
      (RO (RS (QN X gq ar ac) (REP (KA X Ck gk ar ac))) (REP (ALL Cv (RV X))))
    transposes_S2x8x1024x128_S2x1024x8x128_0_2_1_3) shapeCasts_S2x1024x8x128_S2048x1024) bitsLt_bf16_f32

/-- Column `e` of the token at position `r` of sample `b`. -/
abbrev TOK (X : FVec Ideal S6144x5632 .f32) (b : Fin 2) (r : Fin 1024) (e : ℕ) (he : e < 5632) : EReal :=
  X (ix2 ⟨4096 + (b.val * 1024 + r.val), by omega⟩ ⟨e, he⟩)

/-- A query entry is a token entry. -/
theorem RQ_apply (X : FVec Ideal S6144x5632 .f32) (b : Fin 2) (h : Fin 8) (r : Fin 1024) (e : Fin 128) :
    RQ X (ix4 b h r e) = TOK X b r (3072 + (h.val * 128 + e.val)) (by omega) := by
  pointwise [RQ, QKV]

/-- A key entry is a token entry. -/
theorem RK_apply (X : FVec Ideal S6144x5632 .f32) (b : Fin 2) (h : Fin 2) (r : Fin 1024) (e : Fin 128) :
    RK X (ix4 b h r e) = TOK X b r (4096 + (h.val * 128 + e.val)) (by omega) := by
  pointwise [RK, QKV]
  exact congrArg (fun e => X (ix2 _ e)) (Fin.ext (by simp; omega))

/-- A value entry is a token entry. -/
theorem RV_apply (X : FVec Ideal S6144x5632 .f32) (b : Fin 2) (h : Fin 2) (r : Fin 1024) (e : Fin 128) :
    RV X (ix4 b h r e) = TOK X b r (4352 + (h.val * 128 + e.val)) (by omega) := by
  pointwise [RV, QKV]
  exact congrArg (fun e => X (ix2 _ e)) (Fin.ext (by simp; omega))

/-- A normed entry, of the eight heads. -/
theorem N8_apply (Q : FVec Ideal S2x8x1024x128 .f32) (g : FVec Ideal S128 .f32) (b : Fin 2) (h : Fin 8) (r : Fin 1024) (e : Fin 128) :
    N8 Q g (ix4 b h r e) = unitRow (fun d => Q (ix4 b h r d)) (fun d => g (ix1 d)) e := by
  pointwise [N8]

/-- A normed entry, of the two heads. -/
theorem N2_apply (K : FVec Ideal S2x2x1024x128 .f32) (g : FVec Ideal S128 .f32) (b : Fin 2) (h : Fin 2) (r : Fin 1024) (e : Fin 128) :
    N2 K g (ix4 b h r e) = unitRow (fun d => K (ix4 b h r d)) (fun d => g (ix1 d)) e := by
  pointwise [N2]

/-- A turned entry of one half, of the eight heads. -/
theorem ROT8_apply (y : FVec Ideal S2x8x1024x64 .f32) (a : FVec Ideal S1024x32 .f32) (b : Fin 2) (h : Fin 8) (r : Fin 1024) (e : Fin 64) :
    ROT8 y a (ix4 b h r e) = rotRow (fun d => y (ix4 b h r d)) (fun d => a (ix2 r d)) e := by
  unfold rotRow
  pointwise [ROT8]

/-- A turned entry of one half, of the two heads. -/
theorem ROT2_apply (y : FVec Ideal S2x2x1024x64 .f32) (a : FVec Ideal S1024x32 .f32) (b : Fin 2) (h : Fin 2) (r : Fin 1024) (e : Fin 64) :
    ROT2 y a (ix4 b h r e) = rotRow (fun d => y (ix4 b h r d)) (fun d => a (ix2 r d)) e := by
  unfold rotRow
  pointwise [ROT2]

/-- A turned entry, of the eight heads. -/
theorem ROPE8_apply (x : FVec Ideal S2x8x1024x128 .f32) (ar ac : FVec Ideal S1024x32 .f32) (b : Fin 2) (h : Fin 8) (r : Fin 1024) (e : Fin 128) :
    ROPE8 x ar ac (ix4 b h r e) = ropeRow (fun d => x (ix4 b h r d)) (fun d => ar (ix2 r d)) (fun d => ac (ix2 r d)) e := by
  unfold ropeRow
  pointwise [ROPE8, ROT8_apply]

/-- A turned entry, of the two heads. -/
theorem ROPE2_apply (x : FVec Ideal S2x2x1024x128 .f32) (ar ac : FVec Ideal S1024x32 .f32) (b : Fin 2) (h : Fin 2) (r : Fin 1024) (e : Fin 128) :
    ROPE2 x ar ac (ix4 b h r e) = ropeRow (fun d => x (ix4 b h r d)) (fun d => ar (ix2 r d)) (fun d => ac (ix2 r d)) e := by
  unfold ropeRow
  pointwise [ROPE2, ROT2_apply]

/-- Entry `l` of the cache followed by the new vectors. -/
theorem ALL_apply (C : FVec Ideal S2x4x2x512x128 .f32) (k : FVec Ideal S2x2x1024x128 .f32) (b : Fin 2) (h : Fin 2) (l : Fin 1536) (e : Fin 128) :
    ALL C k (ix4 b h l e) = if hl : l.val < 512 then C (ix5 b 1 h ⟨l, hl⟩ e) else k (ix4 b h ⟨l - 512, by omega⟩ e) := by
  pointwise [ALL]

/-- Query head `h` reads key head `h / 4`. -/
theorem REP_apply (K : FVec Ideal S2x2x1536x128 .f32) (b : Fin 2) (h : Fin 8) (r : Fin 1536) (e : Fin 128) :
    REP K (ix4 b h r e) = K (ix4 b ⟨h.val / 4, by omega⟩ r e) := by
  pointwise [REP]

/-- A score is the product of a query and a key, over the root of 128. -/
theorem RS_apply (q : FVec Ideal S2x8x1024x128 .f32) (k : FVec Ideal S2x8x1536x128 .f32) (b : Fin 2) (h : Fin 8) (r : Fin 1024) (l : Fin 1536) :
    RS q k (ix4 b h r l) = (∑ d : Fin 128, q (ix4 b h r d) * k (ix4 b h l d)) * (((Real.sqrt 128)⁻¹ : ℝ) : EReal) := by
  rw [← div_sqrt]
  pointwise [RS]

/-- A row's maximum is the fold of its scores. -/
theorem RM_apply (s : FVec Ideal S2x8x1024x1536 .f32) (b : Fin 2) (h : Fin 8) (r : Fin 1024) :
    RM s (ix3 b h r) = rowMax (fun l => s (ix4 b h r l)) := by
  unfold RM rowMax
  have hr : S2x8x1024x1536.Reduces [3] S2x8x1024 := by decide
  rw [Host.reduce_eq_fold_single _ _ _ _ hr]
  have : (s ∘ hr.lift (ix3 b h r)) = fun l => s (ix4 b h r l) := by
    funext l
    refine congrArg s (funext fun a => ?_)
    fin_cases a <;> rfl
  rw [this]
  exact fold_op _ _ rfl _ _ rfl _ _

/-- An exponential is taken of the score less the row's maximum. -/
theorem RE_apply (s : FVec Ideal S2x8x1024x1536 .f32) (mx : FVec Ideal S2x8x1024 .f32) (b : Fin 2) (h : Fin 8) (r : Fin 1024) (l : Fin 1536) :
    RE s mx (ix4 b h r l) = Ideal.exp (s (ix4 b h r l) - max (Ideal.ofBits .f32 4286578688#32) (mx (ix3 b h r))) := by
  pointwise [RE]

/-- The weighted sum is the softmax of the scores weighting the values. -/
theorem RO_apply (s : FVec Ideal S2x8x1024x1536 .f32) (v : FVec Ideal S2x8x1536x128 .f32) (b : Fin 2) (h : Fin 8) (r : Fin 1024) (e : Fin 128) :
    RO s v (ix4 b h r e) = soft (fun l => s (ix4 b h r l)) (fun l => v (ix4 b h l e)) := by
  pointwise [RO]
  simp only [RE_apply, RM_apply, max_rowMax]
  rfl

/-- The result at an index is the attention of that head, sample and position. -/
theorem RY_apply (X : FVec Ideal S6144x5632 .f32) (Ck Cv : FVec Ideal S2x4x2x512x128 .f32) (gq gk : FVec Ideal S128 .f32)
    (ar ac : FVec Ideal S1024x32 .f32) (b : Fin 2) (r : Fin 1024) (h : Fin 8) (e : Fin 128) (j : S2048x1024.Idx)
    (hj0 : (j 0 : ℕ) = b.val * 1024 + r.val) (hj1 : (j 1 : ℕ) = h.val * 128 + e.val) :
    RY X Ck Cv gq gk ar ac j = RO (RS (QN X gq ar ac) (REP (KA X Ck gk ar ac))) (REP (ALL Cv (RV X))) (ix4 b h r e) := by
  pointwise [RY]
  refine congrArg (RO _ _) ?_
  congr 1 <;> exact Fin.ext (by simp; omega)

end Cert.LatGqaRefIdeal.Whole

end
-- ==== Proof.LatGqaValue.lean ====
/- The value of the grouped attention call of the latents: the array the kernel leaves is the attention of the two samples'
   tokens, eight query heads over the cached and the new keys of two heads, as the reference computes it. -/
module

public import proofs.«01_k».proof.Proof.Gen.LatGqaIdeal.Frame
public import proofs.«01_k».proof.Proof.LatGqaRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LatGqaIdeal.Whole

open Cert.LatGqaIdeal Cert.LatGqaIdeal.Gen Cert.Attn
open Cert.LatGqaRefIdeal.Whole (unitRow rotRow ropeRow)

/-- The named scale of the kernel is the reciprocal of the root of 128. -/
theorem named_s : Named.named (F := Ideal) κ "s" (φ := .f32) 0x3DB504F3#32 = (((Real.sqrt 128)⁻¹ : ℝ) : EReal) :=
  IdealRules.named_const.ideal_named_scalar _ _ _ _ rfl

/-- The word that is 1 in the first 32 lanes of each 64, as the kernel computes it of a lane. -/
def lowHalf (e : BitVec 32) : BitVec 1 :=
  let w : BitVec 32 := Scalar.select (Scalar.cmpi .eq 64#32 0#32) 1#32 64#32
  let r : BitVec 32 := IntOp.remsi .vector e w
  IntOp.cmpi .slt (Scalar.select (IntOp.andi (IntOp.xori (IntOp.cmpi .slt r 0#32) (Scalar.cmpi .slt w 0#32)) (IntOp.cmpi .ne r 0#32))
    (IntOp.addi r w) r) 32#32

theorem lowHalf_eq : ∀ e : Fin 128, lowHalf (BitVec.ofNat 32 e.val) = if e.val % 64 < 32 then 1#1 else 0#1 := by
  decide +kernel

/-- Component `e` as the kernel turns it: times a table's entry, plus its partner 32 lanes away times the other table's. -/
def laneRow (x c s : Fin 128 → EReal) (e : Fin 128) : EReal :=
  x e * c e + (if e.val % 64 < 32 then x ⟨(e.val + 128 - 96) % 128, by omega⟩ else x ⟨(e.val + 128 - 32) % 128, by omega⟩) * s e

/-- The kernel's normed key tile, an entry. -/
theorem normK_apply (x : FVec Ideal S1024x128 .f32) (g : FVec Ideal S1x128 .f32) (a : Fin 1024) (e : Fin 128) :
    k0_pay5 (F := Ideal) x g (ix2 a e) = unitRow (fun d => x (ix2 a d)) (fun d => g (ix2 0 d)) e := by
  pointwise [k0_pay5]

/-- The kernel's turned key tile, an entry. -/
theorem ropeK_apply (x c s : FVec Ideal S1024x128 .f32) (a : Fin 1024) (e : Fin 128) :
    k0_pay6 (F := Ideal) c s x (ix2 a e) = laneRow (fun d => x (ix2 a d)) (fun d => c (ix2 a d)) (fun d => s (ix2 a d)) e := by
  have h := lowHalf_eq e
  unfold lowHalf at h
  unfold laneRow
  pointwise [k0_pay6]
  simp only [] at h
  rw [h]
  split <;> rfl

/-- The kernel's turned queries, from the normed ones and the tables' rows. -/
def ROPEQ (n c s : FVec Ideal S256x128 .f32) : FVec Ideal S256x128 .f32 :=
  let w : BitVec 32 := Scalar.select (Scalar.cmpi .eq 64#32 0#32) 1#32 64#32
  let r : IVec S256x128 32 := remsi (iota .tc S256x128 32 [1] iota_S256x128_d1_w32) (broadcast S256x128 w)
  let low : IVec S256x128 1 := cmpi .slt (select (andi (xori (cmpi .slt r (broadcast S256x128 0#32))
      (broadcastTo S256x128 (broadcast S256x128 (Scalar.cmpi .slt w 0#32)) broadcasts_S256x128_S256x128)) (cmpi .ne r (broadcast S256x128 0#32)))
    (addi r (broadcast S256x128 w)) r) (broadcast S256x128 32#32)
  addf (mulf n c) (mulf (select low (dynamicRotate 1 96#32 none n rotates_S256x128_d1) (dynamicRotate 1 32#32 none n rotates_S256x128_d1)) s)

/-- A turned query entry. -/
theorem ropeQ_apply (x c s : FVec Ideal S256x128 .f32) (a : Fin 256) (e : Fin 128) :
    ROPEQ x c s (ix2 a e) = laneRow (fun d => x (ix2 a d)) (fun d => c (ix2 a d)) (fun d => s (ix2 a d)) e := by
  have h := lowHalf_eq e
  unfold lowHalf at h
  unfold laneRow
  pointwise [ROPEQ]
  simp only [] at h
  rw [h]
  split <;> rfl

/-- The kernel's normed query tile, an entry. -/
theorem normQ_apply (x : FVec Ideal S256x128 .f32) (g : FVec Ideal S1x128 .f32) (a : Fin 256) (e : Fin 128) :
    k0_pay13 (F := Ideal) x g (ix2 a e) = unitRow (fun d => x (ix2 a d)) (fun d => g (ix2 0 d)) e := by
  pointwise [k0_pay13]

/-- One head's block of queries: the softmax of the scaled scores against all keys, weighting the values. -/
def ATT (kb vb : FVec Ideal S1536x128 .bf16) (n : FVec Ideal S256x128 .f32) : FVec Ideal S256x128 .bf16 :=
  let s : FVec Ideal S256x1536 .f32 := mulf (matmul dot_S256x128_S1536x128_S256x1536_1_1_0_0_n_n none (truncf .bf16 n bitsLt_bf16_f32) kb
    (constant S256x1536 .f32 0x00000000#32)) (broadcast S256x1536 (Named.named κ "s" 0x3DB504F3#32))
  let w : FVec Ideal S256x1536 .f32 := exp (subf s (broadcastTo S256x1536 (shapeCast S256x1
    (multiReduction .maximumf [1] S256 s 0xFF800000#32 reduces_S256x1536_S256 (.inl rfl) rfl) shapeCasts_S256_S256x1) broadcasts_S256x1_S256x1536))
  truncf .bf16 (matmul dot_S256x1536_S1536x128_S256x128_1_0_0_1_n_n none (truncf .bf16 (divf w (broadcastTo S256x1536 (shapeCast S256x1
    (multiReduction .add [1] S256 w 0x00000000#32 reduces_S256x1536_S256 (.inl rfl) rfl) shapeCasts_S256_S256x1) broadcasts_S256x1_S256x1536))
    bitsLt_bf16_f32) vb (constant S256x128 .f32 0x00000000#32)) bitsLt_bf16_f32

/-- An entry of one head's block. -/
theorem att_apply (kb vb : FVec Ideal S1536x128 .bf16) (n : FVec Ideal S256x128 .f32) (x : S256x128.Idx) :
    ATT kb vb n x = soft (fun l : Fin 1536 => (∑ d : Fin 128, n (ix2 (x 0) d) * kb (ix2 l d)) * (((Real.sqrt 128)⁻¹ : ℝ) : EReal))
      (fun l => vb (ix2 l (x 1))) := by
  pointwise [ATT]
  rw [named_s]; rfl

/-- Lane `e` of the table of cosines. -/
def tabC (ar ac : Fin 32 → EReal) (e : Fin 128) : EReal :=
  if h : e.val < 32 then Ideal.cos (ar ⟨e, h⟩) else if h : e.val - 32 < 32 then Ideal.cos (ar ⟨e - 32, h⟩)
  else if h : e.val - 32 - 32 < 32 then Ideal.cos (ac ⟨e - 32 - 32, h⟩) else Ideal.cos (ac ⟨e - 32 - 32 - 32, by omega⟩)

/-- Lane `e` of the table of sines, negated where the partner is ahead. -/
def tabS (ar ac : Fin 32 → EReal) (e : Fin 128) : EReal :=
  if h : e.val < 32 then -Ideal.sin (ar ⟨e, h⟩) else if h : e.val - 32 < 32 then Ideal.sin (ar ⟨e - 32, h⟩)
  else if h : e.val - 32 - 32 < 32 then -Ideal.sin (ac ⟨e - 32 - 32, h⟩) else Ideal.sin (ac ⟨e - 32 - 32 - 32, by omega⟩)

/-- With these tables the kernel's turning is the reference's. -/
theorem lane_eq (x : Fin 128 → EReal) (ar ac : Fin 32 → EReal) (e : Fin 128) :
    laneRow x (tabC ar ac) (tabS ar ac) e = ropeRow x ar ac e := by
  obtain ⟨e, he⟩ := e
  unfold laneRow ropeRow rotRow tabC tabS
  rcases (by omega : e < 32 ∨ (32 ≤ e ∧ e < 64) ∨ (64 ≤ e ∧ e < 96) ∨ 96 ≤ e) with h | h | h | h
  · have e1 : (e + 32) % 128 = 32 + e := by omega
    simp [e1, show e % 64 < 32 by omega, show e < 64 by omega, h, sub_eq_add_neg]
  · have e1 : (e + 96) % 128 = e - 32 := by omega
    have e2 : 32 + (e - 32) = e := by omega
    simp [e1, e2, show ¬ e % 64 < 32 by omega, show e < 64 by omega, show ¬ e < 32 by omega, show e - 32 < 32 by omega]
  · have e1 : (e + 32) % 128 = 64 + (32 + (e - 64)) := by omega
    have e2 : 64 + (e - 64) = e := by omega
    have e3 : e - 32 - 32 = e - 64 := by omega
    simp [e1, e2, e3, show e % 64 < 32 by omega, show ¬ e < 64 by omega, show ¬ e < 32 by omega, show ¬ e - 32 < 32 by omega,
      show e - 64 < 32 by omega, sub_eq_add_neg]
  · have e1 : (e + 96) % 128 = 64 + (e - 64 - 32) := by omega
    have e2 : 64 + (32 + (e - 64 - 32)) = e := by omega
    have e3 : e - 32 - 32 = e - 64 := by omega
    simp [e1, e2, e3, show ¬ e % 64 < 32 by omega, show ¬ e < 64 by omega, show ¬ e < 32 by omega, show ¬ e - 32 < 32 by omega,
      show ¬ e - 64 < 32 by omega]

variable (m : (ℓ : Loc nD τ sig) → Buf (Elt Ideal) ℓ)

/-- Which block each window holds at grid point `t`: sample `t / 2`, key head `t % 2`. -/
theorem idx : ∀ t : Fin cfg0.N, win0_0.index t = ![4 + t.val / 2, 6 + t.val % 2] ∧ win0_1.index t = ![4 + t.val / 2, 32 + t.val % 2]
    ∧ win0_2.index t = ![4 + t.val / 2, 34 + t.val % 2]
    ∧ win0_3.index t = ![t.val / 2, 1, t.val % 2, 0, 0] ∧ win0_4.index t = ![t.val / 2, 1, t.val % 2, 0, 0]
    ∧ win0_5.index t = ![0, 0] ∧ win0_6.index t = ![0, 0] ∧ win0_7.index t = ![0, 0] ∧ win0_8.index t = ![0, 0]
    ∧ win0_9.index t = ![t.val / 2, t.val % 2] :=
  (by decide +kernel : ∀ t : Fin grid0.N, _)

/-- Four tables of 32 lanes side by side. -/
abbrev SIDE (w x y z : FVec Ideal S1024x32 .f32) : FVec Ideal S1024x128 .f32 :=
  concatenate S1024x128 1 [⟨S1024x32, w⟩, ⟨S1024x32, x⟩, ⟨S1024x32, y⟩, ⟨S1024x32, z⟩]
    concatenates_S1024x32_S1024x32_S1024x32_S1024x32_S1024x128_d1

/-- The cosines as the call is handed them. -/
theorem cosines (c : Dev nD) : V m c main_v2
    = SIDE (Host.cos (m ((c : Thread nD τ).loc main_arg5))) (Host.cos (m ((c : Thread nD τ).loc main_arg5)))
        (Host.cos (m ((c : Thread nD τ).loc main_arg6))) (Host.cos (m ((c : Thread nD τ).loc main_arg6))) := by
  unfold V; after_results; rfl

/-- The sines as the call is handed them. -/
theorem sines (c : Dev nD) : V m c main_v9
    = SIDE (Host.negf (Host.sin (m ((c : Thread nD τ).loc main_arg5)))) (Host.sin (m ((c : Thread nD τ).loc main_arg5)))
        (Host.negf (Host.sin (m ((c : Thread nD τ).loc main_arg6)))) (Host.sin (m ((c : Thread nD τ).loc main_arg6))) := by
  unfold V; after_results; rfl

/-- The table of cosines, an entry. -/
theorem tableC (c : Dev nD) (a : Fin 1024) (e : Fin 128) : (V m c main_v2 : FVec Ideal S1024x128 .f32) (ix2 a e)
    = tabC (fun d => (m ((c : Thread nD τ).loc main_arg5) : FVec Ideal S1024x32 .f32) (ix2 a d))
        (fun d => (m ((c : Thread nD τ).loc main_arg6) : FVec Ideal S1024x32 .f32) (ix2 a d)) e := by
  rw [cosines]
  unfold tabC
  pointwise [SIDE]

/-- The table of sines, an entry. -/
theorem tableS (c : Dev nD) (a : Fin 1024) (e : Fin 128) : (V m c main_v9 : FVec Ideal S1024x128 .f32) (ix2 a e)
    = tabS (fun d => (m ((c : Thread nD τ).loc main_arg5) : FVec Ideal S1024x32 .f32) (ix2 a d))
        (fun d => (m ((c : Thread nD τ).loc main_arg6) : FVec Ideal S1024x32 .f32) (ix2 a d)) e := by
  rw [sines]
  unfold tabS
  pointwise [SIDE]

/-- The query gain as the call is handed it: one row. -/
theorem gainQ (c : Dev nD) : V m c main_v10
    = shapeCast S1x128 (m ((c : Thread nD τ).loc main_arg3) : FVec Ideal S128 .f32) shapeCasts_S128_S1x128 := by
  unfold V; after_results; rfl

/-- The key gain as the call is handed it: one row. -/
theorem gainK (c : Dev nD) : V m c main_v11
    = shapeCast S1x128 (m ((c : Thread nD τ).loc main_arg4) : FVec Ideal S128 .f32) shapeCasts_S128_S1x128 := by
  unfold V; after_results; rfl

open Cert.LatGqaRefIdeal.Whole (TOK) in
/-- Entry of the query tile at point `t`. -/
theorem rdQ (c : Dev nD) (t : Fin cfg0.N) (b u : Fin 2) (hb : t.val / 2 = b.val) (hu : t.val % 2 = u.val) (a : Fin 1024) (e : Fin 512) :
    (iblk m c 0 t : FVec Ideal S1024x512 .f32) (ix2 a e)
      = TOK (m ((c : Thread nD τ).loc main_arg0)) b a (3072 + (u.val * 512 + e.val)) (by omega) := by
  blk_point [iblk, V, idx t, hb, hu]

open Cert.LatGqaRefIdeal.Whole (TOK) in
/-- Entry of the key tile at point `t`. -/
theorem rdK (c : Dev nD) (t : Fin cfg0.N) (b u : Fin 2) (hb : t.val / 2 = b.val) (hu : t.val % 2 = u.val) (a : Fin 1024) (e : Fin 128) :
    (iblk m c 1 t : FVec Ideal S1024x128 .f32) (ix2 a e)
      = TOK (m ((c : Thread nD τ).loc main_arg0)) b a (4096 + (u.val * 128 + e.val)) (by omega) := by
  blk_point [iblk, V, idx t, hb, hu]

open Cert.LatGqaRefIdeal.Whole (TOK) in
/-- Entry of the value tile at point `t`. -/
theorem rdV (c : Dev nD) (t : Fin cfg0.N) (b u : Fin 2) (hb : t.val / 2 = b.val) (hu : t.val % 2 = u.val) (a : Fin 1024) (e : Fin 128) :
    (iblk m c 2 t : FVec Ideal S1024x128 .f32) (ix2 a e)
      = TOK (m ((c : Thread nD τ).loc main_arg0)) b a (4352 + (u.val * 128 + e.val)) (by omega) := by
  blk_point [iblk, V, idx t, hb, hu]

/-- Entry of the cached keys' tile at point `t`. -/
theorem rdCK (c : Dev nD) (t : Fin cfg0.N) (b u : Fin 2) (hb : t.val / 2 = b.val) (hu : t.val % 2 = u.val) (l : Fin 512) (e : Fin 128) :
    (iblk m c 3 t : FVec Ideal S1x1x1x512x128 .f32) (ix5 0 0 0 l e)
      = (m ((c : Thread nD τ).loc main_arg1) : FVec Ideal S2x4x2x512x128 .f32) (ix5 b 1 u l e) := by
  blk_point [iblk, V, idx t, hb, hu]

/-- Entry of the cached values' tile at point `t`. -/
theorem rdCV (c : Dev nD) (t : Fin cfg0.N) (b u : Fin 2) (hb : t.val / 2 = b.val) (hu : t.val % 2 = u.val) (l : Fin 512) (e : Fin 128) :
    (iblk m c 4 t : FVec Ideal S1x1x1x512x128 .f32) (ix5 0 0 0 l e)
      = (m ((c : Thread nD τ).loc main_arg2) : FVec Ideal S2x4x2x512x128 .f32) (ix5 b 1 u l e) := by
  blk_point [iblk, V, idx t, hb, hu]

/-- Entry of the query gain at point `t`. -/
theorem rdGQ (c : Dev nD) (t : Fin cfg0.N) (e : Fin 128) :
    (iblk m c 5 t : FVec Ideal S1x128 .f32) (ix2 0 e) = (m ((c : Thread nD τ).loc main_arg3) : FVec Ideal S128 .f32) (ix1 e) := by
  blk_point [iblk, V, idx t, gainQ]

/-- Entry of the key gain at point `t`. -/
theorem rdGK (c : Dev nD) (t : Fin cfg0.N) (e : Fin 128) :
    (iblk m c 6 t : FVec Ideal S1x128 .f32) (ix2 0 e) = (m ((c : Thread nD τ).loc main_arg4) : FVec Ideal S128 .f32) (ix1 e) := by
  blk_point [iblk, V, idx t, gainK]

/-- Entry of the cosines at point `t`. -/
theorem rdC (c : Dev nD) (t : Fin cfg0.N) (a : Fin 1024) (e : Fin 128) :
    (iblk m c 7 t : FVec Ideal S1024x128 .f32) (ix2 a e) = (V m c main_v2 : FVec Ideal S1024x128 .f32) (ix2 a e) := by
  blk_point [iblk, idx t]

/-- Entry of the sines at point `t`. -/
theorem rdS (c : Dev nD) (t : Fin cfg0.N) (a : Fin 1024) (e : Fin 128) :
    (iblk m c 8 t : FVec Ideal S1024x128 .f32) (ix2 a e) = (V m c main_v9 : FVec Ideal S1024x128 .f32) (ix2 a e) := by
  blk_point [iblk, idx t]

/-- An entry of the scratch: the cached rows before the new ones. -/
theorem scratch_apply (v : View sig .tc .vmem S1536x128 .bf16) (kb : FVec Ideal S1024x128 .bf16) (cb : FVec Ideal S512x128 .bf16)
    (h1 : ∀ a, (![512, 0] : Fin 2 → ℕ) a + (![1024, 128] : Fin 2 → ℕ) a ≤ S1536x128.size a)
    (h2 : ∀ a, (![0, 0] : Fin 2 → ℕ) a + (![512, 128] : Fin 2 → ℕ) a ≤ S1536x128.size a)
    (h3 : ∀ a, (![0, 0] : Fin 2 → ℕ) a + (![1536, 128] : Fin 2 → ℕ) a ≤ S1536x128.size a) (l : Fin 1536) (e : Fin 128) :
    (v.readCov (Val := Elt Ideal) [⟨Rect.unit (s := S1536x128) ![512, 0] ![1024, 128] h1, kb⟩, ⟨Rect.unit (s := S1536x128) ![0, 0] ![512, 128] h2, cb⟩]
      (Rect.unit (s := S1536x128) ![0, 0] ![1536, 128] h3).toLoadRect : FVec Ideal S1536x128 .bf16) (ix2 l e)
      = if h : l.val < 512 then cb (ix2 ⟨l, h⟩ e) else kb (ix2 ⟨l - 512, by omega⟩ e) := by
  rw [View.readCov_eq_canon']
  have hB : (Rect.unit (s := S1536x128) ![0, 0] ![1536, 128] h3).toLoadRect.idx (ix2 l e) = ix2 l e := by
    funext a
    refine Fin.ext ?_
    fin_cases a <;> simp [Rect.unit]
  simp only [hB]
  split
  · next h =>
    rw [View.canon_cons_of_not_mem]
    · have : (ix2 l e : S1536x128.Idx) = (Rect.unit (s := S1536x128) ![0, 0] ![512, 128] h2).emb (ix2 ⟨l, h⟩ e) := by
        funext a
        refine Fin.ext (.trans ?_ (Rect.idx_unit_val _ _ _ _ _).symm)
        fin_cases a <;> simp
      rw [this]
      exact View.canon_cons_emb _ _ _ _
    · rw [Rect.mem_set_unit]
      intro hm
      have := (hm 0).1
      simp at this
      omega
  · next h =>
    have : (ix2 l e : S1536x128.Idx) = (Rect.unit (s := S1536x128) ![512, 0] ![1024, 128] h1).emb (ix2 ⟨l - 512, by omega⟩ e) := by
      funext a
      refine Fin.ext (.trans ?_ (Rect.idx_unit_val _ _ _ _ _).symm)
      fin_cases a <;> simp
      omega
    rw [this]
    exact View.canon_cons_emb _ _ _ _

open Cert.LatGqaRefIdeal.Whole

/-- A block of rows and columns of the query tile, an entry. -/
theorem ld_block (X : FVec Ideal S1024x512 .f32) (r o : ℕ) (inb) (a : Fin 256) (d : Fin 128) (hr : r + a.val < 1024) (ho : o + d.val < 512) :
    View.ld (Val := Elt Ideal) (e' := .f32) X (Rect.unit (s := S1024x512) ![r, o] ![256, 128] inb) (ix2 a d)
      = X (ix2 ⟨r + a.val, hr⟩ ⟨o + d.val, ho⟩) := by
  refine congrArg X (funext fun k => Fin.ext ?_)
  fin_cases k <;> simp [Rect.unit]

/-- Rows of a table from row `r` on, an entry. -/
theorem rows_apply (X : FVec Ideal S1024x128 .f32) (r : ℕ) (sl : S1024x128.Slices ![r, 0] S256x128) (a : Fin 256) (d : Fin 128) (hr : r + a.val < 1024) :
    extractStridedSlice S256x128 ![r, 0] X sl (ix2 a d) = X (ix2 ⟨r + a.val, hr⟩ d) := by
  pointwise

/-- The new keys' tile, normed and turned, is the reference's. -/
theorem key_eq (X : FVec Ideal S6144x5632 .f32) (Gk : FVec Ideal S128 .f32) (ar ac : FVec Ideal S1024x32 .f32)
    (k : FVec Ideal S1024x128 .f32) (gk : FVec Ideal S1x128 .f32) (tc ts : FVec Ideal S1024x128 .f32) (b u : Fin 2)
    (hk : ∀ (a : Fin 1024) (e : Fin 128), k (ix2 a e) = TOK X b a (4096 + (u.val * 128 + e.val)) (by omega))
    (hgk : ∀ e : Fin 128, gk (ix2 0 e) = Gk (ix1 e))
    (hc : ∀ (a : Fin 1024) (e : Fin 128), tc (ix2 a e) = tabC (fun d => ar (ix2 a d)) (fun d => ac (ix2 a d)) e)
    (hs : ∀ (a : Fin 1024) (e : Fin 128), ts (ix2 a e) = tabS (fun d => ar (ix2 a d)) (fun d => ac (ix2 a d)) e)
    (a : Fin 1024) (e : Fin 128) :
    k0_pay6 (F := Ideal) tc ts (k0_pay5 k gk) (ix2 a e) = ROPE2 (N2 (RK X) Gk) ar ac (ix4 b u a e) := by
  rw [ropeK_apply, ROPE2_apply]
  simp only [hc, hs]
  rw [lane_eq]
  refine congrArg (fun x => ropeRow x _ _ e) (funext fun d => ?_)
  rw [normK_apply, N2_apply]
  simp only [hk, hgk, RK_apply]

/-- A block of attention outputs is that part of the reference's result. -/
theorem piece (X : FVec Ideal S6144x5632 .f32) (Ck Cv : FVec Ideal S2x4x2x512x128 .f32) (Gq Gk : FVec Ideal S128 .f32)
    (ar ac : FVec Ideal S1024x32 .f32) (q : FVec Ideal S1024x512 .f32) (kb vb : FVec Ideal S1536x128 .bf16) (gq : FVec Ideal S1x128 .f32)
    (tc ts : FVec Ideal S1024x128 .f32) (b u : Fin 2)
    (hq : ∀ (a : Fin 1024) (e : Fin 512), q (ix2 a e) = TOK X b a (3072 + (u.val * 512 + e.val)) (by omega))
    (hk : ∀ (l : Fin 1536) (e : Fin 128), kb (ix2 l e) = KA X Ck Gk ar ac (ix4 b u l e))
    (hv : ∀ (l : Fin 1536) (e : Fin 128), vb (ix2 l e) = ALL Cv (RV X) (ix4 b u l e))
    (hgq : ∀ e : Fin 128, gq (ix2 0 e) = Gq (ix1 e))
    (hc : ∀ (a : Fin 1024) (e : Fin 128), tc (ix2 a e) = tabC (fun d => ar (ix2 a d)) (fun d => ac (ix2 a d)) e)
    (hs : ∀ (a : Fin 1024) (e : Fin 128), ts (ix2 a e) = tabS (fun d => ar (ix2 a d)) (fun d => ac (ix2 a d)) e)
    (n g : Fin 4) (r o : ℕ) (hr : r = n.val * 256) (ho : o = g.val * 128)
    (inb) (sl : S1024x128.Slices ![r, 0] S256x128) (x : S256x128.Idx) (j : S2048x1024.Idx)
    (hj0 : (j 0 : ℕ) = b.val * 1024 + (r + (x 0 : ℕ))) (hj1 : (j 1 : ℕ) = u.val * 512 + (o + (x 1 : ℕ))) :
    ATT kb vb (ROPEQ (k0_pay13 (F := Ideal) (View.ld (Val := Elt Ideal) (e' := .f32) q (Rect.unit (s := S1024x512) ![r, o] ![256, 128] inb)) gq)
      (extractStridedSlice S256x128 ![r, 0] tc sl) (extractStridedSlice S256x128 ![r, 0] ts sl)) x = RY X Ck Cv Gq Gk ar ac j := by
  have x0 : (x 0 : ℕ) < 256 := (x 0).isLt
  have hru : ∀ a : Fin 256, r + a.val < 1024 := fun a => by omega
  have hh : u.val * 4 + g.val < 8 := by omega
  have hd : (u.val * 4 + g.val) / 4 = u.val := by omega
  have query_eq : ∀ (a : Fin 256) (d : Fin 128), ROPEQ (k0_pay13 (F := Ideal) (View.ld (Val := Elt Ideal) (e' := .f32) q
      (Rect.unit (s := S1024x512) ![r, o] ![256, 128] inb)) gq) (extractStridedSlice S256x128 ![r, 0] tc sl)
      (extractStridedSlice S256x128 ![r, 0] ts sl) (ix2 a d) = QN X Gq ar ac (ix4 b ⟨u.val * 4 + g.val, hh⟩ ⟨r + a.val, hru a⟩ d) := fun a d => by
    refine (ropeQ_apply _ _ _ a d).trans (.trans ?_ (ROPE8_apply _ _ _ b _ _ d).symm)
    simp only [rows_apply _ r sl a _ (hru a), hc, hs]
    rw [lane_eq]
    refine congrArg (fun x => ropeRow x _ _ d) (funext fun f => ?_)
    rw [normQ_apply, N8_apply]
    have hx : ∀ f : Fin 128, View.ld (Val := Elt Ideal) (e' := .f32) q (Rect.unit (s := S1024x512) ![r, o] ![256, 128] inb) (ix2 a f)
        = RQ X (ix4 b ⟨u.val * 4 + g.val, hh⟩ ⟨r + a.val, hru a⟩ f) := fun f => by
      rw [ld_block q r o inb a f (hru a) (by omega), hq, RQ_apply]
      exact congrArg (fun e => X (ix2 _ e)) (Fin.ext (by simp; omega))
    simp only [hx, hgq]
  have hrep : ∀ (K : FVec Ideal Cert.LatGqaRefIdeal.S2x2x1536x128 .f32) (l : Fin 1536) (d : Fin 128),
      K (ix4 b u l d) = REP K (ix4 b ⟨u.val * 4 + g.val, hh⟩ l d) := fun K l d => by
    rw [REP_apply]
    exact congrArg (fun h => K (ix4 b h l d)) (Fin.ext hd.symm)
  rw [RY_apply X Ck Cv Gq Gk ar ac b ⟨r + x 0, hru (x 0)⟩ ⟨u.val * 4 + g.val, hh⟩ (x 1) j hj0 (by rw [hj1, ho]; simp; omega)]
  refine (att_apply _ _ _ x).trans ((soft_congr (fun l => ?_) (fun l => ?_)).trans (RO_apply _ _ b _ _ (x 1)).symm)
  · refine .trans ?_ (RS_apply _ _ b _ _ l).symm
    exact congrArg (· * _) (Finset.sum_congr rfl fun d _ => congrArg₂ (· * ·) (query_eq (x 0) d) ((hk l d).trans (hrep _ l d)))
  · exact (hv l (x 1)).trans (hrep _ l (x 1))

/-- The output array after the whole grid is the reference's attention. -/
theorem final (c : Dev nD) : (dats m 0 c).arrAt 9 (cfgs 0).N
    = RY (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 9 _ (by decide +kernel) fun t _ y => ?_
  blk_simp
  rw [after0_9]; unfold outsAt0; frame_out
  have ht : t.val < 4 := t.isLt
  have e0 : ((((cfg0.win 9).blk t).view.emb y) 0 : ℕ) = t.val / 2 * 1024 + (y 0 : ℕ) := by blk_simp [idx t]
  have e1 : ((((cfg0.win 9).blk t).view.emb y) 1 : ℕ) = t.val % 2 * 512 + (y 1 : ℕ) := by blk_simp [idx t]
  have rc : ∀ (a : Fin 1024) (e : Fin 128), k0_pay1 (F := Ideal) (iblk m c 7 t) (ix2 a e) = tabC _ _ e := fun a e => by
    refine .trans ?_ ((rdC m c t a e).trans (tableC m c a e))
    pointwise [k0_pay1]
  have rs : ∀ (a : Fin 1024) (e : Fin 128), k0_pay2 (F := Ideal) (iblk m c 8 t) (ix2 a e) = tabS _ _ e := fun a e => by
    refine .trans ?_ ((rdS m c t a e).trans (tableS m c a e))
    pointwise [k0_pay2]
  have keys := fun a e => key_eq (m ((c : Thread nD τ).loc main_arg0)) (m ((c : Thread nD τ).loc main_arg4)) (m ((c : Thread nD τ).loc main_arg5))
    (m ((c : Thread nD τ).loc main_arg6)) (iblk m c 1 t) (iblk m c 6 t) _ _ ⟨t.val / 2, by omega⟩ ⟨t.val % 2, by omega⟩
    (rdK m c t _ _ rfl rfl) (rdGK m c t) rc rs a e
  have allK : ∀ (l : Fin 1536) (e : Fin 128), ((View.whole cc0_scratch0).readCov (Val := Elt Ideal)
      [⟨Rect.unit (s := S1536x128) ![512, 0] ![1024, 128] inb_S1536x128_S1024x128_512_0,
          k0_pay6 (F := Ideal) (k0_pay1 (iblk m c 7 t)) (k0_pay2 (iblk m c 8 t)) (k0_pay5 (iblk m c 1 t) (iblk m c 6 t))⟩,
        ⟨Rect.unit (s := S1536x128) ![0, 0] ![512, 128] inb_S1536x128_S512x128_0_0, k0_pay3 (F := Ideal) (iblk m c 3 t)⟩]
      (Rect.unit (s := S1536x128) ![0, 0] ![1536, 128] inb_S1536x128_S1536x128_0_0).toLoadRect : FVec Ideal S1536x128 .bf16) (ix2 l e)
      = KA (m ((c : Thread nD τ).loc main_arg0)) (m ((c : Thread nD τ).loc main_arg1)) (m ((c : Thread nD τ).loc main_arg4))
        (m ((c : Thread nD τ).loc main_arg5)) (m ((c : Thread nD τ).loc main_arg6)) (ix4 ⟨t.val / 2, by omega⟩ ⟨t.val % 2, by omega⟩ l e) := fun l e => by
    refine (scratch_apply _ _ _ _ _ _ l e).trans (.trans ?_ (ALL_apply _ _ _ _ l e).symm)
    split
    · next h =>
      refine .trans ?_ (rdCK m c t _ _ rfl rfl ⟨l, h⟩ e)
      pointwise [k0_pay3]
    · exact keys _ e
  have allV : ∀ (l : Fin 1536) (e : Fin 128), ((View.whole cc0_scratch1).readCov (Val := Elt Ideal)
      [⟨Rect.unit (s := S1536x128) ![512, 0] ![1024, 128] inb_S1536x128_S1024x128_512_0, k0_pay7 (F := Ideal) (iblk m c 2 t)⟩,
        ⟨Rect.unit (s := S1536x128) ![0, 0] ![512, 128] inb_S1536x128_S512x128_0_0, k0_pay4 (F := Ideal) (iblk m c 4 t)⟩]
      (Rect.unit (s := S1536x128) ![0, 0] ![1536, 128] inb_S1536x128_S1536x128_0_0).toLoadRect : FVec Ideal S1536x128 .bf16) (ix2 l e)
      = ALL (m ((c : Thread nD τ).loc main_arg2)) (RV (m ((c : Thread nD τ).loc main_arg0))) (ix4 ⟨t.val / 2, by omega⟩ ⟨t.val % 2, by omega⟩ l e) := fun l e => by
    refine (scratch_apply _ _ _ _ _ _ l e).trans (.trans ?_ (ALL_apply _ _ _ _ l e).symm)
    split
    · next h =>
      refine .trans ?_ (rdCV m c t _ _ rfl rfl ⟨l, h⟩ e)
      pointwise [k0_pay4]
    · refine .trans ?_ ((rdV m c t _ _ rfl rfl _ e).trans (RV_apply _ _ _ _ e).symm)
      pointwise [k0_pay7]
  have p := piece (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (iblk m c 0 t) _ _ (iblk m c 5 t) _ _ _ _ (rdQ m c t _ _ rfl rfl) allK allV (rdGQ m c t) rc rs
  canon_tiles x h
  case piece0 => exact p 3 3 768 384 rfl rfl inb_S1024x512_S256x128_768_384 slices_S1024x128_o768_0_S256x128 x _ (e0.trans (congrArg₂ (· + ·) rfl (by omega))) (e1.trans (congrArg₂ (· + ·) rfl (by omega)))
  case piece1 => exact p 2 3 512 384 rfl rfl inb_S1024x512_S256x128_512_384 slices_S1024x128_o512_0_S256x128 x _ (e0.trans (congrArg₂ (· + ·) rfl (by omega))) (e1.trans (congrArg₂ (· + ·) rfl (by omega)))
  case piece2 => exact p 1 3 256 384 rfl rfl inb_S1024x512_S256x128_256_384 slices_S1024x128_o256_0_S256x128 x _ (e0.trans (congrArg₂ (· + ·) rfl (by omega))) (e1.trans (congrArg₂ (· + ·) rfl (by omega)))
  case piece3 => exact p 0 3 0 384 rfl rfl inb_S1024x512_S256x128_0_384 slices_S1024x128_o0_0_S256x128 x _ (e0.trans (congrArg₂ (· + ·) rfl (by omega))) (e1.trans (congrArg₂ (· + ·) rfl (by omega)))
  case piece4 => exact p 3 2 768 256 rfl rfl inb_S1024x512_S256x128_768_256 slices_S1024x128_o768_0_S256x128 x _ (e0.trans (congrArg₂ (· + ·) rfl (by omega))) (e1.trans (congrArg₂ (· + ·) rfl (by omega)))
  case piece5 => exact p 2 2 512 256 rfl rfl inb_S1024x512_S256x128_512_256 slices_S1024x128_o512_0_S256x128 x _ (e0.trans (congrArg₂ (· + ·) rfl (by omega))) (e1.trans (congrArg₂ (· + ·) rfl (by omega)))
  case piece6 => exact p 1 2 256 256 rfl rfl inb_S1024x512_S256x128_256_256 slices_S1024x128_o256_0_S256x128 x _ (e0.trans (congrArg₂ (· + ·) rfl (by omega))) (e1.trans (congrArg₂ (· + ·) rfl (by omega)))
  case piece7 => exact p 0 2 0 256 rfl rfl inb_S1024x512_S256x128_0_256 slices_S1024x128_o0_0_S256x128 x _ (e0.trans (congrArg₂ (· + ·) rfl (by omega))) (e1.trans (congrArg₂ (· + ·) rfl (by omega)))
  case piece8 => exact p 3 1 768 128 rfl rfl inb_S1024x512_S256x128_768_128 slices_S1024x128_o768_0_S256x128 x _ (e0.trans (congrArg₂ (· + ·) rfl (by omega))) (e1.trans (congrArg₂ (· + ·) rfl (by omega)))
  case piece9 => exact p 2 1 512 128 rfl rfl inb_S1024x512_S256x128_512_128 slices_S1024x128_o512_0_S256x128 x _ (e0.trans (congrArg₂ (· + ·) rfl (by omega))) (e1.trans (congrArg₂ (· + ·) rfl (by omega)))
  case piece10 => exact p 1 1 256 128 rfl rfl inb_S1024x512_S256x128_256_128 slices_S1024x128_o256_0_S256x128 x _ (e0.trans (congrArg₂ (· + ·) rfl (by omega))) (e1.trans (congrArg₂ (· + ·) rfl (by omega)))
  case piece11 => exact p 0 1 0 128 rfl rfl inb_S1024x512_S256x128_0_128 slices_S1024x128_o0_0_S256x128 x _ (e0.trans (congrArg₂ (· + ·) rfl (by omega))) (e1.trans (congrArg₂ (· + ·) rfl (by omega)))
  case piece12 => exact p 3 0 768 0 rfl rfl inb_S1024x512_S256x128_768_0 slices_S1024x128_o768_0_S256x128 x _ (e0.trans (congrArg₂ (· + ·) rfl (by omega))) (e1.trans (congrArg₂ (· + ·) rfl (by omega)))
  case piece13 => exact p 2 0 512 0 rfl rfl inb_S1024x512_S256x128_512_0 slices_S1024x128_o512_0_S256x128 x _ (e0.trans (congrArg₂ (· + ·) rfl (by omega))) (e1.trans (congrArg₂ (· + ·) rfl (by omega)))
  case piece14 => exact p 1 0 256 0 rfl rfl inb_S1024x512_S256x128_256_0 slices_S1024x128_o256_0_S256x128 x _ (e0.trans (congrArg₂ (· + ·) rfl (by omega))) (e1.trans (congrArg₂ (· + ·) rfl (by omega)))
  case piece15 => exact p 0 0 0 0 rfl rfl inb_S1024x512_S256x128_0_0 slices_S1024x128_o0_0_S256x128 x _ (e0.trans (congrArg₂ (· + ·) rfl (by omega))) (e1.trans (congrArg₂ (· + ·) rfl (by omega)))

end Cert.LatGqaIdeal.Whole

end
-- ==== Proof.S5DiscValue.lean ====
/- The value of the S5 discretization: the four arrays the call leaves are the zero-order hold of each mode and of its
   input weights, one row to a direction, group and channel. -/
module

public import proofs.«01_k».proof.Proof.Gen.S5DiscIdeal.Frame
public import proofs.«01_k».proof.Proof.Gen.S5DiscRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.S5DiscIdeal.Whole

open Cert.S5DiscIdeal Cert.S5DiscIdeal.Gen

variable (m : (ℓ : Loc nD τ sig) → Buf (Elt Ideal) ℓ)

/-! ## One mode -/

/-- The size of a mode's step. -/
def mag (l t : EReal) : EReal := Ideal.exp (l * t)

/-- The real part of a mode's step. -/
def stepR (l i t : EReal) : EReal := mag l t * Ideal.cos (i * t)

/-- The imaginary part of a mode's step. -/
def stepI (l i t : EReal) : EReal := mag l t * Ideal.sin (i * t)

/-- The real part of the step less one, over the mode. -/
def holdR (l i t : EReal) : EReal := Ideal.div ((stepR l i t - 1) * l + stepI l i t * i) (l * l + i * i)

/-- The imaginary part of the step less one, over the mode. -/
def holdI (l i t : EReal) : EReal := Ideal.div (stepI l i t * l - (stepR l i t - 1) * i) (l * l + i * i)

/-- The real part of an input weight under the hold. -/
def inR (l i t br bi : EReal) : EReal := holdR l i t * br - holdI l i t * bi

/-- The imaginary part of an input weight under the hold. -/
def inI (l i t br bi : EReal) : EReal := holdR l i t * bi + holdI l i t * br

/-! ## The reference -/

/-- The logarithms' exponentials, one to each mode. -/
abbrev DT (D : FVec Ideal S2x64 .f32) : FVec Ideal S2x64x64 .f32 :=
  broadcastInDim S2x64x64 ![0, 1, 2] Cert.S5DiscRefIdeal.Gen.bcast_S2x64x1_S2x64x64_0_1_2
    (broadcastInDim Cert.S5DiscRefIdeal.S2x64x1 ![0, 1] Cert.S5DiscRefIdeal.Gen.bcast_S2x64_S2x64x1_0_1 (Host.exp D))

/-- The steps' real parts. -/
abbrev AR (L I : FVec Ideal S2x64x64 .f32) (D : FVec Ideal S2x64 .f32) : FVec Ideal S2x64x64 .f32 :=
  mulf (Host.exp (mulf L (DT D))) (Host.cos (mulf I (DT D)))

/-- The steps' imaginary parts. -/
abbrev AI (L I : FVec Ideal S2x64x64 .f32) (D : FVec Ideal S2x64 .f32) : FVec Ideal S2x64x64 .f32 :=
  mulf (Host.exp (mulf L (DT D))) (Host.sin (mulf I (DT D)))

/-- The steps' real parts, less one. -/
abbrev NR (L I : FVec Ideal S2x64x64 .f32) (D : FVec Ideal S2x64 .f32) : FVec Ideal S2x64x64 .f32 :=
  subf (AR L I D) (broadcastInDim S2x64x64 ![] Cert.S5DiscRefIdeal.Gen.bcast_S_S2x64x64 (constant Cert.S5DiscRefIdeal.S_ .f32 0x3F800000#32))

/-- The modes' squared sizes. -/
abbrev DEN (L I : FVec Ideal S2x64x64 .f32) : FVec Ideal S2x64x64 .f32 := addf (mulf L L) (mulf I I)

/-- The hold's factor, real parts. -/
abbrev CR (L I : FVec Ideal S2x64x64 .f32) (D : FVec Ideal S2x64 .f32) : FVec Ideal S2x64x64 .f32 :=
  Host.divf (addf (mulf (NR L I D) L) (mulf (AI L I D) I)) (DEN L I)

/-- The hold's factor, imaginary parts. -/
abbrev CI (L I : FVec Ideal S2x64x64 .f32) (D : FVec Ideal S2x64 .f32) : FVec Ideal S2x64x64 .f32 :=
  Host.divf (subf (mulf (AI L I D) L) (mulf (NR L I D) I)) (DEN L I)

/-- A value of each mode, for each channel. -/
abbrev EACH (X : FVec Ideal S2x64x64 .f32) : FVec Ideal S2x64x64x16 .f32 :=
  broadcastInDim S2x64x64x16 ![0, 1, 2, 3] Cert.S5DiscRefIdeal.Gen.bcast_S2x64x64x1_S2x64x64x16_0_1_2_3
    (broadcastInDim Cert.S5DiscRefIdeal.S2x64x64x1 ![0, 1, 2] Cert.S5DiscRefIdeal.Gen.bcast_S2x64x64_S2x64x64x1_0_1_2 X)

/-- One row to a direction, group and channel. -/
abbrev ROWS (X : FVec Ideal S2x64x64x16 .f32) : FVec Ideal S2048x64 .f32 :=
  shapeCast S2048x64 (transpose S2x64x16x64 [0, 1, 3, 2] X Cert.S5DiscRefIdeal.Gen.transposes_S2x64x64x16_S2x64x16x64_0_1_3_2)
    Cert.S5DiscRefIdeal.Gen.shapeCasts_S2x64x16x64_S2048x64

/-- The reference's input weights, real parts. -/
abbrev BR (L I : FVec Ideal S2x64x64 .f32) (D : FVec Ideal S2x64 .f32) (Br Bi : FVec Ideal S2x64x64x16 .f32) : FVec Ideal S2x64x64x16 .f32 :=
  subf (mulf (EACH (CR L I D)) Br) (mulf (EACH (CI L I D)) Bi)

/-- The reference's input weights, imaginary parts. -/
abbrev BI (L I : FVec Ideal S2x64x64 .f32) (D : FVec Ideal S2x64 .f32) (Br Bi : FVec Ideal S2x64x64x16 .f32) : FVec Ideal S2x64x64x16 .f32 :=
  addf (mulf (EACH (CR L I D)) Bi) (mulf (EACH (CI L I D)) Br)

/-- The place of row `a` and column `p` among the channels' values. -/
abbrev at4 (a : Fin 2048) (p : Fin 64) : S2x64x64x16.Idx := ix4 ⟨a.val / 1024, by omega⟩ ⟨a.val / 16 % 64, by omega⟩ p ⟨a.val % 16, by omega⟩

/-- The mode of row `a` and column `p`. -/
abbrev at3 (a : Fin 2048) (p : Fin 64) : S2x64x64.Idx := ix3 ⟨a.val / 1024, by omega⟩ ⟨a.val / 16 % 64, by omega⟩ p

/-- The group of row `a`. -/
abbrev at2 (a : Fin 2048) : S2x64.Idx := ix2 ⟨a.val / 1024, by omega⟩ ⟨a.val / 16 % 64, by omega⟩

theorem rows_apply (X : FVec Ideal S2x64x64x16 .f32) (a : Fin 2048) (p : Fin 64) : ROWS X (ix2 a p) = X (at4 a p) := by
  pointwise [ROWS]

theorem each_apply (X : FVec Ideal S2x64x64 .f32) (a : Fin 2048) (p : Fin 64) : EACH X (at4 a p) = X (at3 a p) := by
  pointwise [EACH]

theorem AR_apply (L I : FVec Ideal S2x64x64 .f32) (D : FVec Ideal S2x64 .f32) (a : Fin 2048) (p : Fin 64) :
    AR L I D (at3 a p) = stepR (L (at3 a p)) (I (at3 a p)) (Ideal.exp (D (at2 a))) := by
  unfold stepR mag
  pointwise [AR, DT]

theorem AI_apply (L I : FVec Ideal S2x64x64 .f32) (D : FVec Ideal S2x64 .f32) (a : Fin 2048) (p : Fin 64) :
    AI L I D (at3 a p) = stepI (L (at3 a p)) (I (at3 a p)) (Ideal.exp (D (at2 a))) := by
  unfold stepI mag
  pointwise [AI, DT]

theorem CR_apply (L I : FVec Ideal S2x64x64 .f32) (D : FVec Ideal S2x64 .f32) (a : Fin 2048) (p : Fin 64) :
    CR L I D (at3 a p) = holdR (L (at3 a p)) (I (at3 a p)) (Ideal.exp (D (at2 a))) := by
  unfold holdR
  rw [← AR_apply, ← AI_apply]
  pointwise [CR, NR, DEN]

theorem CI_apply (L I : FVec Ideal S2x64x64 .f32) (D : FVec Ideal S2x64 .f32) (a : Fin 2048) (p : Fin 64) :
    CI L I D (at3 a p) = holdI (L (at3 a p)) (I (at3 a p)) (Ideal.exp (D (at2 a))) := by
  unfold holdI
  rw [← AR_apply, ← AI_apply]
  pointwise [CI, NR, DEN]

theorem BR_apply (L I : FVec Ideal S2x64x64 .f32) (D : FVec Ideal S2x64 .f32) (Br Bi : FVec Ideal S2x64x64x16 .f32) (a : Fin 2048) (p : Fin 64) :
    BR L I D Br Bi (at4 a p) = inR (L (at3 a p)) (I (at3 a p)) (Ideal.exp (D (at2 a))) (Br (at4 a p)) (Bi (at4 a p)) := by
  unfold inR
  rw [← CR_apply, ← CI_apply, ← each_apply (CR L I D), ← each_apply (CI L I D)]
  rfl

theorem BI_apply (L I : FVec Ideal S2x64x64 .f32) (D : FVec Ideal S2x64 .f32) (Br Bi : FVec Ideal S2x64x64x16 .f32) (a : Fin 2048) (p : Fin 64) :
    BI L I D Br Bi (at4 a p) = inI (L (at3 a p)) (I (at3 a p)) (Ideal.exp (D (at2 a))) (Br (at4 a p)) (Bi (at4 a p)) := by
  unfold inI
  rw [← CR_apply, ← CI_apply, ← each_apply (CR L I D), ← each_apply (CI L I D)]
  rfl

/-! ## The kernel -/

theorem pay5_apply (l i t : FVec Ideal S2048x64 .f32) (y : S2048x64.Idx) : k0_pay5 (F := Ideal) l i t y = stepR (l y) (i y) (t y) := by
  unfold stepR mag
  pointwise [k0_pay5, k0_pay1, k0_pay2, k0_pay3, k0_pay4]

theorem pay6_apply (l i t : FVec Ideal S2048x64 .f32) (y : S2048x64.Idx) : k0_pay6 (F := Ideal) l i t y = stepI (l y) (i y) (t y) := by
  unfold stepI mag
  pointwise [k0_pay6, k0_pay1, k0_pay2, k0_pay3, k0_pay4]

theorem pay9_apply (l i t : FVec Ideal S2048x64 .f32) (y : S2048x64.Idx) : k0_pay9 (F := Ideal) l i t y = holdR (l y) (i y) (t y) := by
  unfold holdR
  rw [← pay5_apply, ← pay6_apply]
  pointwise [k0_pay9, k0_pay1, k0_pay2, k0_pay7, k0_pay8]

theorem pay10_apply (l i t : FVec Ideal S2048x64 .f32) (y : S2048x64.Idx) : k0_pay10 (F := Ideal) l i t y = holdI (l y) (i y) (t y) := by
  unfold holdI
  rw [← pay5_apply, ← pay6_apply]
  pointwise [k0_pay10, k0_pay1, k0_pay2, k0_pay7, k0_pay8]

theorem pay13_apply (l i t br bi : FVec Ideal S2048x64 .f32) (y : S2048x64.Idx) :
    k0_pay13 (F := Ideal) l i t br bi y = inR (l y) (i y) (t y) (br y) (bi y) := by
  unfold inR
  rw [← pay9_apply, ← pay10_apply]
  pointwise [k0_pay13, k0_pay11, k0_pay12]

theorem pay14_apply (l i t br bi : FVec Ideal S2048x64 .f32) (y : S2048x64.Idx) :
    k0_pay14 (F := Ideal) l i t br bi y = inI (l y) (i y) (t y) (br y) (bi y) := by
  unfold inI
  rw [← pay9_apply, ← pay10_apply]
  pointwise [k0_pay14, k0_pay11, k0_pay12]

/-- A value of each mode, as the call is handed it. -/
abbrev LAMS (X : FVec Ideal S2x64x64 .f32) : FVec Ideal S2048x64 .f32 :=
  shapeCast S2048x64 (broadcastInDim S2x64x16x64 ![0, 1, 2, 3] bcast_S2x64x1x64_S2x64x16x64_0_1_2_3
    (broadcastInDim S2x64x1x64 ![0, 1, 3] bcast_S2x64x64_S2x64x1x64_0_1_3 X)) shapeCasts_S2x64x16x64_S2048x64

/-- The steps' lengths, as the call is handed them. -/
abbrev LENGTHS (D : FVec Ideal S2x64 .f32) : FVec Ideal S2048x64 .f32 :=
  shapeCast S2048x64 (broadcastInDim S2x64x16x64 ![0, 1, 2, 3] bcast_S2x64x1x1_S2x64x16x64_0_1_2_3
    (broadcastInDim S2x64x1x1 ![0, 1] bcast_S2x64_S2x64x1x1_0_1 (Host.exp D))) shapeCasts_S2x64x16x64_S2048x64

theorem lams_apply (X : FVec Ideal S2x64x64 .f32) (a : Fin 2048) (p : Fin 64) : LAMS X (ix2 a p) = X (at3 a p) := by
  pointwise [LAMS]

theorem lengths_apply (D : FVec Ideal S2x64 .f32) (a : Fin 2048) (p : Fin 64) : LENGTHS D (ix2 a p) = Ideal.exp (D (at2 a)) := by
  pointwise [LENGTHS]

theorem V_lr (c : Dev nD) : V m c main_v3 = LAMS (m ((c : Thread nD τ).loc main_arg0)) := by unfold V; after_results; rfl

theorem V_li (c : Dev nD) : V m c main_v6 = LAMS (m ((c : Thread nD τ).loc main_arg1)) := by unfold V; after_results; rfl

theorem V_dt (c : Dev nD) : V m c main_v9 = LENGTHS (m ((c : Thread nD τ).loc main_arg2)) := by unfold V; after_results; rfl

theorem V_br (c : Dev nD) : V m c main_v11 = ROWS (m ((c : Thread nD τ).loc main_arg3)) := by unfold V; after_results; rfl

theorem V_bi (c : Dev nD) : V m c main_v13 = ROWS (m ((c : Thread nD τ).loc main_arg4)) := by unfold V; after_results; rfl

/-- Every window holds its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The five arrays the call is handed, an entry of each. -/
theorem handed (c : Dev nD) (t : Fin cfg0.N) (a : Fin 2048) (p : Fin 64) :
    (iblk m c 0 t : FVec Ideal S2048x64 .f32) (ix2 a p) = (m ((c : Thread nD τ).loc main_arg0) : FVec Ideal S2x64x64 .f32) (at3 a p)
    ∧ (iblk m c 1 t : FVec Ideal S2048x64 .f32) (ix2 a p) = (m ((c : Thread nD τ).loc main_arg1) : FVec Ideal S2x64x64 .f32) (at3 a p)
    ∧ (iblk m c 2 t : FVec Ideal S2048x64 .f32) (ix2 a p) = Ideal.exp ((m ((c : Thread nD τ).loc main_arg2) : FVec Ideal S2x64 .f32) (at2 a))
    ∧ (iblk m c 3 t : FVec Ideal S2048x64 .f32) (ix2 a p) = (m ((c : Thread nD τ).loc main_arg3) : FVec Ideal S2x64x64x16 .f32) (at4 a p)
    ∧ (iblk m c 4 t : FVec Ideal S2048x64 .f32) (ix2 a p) = (m ((c : Thread nD τ).loc main_arg4) : FVec Ideal S2x64x64x16 .f32) (at4 a p) := by
  refine ⟨.trans ?_ (lams_apply _ a p), .trans ?_ (lams_apply _ a p), .trans ?_ (lengths_apply _ a p), .trans ?_ (rows_apply _ a p),
    .trans ?_ (rows_apply _ a p)⟩
  · rw [← V_lr]; blk_point [iblk, idx t]
  · rw [← V_li]; blk_point [iblk, idx t]
  · rw [← V_dt]; blk_point [iblk, idx t]
  · rw [← V_br]; blk_point [iblk, idx t]
  · rw [← V_bi]; blk_point [iblk, idx t]

/-- Two arrays that agree at every row and column agree at equal places. -/
theorem place (X Y : FVec Ideal S2048x64 .f32) (h : ∀ a p, X (ix2 a p) = Y (ix2 a p)) (y j : S2048x64.Idx)
    (h0 : (j 0 : ℕ) = y 0) (h1 : (j 1 : ℕ) = y 1) : X y = Y j := by
  have ey : y = ix2 (y 0) (y 1) := by funext k; fin_cases k <;> rfl
  have ej : j = y := by funext k; fin_cases k; exacts [Fin.ext h0, Fin.ext h1]
  rw [ej, ey]; exact h _ _

/-- The first output array is the reference's steps, real parts. -/
theorem final5 (c : Dev nD) : (dats m 0 c).arrAt 5 (cfgs 0).N = ROWS (EACH (AR (m ((c : Thread nD τ).loc main_arg0))
    (m ((c : Thread nD τ).loc main_arg1)) (m ((c : Thread nD τ).loc main_arg2)))) := by
  refine (dats m 0 c).arrAt_eq_of_covers 5 _ (by decide +kernel) fun t _ y => ?_
  blk_simp
  rw [after0_5]; frame_out
  refine place _ _ (fun a p => ?_) y _ (by blk_simp [idx t]) (by blk_simp [idx t])
  obtain ⟨h0, h1, h2, -, -⟩ := handed m c t a p
  rw [pay5_apply, rows_apply, each_apply, AR_apply, h0, h1, h2]

/-- The second output array is the reference's steps, imaginary parts. -/
theorem final6 (c : Dev nD) : (dats m 0 c).arrAt 6 (cfgs 0).N = ROWS (EACH (AI (m ((c : Thread nD τ).loc main_arg0))
    (m ((c : Thread nD τ).loc main_arg1)) (m ((c : Thread nD τ).loc main_arg2)))) := by
  refine (dats m 0 c).arrAt_eq_of_covers 6 _ (by decide +kernel) fun t _ y => ?_
  blk_simp
  rw [after0_6]; frame_out
  refine place _ _ (fun a p => ?_) y _ (by blk_simp [idx t]) (by blk_simp [idx t])
  obtain ⟨h0, h1, h2, -, -⟩ := handed m c t a p
  rw [pay6_apply, rows_apply, each_apply, AI_apply, h0, h1, h2]

/-- The third output array is the reference's input weights, real parts. -/
theorem final7 (c : Dev nD) : (dats m 0 c).arrAt 7 (cfgs 0).N = ROWS (BR (m ((c : Thread nD τ).loc main_arg0))
    (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t _ y => ?_
  blk_simp
  rw [after0_7]; frame_out
  refine place _ _ (fun a p => ?_) y _ (by blk_simp [idx t]) (by blk_simp [idx t])
  obtain ⟨h0, h1, h2, h3, h4⟩ := handed m c t a p
  rw [pay13_apply, rows_apply, BR_apply, h0, h1, h2, h3, h4]

/-- The fourth output array is the reference's input weights, imaginary parts. -/
theorem final8 (c : Dev nD) : (dats m 0 c).arrAt 8 (cfgs 0).N = ROWS (BI (m ((c : Thread nD τ).loc main_arg0))
    (m ((c : Thread nD τ).loc main_arg1)) (m ((c : Thread nD τ).loc main_arg2)) (m ((c : Thread nD τ).loc main_arg3)) (m ((c : Thread nD τ).loc main_arg4))) := by
  refine (dats m 0 c).arrAt_eq_of_covers 8 _ (by decide +kernel) fun t _ y => ?_
  blk_simp
  rw [after0_8]; frame_out
  refine place _ _ (fun a p => ?_) y _ (by blk_simp [idx t]) (by blk_simp [idx t])
  obtain ⟨h0, h1, h2, h3, h4⟩ := handed m c t a p
  rw [pay14_apply, rows_apply, BI_apply, h0, h1, h2, h3, h4]

end Cert.S5DiscIdeal.Whole

end
-- ==== Proof.lean ====
module

public import proofs.«01_k».proof.Defs
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.CtxRefIdeal.Run
public import proofs.«01_k».proof.Proof.CtxValue
public import proofs.«01_k».proof.Proof.Gen.InMix
public import proofs.«01_k».proof.Proof.Gen.InMix.Skeleton
public import proofs.«01_k».proof.Proof.Gen.InMix.Launch
public import proofs.«01_k».proof.Proof.Gen.InMix.Points
public import proofs.«01_k».proof.Proof.Gen.InMix.Frame
public import proofs.«01_k».proof.Proof.Gen.InMixIdeal
public import proofs.«01_k».proof.Proof.Gen.InMixIdeal.Skeleton
public import proofs.«01_k».proof.Proof.Gen.InMixIdeal.Launch
public import proofs.«01_k».proof.Proof.Gen.InMixIdeal.Points
public import proofs.«01_k».proof.Proof.Gen.InMixIdeal.Frame
public import proofs.«01_k».proof.Proof.Gen.InMixRefIdeal
public import proofs.«01_k».proof.Proof.Gen.InMixRefIdeal.Run
public import proofs.«01_k».proof.Proof.InMixValue
public import proofs.«01_k».proof.Proof.Gen.InRwkv
public import proofs.«01_k».proof.Proof.Gen.InRwkv.Skeleton
public import proofs.«01_k».proof.Proof.Gen.InRwkv.Launch
public import proofs.«01_k».proof.Proof.Gen.InRwkv.Points
public import proofs.«01_k».proof.Proof.Gen.InRwkv.Frame
public import proofs.«01_k».proof.Proof.Gen.InRwkvIdeal
public import proofs.«01_k».proof.Proof.Gen.InRwkvIdeal.Skeleton
public import proofs.«01_k».proof.Proof.Gen.InRwkvIdeal.Launch
public import proofs.«01_k».proof.Proof.Gen.InRwkvIdeal.Points
public import proofs.«01_k».proof.Proof.Gen.InRwkvIdeal.Frame
public import proofs.«01_k».proof.Proof.Gen.InRwkvRefIdeal
public import proofs.«01_k».proof.Proof.Gen.InRwkvRefIdeal.Run
public import proofs.«01_k».proof.Proof.InRwkvValue
public import proofs.«01_k».proof.Proof.Gen.InGate
public import proofs.«01_k».proof.Proof.Gen.InGate.Skeleton
public import proofs.«01_k».proof.Proof.Gen.InGate.Launch
public import proofs.«01_k».proof.Proof.Gen.InGate.Points
public import proofs.«01_k».proof.Proof.Gen.InGate.Frame
public import proofs.«01_k».proof.Proof.Gen.InGateIdeal
public import proofs.«01_k».proof.Proof.Gen.InGateIdeal.Skeleton
public import proofs.«01_k».proof.Proof.Gen.InGateIdeal.Launch
public import proofs.«01_k».proof.Proof.Gen.InGateIdeal.Points
public import proofs.«01_k».proof.Proof.Gen.InGateIdeal.Frame
public import proofs.«01_k».proof.Proof.Gen.InGateRefIdeal
public import proofs.«01_k».proof.Proof.Gen.InGateRefIdeal.Run
public import proofs.«01_k».proof.Proof.InGateValue
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.OutProjValue
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.MergeValue
public import proofs.«01_k».proof.Proof.UpFrame
public import proofs.«01_k».proof.Proof.Gen.UpRefIdeal.Run
public import proofs.«01_k».proof.Proof.UpValue
public import proofs.«01_k».proof.Proof.DownFrame
public import proofs.«01_k».proof.Proof.Gen.DownRefIdeal.Run
public import proofs.«01_k».proof.Proof.DownValue
public import proofs.«01_k».proof.Proof.Gen.Pre_up_in_range
public import proofs.«01_k».proof.Proof.Gen.Pre_down_in_range
public import proofs.«01_k».proof.Proof.Gen.Pre_route_finite
public import proofs.«01_k».proof.Proof.Gen.NormMod
public import proofs.«01_k».proof.Proof.Gen.NormMod.Skeleton
public import proofs.«01_k».proof.Proof.Gen.NormMod.Launch
public import proofs.«01_k».proof.Proof.Gen.NormMod.Points
public import proofs.«01_k».proof.Proof.Gen.NormMod.Frame
public import proofs.«01_k».proof.Proof.Gen.NormModIdeal
public import proofs.«01_k».proof.Proof.Gen.NormModIdeal.Skeleton
public import proofs.«01_k».proof.Proof.Gen.NormModIdeal.Launch
public import proofs.«01_k».proof.Proof.Gen.NormModIdeal.Points
public import proofs.«01_k».proof.Proof.Gen.NormModIdeal.Frame
public import proofs.«01_k».proof.Proof.Gen.NormModRefIdeal
public import proofs.«01_k».proof.Proof.Gen.NormModRefIdeal.Run
public import proofs.«01_k».proof.Proof.NormModValue
public import proofs.«01_k».proof.Proof.Gen.RouteNorm
public import proofs.«01_k».proof.Proof.Gen.RouteNorm.Skeleton
public import proofs.«01_k».proof.Proof.Gen.RouteNorm.Launch
public import proofs.«01_k».proof.Proof.Gen.RouteNorm.Points
public import proofs.«01_k».proof.Proof.Gen.RouteNorm.Frame
public import proofs.«01_k».proof.Proof.Gen.RouteNormIdeal
public import proofs.«01_k».proof.Proof.Gen.RouteNormIdeal.Skeleton
public import proofs.«01_k».proof.Proof.Gen.RouteNormIdeal.Launch
public import proofs.«01_k».proof.Proof.Gen.RouteNormIdeal.Points
public import proofs.«01_k».proof.Proof.Gen.RouteNormIdeal.Frame
public import proofs.«01_k».proof.Proof.Gen.RouteNormRefIdeal
public import proofs.«01_k».proof.Proof.Gen.RouteNormRefIdeal.Run
public import proofs.«01_k».proof.Proof.RouteNormValue
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteRefIdeal
public import proofs.«01_k».proof.Proof.Gen.RouteRefIdeal.Run
public import proofs.«01_k».proof.Proof.RouteValue
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormRefIdeal
public import proofs.«01_k».proof.Proof.Gen.FinalNormRefIdeal.Run
public import proofs.«01_k».proof.Proof.FinalNormValue
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaRefIdeal.Run
public import proofs.«01_k».proof.Proof.AdaValue
public import proofs.«01_k».proof.Proof.Gen.S5Gate
public import proofs.«01_k».proof.Proof.Gen.S5Gate.Skeleton
public import proofs.«01_k».proof.Proof.Gen.S5Gate.Launch
public import proofs.«01_k».proof.Proof.Gen.S5Gate.Points
public import proofs.«01_k».proof.Proof.Gen.S5Gate.Frame
public import proofs.«01_k».proof.Proof.Gen.S5GateIdeal
public import proofs.«01_k».proof.Proof.Gen.S5GateIdeal.Skeleton
public import proofs.«01_k».proof.Proof.Gen.S5GateIdeal.Launch
public import proofs.«01_k».proof.Proof.Gen.S5GateIdeal.Points
public import proofs.«01_k».proof.Proof.Gen.S5GateIdeal.Frame
public import proofs.«01_k».proof.Proof.Gen.S5GateRefIdeal
public import proofs.«01_k».proof.Proof.Gen.S5GateRefIdeal.Run
public import proofs.«01_k».proof.Proof.S5GateValue
public import proofs.«01_k».proof.Proof.Gen.CtxGqa
public import proofs.«01_k».proof.Proof.Gen.CtxGqa.Skeleton
public import proofs.«01_k».proof.Proof.Gen.CtxGqa.Launch
public import proofs.«01_k».proof.Proof.Gen.CtxGqa.Points
public import proofs.«01_k».proof.Proof.Gen.CtxGqa.Frame
public import proofs.«01_k».proof.Proof.Gen.CtxGqaIdeal
public import proofs.«01_k».proof.Proof.Gen.CtxGqaIdeal.Skeleton
public import proofs.«01_k».proof.Proof.Gen.CtxGqaIdeal.Launch
public import proofs.«01_k».proof.Proof.Gen.CtxGqaIdeal.Points
public import proofs.«01_k».proof.Proof.Gen.CtxGqaIdeal.Frame
public import proofs.«01_k».proof.Proof.Gen.CtxGqaRefIdeal
public import proofs.«01_k».proof.Proof.Gen.CtxGqaRefIdeal.Run
public import proofs.«01_k».proof.Proof.CtxGqaValue
public import proofs.«01_k».proof.Proof.Gen.LatGqa
public import proofs.«01_k».proof.Proof.Gen.LatGqa.Skeleton
public import proofs.«01_k».proof.Proof.Gen.LatGqa.Launch
public import proofs.«01_k».proof.Proof.Gen.LatGqa.Points
public import proofs.«01_k».proof.Proof.Gen.LatGqa.Frame
public import proofs.«01_k».proof.Proof.Gen.LatGqaIdeal
public import proofs.«01_k».proof.Proof.Gen.LatGqaIdeal.Skeleton
public import proofs.«01_k».proof.Proof.Gen.LatGqaIdeal.Launch
public import proofs.«01_k».proof.Proof.Gen.LatGqaIdeal.Points
public import proofs.«01_k».proof.Proof.Gen.LatGqaIdeal.Frame
public import proofs.«01_k».proof.Proof.Gen.LatGqaRefIdeal
public import proofs.«01_k».proof.Proof.Gen.LatGqaRefIdeal.Run
public import proofs.«01_k».proof.Proof.LatGqaValue
public import proofs.«01_k».proof.Proof.Gen.S5Disc
public import proofs.«01_k».proof.Proof.Gen.S5Disc.Skeleton
public import proofs.«01_k».proof.Proof.Gen.S5Disc.Launch
public import proofs.«01_k».proof.Proof.Gen.S5Disc.Points
public import proofs.«01_k».proof.Proof.Gen.S5Disc.Frame
public import proofs.«01_k».proof.Proof.Gen.S5DiscIdeal
public import proofs.«01_k».proof.Proof.Gen.S5DiscIdeal.Skeleton
public import proofs.«01_k».proof.Proof.Gen.S5DiscIdeal.Launch
public import proofs.«01_k».proof.Proof.Gen.S5DiscIdeal.Points
public import proofs.«01_k».proof.Proof.Gen.S5DiscIdeal.Frame
public import proofs.«01_k».proof.Proof.Gen.S5DiscRefIdeal
public import proofs.«01_k».proof.Proof.Gen.S5DiscRefIdeal.Run
public import proofs.«01_k».proof.Proof.S5DiscValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference of the context attention runs, leaves its arguments and ends with every counter at zero. -/
theorem frame_CtxRef : Cert.quiescent_CtxRefIdeal :=
  fun m ρ _ => (θ_run Cert.CtxRefIdeal.defs _ _).mono
    (fun r h => ⟨fun c => (h c).2.2.2, Idealize.ShloMosaic.sem_eq_zero_of_no_sems (by decide) r.2⟩)
    (Cert.CtxRefIdeal.Value.run (F := Ideal) m ρ)

/-- The context attention and its reference end with equal results. -/
theorem algebraic_Ctx : Cert.algebraic_CtxIdeal_CtxRefIdeal := by
  pair_intro
  · run_from Cert.CtxIdeal.Gen.run_main m g
  · refine (θ_run Cert.CtxRefIdeal.defs _ _).mono (fun r h c => ⟨(h c).1.trans ?_, (h c).2.1.trans ?_, (h c).2.2.1.trans ?_, (h c).2.2.2⟩) (Cert.CtxRefIdeal.Value.run m' g')
    · have h0 := hagree c
      have e := Cert.CtxIdeal.Whole.final3 m c
      rw [← h0] at e
      exact e.symm
    · have h0 := hagree c
      have e := Cert.CtxIdeal.Whole.final4 m c
      rw [← h0] at e
      exact e.symm
    · have h0 := hagree c
      have e := Cert.CtxIdeal.Whole.final5 m c
      rw [← h0] at e
      exact e.symm

/-- The reference of the first input projection runs, leaves its arguments and ends with every counter at zero. -/
theorem frame_InMixRef : Cert.quiescent_InMixRefIdeal :=
  fun m ρ _ => (θ_run Cert.InMixRefIdeal.defs _ _).mono
    (fun r h => ⟨fun c => (h c).2, Idealize.ShloMosaic.sem_eq_zero_of_no_sems (by decide) r.2⟩)
    (Cert.InMixRefIdeal.Value.run (F := Ideal) m ρ)

/-- The first input projection and its reference end with equal results. -/
theorem algebraic_InMix : Cert.algebraic_InMixIdeal_InMixRefIdeal := by
  pair_intro
  · run_from Cert.InMixIdeal.Gen.run_main m g
  · refine (θ_run Cert.InMixRefIdeal.defs _ _).mono (fun r h c => ⟨(h c).1.trans ?_, (h c).2⟩) (Cert.InMixRefIdeal.Value.run m' g')
    obtain ⟨h0, h1⟩ := hagree c
    have e := Cert.InMixIdeal.Whole.final m c
    rw [← h0, ← h1] at e
    exact e.symm

/-- The reference of the second input projection runs, leaves its arguments and ends with every counter at zero. -/
theorem frame_InRwkvRef : Cert.quiescent_InRwkvRefIdeal :=
  fun m ρ _ => (θ_run Cert.InRwkvRefIdeal.defs _ _).mono
    (fun r h => ⟨fun c => (h c).2, Idealize.ShloMosaic.sem_eq_zero_of_no_sems (by decide) r.2⟩)
    (Cert.InRwkvRefIdeal.Value.run (F := Ideal) m ρ)

/-- The second input projection and its reference end with equal results. -/
theorem algebraic_InRwkv : Cert.algebraic_InRwkvIdeal_InRwkvRefIdeal := by
  pair_intro
  · run_from Cert.InRwkvIdeal.Gen.run_main m g
  · refine (θ_run Cert.InRwkvRefIdeal.defs _ _).mono (fun r h c => ⟨(h c).1.trans ?_, (h c).2⟩) (Cert.InRwkvRefIdeal.Value.run m' g')
    obtain ⟨h0, h1⟩ := hagree c
    have e := Cert.InRwkvIdeal.Whole.final m c
    rw [← h0, ← h1] at e
    exact e.symm

/-- The reference of the third input projection runs, leaves its arguments and ends with every counter at zero. -/
theorem frame_InGateRef : Cert.quiescent_InGateRefIdeal :=
  fun m ρ _ => (θ_run Cert.InGateRefIdeal.defs _ _).mono
    (fun r h => ⟨fun c => (h c).2, Idealize.ShloMosaic.sem_eq_zero_of_no_sems (by decide) r.2⟩)
    (Cert.InGateRefIdeal.Value.run (F := Ideal) m ρ)

/-- The third input projection and its reference end with equal results. -/
theorem algebraic_InGate : Cert.algebraic_InGateIdeal_InGateRefIdeal := by
  pair_intro
  · run_from Cert.InGateIdeal.Gen.run_main m g
  · refine (θ_run Cert.InGateRefIdeal.defs _ _).mono (fun r h c => ⟨(h c).1.trans ?_, (h c).2⟩) (Cert.InGateRefIdeal.Value.run m' g')
    obtain ⟨h0, h1⟩ := hagree c
    have e := Cert.InGateIdeal.Whole.final m c
    rw [← h0, ← h1] at e
    exact e.symm

/-- The reference of the output projection runs, leaves its arguments and ends with every counter at zero. -/
theorem frame_OutProjRef : Cert.quiescent_OutProjRefIdeal :=
  fun m ρ _ => (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- The output projection and its reference end with equal results. -/
theorem algebraic_OutProj : Cert.algebraic_OutProjIdeal_OutProjRefIdeal := by
  pair_intro
  · run_from Cert.OutProjIdeal.Gen.run_main m g
  · refine (θ_run Cert.OutProjRefIdeal.defs _ _).mono (fun r h c => ⟨(h c).1.trans ?_, (h c).2⟩) (Cert.OutProjRefIdeal.Value.run m' g')
    obtain ⟨h0, h1, h2, h3⟩ := hagree c
    have e := Cert.OutProjIdeal.Whole.final m c
    rw [← h0, ← h1, ← h2, ← h3] at e
    exact e.symm

/-- The reference of the branch merge runs, leaves its arguments and ends with every counter at zero. -/
theorem frame_MergeRef : Cert.quiescent_MergeRefIdeal :=
  fun m ρ _ => (θ_run Cert.MergeRefIdeal.defs _ _).mono
    (fun r h => ⟨fun c => (h c).2, Idealize.ShloMosaic.sem_eq_zero_of_no_sems (by decide) r.2⟩)
    (Cert.MergeRefIdeal.Value.run (F := Ideal) m ρ)

/-- The branch merge and its reference end with equal results. -/
theorem algebraic_Merge : Cert.algebraic_MergeIdeal_MergeRefIdeal := by
  pair_intro
  · run_from Cert.MergeIdeal.Gen.run_main m g
  · refine (θ_run Cert.MergeRefIdeal.defs _ _).mono (fun r h c => ⟨(h c).1.trans ?_, (h c).2⟩) (Cert.MergeRefIdeal.Value.run m' g')
    obtain ⟨h0, h1, h2, h3, h4, h5, h6, h7⟩ := hagree c
    have e := Cert.MergeIdeal.Whole.final m c
    rw [← h0, ← h1, ← h2, ← h3, ← h4, ← h5, ← h6, ← h7] at e
    exact e.symm

/-- The experts of a call's table are under 16, where the claim's condition holds. -/
theorem experts_Up (m) (h : Cert.Pre_Up m) : Cert.UpRun.Ok m :=
  Cert.UpRun.ok_of m fun x => Cert.Experts.toNat_lt (congrFun (h 0) x)

/-- The same over the idealized kernel's memory. -/
theorem experts_UpIdeal (m) (h : Cert.Pre_UpIdeal m) : ∀ x, ((Cert.UpIdealRun.tbl m 0 : IVec Cert.UpIdeal.S64 32) x).toNat < 16 :=
  fun x => Cert.Experts.toNat_lt (congrFun (h 0) x)

/-- The experts' first products: the call runs, leaves its arguments and ends with every counter at zero. -/
theorem frame_Up : Cert.quiescent_Up := fun m ρ h =>
  (θ_run Cert.Up.defs _ _).mono (fun _ h => ⟨fun c => (h.1 c).2, h.2⟩) (Cert.UpRun.run m ρ (experts_Up m h))

/-- So does the idealized call. -/
theorem frame_UpIdeal : Cert.quiescent_UpIdeal := fun m ρ h =>
  (θ_run Cert.UpIdeal.defs _ _).mono (fun _ h => ⟨fun c => (h.1 c).2, h.2⟩)
    (Cert.UpIdealRun.run m ρ (Cert.UpIdealRun.ok_of m (experts_UpIdeal m h)))

/-- So does its reference. -/
theorem frame_UpRef : Cert.quiescent_UpRefIdeal :=
  fun m ρ _ => (θ_run Cert.UpRefIdeal.defs _ _).mono
    (fun r h => ⟨fun c => (h c).2, Idealize.ShloMosaic.sem_eq_zero_of_no_sems (by decide) r.2⟩)
    (Cert.UpRefIdeal.Value.run (F := Ideal) m ρ)

/-- The experts' first products and the reference's are equal. -/
theorem algebraic_Up : Cert.algebraic_UpIdeal_UpRefIdeal := by
  intro m g m' g' hp hagree
  have hx := experts_UpIdeal m hp
  have hO := Cert.UpIdealRun.ok_of m hx
  refine ⟨fun c => (Cert.UpIdealRun.dats m hO 0 c).arrAt 3 (Cert.UpIdealRun.cfgM m hO).N,
    (θ_run Cert.UpIdeal.defs _ _).mono (fun _ h => h.1) (Cert.UpIdealRun.run m g hO),
    (θ_run Cert.UpRefIdeal.defs _ _).mono (fun r h c => ⟨(h c).1.trans ?_, (h c).2⟩) (Cert.UpRefIdeal.Value.run m' g')⟩
  obtain ⟨h0, h1, h2, h3, h4⟩ := hagree c
  have e := Cert.UpIdealRun.final m hO hx c
  rw [← h0, ← h1, ← h2, ← h3, ← h4] at e
  exact e.symm

/-- The experts of a call's table are under 16, where the claim's condition holds. -/
theorem experts_Down (m) (h : Cert.Pre_Down m) : Cert.DownRun.Ok m :=
  Cert.DownRun.ok_of m fun x => Cert.Experts.toNat_lt (congrFun (h 0) x)

/-- The same over the idealized kernel's memory. -/
theorem experts_DownIdeal (m) (h : Cert.Pre_DownIdeal m) : ∀ x, ((Cert.DownIdealRun.tbl m 0 : IVec Cert.DownIdeal.S64 32) x).toNat < 16 :=
  fun x => Cert.Experts.toNat_lt (congrFun (h 0) x)

/-- The experts' last product: the call runs, leaves its arguments and ends with every counter at zero. -/
theorem frame_Down : Cert.quiescent_Down := fun m ρ h =>
  (θ_run Cert.Down.defs _ _).mono (fun _ h => ⟨fun c => (h.1 c).2, h.2⟩) (Cert.DownRun.run m ρ (experts_Down m h))

/-- So does the idealized call. -/
theorem frame_DownIdeal : Cert.quiescent_DownIdeal := fun m ρ h =>
  (θ_run Cert.DownIdeal.defs _ _).mono (fun _ h => ⟨fun c => (h.1 c).2, h.2⟩)
    (Cert.DownIdealRun.run m ρ (Cert.DownIdealRun.ok_of m (experts_DownIdeal m h)))

/-- So does its reference. -/
theorem frame_DownRef : Cert.quiescent_DownRefIdeal :=
  fun m ρ _ => (θ_run Cert.DownRefIdeal.defs _ _).mono
    (fun r h => ⟨fun c => (h c).2, Idealize.ShloMosaic.sem_eq_zero_of_no_sems (by decide) r.2⟩)
    (Cert.DownRefIdeal.Value.run (F := Ideal) m ρ)

/-- The experts' last product and the reference's are equal. -/
theorem algebraic_Down : Cert.algebraic_DownIdeal_DownRefIdeal := by
  intro m g m' g' hp hagree
  have hx := experts_DownIdeal m hp
  have hO := Cert.DownIdealRun.ok_of m hx
  refine ⟨fun c => (Cert.DownIdealRun.dats m hO 0 c).arrAt 2 (Cert.DownIdealRun.cfgM m hO).N,
    (θ_run Cert.DownIdeal.defs _ _).mono (fun _ h => h.1) (Cert.DownIdealRun.run m g hO),
    (θ_run Cert.DownRefIdeal.defs _ _).mono (fun r h c => ⟨(h c).1.trans ?_, (h c).2⟩) (Cert.DownRefIdeal.Value.run m' g')⟩
  obtain ⟨h0, h1, h2, h3⟩ := hagree c
  have e := Cert.DownIdealRun.final m hO hx c
  rw [← h0, ← h1, ← h2, ← h3] at e
  exact e.symm

theorem frame_NormModRef : Cert.quiescent_NormModRefIdeal :=
  fun m ρ _ => (θ_run Cert.NormModRefIdeal.defs _ _).mono
    (fun r h => ⟨fun c => (h c).2, Idealize.ShloMosaic.sem_eq_zero_of_no_sems (by decide) r.2⟩)
    (Cert.NormModRefIdeal.Value.run (F := Ideal) m ρ)

theorem algebraic_NormMod : Cert.algebraic_NormModIdeal_NormModRefIdeal := by
  pair_intro
  · run_from Cert.NormModIdeal.Gen.run_main m g
  · refine (θ_run Cert.NormModRefIdeal.defs _ _).mono (fun r h c => ⟨(h c).1.trans ?_, (h c).2⟩) (Cert.NormModRefIdeal.Value.run m' g')
    obtain ⟨h0, h1, h2⟩ := hagree c
    have e := Cert.NormModIdeal.Whole.final m c
    rw [← h0, ← h1, ← h2] at e
    exact e.symm

theorem frame_RouteNormRef : Cert.quiescent_RouteNormRefIdeal :=
  fun m ρ _ => (θ_run Cert.RouteNormRefIdeal.defs _ _).mono
    (fun r h => ⟨fun c => (h c).2, Idealize.ShloMosaic.sem_eq_zero_of_no_sems (by decide) r.2⟩)
    (Cert.RouteNormRefIdeal.Value.run (F := Ideal) m ρ)

theorem algebraic_RouteNorm : Cert.algebraic_RouteNormIdeal_RouteNormRefIdeal := by
  pair_intro
  · run_from Cert.RouteNormIdeal.Gen.run_main m g
  · refine (θ_run Cert.RouteNormRefIdeal.defs _ _).mono (fun r h c => ⟨(h c).1.trans ?_, (h c).2⟩) (Cert.RouteNormRefIdeal.Value.run m' g')
    obtain ⟨h0, h1, h2, _, _⟩ := hagree c
    have e := Cert.RouteNormIdeal.Whole.final m c
    rw [← h0, ← h1, ← h2] at e
    exact e.symm

theorem frame_RouteRef : Cert.quiescent_RouteRefIdeal :=
  fun m ρ _ => (θ_run Cert.RouteRefIdeal.defs _ _).mono
    (fun r h => ⟨fun c => (h c).2.2, Idealize.ShloMosaic.sem_eq_zero_of_no_sems (by decide) r.2⟩)
    (Cert.RouteRefIdeal.Value.run (F := Ideal) m ρ)

/-- The reference's scores and biased scores, as `RouteValue` spells them. -/
theorem scores_Route (m' : (ℓ : Loc Cert.RouteRefIdeal.nD Cert.RouteRefIdeal.τ Cert.RouteRefIdeal.sig) → Buf (Elt Ideal) ℓ) (c : Dev Cert.RouteRefIdeal.nD) :
    Cert.RouteRefIdeal.Value.res_main_v33 (F := Ideal) (Idealize.ShloMosaic.StableHlo.launchContents m' c)
      = Cert.RouteIdeal.Whole.SCORE (m' ((c.tc : Thread Cert.RouteRefIdeal.nD Cert.RouteRefIdeal.τ).loc Cert.RouteRefIdeal.main_arg0))
        (m' ((c.tc : Thread Cert.RouteRefIdeal.nD Cert.RouteRefIdeal.τ).loc Cert.RouteRefIdeal.main_arg1))
        (m' ((c.tc : Thread Cert.RouteRefIdeal.nD Cert.RouteRefIdeal.τ).loc Cert.RouteRefIdeal.main_arg2))
        (m' ((c.tc : Thread Cert.RouteRefIdeal.nD Cert.RouteRefIdeal.τ).loc Cert.RouteRefIdeal.main_arg3)) := by
  unfold Cert.RouteRefIdeal.Value.res_main_v33 Cert.RouteRefIdeal.Value.res_main_v5
  rfl
theorem biases_Route (m' : (ℓ : Loc Cert.RouteRefIdeal.nD Cert.RouteRefIdeal.τ Cert.RouteRefIdeal.sig) → Buf (Elt Ideal) ℓ) (c : Dev Cert.RouteRefIdeal.nD) :
    Cert.RouteRefIdeal.Value.res_main_v37 (F := Ideal) (Idealize.ShloMosaic.StableHlo.launchContents m' c)
      = Cert.RouteIdeal.Whole.BIASED (m' ((c.tc : Thread Cert.RouteRefIdeal.nD Cert.RouteRefIdeal.τ).loc Cert.RouteRefIdeal.main_arg0))
        (m' ((c.tc : Thread Cert.RouteRefIdeal.nD Cert.RouteRefIdeal.τ).loc Cert.RouteRefIdeal.main_arg1))
        (m' ((c.tc : Thread Cert.RouteRefIdeal.nD Cert.RouteRefIdeal.τ).loc Cert.RouteRefIdeal.main_arg2))
        (m' ((c.tc : Thread Cert.RouteRefIdeal.nD Cert.RouteRefIdeal.τ).loc Cert.RouteRefIdeal.main_arg3))
        (m' ((c.tc : Thread Cert.RouteRefIdeal.nD Cert.RouteRefIdeal.τ).loc Cert.RouteRefIdeal.main_arg4)) := by
  unfold Cert.RouteRefIdeal.Value.res_main_v37 Cert.RouteIdeal.Whole.BIASED
  rw [scores_Route]
  rfl

/-- The tokens' experts and their weights are the reference's. -/
theorem algebraic_Route : Cert.algebraic_RouteIdeal_RouteRefIdeal := by
  intro m g m' g' hp hagree
  refine ⟨fun c => (Cert.RouteIdeal.Gen.dats m 0 c).arrAt 7 (Cert.RouteIdeal.cfgs 0).N,
    fun c => (Cert.RouteIdeal.Gen.dats m 0 c).arrAt 8 (Cert.RouteIdeal.cfgs 0).N, ?_, ?_⟩
  · run_from Cert.RouteIdeal.Gen.run_main m g
  · refine (θ_run Cert.RouteRefIdeal.defs _ _).mono (fun r h c => ⟨(h c).1.trans ?_, (h c).2.1.trans ?_, (h c).2.2⟩)
      (Cert.RouteRefIdeal.Value.run m' g')
    all_goals obtain ⟨h0, h1, h2, h3, h4⟩ := hagree c
    · have e := Cert.RouteIdeal.Whole.final7 m c (hp c)
      rw [Cert.RouteIdeal.Whole.BIASES, ← h0, ← h1, ← h2, ← h3, ← h4, ← biases_Route, ← Cert.RouteRef.experts_eq] at e
      exact e.symm
    · have e := Cert.RouteIdeal.Whole.final8 m c (hp c)
      rw [Cert.RouteIdeal.Whole.BIASES, Cert.RouteIdeal.Whole.SCORES, ← h0, ← h1, ← h2, ← h3, ← h4, ← biases_Route, ← scores_Route,
        Cert.RouteRef.WEIGHTS, ← Cert.RouteRef.weights_eq] at e
      exact e.symm

theorem frame_FinalNormRef : Cert.quiescent_FinalNormRefIdeal :=
  fun m ρ _ => (θ_run Cert.FinalNormRefIdeal.defs _ _).mono
    (fun r h => ⟨fun c => (h c).2, Idealize.ShloMosaic.sem_eq_zero_of_no_sems (by decide) r.2⟩)
    (Cert.FinalNormRefIdeal.Value.run (F := Ideal) m ρ)

theorem algebraic_FinalNorm : Cert.algebraic_FinalNormIdeal_FinalNormRefIdeal := by
  pair_intro
  · run_from Cert.FinalNormIdeal.Gen.run_main m g
  · refine (θ_run Cert.FinalNormRefIdeal.defs _ _).mono (fun r h c => ⟨(h c).1.trans ?_, (h c).2⟩) (Cert.FinalNormRefIdeal.Value.run m' g')
    obtain ⟨h0, h1⟩ := hagree c
    have e := Cert.FinalNormIdeal.Whole.final m c
    rw [← h0, ← h1] at e
    exact e.symm

theorem frame_AdaRef : Cert.quiescent_AdaRefIdeal :=
  fun m ρ _ => (θ_run Cert.AdaRefIdeal.defs _ _).mono
    (fun r h => ⟨fun c => (h c).2, Idealize.ShloMosaic.sem_eq_zero_of_no_sems (by decide) r.2⟩)
    (Cert.AdaRefIdeal.Value.run (F := Ideal) m ρ)

theorem algebraic_Ada : Cert.algebraic_AdaIdeal_AdaRefIdeal := by
  pair_intro
  · run_from Cert.AdaIdeal.Gen.run_main m g
  · refine (θ_run Cert.AdaRefIdeal.defs _ _).mono (fun r h c => ⟨(h c).1.trans ?_, (h c).2⟩) (Cert.AdaRefIdeal.Value.run m' g')
    obtain ⟨h0, h1, h2⟩ := hagree c
    have e := Cert.AdaIdeal.Whole.final m c
    rw [← h0, ← h1, ← h2] at e
    exact e.symm

theorem frame_S5GateRef : Cert.quiescent_S5GateRefIdeal :=
  fun m ρ _ => (θ_run Cert.S5GateRefIdeal.defs _ _).mono
    (fun r h => ⟨fun c => (h c).2, Idealize.ShloMosaic.sem_eq_zero_of_no_sems (by decide) r.2⟩)
    (Cert.S5GateRefIdeal.Value.run (F := Ideal) m ρ)

theorem algebraic_S5Gate : Cert.algebraic_S5GateIdeal_S5GateRefIdeal := by
  pair_intro
  · run_from Cert.S5GateIdeal.Gen.run_main m g
  · refine (θ_run Cert.S5GateRefIdeal.defs _ _).mono (fun r h c => ⟨(h c).1.trans ?_, (h c).2⟩) (Cert.S5GateRefIdeal.Value.run m' g')
    obtain ⟨h0, h1, h2, h3⟩ := hagree c
    have e := Cert.S5GateIdeal.Whole.final m c
    rw [← h0, ← h1, ← h2, ← h3] at e
    exact (Cert.S5GateIdeal.Whole.ref_eq m' c).trans e.symm

theorem frame_CtxGqaRef : Cert.quiescent_CtxGqaRefIdeal :=
  fun m ρ _ => (θ_run Cert.CtxGqaRefIdeal.defs _ _).mono
    (fun r h => ⟨fun c => (h c).2.2.2, Idealize.ShloMosaic.sem_eq_zero_of_no_sems (by decide) r.2⟩)
    (Cert.CtxGqaRefIdeal.Value.run (F := Ideal) m ρ)

theorem algebraic_CtxGqa : Cert.algebraic_CtxGqaIdeal_CtxGqaRefIdeal := by
  pair_intro
  · run_from Cert.CtxGqaIdeal.Gen.run_main m g
  · refine (θ_run Cert.CtxGqaRefIdeal.defs _ _).mono (fun r h c => ⟨(h c).1.trans ?_, (h c).2.1.trans ?_, (h c).2.2.1.trans ?_, (h c).2.2.2⟩) (Cert.CtxGqaRefIdeal.Value.run m' g')
    all_goals obtain ⟨h0, h1, h2⟩ := hagree c
    · have e := Cert.CtxGqaIdeal.Whole.final5 m c
      rw [← h0, ← h1, ← h2] at e
      exact (Cert.CtxGqaIdeal.Whole.ref_eq m' c).trans e.symm
    · have e := Cert.CtxGqaIdeal.Whole.final6 m c
      rw [← h0, ← h2] at e
      exact e.symm
    · have e := Cert.CtxGqaIdeal.Whole.final7 m c
      rw [← h0] at e
      exact e.symm

theorem frame_LatGqaRef : Cert.quiescent_LatGqaRefIdeal :=
  fun m ρ _ => (θ_run Cert.LatGqaRefIdeal.defs _ _).mono
    (fun r h => ⟨fun c => (h c).2, Idealize.ShloMosaic.sem_eq_zero_of_no_sems (by decide) r.2⟩)
    (Cert.LatGqaRefIdeal.Value.run (F := Ideal) m ρ)

theorem algebraic_LatGqa : Cert.algebraic_LatGqaIdeal_LatGqaRefIdeal := by
  pair_intro
  · run_from Cert.LatGqaIdeal.Gen.run_main m g
  · refine (θ_run Cert.LatGqaRefIdeal.defs _ _).mono (fun r h c => ⟨(h c).1.trans ?_, (h c).2⟩) (Cert.LatGqaRefIdeal.Value.run m' g')
    obtain ⟨h0, h1, h2, h3, h4, h5, h6⟩ := hagree c
    have e := Cert.LatGqaIdeal.Whole.final m c
    rw [← h0, ← h1, ← h2, ← h3, ← h4, ← h5, ← h6] at e
    exact e.symm

theorem frame_S5DiscRef : Cert.quiescent_S5DiscRefIdeal :=
  fun m ρ _ => (θ_run Cert.S5DiscRefIdeal.defs _ _).mono
    (fun r h => ⟨fun c => (h c).2.2.2.2, Idealize.ShloMosaic.sem_eq_zero_of_no_sems (by decide) r.2⟩)
    (Cert.S5DiscRefIdeal.Value.run (F := Ideal) m ρ)

theorem algebraic_S5Disc : Cert.algebraic_S5DiscIdeal_S5DiscRefIdeal := by
  pair_intro
  · run_from Cert.S5DiscIdeal.Gen.run_main m g
  · refine (θ_run Cert.S5DiscRefIdeal.defs _ _).mono (fun r h c => ⟨(h c).1.trans ?_, (h c).2.1.trans ?_, (h c).2.2.1.trans ?_,
      (h c).2.2.2.1.trans ?_, (h c).2.2.2.2⟩) (Cert.S5DiscRefIdeal.Value.run m' g')
    all_goals obtain ⟨h0, h1, h2, h3, h4⟩ := hagree c
    · have e := Cert.S5DiscIdeal.Whole.final5 m c
      rw [← h0, ← h1, ← h2] at e
      exact e.symm
    · have e := Cert.S5DiscIdeal.Whole.final6 m c
      rw [← h0, ← h1, ← h2] at e
      exact e.symm
    · have e := Cert.S5DiscIdeal.Whole.final7 m c
      rw [← h0, ← h1, ← h2, ← h3, ← h4] at e
      exact e.symm
    · have e := Cert.S5DiscIdeal.Whole.final8 m c
      rw [← h0, ← h1, ← h2, ← h3, ← h4] at e
      exact e.symm

/-- All the claims. -/
theorem claim : Cert.Claim :=
  ⟨Cert.Ctx.Gen.facts,
    Cert.CtxIdeal.Gen.facts,
    Cert.CtxRefIdeal.Gen.facts,
    Cert.InMix.Gen.facts,
    Cert.InMixIdeal.Gen.facts,
    Cert.InMixRefIdeal.Gen.facts,
    Cert.InRwkv.Gen.facts,
    Cert.InRwkvIdeal.Gen.facts,
    Cert.InRwkvRefIdeal.Gen.facts,
    Cert.InGate.Gen.facts,
    Cert.InGateIdeal.Gen.facts,
    Cert.InGateRefIdeal.Gen.facts,
    Cert.OutProj.Gen.facts,
    Cert.OutProjIdeal.Gen.facts,
    Cert.OutProjRefIdeal.Gen.facts,
    Cert.Merge.Gen.facts,
    Cert.MergeIdeal.Gen.facts,
    Cert.MergeRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.NormMod.Gen.facts,
    Cert.NormModIdeal.Gen.facts,
    Cert.NormModRefIdeal.Gen.facts,
    Cert.RouteNorm.Gen.facts,
    Cert.RouteNormIdeal.Gen.facts,
    Cert.RouteNormRefIdeal.Gen.facts,
    Cert.Route.Gen.facts,
    Cert.RouteIdeal.Gen.facts,
    Cert.RouteRefIdeal.Gen.facts,
    Cert.FinalNorm.Gen.facts,
    Cert.FinalNormIdeal.Gen.facts,
    Cert.FinalNormRefIdeal.Gen.facts,
    Cert.Ada.Gen.facts,
    Cert.AdaIdeal.Gen.facts,
    Cert.AdaRefIdeal.Gen.facts,
    Cert.S5Gate.Gen.facts,
    Cert.S5GateIdeal.Gen.facts,
    Cert.S5GateRefIdeal.Gen.facts,
    Cert.CtxGqa.Gen.facts,
    Cert.CtxGqaIdeal.Gen.facts,
    Cert.CtxGqaRefIdeal.Gen.facts,
    Cert.LatGqa.Gen.facts,
    Cert.LatGqaIdeal.Gen.facts,
    Cert.LatGqaRefIdeal.Gen.facts,
    Cert.S5Disc.Gen.facts,
    Cert.S5DiscIdeal.Gen.facts,
    Cert.S5DiscRefIdeal.Gen.facts,
    Cert.Pre_up_in_range.Gen.facts,
    Cert.Pre_down_in_range.Gen.facts,
    Cert.Pre_route_finite.Gen.facts,
    fun m ρ _ => Cert.Ctx.Gen.frame m ρ,
    fun m ρ _ => Cert.CtxIdeal.Gen.frame m ρ,
    frame_CtxRef,
    fun m ρ _ => Cert.InMix.Gen.frame m ρ,
    fun m ρ _ => Cert.InMixIdeal.Gen.frame m ρ,
    frame_InMixRef,
    fun m ρ _ => Cert.InRwkv.Gen.frame m ρ,
    fun m ρ _ => Cert.InRwkvIdeal.Gen.frame m ρ,
    frame_InRwkvRef,
    fun m ρ _ => Cert.InGate.Gen.frame m ρ,
    fun m ρ _ => Cert.InGateIdeal.Gen.frame m ρ,
    frame_InGateRef,
    fun m ρ _ => Cert.OutProj.Gen.frame m ρ,
    fun m ρ _ => Cert.OutProjIdeal.Gen.frame m ρ,
    frame_OutProjRef,
    fun m ρ _ => Cert.Merge.Gen.frame m ρ,
    fun m ρ _ => Cert.MergeIdeal.Gen.frame m ρ,
    frame_MergeRef,
    frame_Up,
    frame_UpIdeal,
    frame_UpRef,
    frame_Down,
    frame_DownIdeal,
    frame_DownRef,
    fun m ρ _ => Cert.NormMod.Gen.frame m ρ,
    fun m ρ _ => Cert.NormModIdeal.Gen.frame m ρ,
    frame_NormModRef,
    fun m ρ _ => Cert.RouteNorm.Gen.frame m ρ,
    fun m ρ _ => Cert.RouteNormIdeal.Gen.frame m ρ,
    frame_RouteNormRef,
    fun m ρ _ => Cert.Route.Gen.frame m ρ,
    fun m ρ _ => Cert.RouteIdeal.Gen.frame m ρ,
    frame_RouteRef,
    fun m ρ _ => Cert.FinalNorm.Gen.frame m ρ,
    fun m ρ _ => Cert.FinalNormIdeal.Gen.frame m ρ,
    frame_FinalNormRef,
    fun m ρ _ => Cert.Ada.Gen.frame m ρ,
    fun m ρ _ => Cert.AdaIdeal.Gen.frame m ρ,
    frame_AdaRef,
    fun m ρ _ => Cert.S5Gate.Gen.frame m ρ,
    fun m ρ _ => Cert.S5GateIdeal.Gen.frame m ρ,
    frame_S5GateRef,
    fun m ρ _ => Cert.CtxGqa.Gen.frame m ρ,
    fun m ρ _ => Cert.CtxGqaIdeal.Gen.frame m ρ,
    frame_CtxGqaRef,
    fun m ρ _ => Cert.LatGqa.Gen.frame m ρ,
    fun m ρ _ => Cert.LatGqaIdeal.Gen.frame m ρ,
    frame_LatGqaRef,
    fun m ρ _ => Cert.S5Disc.Gen.frame m ρ,
    fun m ρ _ => Cert.S5DiscIdeal.Gen.frame m ρ,
    frame_S5DiscRef,
    IdealRules.named_const.statement Cert.CtxIdeal.κ "s" .f32 0x3DB504F3#32 (((Real.sqrt 128)⁻¹ : ℝ) : EReal) rfl,
    algebraic_Ctx,
    trivial,
    algebraic_InMix,
    trivial,
    algebraic_InRwkv,
    trivial,
    algebraic_InGate,
    trivial,
    algebraic_OutProj,
    trivial,
    algebraic_Merge,
    trivial,
    algebraic_Up,
    trivial,
    algebraic_Down,
    trivial,
    algebraic_NormMod,
    trivial,
    algebraic_RouteNorm,
    trivial,
    algebraic_Route,
    trivial,
    algebraic_FinalNorm,
    trivial,
    algebraic_Ada,
    trivial,
    algebraic_S5Gate,
    IdealRules.named_const.statement Cert.CtxGqaIdeal.κ "s" .f32 0x3DB504F3#32 (((Real.sqrt 128)⁻¹ : ℝ) : EReal) rfl,
    algebraic_CtxGqa,
    IdealRules.named_const.statement Cert.LatGqaIdeal.κ "s" .f32 0x3DB504F3#32 (((Real.sqrt 128)⁻¹ : ℝ) : EReal) rfl,
    algebraic_LatGqa,
    trivial,
    algebraic_S5Disc⟩

end Cert.Proof

end
